-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Readback [hPre_ids_in_vocab : Cert.Pre_ids_in_vocab.Facts] (m : (ℓ : Loc Cert.Readback.nD Cert.Readback.τ Cert.Readback.sig) → Buf (Elt Bits) ℓ) : Prop :=
  ∀ c : Dev Cert.Readback.nD,
    (Cert.Pre_ids_in_vocab.fn (F := Bits) (m ((c.tc : Thread Cert.Readback.nD Cert.Readback.τ).loc Cert.Readback.main_arg0)) (m ((c.tc : Thread Cert.Readback.nD Cert.Readback.τ).loc Cert.Readback.main_arg1)) (m ((c.tc : Thread Cert.Readback.nD Cert.Readback.τ).loc Cert.Readback.main_arg2)) (m ((c.tc : Thread Cert.Readback.nD Cert.Readback.τ).loc Cert.Readback.main_arg3)) (m ((c.tc : Thread Cert.Readback.nD Cert.Readback.τ).loc Cert.Readback.main_arg4)) (m ((c.tc : Thread Cert.Readback.nD Cert.Readback.τ).loc Cert.Readback.main_arg5)) (m ((c.tc : Thread Cert.Readback.nD Cert.Readback.τ).loc Cert.Readback.main_arg6)) (m ((c.tc : Thread Cert.Readback.nD Cert.Readback.τ).loc Cert.Readback.main_arg7)) (m ((c.tc : Thread Cert.Readback.nD Cert.Readback.τ).loc Cert.Readback.main_arg8))) = (fun _ => 1#1)

def Pre_ReadbackIdeal [hPre_ids_in_vocab : Cert.Pre_ids_in_vocab.Facts] (m : (ℓ : Loc Cert.ReadbackIdeal.nD Cert.ReadbackIdeal.τ Cert.ReadbackIdeal.sig) → Buf (Elt Ideal) ℓ) : Prop :=
  ∀ c : Dev Cert.ReadbackIdeal.nD,
    (Cert.Pre_ids_in_vocab.fn (F := Ideal) (m ((c.tc : Thread Cert.ReadbackIdeal.nD Cert.ReadbackIdeal.τ).loc Cert.ReadbackIdeal.main_arg0)) (m ((c.tc : Thread Cert.ReadbackIdeal.nD Cert.ReadbackIdeal.τ).loc Cert.ReadbackIdeal.main_arg1)) (m ((c.tc : Thread Cert.ReadbackIdeal.nD Cert.ReadbackIdeal.τ).loc Cert.ReadbackIdeal.main_arg2)) (m ((c.tc : Thread Cert.ReadbackIdeal.nD Cert.ReadbackIdeal.τ).loc Cert.ReadbackIdeal.main_arg3)) (m ((c.tc : Thread Cert.ReadbackIdeal.nD Cert.ReadbackIdeal.τ).loc Cert.ReadbackIdeal.main_arg4)) (m ((c.tc : Thread Cert.ReadbackIdeal.nD Cert.ReadbackIdeal.τ).loc Cert.ReadbackIdeal.main_arg5)) (m ((c.tc : Thread Cert.ReadbackIdeal.nD Cert.ReadbackIdeal.τ).loc Cert.ReadbackIdeal.main_arg6)) (m ((c.tc : Thread Cert.ReadbackIdeal.nD Cert.ReadbackIdeal.τ).loc Cert.ReadbackIdeal.main_arg7)) (m ((c.tc : Thread Cert.ReadbackIdeal.nD Cert.ReadbackIdeal.τ).loc Cert.ReadbackIdeal.main_arg8))) = (fun _ => 1#1)

def Pre_ReadbackReferenceIdeal [hPre_ids_in_vocab : Cert.Pre_ids_in_vocab.Facts] (m : (ℓ : Loc Cert.ReadbackReferenceIdeal.nD Cert.ReadbackReferenceIdeal.τ Cert.ReadbackReferenceIdeal.sig) → Buf (Elt Ideal) ℓ) : Prop :=
  ∀ c : Dev Cert.ReadbackReferenceIdeal.nD,
    (Cert.Pre_ids_in_vocab.fn (F := Ideal) (m ((c.tc : Thread Cert.ReadbackReferenceIdeal.nD Cert.ReadbackReferenceIdeal.τ).loc Cert.ReadbackReferenceIdeal.main_arg0)) (m ((c.tc : Thread Cert.ReadbackReferenceIdeal.nD Cert.ReadbackReferenceIdeal.τ).loc Cert.ReadbackReferenceIdeal.main_arg1)) (m ((c.tc : Thread Cert.ReadbackReferenceIdeal.nD Cert.ReadbackReferenceIdeal.τ).loc Cert.ReadbackReferenceIdeal.main_arg2)) (m ((c.tc : Thread Cert.ReadbackReferenceIdeal.nD Cert.ReadbackReferenceIdeal.τ).loc Cert.ReadbackReferenceIdeal.main_arg3)) (m ((c.tc : Thread Cert.ReadbackReferenceIdeal.nD Cert.ReadbackReferenceIdeal.τ).loc Cert.ReadbackReferenceIdeal.main_arg4)) (m ((c.tc : Thread Cert.ReadbackReferenceIdeal.nD Cert.ReadbackReferenceIdeal.τ).loc Cert.ReadbackReferenceIdeal.main_arg5)) (m ((c.tc : Thread Cert.ReadbackReferenceIdeal.nD Cert.ReadbackReferenceIdeal.τ).loc Cert.ReadbackReferenceIdeal.main_arg6)) (m ((c.tc : Thread Cert.ReadbackReferenceIdeal.nD Cert.ReadbackReferenceIdeal.τ).loc Cert.ReadbackReferenceIdeal.main_arg7)) (m ((c.tc : Thread Cert.ReadbackReferenceIdeal.nD Cert.ReadbackReferenceIdeal.τ).loc Cert.ReadbackReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Readback [hReadback : Cert.Readback.Facts] [hPre_ids_in_vocab : Cert.Pre_ids_in_vocab.Facts] : Prop :=
  ∀ (m : (ℓ : Loc Cert.Readback.nD Cert.Readback.τ Cert.Readback.sig) → Buf (Elt Bits) ℓ) (g : Dev Cert.Readback.nD → PrngReg), Pre_Readback m →
    θ_run (Cert.Readback.defs (F := Bits)) (Cert.Readback.threads (F := Bits)) ⟨m, fun _ => 0, g⟩ (fun r => (∀ c : Dev Cert.Readback.nD,
      r.2.mem ((c.tc : Thread Cert.Readback.nD Cert.Readback.τ).loc Cert.Readback.main_arg0) = m ((c.tc : Thread Cert.Readback.nD Cert.Readback.τ).loc Cert.Readback.main_arg0)
      ∧ r.2.mem ((c.tc : Thread Cert.Readback.nD Cert.Readback.τ).loc Cert.Readback.main_arg1) = m ((c.tc : Thread Cert.Readback.nD Cert.Readback.τ).loc Cert.Readback.main_arg1)
      ∧ r.2.mem ((c.tc : Thread Cert.Readback.nD Cert.Readback.τ).loc Cert.Readback.main_arg2) = m ((c.tc : Thread Cert.Readback.nD Cert.Readback.τ).loc Cert.Readback.main_arg2)
      ∧ r.2.mem ((c.tc : Thread Cert.Readback.nD Cert.Readback.τ).loc Cert.Readback.main_arg3) = m ((c.tc : Thread Cert.Readback.nD Cert.Readback.τ).loc Cert.Readback.main_arg3)
      ∧ r.2.mem ((c.tc : Thread Cert.Readback.nD Cert.Readback.τ).loc Cert.Readback.main_arg4) = m ((c.tc : Thread Cert.Readback.nD Cert.Readback.τ).loc Cert.Readback.main_arg4)
      ∧ r.2.mem ((c.tc : Thread Cert.Readback.nD Cert.Readback.τ).loc Cert.Readback.main_arg5) = m ((c.tc : Thread Cert.Readback.nD Cert.Readback.τ).loc Cert.Readback.main_arg5)
      ∧ r.2.mem ((c.tc : Thread Cert.Readback.nD Cert.Readback.τ).loc Cert.Readback.main_arg6) = m ((c.tc : Thread Cert.Readback.nD Cert.Readback.τ).loc Cert.Readback.main_arg6)
      ∧ r.2.mem ((c.tc : Thread Cert.Readback.nD Cert.Readback.τ).loc Cert.Readback.main_arg7) = m ((c.tc : Thread Cert.Readback.nD Cert.Readback.τ).loc Cert.Readback.main_arg7)
      ∧ r.2.mem ((c.tc : Thread Cert.Readback.nD Cert.Readback.τ).loc Cert.Readback.main_arg8) = m ((c.tc : Thread Cert.Readback.nD Cert.Readback.τ).loc Cert.Readback.main_arg8))
      ∧ r.2.sem = fun _ => 0)

def quiescent_ReadbackIdeal [hReadbackIdeal : Cert.ReadbackIdeal.Facts] [hPre_ids_in_vocab : Cert.Pre_ids_in_vocab.Facts] : Prop :=
  ∀ (m : (ℓ : Loc Cert.ReadbackIdeal.nD Cert.ReadbackIdeal.τ Cert.ReadbackIdeal.sig) → Buf (Elt Ideal) ℓ) (g : Dev Cert.ReadbackIdeal.nD → PrngReg), Pre_ReadbackIdeal m →
    θ_run (Cert.ReadbackIdeal.defs (F := Ideal)) (Cert.ReadbackIdeal.threads (F := Ideal)) ⟨m, fun _ => 0, g⟩ (fun r => (∀ c : Dev Cert.ReadbackIdeal.nD,
      r.2.mem ((c.tc : Thread Cert.ReadbackIdeal.nD Cert.ReadbackIdeal.τ).loc Cert.ReadbackIdeal.main_arg0) = m ((c.tc : Thread Cert.ReadbackIdeal.nD Cert.ReadbackIdeal.τ).loc Cert.ReadbackIdeal.main_arg0)
      ∧ r.2.mem ((c.tc : Thread Cert.ReadbackIdeal.nD Cert.ReadbackIdeal.τ).loc Cert.ReadbackIdeal.main_arg1) = m ((c.tc : Thread Cert.ReadbackIdeal.nD Cert.ReadbackIdeal.τ).loc Cert.ReadbackIdeal.main_arg1)
      ∧ r.2.mem ((c.tc : Thread Cert.ReadbackIdeal.nD Cert.ReadbackIdeal.τ).loc Cert.ReadbackIdeal.main_arg2) = m ((c.tc : Thread Cert.ReadbackIdeal.nD Cert.ReadbackIdeal.τ).loc Cert.ReadbackIdeal.main_arg2)
      ∧ r.2.mem ((c.tc : Thread Cert.ReadbackIdeal.nD Cert.ReadbackIdeal.τ).loc Cert.ReadbackIdeal.main_arg3) = m ((c.tc : Thread Cert.ReadbackIdeal.nD Cert.ReadbackIdeal.τ).loc Cert.ReadbackIdeal.main_arg3)
      ∧ r.2.mem ((c.tc : Thread Cert.ReadbackIdeal.nD Cert.ReadbackIdeal.τ).loc Cert.ReadbackIdeal.main_arg4) = m ((c.tc : Thread Cert.ReadbackIdeal.nD Cert.ReadbackIdeal.τ).loc Cert.ReadbackIdeal.main_arg4)
      ∧ r.2.mem ((c.tc : Thread Cert.ReadbackIdeal.nD Cert.ReadbackIdeal.τ).loc Cert.ReadbackIdeal.main_arg5) = m ((c.tc : Thread Cert.ReadbackIdeal.nD Cert.ReadbackIdeal.τ).loc Cert.ReadbackIdeal.main_arg5)
      ∧ r.2.mem ((c.tc : Thread Cert.ReadbackIdeal.nD Cert.ReadbackIdeal.τ).loc Cert.ReadbackIdeal.main_arg6) = m ((c.tc : Thread Cert.ReadbackIdeal.nD Cert.ReadbackIdeal.τ).loc Cert.ReadbackIdeal.main_arg6)
      ∧ r.2.mem ((c.tc : Thread Cert.ReadbackIdeal.nD Cert.ReadbackIdeal.τ).loc Cert.ReadbackIdeal.main_arg7) = m ((c.tc : Thread Cert.ReadbackIdeal.nD Cert.ReadbackIdeal.τ).loc Cert.ReadbackIdeal.main_arg7)
      ∧ r.2.mem ((c.tc : Thread Cert.ReadbackIdeal.nD Cert.ReadbackIdeal.τ).loc Cert.ReadbackIdeal.main_arg8) = m ((c.tc : Thread Cert.ReadbackIdeal.nD Cert.ReadbackIdeal.τ).loc Cert.ReadbackIdeal.main_arg8))
      ∧ r.2.sem = fun _ => 0)

def quiescent_ReadbackReferenceIdeal [hReadbackReferenceIdeal : Cert.ReadbackReferenceIdeal.Facts] [hPre_ids_in_vocab : Cert.Pre_ids_in_vocab.Facts] : Prop :=
  ∀ (m : (ℓ : Loc Cert.ReadbackReferenceIdeal.nD Cert.ReadbackReferenceIdeal.τ Cert.ReadbackReferenceIdeal.sig) → Buf (Elt Ideal) ℓ) (g : Dev Cert.ReadbackReferenceIdeal.nD → PrngReg), Pre_ReadbackReferenceIdeal m →
    θ_run (Cert.ReadbackReferenceIdeal.defs (F := Ideal)) (onTc (τ := Cert.ReadbackReferenceIdeal.τ) (Cert.ReadbackReferenceIdeal.main (F := Ideal))) ⟨m, fun _ => 0, g⟩ (fun r => (∀ c : Dev Cert.ReadbackReferenceIdeal.nD,
      r.2.mem ((c.tc : Thread Cert.ReadbackReferenceIdeal.nD Cert.ReadbackReferenceIdeal.τ).loc Cert.ReadbackReferenceIdeal.main_arg0) = m ((c.tc : Thread Cert.ReadbackReferenceIdeal.nD Cert.ReadbackReferenceIdeal.τ).loc Cert.ReadbackReferenceIdeal.main_arg0)
      ∧ r.2.mem ((c.tc : Thread Cert.ReadbackReferenceIdeal.nD Cert.ReadbackReferenceIdeal.τ).loc Cert.ReadbackReferenceIdeal.main_arg1) = m ((c.tc : Thread Cert.ReadbackReferenceIdeal.nD Cert.ReadbackReferenceIdeal.τ).loc Cert.ReadbackReferenceIdeal.main_arg1)
      ∧ r.2.mem ((c.tc : Thread Cert.ReadbackReferenceIdeal.nD Cert.ReadbackReferenceIdeal.τ).loc Cert.ReadbackReferenceIdeal.main_arg2) = m ((c.tc : Thread Cert.ReadbackReferenceIdeal.nD Cert.ReadbackReferenceIdeal.τ).loc Cert.ReadbackReferenceIdeal.main_arg2)
      ∧ r.2.mem ((c.tc : Thread Cert.ReadbackReferenceIdeal.nD Cert.ReadbackReferenceIdeal.τ).loc Cert.ReadbackReferenceIdeal.main_arg3) = m ((c.tc : Thread Cert.ReadbackReferenceIdeal.nD Cert.ReadbackReferenceIdeal.τ).loc Cert.ReadbackReferenceIdeal.main_arg3)
      ∧ r.2.mem ((c.tc : Thread Cert.ReadbackReferenceIdeal.nD Cert.ReadbackReferenceIdeal.τ).loc Cert.ReadbackReferenceIdeal.main_arg4) = m ((c.tc : Thread Cert.ReadbackReferenceIdeal.nD Cert.ReadbackReferenceIdeal.τ).loc Cert.ReadbackReferenceIdeal.main_arg4)
      ∧ r.2.mem ((c.tc : Thread Cert.ReadbackReferenceIdeal.nD Cert.ReadbackReferenceIdeal.τ).loc Cert.ReadbackReferenceIdeal.main_arg5) = m ((c.tc : Thread Cert.ReadbackReferenceIdeal.nD Cert.ReadbackReferenceIdeal.τ).loc Cert.ReadbackReferenceIdeal.main_arg5)
      ∧ r.2.mem ((c.tc : Thread Cert.ReadbackReferenceIdeal.nD Cert.ReadbackReferenceIdeal.τ).loc Cert.ReadbackReferenceIdeal.main_arg6) = m ((c.tc : Thread Cert.ReadbackReferenceIdeal.nD Cert.ReadbackReferenceIdeal.τ).loc Cert.ReadbackReferenceIdeal.main_arg6)
      ∧ r.2.mem ((c.tc : Thread Cert.ReadbackReferenceIdeal.nD Cert.ReadbackReferenceIdeal.τ).loc Cert.ReadbackReferenceIdeal.main_arg7) = m ((c.tc : Thread Cert.ReadbackReferenceIdeal.nD Cert.ReadbackReferenceIdeal.τ).loc Cert.ReadbackReferenceIdeal.main_arg7)
      ∧ r.2.mem ((c.tc : Thread Cert.ReadbackReferenceIdeal.nD Cert.ReadbackReferenceIdeal.τ).loc Cert.ReadbackReferenceIdeal.main_arg8) = m ((c.tc : Thread Cert.ReadbackReferenceIdeal.nD Cert.ReadbackReferenceIdeal.τ).loc Cert.ReadbackReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Readback_ReadbackIdeal : Prop :=
  True

def algebraic_ReadbackIdeal_ReadbackReferenceIdeal [hReadbackIdeal : Cert.ReadbackIdeal.Facts] [hReadbackReferenceIdeal : Cert.ReadbackReferenceIdeal.Facts] [hPre_ids_in_vocab : Cert.Pre_ids_in_vocab.Facts] : Prop :=
  ∀ (m : (ℓ : Loc Cert.ReadbackIdeal.nD Cert.ReadbackIdeal.τ Cert.ReadbackIdeal.sig) → Buf (Elt Ideal) ℓ) (g : Dev Cert.ReadbackIdeal.nD → PrngReg)
    (m' : (ℓ : Loc Cert.ReadbackReferenceIdeal.nD Cert.ReadbackReferenceIdeal.τ Cert.ReadbackReferenceIdeal.sig) → Buf (Elt Ideal) ℓ) (g' : Dev Cert.ReadbackReferenceIdeal.nD → PrngReg), Pre_ReadbackIdeal m →
    (∀ c : Dev Cert.ReadbackIdeal.nD,
      m' ((c.tc : Thread Cert.ReadbackReferenceIdeal.nD Cert.ReadbackReferenceIdeal.τ).loc Cert.ReadbackReferenceIdeal.main_arg0) = m ((c.tc : Thread Cert.ReadbackIdeal.nD Cert.ReadbackIdeal.τ).loc Cert.ReadbackIdeal.main_arg0)
      ∧ m' ((c.tc : Thread Cert.ReadbackReferenceIdeal.nD Cert.ReadbackReferenceIdeal.τ).loc Cert.ReadbackReferenceIdeal.main_arg1) = m ((c.tc : Thread Cert.ReadbackIdeal.nD Cert.ReadbackIdeal.τ).loc Cert.ReadbackIdeal.main_arg1)
      ∧ m' ((c.tc : Thread Cert.ReadbackReferenceIdeal.nD Cert.ReadbackReferenceIdeal.τ).loc Cert.ReadbackReferenceIdeal.main_arg2) = m ((c.tc : Thread Cert.ReadbackIdeal.nD Cert.ReadbackIdeal.τ).loc Cert.ReadbackIdeal.main_arg2)
      ∧ m' ((c.tc : Thread Cert.ReadbackReferenceIdeal.nD Cert.ReadbackReferenceIdeal.τ).loc Cert.ReadbackReferenceIdeal.main_arg3) = m ((c.tc : Thread Cert.ReadbackIdeal.nD Cert.ReadbackIdeal.τ).loc Cert.ReadbackIdeal.main_arg3)
      ∧ m' ((c.tc : Thread Cert.ReadbackReferenceIdeal.nD Cert.ReadbackReferenceIdeal.τ).loc Cert.ReadbackReferenceIdeal.main_arg4) = m ((c.tc : Thread Cert.ReadbackIdeal.nD Cert.ReadbackIdeal.τ).loc Cert.ReadbackIdeal.main_arg4)
      ∧ m' ((c.tc : Thread Cert.ReadbackReferenceIdeal.nD Cert.ReadbackReferenceIdeal.τ).loc Cert.ReadbackReferenceIdeal.main_arg5) = m ((c.tc : Thread Cert.ReadbackIdeal.nD Cert.ReadbackIdeal.τ).loc Cert.ReadbackIdeal.main_arg5)
      ∧ m' ((c.tc : Thread Cert.ReadbackReferenceIdeal.nD Cert.ReadbackReferenceIdeal.τ).loc Cert.ReadbackReferenceIdeal.main_arg6) = m ((c.tc : Thread Cert.ReadbackIdeal.nD Cert.ReadbackIdeal.τ).loc Cert.ReadbackIdeal.main_arg6)
      ∧ m' ((c.tc : Thread Cert.ReadbackReferenceIdeal.nD Cert.ReadbackReferenceIdeal.τ).loc Cert.ReadbackReferenceIdeal.main_arg7) = m ((c.tc : Thread Cert.ReadbackIdeal.nD Cert.ReadbackIdeal.τ).loc Cert.ReadbackIdeal.main_arg7)
      ∧ m' ((c.tc : Thread Cert.ReadbackReferenceIdeal.nD Cert.ReadbackReferenceIdeal.τ).loc Cert.ReadbackReferenceIdeal.main_arg8) = m ((c.tc : Thread Cert.ReadbackIdeal.nD Cert.ReadbackIdeal.τ).loc Cert.ReadbackIdeal.main_arg8)) →
    ∃ (v0 : (c : Dev Cert.ReadbackIdeal.nD) → Buf (Elt Ideal) ((c.tc : Thread Cert.ReadbackIdeal.nD Cert.ReadbackIdeal.τ).loc Cert.ReadbackIdeal.main_v0_0)) (v1 : (c : Dev Cert.ReadbackIdeal.nD) → Buf (Elt Ideal) ((c.tc : Thread Cert.ReadbackIdeal.nD Cert.ReadbackIdeal.τ).loc Cert.ReadbackIdeal.main_v0_1)),
      θ_run (Cert.ReadbackIdeal.defs (F := Ideal)) (Cert.ReadbackIdeal.threads (F := Ideal)) ⟨m, fun _ => 0, g⟩ (fun r => ∀ c : Dev Cert.ReadbackIdeal.nD,
          r.2.mem ((c.tc : Thread Cert.ReadbackIdeal.nD Cert.ReadbackIdeal.τ).loc Cert.ReadbackIdeal.main_v0_0) = v0 c
          ∧ r.2.mem ((c.tc : Thread Cert.ReadbackIdeal.nD Cert.ReadbackIdeal.τ).loc Cert.ReadbackIdeal.main_v0_1) = v1 c
          ∧ r.2.mem ((c.tc : Thread Cert.ReadbackIdeal.nD Cert.ReadbackIdeal.τ).loc Cert.ReadbackIdeal.main_arg0) = m ((c.tc : Thread Cert.ReadbackIdeal.nD Cert.ReadbackIdeal.τ).loc Cert.ReadbackIdeal.main_arg0)
          ∧ r.2.mem ((c.tc : Thread Cert.ReadbackIdeal.nD Cert.ReadbackIdeal.τ).loc Cert.ReadbackIdeal.main_arg1) = m ((c.tc : Thread Cert.ReadbackIdeal.nD Cert.ReadbackIdeal.τ).loc Cert.ReadbackIdeal.main_arg1)
          ∧ r.2.mem ((c.tc : Thread Cert.ReadbackIdeal.nD Cert.ReadbackIdeal.τ).loc Cert.ReadbackIdeal.main_arg2) = m ((c.tc : Thread Cert.ReadbackIdeal.nD Cert.ReadbackIdeal.τ).loc Cert.ReadbackIdeal.main_arg2)
          ∧ r.2.mem ((c.tc : Thread Cert.ReadbackIdeal.nD Cert.ReadbackIdeal.τ).loc Cert.ReadbackIdeal.main_arg3) = m ((c.tc : Thread Cert.ReadbackIdeal.nD Cert.ReadbackIdeal.τ).loc Cert.ReadbackIdeal.main_arg3)
          ∧ r.2.mem ((c.tc : Thread Cert.ReadbackIdeal.nD Cert.ReadbackIdeal.τ).loc Cert.ReadbackIdeal.main_arg4) = m ((c.tc : Thread Cert.ReadbackIdeal.nD Cert.ReadbackIdeal.τ).loc Cert.ReadbackIdeal.main_arg4)
          ∧ r.2.mem ((c.tc : Thread Cert.ReadbackIdeal.nD Cert.ReadbackIdeal.τ).loc Cert.ReadbackIdeal.main_arg5) = m ((c.tc : Thread Cert.ReadbackIdeal.nD Cert.ReadbackIdeal.τ).loc Cert.ReadbackIdeal.main_arg5)
          ∧ r.2.mem ((c.tc : Thread Cert.ReadbackIdeal.nD Cert.ReadbackIdeal.τ).loc Cert.ReadbackIdeal.main_arg6) = m ((c.tc : Thread Cert.ReadbackIdeal.nD Cert.ReadbackIdeal.τ).loc Cert.ReadbackIdeal.main_arg6)
          ∧ r.2.mem ((c.tc : Thread Cert.ReadbackIdeal.nD Cert.ReadbackIdeal.τ).loc Cert.ReadbackIdeal.main_arg7) = m ((c.tc : Thread Cert.ReadbackIdeal.nD Cert.ReadbackIdeal.τ).loc Cert.ReadbackIdeal.main_arg7)
          ∧ r.2.mem ((c.tc : Thread Cert.ReadbackIdeal.nD Cert.ReadbackIdeal.τ).loc Cert.ReadbackIdeal.main_arg8) = m ((c.tc : Thread Cert.ReadbackIdeal.nD Cert.ReadbackIdeal.τ).loc Cert.ReadbackIdeal.main_arg8))
      ∧ θ_run (Cert.ReadbackReferenceIdeal.defs (F := Ideal)) (onTc (τ := Cert.ReadbackReferenceIdeal.τ) (Cert.ReadbackReferenceIdeal.main (F := Ideal))) ⟨m', fun _ => 0, g'⟩ (fun r => ∀ c : Dev Cert.ReadbackReferenceIdeal.nD,
          r.2.mem ((c.tc : Thread Cert.ReadbackReferenceIdeal.nD Cert.ReadbackReferenceIdeal.τ).loc Cert.ReadbackReferenceIdeal.main_v47) = v0 c
          ∧ r.2.mem ((c.tc : Thread Cert.ReadbackReferenceIdeal.nD Cert.ReadbackReferenceIdeal.τ).loc Cert.ReadbackReferenceIdeal.main_v71) = v1 c
          ∧ r.2.mem ((c.tc : Thread Cert.ReadbackReferenceIdeal.nD Cert.ReadbackReferenceIdeal.τ).loc Cert.ReadbackReferenceIdeal.main_arg0) = m' ((c.tc : Thread Cert.ReadbackReferenceIdeal.nD Cert.ReadbackReferenceIdeal.τ).loc Cert.ReadbackReferenceIdeal.main_arg0)
          ∧ r.2.mem ((c.tc : Thread Cert.ReadbackReferenceIdeal.nD Cert.ReadbackReferenceIdeal.τ).loc Cert.ReadbackReferenceIdeal.main_arg1) = m' ((c.tc : Thread Cert.ReadbackReferenceIdeal.nD Cert.ReadbackReferenceIdeal.τ).loc Cert.ReadbackReferenceIdeal.main_arg1)
          ∧ r.2.mem ((c.tc : Thread Cert.ReadbackReferenceIdeal.nD Cert.ReadbackReferenceIdeal.τ).loc Cert.ReadbackReferenceIdeal.main_arg2) = m' ((c.tc : Thread Cert.ReadbackReferenceIdeal.nD Cert.ReadbackReferenceIdeal.τ).loc Cert.ReadbackReferenceIdeal.main_arg2)
          ∧ r.2.mem ((c.tc : Thread Cert.ReadbackReferenceIdeal.nD Cert.ReadbackReferenceIdeal.τ).loc Cert.ReadbackReferenceIdeal.main_arg3) = m' ((c.tc : Thread Cert.ReadbackReferenceIdeal.nD Cert.ReadbackReferenceIdeal.τ).loc Cert.ReadbackReferenceIdeal.main_arg3)
          ∧ r.2.mem ((c.tc : Thread Cert.ReadbackReferenceIdeal.nD Cert.ReadbackReferenceIdeal.τ).loc Cert.ReadbackReferenceIdeal.main_arg4) = m' ((c.tc : Thread Cert.ReadbackReferenceIdeal.nD Cert.ReadbackReferenceIdeal.τ).loc Cert.ReadbackReferenceIdeal.main_arg4)
          ∧ r.2.mem ((c.tc : Thread Cert.ReadbackReferenceIdeal.nD Cert.ReadbackReferenceIdeal.τ).loc Cert.ReadbackReferenceIdeal.main_arg5) = m' ((c.tc : Thread Cert.ReadbackReferenceIdeal.nD Cert.ReadbackReferenceIdeal.τ).loc Cert.ReadbackReferenceIdeal.main_arg5)
          ∧ r.2.mem ((c.tc : Thread Cert.ReadbackReferenceIdeal.nD Cert.ReadbackReferenceIdeal.τ).loc Cert.ReadbackReferenceIdeal.main_arg6) = m' ((c.tc : Thread Cert.ReadbackReferenceIdeal.nD Cert.ReadbackReferenceIdeal.τ).loc Cert.ReadbackReferenceIdeal.main_arg6)
          ∧ r.2.mem ((c.tc : Thread Cert.ReadbackReferenceIdeal.nD Cert.ReadbackReferenceIdeal.τ).loc Cert.ReadbackReferenceIdeal.main_arg7) = m' ((c.tc : Thread Cert.ReadbackReferenceIdeal.nD Cert.ReadbackReferenceIdeal.τ).loc Cert.ReadbackReferenceIdeal.main_arg7)
          ∧ r.2.mem ((c.tc : Thread Cert.ReadbackReferenceIdeal.nD Cert.ReadbackReferenceIdeal.τ).loc Cert.ReadbackReferenceIdeal.main_arg8) = m' ((c.tc : Thread Cert.ReadbackReferenceIdeal.nD Cert.ReadbackReferenceIdeal.τ).loc Cert.ReadbackReferenceIdeal.main_arg8))

def Claim : Prop :=
  ∃ (hKernel : Cert.Kernel.Facts) (hKernelIdeal : Cert.KernelIdeal.Facts) (hReferenceIdeal : Cert.ReferenceIdeal.Facts) (hReadback : Cert.Readback.Facts) (hReadbackIdeal : Cert.ReadbackIdeal.Facts) (hReadbackReferenceIdeal : Cert.ReadbackReferenceIdeal.Facts) (hPre_ids_in_vocab : Cert.Pre_ids_in_vocab.Facts),
    quiescent_Kernel (hKernel := hKernel)
    ∧ quiescent_KernelIdeal (hKernelIdeal := hKernelIdeal)
    ∧ quiescent_ReferenceIdeal (hReferenceIdeal := hReferenceIdeal)
    ∧ quiescent_Readback (hReadback := hReadback) (hPre_ids_in_vocab := hPre_ids_in_vocab)
    ∧ quiescent_ReadbackIdeal (hReadbackIdeal := hReadbackIdeal) (hPre_ids_in_vocab := hPre_ids_in_vocab)
    ∧ quiescent_ReadbackReferenceIdeal (hReadbackReferenceIdeal := hReadbackReferenceIdeal) (hPre_ids_in_vocab := hPre_ids_in_vocab)
    ∧ preserves_Kernel_KernelIdeal
    ∧ algebraic_KernelIdeal_ReferenceIdeal (hKernelIdeal := hKernelIdeal) (hReferenceIdeal := hReferenceIdeal)
    ∧ preserves_Readback_ReadbackIdeal
    ∧ algebraic_ReadbackIdeal_ReadbackReferenceIdeal (hReadbackIdeal := hReadbackIdeal) (hReadbackReferenceIdeal := hReadbackReferenceIdeal) (hPre_ids_in_vocab := hPre_ids_in_vocab)
-- ==== Pre_ids_in_vocab.lean ====
abbrev S40x32000 : Shape := ⟨2, ![40, 32000]⟩
abbrev S40x56x128 : Shape := ⟨3, ![40, 56, 128]⟩
abbrev S40 : Shape := ⟨1, ![40]⟩
abbrev S40x48x128 : Shape := ⟨3, ![40, 48, 128]⟩
abbrev S40x1x32 : Shape := ⟨3, ![40, 1, 32]⟩
abbrev S40x32 : Shape := ⟨2, ![40, 32]⟩
abbrev S_ : Shape := ⟨0, ![]⟩

class Facts : Prop where
  slices_S40x56x128_S40x48x128_0_0_0 : S40x56x128.Slices ![0, 0, 0] S40x48x128
  slices_S40x56x128_S40x1x32_0_48_0 : S40x56x128.Slices ![0, 48, 0] S40x1x32
  shapeCasts_S40x1x32_S40x32 : S40x1x32.ShapeCasts S40x32
  bcast_S_S40x48x128 : S_.BroadcastsInDim S40x48x128 (![] : Fin 0 → Fin S40x48x128.rank)
  reducesTo_S40x48x128_S_d0_1_2 : S40x48x128.ReducesTo [0, 1, 2] S_
  h_S_ : 0 < S_.numel
  bcast_S_S40x32 : S_.BroadcastsInDim S40x32 (![] : Fin 0 → Fin S40x32.rank)
  reducesTo_S40x32_S_d0_1 : S40x32.ReducesTo [0, 1] S_

variable [Facts]

def fn {F : FTy → Type} [FloatOps F] (main_arg0 : FVec F S40x32000 .f32) (main_arg1 : IVec S40x56x128 32) (main_arg2 : IVec S40x56x128 32) (main_arg3 : FVec F S40x56x128 .f32) (main_arg4 : IVec S40 32) (main_arg5 : IVec S40 32) (main_arg6 : FVec F S40 .f32) (main_arg7 : FVec F S40 .f32) (main_arg8 : FVec F S40 .f32) : IVec S_ 1 :=
  let main_v0 : IVec S40x48x128 32 := (extractStridedSlice S40x48x128 ![0, 0, 0] · slices_S40x56x128_S40x48x128_0_0_0) main_arg1
  let main_v1 : IVec S40x1x32 32 := (extractStridedSlice S40x1x32 ![0, 48, 0] · slices_S40x56x128_S40x1x32_0_48_0) main_arg1
  let main_v2 : IVec S40x32 32 := shapeCast S40x32 main_v1 shapeCasts_S40x1x32_S40x32
  let main_c : IVec S_ 32 := constantI S_ 32 0#32
  let main_v3 : IVec S40x48x128 32 := broadcastInDim S40x48x128 ![] bcast_S_S40x48x128 main_c
  let main_v4 : IVec S40x48x128 1 := cmpi .sge main_v0 main_v3
  let main_c_0 : IVec S_ 32 := constantI S_ 32 32000#32
  let main_v5 : IVec S40x48x128 32 := broadcastInDim S40x48x128 ![] bcast_S_S40x48x128 main_c_0
  let main_v6 : IVec S40x48x128 1 := cmpi .slt main_v0 main_v5
  let main_v7 : IVec S40x48x128 1 := andi main_v4 main_v6
  let main_c_1 : IVec S_ 1 := constantI S_ 1 1#1
  let main_v8 : IVec S_ 1 := (fun x v => Host.reduce IntOp.andi x v reducesTo_S40x48x128_S_d0_1_2 h_S_) main_v7 main_c_1
  let main_c_2 : IVec S_ 32 := constantI S_ 32 0#32
  let main_v9 : IVec S40x32 32 := broadcastInDim S40x32 ![] bcast_S_S40x32 main_c_2
  let main_v10 : IVec S40x32 1 := cmpi .sge main_v2 main_v9
  let main_c_3 : IVec S_ 32 := constantI S_ 32 32000#32
  let main_v11 : IVec S40x32 32 := broadcastInDim S40x32 ![] bcast_S_S40x32 main_c_3
  let main_v12 : IVec S40x32 1 := cmpi .slt main_v2 main_v11
  let main_v13 : IVec S40x32 1 := andi main_v10 main_v12
  let main_c_4 : IVec S_ 1 := constantI S_ 1 1#1
  let main_v14 : IVec S_ 1 := (fun x v => Host.reduce IntOp.andi x v reducesTo_S40x32_S_d0_1 h_S_) main_v13 main_c_4
  let main_v15 : IVec S_ 1 := andi main_v8 main_v14
  main_v15
-- ==== Kernel.lean ====
abbrev S40x1x4096 : Shape := ⟨3, ![40, 1, 4096]⟩
abbrev S40x1 : Shape := ⟨2, ![40, 1]⟩
abbrev S32000x4096 : Shape := ⟨2, ![32000, 4096]⟩
abbrev S32000 : Shape := ⟨1, ![32000]⟩
abbrev S40x32000 : Shape := ⟨2, ![40, 32000]⟩
abbrev S40 : Shape := ⟨1, ![40]⟩
abbrev S40x4096 : Shape := ⟨2, ![40, 4096]⟩
abbrev S1x32000 : Shape := ⟨2, ![1, 32000]⟩
abbrev S1280x4096 : Shape := ⟨2, ![1280, 4096]⟩
abbrev S1x1280 : Shape := ⟨2, ![1, 1280]⟩
abbrev S40x1280 : Shape := ⟨2, ![40, 1280]⟩
abbrev S40x3200 : Shape := ⟨2, ![40, 3200]⟩
abbrev S40x128 : Shape := ⟨2, ![40, 128]⟩

abbrev nBuf : Space → Nat
  | .hbm => 17
  | .vmem => 24
  | .smem => 0
  | _ => 0

abbrev bufTy : (tb : Table) → Fin (tcTables nBuf tb) → BufTy
  | .hbm, ⟨0, _⟩ => ⟨S40x1x4096, .fp8e4m3⟩
  | .hbm, ⟨1, _⟩ => ⟨S40x1, .f32⟩
  | .hbm, ⟨2, _⟩ => ⟨S32000x4096, .fp8e4m3⟩
  | .hbm, ⟨3, _⟩ => ⟨S32000, .f32⟩
  | .hbm, ⟨4, _⟩ => ⟨S40x32000, .i32⟩
  | .hbm, ⟨5, _⟩ => ⟨S40x32000, .f32⟩
  | .hbm, ⟨6, _⟩ => ⟨S40, .f32⟩
  | .hbm, ⟨7, _⟩ => ⟨S40, .f32⟩
  | .hbm, ⟨8, _⟩ => ⟨S40, .f32⟩
  | .hbm, ⟨9, _⟩ => ⟨S40x4096, .fp8e4m3⟩
  | .hbm, ⟨10, _⟩ => ⟨S1x32000, .f32⟩
  | .hbm, ⟨11, _⟩ => ⟨S40x32000, .f32⟩
  | .hbm, ⟨12, _⟩ => ⟨S40x1, .f32⟩
  | .hbm, ⟨13, _⟩ => ⟨S40x1, .f32⟩
  | .hbm, ⟨14, _⟩ => ⟨S40x1, .f32⟩
  | .hbm, ⟨15, _⟩ => ⟨S40x32000, .bf16⟩
  | .hbm, ⟨16, _⟩ => ⟨S40x1, .f32⟩
  | .local _ .vmem, ⟨0, _⟩ => ⟨S40x4096, .fp8e4m3⟩
  | .local _ .vmem, ⟨1, _⟩ => ⟨S40x1, .f32⟩
  | .local _ .vmem, ⟨2, _⟩ => ⟨S1280x4096, .fp8e4m3⟩
  | .local _ .vmem, ⟨3, _⟩ => ⟨S1280x4096, .fp8e4m3⟩
  | .local _ .vmem, ⟨4, _⟩ => ⟨S1x1280, .f32⟩
  | .local _ .vmem, ⟨5, _⟩ => ⟨S1x1280, .f32⟩
  | .local _ .vmem, ⟨6, _⟩ => ⟨S40x1280, .f32⟩
  | .local _ .vmem, ⟨7, _⟩ => ⟨S40x1280, .f32⟩
  | .local _ .vmem, ⟨8, _⟩ => ⟨S40x3200, .f32⟩
  | .local _ .vmem, ⟨9, _⟩ => ⟨S40x3200, .f32⟩
  | .local _ .vmem, ⟨10, _⟩ => ⟨S40x3200, .i32⟩
  | .local _ .vmem, ⟨11, _⟩ => ⟨S40x3200, .i32⟩
  | .local _ .vmem, ⟨12, _⟩ => ⟨S40x3200, .f32⟩
  | .local _ .vmem, ⟨13, _⟩ => ⟨S40x3200, .f32⟩
  | .local _ .vmem, ⟨14, _⟩ => ⟨S40x1, .f32⟩
  | .local _ .vmem, ⟨15, _⟩ => ⟨S40x1, .f32⟩
  | .local _ .vmem, ⟨16, _⟩ => ⟨S40x1, .f32⟩
  | .local _ .vmem, ⟨17, _⟩ => ⟨S40x3200, .bf16⟩
  | .local _ .vmem, ⟨18, _⟩ => ⟨S40x3200, .bf16⟩
  | .local _ .vmem, ⟨19, _⟩ => ⟨S40x1, .f32⟩
  | .local _ .vmem, ⟨20, _⟩ => ⟨S40x32000, .f32⟩
  | .local _ .vmem, ⟨21, _⟩ => ⟨S40x128, .f32⟩
  | .local _ .vmem, ⟨22, _⟩ => ⟨S40x128, .f32⟩
  | .local _ .vmem, ⟨23, _⟩ => ⟨S40x128, .f32⟩
  | _, _ => ⟨S40x1x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S40x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 10], ![false, false]⟩

def k1_mult1 (i : grid1.Coords) : BitVec 32 :=
  let arg1 : BitVec 32 := BitVec.ofNat 32 (i 1).val
  let c3200_i32 : BitVec 32 := 3200#32
  let v0 : BitVec 32 := Scalar.muli arg1 c3200_i32
  v0
def k1_cond2 (i : grid1.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

def k1_off1 (i : grid1.Coords) : Fin 2 → Nat :=
  let c0_21 : Index := 0#32
  let arg1 : BitVec 32 := BitVec.ofNat 32 (i 1).val
  let c3200_i32 : BitVec 32 := 3200#32
  let v0 : BitVec 32 := Scalar.muli arg1 c3200_i32
  let v1 : BitVec 32 := v0
  let v48 : Index := Scalar.indexCast v1
  ![0, v48.toNat]
def k1_cond4 (i : grid1.Coords) : BitVec 1 :=
  let arg0 : BitVec 32 := BitVec.ofNat 32 (i 0).val
  let c1_i32_6 : BitVec 32 := 1#32
  let v15 : BitVec 1 := Scalar.cmpi .eq arg0 c1_i32_6
  let v16 : BitVec 32 := Scalar.extui v15
  let c0_i32_7 : BitVec 32 := 0#32
  let v17 : BitVec 1 := Scalar.cmpi .ne v16 c0_i32_7
  v17

def k1_off2 (i : grid1.Coords) : Fin 2 → Nat :=
  let c0 : Index := 0#32
  let arg1 : BitVec 32 := BitVec.ofNat 32 (i 1).val
  let c3200_i32 : BitVec 32 := 3200#32
  let v0 : BitVec 32 := Scalar.muli arg1 c3200_i32
  let v1 : BitVec 32 := v0
  let v18 : Index := Scalar.indexCast v1
  ![0, v18.toNat]
def k1_cond3 (i : grid1.Coords) : BitVec 1 :=
  let arg0 : BitVec 32 := BitVec.ofNat 32 (i 0).val
  let c1_i32 : BitVec 32 := 1#32
  let v10 : BitVec 1 := Scalar.cmpi .eq arg0 c1_i32
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c9_i32 : BitVec 32 := 9#32
  let v2 : BitVec 32 := Scalar.muli c9_i32 arg0
  let v3 : BitVec 32 := Scalar.addi v1 v2
  let c0_i32 : BitVec 32 := 0#32
  let c0_i32_0 : BitVec 32 := 0#32
  ![c0_i32.toNat, v3.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c9_i32 : BitVec 32 := 9#32
  let v2 : BitVec 32 := Scalar.muli c9_i32 arg0
  let v3 : BitVec 32 := Scalar.addi v1 v2
  let c0_i32 : BitVec 32 := 0#32
  let c0_i32_0 : BitVec 32 := 0#32
  ![c0_i32.toNat, v3.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c9_i32 : BitVec 32 := 9#32
  let v2 : BitVec 32 := Scalar.muli c9_i32 arg0
  let v3 : BitVec 32 := Scalar.addi v1 v2
  let c0_i32 : BitVec 32 := 0#32
  let c0_i32_0 : BitVec 32 := 0#32
  ![c0_i32.toNat, v3.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![c0_i32.toNat, v0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S40x3200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S40x3200 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S40x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S40x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S40x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S40x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S40x3200 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S40x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]
-- ==== ReferenceIdeal.lean ====
abbrev S40x1x4096 : Shape := ⟨3, ![40, 1, 4096]⟩
abbrev S40x1 : Shape := ⟨2, ![40, 1]⟩
abbrev S32000x4096 : Shape := ⟨2, ![32000, 4096]⟩
abbrev S32000 : Shape := ⟨1, ![32000]⟩
abbrev S40x32000 : Shape := ⟨2, ![40, 32000]⟩
abbrev S40 : Shape := ⟨1, ![40]⟩
abbrev S40x1x32000 : Shape := ⟨3, ![40, 1, 32000]⟩
abbrev S40x1x1 : Shape := ⟨3, ![40, 1, 1]⟩
abbrev S1x1x32000 : Shape := ⟨3, ![1, 1, 32000]⟩

abbrev nBuf : Space → Nat
  | .hbm => 11
  | .vmem => 11
  | .smem => 0
  | _ => 0

abbrev bufTy : (tb : Table) → Fin (tcTables nBuf tb) → BufTy
  | .hbm, ⟨0, _⟩ => ⟨S40x1x4096, .fp8e4m3⟩
  | .hbm, ⟨1, _⟩ => ⟨S40x1, .f32⟩
  | .hbm, ⟨2, _⟩ => ⟨S32000x4096, .fp8e4m3⟩
  | .hbm, ⟨3, _⟩ => ⟨S32000, .f32⟩
  | .hbm, ⟨4, _⟩ => ⟨S40x32000, .i32⟩
  | .hbm, ⟨5, _⟩ => ⟨S40x32000, .f32⟩
  | .hbm, ⟨6, _⟩ => ⟨S40, .f32⟩
  | .hbm, ⟨7, _⟩ => ⟨S40, .f32⟩
  | .hbm, ⟨8, _⟩ => ⟨S40, .f32⟩
  | .hbm, ⟨9, _⟩ => ⟨S40x32000, .bf16⟩
  | .hbm, ⟨10, _⟩ => ⟨S40x1, .f32⟩
  | .local _ .vmem, ⟨0, _⟩ => ⟨S40x1x4096, .fp8e4m3⟩
  | .local _ .vmem, ⟨1, _⟩ => ⟨S40x1, .f32⟩
  | .local _ .vmem, ⟨2, _⟩ => ⟨S32000x4096, .fp8e4m3⟩
  | .local _ .vmem, ⟨3, _⟩ => ⟨S32000, .f32⟩
  | .local _ .vmem, ⟨4, _⟩ => ⟨S40x32000, .i32⟩
  | .local _ .vmem, ⟨5, _⟩ => ⟨S40x32000, .f32⟩
  | .local _ .vmem, ⟨6, _⟩ => ⟨S40, .f32⟩
  | .local _ .vmem, ⟨7, _⟩ => ⟨S40, .f32⟩
  | .local _ .vmem, ⟨8, _⟩ => ⟨S40, .f32⟩
  | .local _ .vmem, ⟨9, _⟩ => ⟨S40x32000, .bf16⟩
  | .local _ .vmem, ⟨10, _⟩ => ⟨S40x1, .f32⟩
  | _, _ => ⟨S40x1x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S40x1x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32000x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x32000 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x32000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S40x32000 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S40x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Readback.lean ====
abbrev S40x32000 : Shape := ⟨2, ![40, 32000]⟩
abbrev S40x56x128 : Shape := ⟨3, ![40, 56, 128]⟩
abbrev S40 : Shape := ⟨1, ![40]⟩
abbrev S40x6144 : Shape := ⟨2, ![40, 6144]⟩
abbrev S40x24 : Shape := ⟨2, ![40, 24]⟩
abbrev S32000 : Shape := ⟨1, ![32000]⟩
abbrev S56x128 : Shape := ⟨2, ![56, 128]⟩
abbrev S6144 : Shape := ⟨1, ![6144]⟩
abbrev S32 : Shape := ⟨1, ![32]⟩
abbrev S_ : Shape := ⟨0, ![]⟩
abbrev S16 : Shape := ⟨1, ![16]⟩
abbrev S1x32000 : Shape := ⟨2, ![1, 32000]⟩
abbrev S1x56x128 : Shape := ⟨3, ![1, 56, 128]⟩
abbrev S1x16 : Shape := ⟨2, ![1, 16]⟩
abbrev S1x6144 : Shape := ⟨2, ![1, 6144]⟩
abbrev S24 : Shape := ⟨1, ![24]⟩
abbrev S1x24 : Shape := ⟨2, ![1, 24]⟩

abbrev nBuf : Table → Nat
  | .hbm => 11
  | .local .scVector .vmem => 11
  | _ => 0

abbrev bufTy : (tb : Table) → Fin (nBuf tb) → BufTy
  | .hbm, ⟨0, _⟩ => ⟨S40x32000, .f32⟩
  | .hbm, ⟨1, _⟩ => ⟨S40x56x128, .i32⟩
  | .hbm, ⟨2, _⟩ => ⟨S40x56x128, .i32⟩
  | .hbm, ⟨3, _⟩ => ⟨S40x56x128, .f32⟩
  | .hbm, ⟨4, _⟩ => ⟨S40, .i32⟩
  | .hbm, ⟨5, _⟩ => ⟨S40, .i32⟩
  | .hbm, ⟨6, _⟩ => ⟨S40, .f32⟩
  | .hbm, ⟨7, _⟩ => ⟨S40, .f32⟩
  | .hbm, ⟨8, _⟩ => ⟨S40, .f32⟩
  | .hbm, ⟨9, _⟩ => ⟨S40x6144, .f32⟩
  | .hbm, ⟨10, _⟩ => ⟨S40x24, .f32⟩
  | .local .scVector .vmem, ⟨0, _⟩ => ⟨S40, .i32⟩
  | .local .scVector .vmem, ⟨1, _⟩ => ⟨S40, .i32⟩
  | .local .scVector .vmem, ⟨2, _⟩ => ⟨S40, .f32⟩
  | .local .scVector .vmem, ⟨3, _⟩ => ⟨S40, .f32⟩
  | .local .scVector .vmem, ⟨4, _⟩ => ⟨S40, .f32⟩
  | .local .scVector .vmem, ⟨5, _⟩ => ⟨S32000, .f32⟩
  | .local .scVector .vmem, ⟨6, _⟩ => ⟨S56x128, .i32⟩
  | .local .scVector .vmem, ⟨7, _⟩ => ⟨S56x128, .i32⟩
  | .local .scVector .vmem, ⟨8, _⟩ => ⟨S56x128, .f32⟩
  | .local .scVector .vmem, ⟨9, _⟩ => ⟨S6144, .f32⟩
  | .local .scVector .vmem, ⟨10, _⟩ => ⟨S32, .f32⟩
  | _, _ => ⟨S40x32000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_arg6_scv : Ref sig .scVector := ⟨.hbm, 6, rfl⟩
abbrev main_arg7_scv : Ref sig .scVector := ⟨.hbm, 7, rfl⟩
abbrev main_arg8_scv : Ref sig .scVector := ⟨.hbm, 8, rfl⟩
abbrev main_v0_0_scv : Ref sig .scVector := ⟨.hbm, 9, rfl⟩
abbrev main_v0_1_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_12 : BitVec 32 := 0#32
  let c40_i32 : BitVec 32 := 40#32
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let v3 : BitVec 32 := Scalar.subi c40_i32 v2
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c0_i32_6 : BitVec 32 := 0#32
  let v23 : BitVec 32 := Scalar.subi v22 c0_i32_6
  let c1_i32_7 : BitVec 32 := 1#32
  let c1_i32_8 : BitVec 32 := 1#32
  let v24 : BitVec 32 := Scalar.subi c1_i32_7 c1_i32_8
  let v25 : BitVec 32 := Scalar.addi v23 v24
  let c1_i32_9 : BitVec 32 := 1#32
  let v26 : BitVec 32 := Scalar.divsi v25 c1_i32_9
  let v27 : BitVec 32 := Scalar.subi v26 c0_i32_12
  let c1_i32_13 : BitVec 32 := 1#32
  let v29 : BitVec 32 := Scalar.divsi v27 c1_i32_13
  let v30 : BitVec 32 := Scalar.muli v29 c1_i32_13
  let v31 : BitVec 32 := Scalar.addi c0_i32_12 v30
  let c1_i32_14 : BitVec 32 := 1#32
  ⟨c0_i32_12, v31, c1_i32_14⟩
def k0_off1 (i : grid0.Coords) (k0_t1 : Fin (k0_t1_loop i).trips) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c0_i32_11 : BitVec 32 := 0#32
  let c0_i32_12 : BitVec 32 := 0#32
  let c1_i32_14 : BitVec 32 := 1#32
  let arg24 : BitVec 32 := Scf.iv c0_i32_12 c1_i32_14 k0_t1
  let c1_i32_10 : BitVec 32 := 1#32
  let v32 : BitVec 32 := Scalar.muli arg24 c1_i32_10
  let v33 : BitVec 32 := Scalar.addi c0_i32_11 v32
  let c32_i32_16 : BitVec 32 := 32#32
  let v34 : BitVec 32 := Scalar.muli v33 c32_i32_16
  let v35 : BitVec 32 := Scalar.addi v2 v34
  let c0_i32_40_r5 : BitVec 32 := 0#32
  ![v35.toNat, 0]
def k0_off2 (i : grid0.Coords) (k0_t1 : Fin (k0_t1_loop i).trips) : Fin 3 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c0_i32_11 : BitVec 32 := 0#32
  let c0_i32_12 : BitVec 32 := 0#32
  let c1_i32_14 : BitVec 32 := 1#32
  let arg24 : BitVec 32 := Scf.iv c0_i32_12 c1_i32_14 k0_t1
  let c1_i32_10 : BitVec 32 := 1#32
  let v32 : BitVec 32 := Scalar.muli arg24 c1_i32_10
  let v33 : BitVec 32 := Scalar.addi c0_i32_11 v32
  let c32_i32_16 : BitVec 32 := 32#32
  let v34 : BitVec 32 := Scalar.muli v33 c32_i32_16
  let v35 : BitVec 32 := Scalar.addi v2 v34
  let c0_i32_40_r6 : BitVec 32 := 0#32
  let c0_i32_41_r6 : BitVec 32 := 0#32
  ![v35.toNat, 0, 0]

def k0_chk1 (v36 : IVec S16 32) : Prop :=
  (∀ a x, ((![v36] : Fin 1 → IVec S16 32) a x).toNat < S40.size a)
theorem k0_idx1_inb : ∀ (v36 : IVec S16 32) (k0_hw1 : k0_chk1 v36), ∀ a x, ((![v36] : Fin 1 → IVec S16 32) a x).toNat < S40.size a := fun v36 k0_hw1 => k0_hw1

def k0_chk2 (v38 : IVec S16 32) : Prop :=
  (∀ a x, ((![v38] : Fin 1 → IVec S16 32) a x).toNat < S40.size a)
theorem k0_idx2_inb : ∀ (v38 : IVec S16 32) (k0_hw2 : k0_chk2 v38), ∀ a x, ((![v38] : Fin 1 → IVec S16 32) a x).toNat < S40.size a := fun v38 k0_hw2 => k0_hw2

def k0_chk3 (v40 : IVec S16 32) : Prop :=
  (∀ a x, ((![v40] : Fin 1 → IVec S16 32) a x).toNat < S40.size a)
theorem k0_idx3_inb : ∀ (v40 : IVec S16 32) (k0_hw3 : k0_chk3 v40), ∀ a x, ((![v40] : Fin 1 → IVec S16 32) a x).toNat < S40.size a := fun v40 k0_hw3 => k0_hw3

def k0_chk4 (v42 : IVec S16 32) : Prop :=
  (∀ a x, ((![v42] : Fin 1 → IVec S16 32) a x).toNat < S40.size a)
theorem k0_idx4_inb : ∀ (v42 : IVec S16 32) (k0_hw4 : k0_chk4 v42), ∀ a x, ((![v42] : Fin 1 → IVec S16 32) a x).toNat < S40.size a := fun v42 k0_hw4 => k0_hw4
@[reducible] def k0_t2_loop : Scf.Loop 32 :=
  let c0_i32_17 : BitVec 32 := 0#32
  let c48_i32 : BitVec 32 := 48#32
  let v44 : BitVec 32 := Scalar.addi c0_i32_17 c48_i32
  let c1_i32_18 : BitVec 32 := 1#32
  ⟨c0_i32_17, v44, c1_i32_18⟩
def k0_off3 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v112 : Index := Scalar.indexCast v106
  let c0_43 : Index := 0#32
  ![v112.toNat, 0]

def k0_chk5 (v115 : IVec S16 32) : Prop :=
  (∀ a x, ((![v115] : Fin 1 → IVec S16 32) a x).toNat < S32000.size a)
theorem k0_idx5_inb : ∀ (v115 : IVec S16 32) (k0_hw5 : k0_chk5 v115), ∀ a x, ((![v115] : Fin 1 → IVec S16 32) a x).toNat < S32000.size a := fun v115 k0_hw5 => k0_hw5
def k0_off4 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v117 : Index := Scalar.indexCast v106
  let c0_45 : Index := 0#32
  ![v117.toNat, 0]
def k0_off5 (k0_t2 : Fin k0_t2_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let c128_i32_50 : BitVec 32 := 128#32
  let v136 : BitVec 32 := Scalar.muli v106 c128_i32_50
  let c0_i32_51 : BitVec 32 := 0#32
  let v137 : BitVec 32 := Scalar.addi v136 c0_i32_51
  let v138 : Index := Scalar.indexCast v137
  ![v138.toNat]
def k0_off6 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v145 : Index := Scalar.indexCast v106
  let c16_54 : Index := 16#32
  ![v145.toNat, 16]

def k0_chk6 (v148 : IVec S16 32) : Prop :=
  (∀ a x, ((![v148] : Fin 1 → IVec S16 32) a x).toNat < S32000.size a)
theorem k0_idx6_inb : ∀ (v148 : IVec S16 32) (k0_hw6 : k0_chk6 v148), ∀ a x, ((![v148] : Fin 1 → IVec S16 32) a x).toNat < S32000.size a := fun v148 k0_hw6 => k0_hw6
def k0_off7 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v150 : Index := Scalar.indexCast v106
  let c16_56 : Index := 16#32
  ![v150.toNat, 16]
def k0_off8 (k0_t2 : Fin k0_t2_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let c128_i32_61 : BitVec 32 := 128#32
  let v169 : BitVec 32 := Scalar.muli v106 c128_i32_61
  let c16_i32_62 : BitVec 32 := 16#32
  let v170 : BitVec 32 := Scalar.addi v169 c16_i32_62
  let v171 : Index := Scalar.indexCast v170
  ![v171.toNat]
def k0_off9 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v178 : Index := Scalar.indexCast v106
  let c32 : Index := 32#32
  ![v178.toNat, 32]

def k0_chk7 (v181 : IVec S16 32) : Prop :=
  (∀ a x, ((![v181] : Fin 1 → IVec S16 32) a x).toNat < S32000.size a)
theorem k0_idx7_inb : ∀ (v181 : IVec S16 32) (k0_hw7 : k0_chk7 v181), ∀ a x, ((![v181] : Fin 1 → IVec S16 32) a x).toNat < S32000.size a := fun v181 k0_hw7 => k0_hw7
def k0_off10 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v183 : Index := Scalar.indexCast v106
  let c32_66 : Index := 32#32
  ![v183.toNat, 32]
def k0_off11 (k0_t2 : Fin k0_t2_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let c128_i32_71 : BitVec 32 := 128#32
  let v202 : BitVec 32 := Scalar.muli v106 c128_i32_71
  let c32_i32_72 : BitVec 32 := 32#32
  let v203 : BitVec 32 := Scalar.addi v202 c32_i32_72
  let v204 : Index := Scalar.indexCast v203
  ![v204.toNat]
def k0_off12 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v211 : Index := Scalar.indexCast v106
  let c48 : Index := 48#32
  ![v211.toNat, 48]

def k0_chk8 (v214 : IVec S16 32) : Prop :=
  (∀ a x, ((![v214] : Fin 1 → IVec S16 32) a x).toNat < S32000.size a)
theorem k0_idx8_inb : ∀ (v214 : IVec S16 32) (k0_hw8 : k0_chk8 v214), ∀ a x, ((![v214] : Fin 1 → IVec S16 32) a x).toNat < S32000.size a := fun v214 k0_hw8 => k0_hw8
def k0_off13 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v216 : Index := Scalar.indexCast v106
  let c48_76 : Index := 48#32
  ![v216.toNat, 48]
def k0_off14 (k0_t2 : Fin k0_t2_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let c128_i32_81 : BitVec 32 := 128#32
  let v235 : BitVec 32 := Scalar.muli v106 c128_i32_81
  let c48_i32_82 : BitVec 32 := 48#32
  let v236 : BitVec 32 := Scalar.addi v235 c48_i32_82
  let v237 : Index := Scalar.indexCast v236
  ![v237.toNat]
def k0_off15 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v244 : Index := Scalar.indexCast v106
  let c64 : Index := 64#32
  ![v244.toNat, 64]

def k0_chk9 (v247 : IVec S16 32) : Prop :=
  (∀ a x, ((![v247] : Fin 1 → IVec S16 32) a x).toNat < S32000.size a)
theorem k0_idx9_inb : ∀ (v247 : IVec S16 32) (k0_hw9 : k0_chk9 v247), ∀ a x, ((![v247] : Fin 1 → IVec S16 32) a x).toNat < S32000.size a := fun v247 k0_hw9 => k0_hw9
def k0_off16 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v249 : Index := Scalar.indexCast v106
  let c64_85 : Index := 64#32
  ![v249.toNat, 64]
def k0_off17 (k0_t2 : Fin k0_t2_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let c128_i32_90 : BitVec 32 := 128#32
  let v268 : BitVec 32 := Scalar.muli v106 c128_i32_90
  let c64_i32_91 : BitVec 32 := 64#32
  let v269 : BitVec 32 := Scalar.addi v268 c64_i32_91
  let v270 : Index := Scalar.indexCast v269
  ![v270.toNat]
def k0_off18 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v277 : Index := Scalar.indexCast v106
  let c80 : Index := 80#32
  ![v277.toNat, 80]

def k0_chk10 (v280 : IVec S16 32) : Prop :=
  (∀ a x, ((![v280] : Fin 1 → IVec S16 32) a x).toNat < S32000.size a)
theorem k0_idx10_inb : ∀ (v280 : IVec S16 32) (k0_hw10 : k0_chk10 v280), ∀ a x, ((![v280] : Fin 1 → IVec S16 32) a x).toNat < S32000.size a := fun v280 k0_hw10 => k0_hw10
def k0_off19 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v282 : Index := Scalar.indexCast v106
  let c80_94 : Index := 80#32
  ![v282.toNat, 80]
def k0_off20 (k0_t2 : Fin k0_t2_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let c128_i32_99 : BitVec 32 := 128#32
  let v301 : BitVec 32 := Scalar.muli v106 c128_i32_99
  let c80_i32_100 : BitVec 32 := 80#32
  let v302 : BitVec 32 := Scalar.addi v301 c80_i32_100
  let v303 : Index := Scalar.indexCast v302
  ![v303.toNat]
def k0_off21 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v310 : Index := Scalar.indexCast v106
  let c96 : Index := 96#32
  ![v310.toNat, 96]

def k0_chk11 (v313 : IVec S16 32) : Prop :=
  (∀ a x, ((![v313] : Fin 1 → IVec S16 32) a x).toNat < S32000.size a)
theorem k0_idx11_inb : ∀ (v313 : IVec S16 32) (k0_hw11 : k0_chk11 v313), ∀ a x, ((![v313] : Fin 1 → IVec S16 32) a x).toNat < S32000.size a := fun v313 k0_hw11 => k0_hw11
def k0_off22 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v315 : Index := Scalar.indexCast v106
  let c96_103 : Index := 96#32
  ![v315.toNat, 96]
def k0_off23 (k0_t2 : Fin k0_t2_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let c128_i32_108 : BitVec 32 := 128#32
  let v334 : BitVec 32 := Scalar.muli v106 c128_i32_108
  let c96_i32_109 : BitVec 32 := 96#32
  let v335 : BitVec 32 := Scalar.addi v334 c96_i32_109
  let v336 : Index := Scalar.indexCast v335
  ![v336.toNat]
def k0_off24 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v343 : Index := Scalar.indexCast v106
  let c112 : Index := 112#32
  ![v343.toNat, 112]

def k0_chk12 (v346 : IVec S16 32) : Prop :=
  (∀ a x, ((![v346] : Fin 1 → IVec S16 32) a x).toNat < S32000.size a)
theorem k0_idx12_inb : ∀ (v346 : IVec S16 32) (k0_hw12 : k0_chk12 v346), ∀ a x, ((![v346] : Fin 1 → IVec S16 32) a x).toNat < S32000.size a := fun v346 k0_hw12 => k0_hw12
def k0_off25 (k0_t2 : Fin k0_t2_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let v348 : Index := Scalar.indexCast v106
  let c112_112 : Index := 112#32
  ![v348.toNat, 112]
def k0_off26 (k0_t2 : Fin k0_t2_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t2
  let c1_i32_40 : BitVec 32 := 1#32
  let v105 : BitVec 32 := Scalar.muli arg25 c1_i32_40
  let v106 : BitVec 32 := Scalar.addi c0_i32_41 v105
  let c128_i32_117 : BitVec 32 := 128#32
  let v367 : BitVec 32 := Scalar.muli v106 c128_i32_117
  let c112_i32_118 : BitVec 32 := 112#32
  let v368 : BitVec 32 := Scalar.addi v367 c112_i32_118
  let v369 : Index := Scalar.indexCast v368
  ![v369.toNat]

def k0_chk13 (v45 : IVec S16 32) : Prop :=
  (∀ a x, ((![v45] : Fin 1 → IVec S16 32) a x).toNat < S40.size a)
theorem k0_idx13_inb : ∀ (v45 : IVec S16 32) (k0_hw13 : k0_chk13 v45), ∀ a x, ((![v45] : Fin 1 → IVec S16 32) a x).toNat < S40.size a := fun v45 k0_hw13 => k0_hw13

def k0_chk14 (v55 : IVec S16 32) : Prop :=
  (∀ a x, ((![v55] : Fin 1 → IVec S16 32) a x).toNat < S32000.size a)
theorem k0_idx14_inb : ∀ (v55 : IVec S16 32) (k0_hw14 : k0_chk14 v55), ∀ a x, ((![v55] : Fin 1 → IVec S16 32) a x).toNat < S32000.size a := fun v55 k0_hw14 => k0_hw14

def k0_chk15 (v83 : IVec S16 32) : Prop :=
  (∀ a x, ((![v83] : Fin 1 → IVec S16 32) a x).toNat < S32000.size a)
theorem k0_idx15_inb : ∀ (v83 : IVec S16 32) (k0_hw15 : k0_chk15 v83), ∀ a x, ((![v83] : Fin 1 → IVec S16 32) a x).toNat < S32000.size a := fun v83 k0_hw15 => k0_hw15
def k0_off27 (i : grid0.Coords) (k0_t1 : Fin (k0_t1_loop i).trips) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c0_i32_11 : BitVec 32 := 0#32
  let c0_i32_12 : BitVec 32 := 0#32
  let c1_i32_14 : BitVec 32 := 1#32
  let arg24 : BitVec 32 := Scf.iv c0_i32_12 c1_i32_14 k0_t1
  let c1_i32_10 : BitVec 32 := 1#32
  let v32 : BitVec 32 := Scalar.muli arg24 c1_i32_10
  let v33 : BitVec 32 := Scalar.addi c0_i32_11 v32
  let c32_i32_16 : BitVec 32 := 32#32
  let v34 : BitVec 32 := Scalar.muli v33 c32_i32_16
  let v35 : BitVec 32 := Scalar.addi v2 v34
  let c0_i32_40_r9 : BitVec 32 := 0#32
  ![v35.toNat, 0]
def k0_off28 (i : grid0.Coords) (k0_t1 : Fin (k0_t1_loop i).trips) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c0_i32_11 : BitVec 32 := 0#32
  let c0_i32_12 : BitVec 32 := 0#32
  let c1_i32_14 : BitVec 32 := 1#32
  let arg24 : BitVec 32 := Scf.iv c0_i32_12 c1_i32_14 k0_t1
  let c1_i32_10 : BitVec 32 := 1#32
  let v32 : BitVec 32 := Scalar.muli arg24 c1_i32_10
  let v33 : BitVec 32 := Scalar.addi c0_i32_11 v32
  let c32_i32_16 : BitVec 32 := 32#32
  let v34 : BitVec 32 := Scalar.muli v33 c32_i32_16
  let v35 : BitVec 32 := Scalar.addi v2 v34
  let c0_i32_41_r10 : BitVec 32 := 0#32
  ![v35.toNat, 0]
@[reducible] def k0_t3_loop (i : grid0.Coords) : Scf.Loop 32 :=
  let c0_i32_12 : BitVec 32 := 0#32
  let c40_i32 : BitVec 32 := 40#32
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let v3 : BitVec 32 := Scalar.subi c40_i32 v2
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c0_i32_6 : BitVec 32 := 0#32
  let v23 : BitVec 32 := Scalar.subi v22 c0_i32_6
  let c1_i32_7 : BitVec 32 := 1#32
  let c1_i32_8 : BitVec 32 := 1#32
  let v24 : BitVec 32 := Scalar.subi c1_i32_7 c1_i32_8
  let v25 : BitVec 32 := Scalar.addi v23 v24
  let c1_i32_9 : BitVec 32 := 1#32
  let v26 : BitVec 32 := Scalar.divsi v25 c1_i32_9
  let v27 : BitVec 32 := Scalar.subi v26 c0_i32_12
  let c1_i32_13 : BitVec 32 := 1#32
  let v29 : BitVec 32 := Scalar.divsi v27 c1_i32_13
  let v30 : BitVec 32 := Scalar.muli v29 c1_i32_13
  let v31 : BitVec 32 := Scalar.addi c0_i32_12 v30
  let v28 : BitVec 32 := Scalar.addi c0_i32_12 v27
  let c1_i32_15 : BitVec 32 := 1#32
  ⟨v31, v28, c1_i32_15⟩
def k0_off29 (i : grid0.Coords) (k0_t3 : Fin (k0_t3_loop i).trips) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c0_i32_11 : BitVec 32 := 0#32
  let c0_i32_12 : BitVec 32 := 0#32
  let c40_i32 : BitVec 32 := 40#32
  let v3 : BitVec 32 := Scalar.subi c40_i32 v2
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c0_i32_6 : BitVec 32 := 0#32
  let v23 : BitVec 32 := Scalar.subi v22 c0_i32_6
  let c1_i32_7 : BitVec 32 := 1#32
  let c1_i32_8 : BitVec 32 := 1#32
  let v24 : BitVec 32 := Scalar.subi c1_i32_7 c1_i32_8
  let v25 : BitVec 32 := Scalar.addi v23 v24
  let c1_i32_9 : BitVec 32 := 1#32
  let v26 : BitVec 32 := Scalar.divsi v25 c1_i32_9
  let v27 : BitVec 32 := Scalar.subi v26 c0_i32_12
  let c1_i32_13 : BitVec 32 := 1#32
  let v29 : BitVec 32 := Scalar.divsi v27 c1_i32_13
  let v30 : BitVec 32 := Scalar.muli v29 c1_i32_13
  let v31 : BitVec 32 := Scalar.addi c0_i32_12 v30
  let c1_i32_15 : BitVec 32 := 1#32
  let arg24 : BitVec 32 := Scf.iv v31 c1_i32_15 k0_t3
  let c1_i32_10 : BitVec 32 := 1#32
  let v32 : BitVec 32 := Scalar.muli arg24 c1_i32_10
  let v33 : BitVec 32 := Scalar.addi c0_i32_11 v32
  let c32_i32_16 : BitVec 32 := 32#32
  let v34 : BitVec 32 := Scalar.muli v33 c32_i32_16
  let v35 : BitVec 32 := Scalar.addi v2 v34
  let c0_i32_40_r11 : BitVec 32 := 0#32
  ![v35.toNat, 0]
def k0_off30 (i : grid0.Coords) (k0_t3 : Fin (k0_t3_loop i).trips) : Fin 3 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c0_i32_11 : BitVec 32 := 0#32
  let c0_i32_12 : BitVec 32 := 0#32
  let c40_i32 : BitVec 32 := 40#32
  let v3 : BitVec 32 := Scalar.subi c40_i32 v2
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c0_i32_6 : BitVec 32 := 0#32
  let v23 : BitVec 32 := Scalar.subi v22 c0_i32_6
  let c1_i32_7 : BitVec 32 := 1#32
  let c1_i32_8 : BitVec 32 := 1#32
  let v24 : BitVec 32 := Scalar.subi c1_i32_7 c1_i32_8
  let v25 : BitVec 32 := Scalar.addi v23 v24
  let c1_i32_9 : BitVec 32 := 1#32
  let v26 : BitVec 32 := Scalar.divsi v25 c1_i32_9
  let v27 : BitVec 32 := Scalar.subi v26 c0_i32_12
  let c1_i32_13 : BitVec 32 := 1#32
  let v29 : BitVec 32 := Scalar.divsi v27 c1_i32_13
  let v30 : BitVec 32 := Scalar.muli v29 c1_i32_13
  let v31 : BitVec 32 := Scalar.addi c0_i32_12 v30
  let c1_i32_15 : BitVec 32 := 1#32
  let arg24 : BitVec 32 := Scf.iv v31 c1_i32_15 k0_t3
  let c1_i32_10 : BitVec 32 := 1#32
  let v32 : BitVec 32 := Scalar.muli arg24 c1_i32_10
  let v33 : BitVec 32 := Scalar.addi c0_i32_11 v32
  let c32_i32_16 : BitVec 32 := 32#32
  let v34 : BitVec 32 := Scalar.muli v33 c32_i32_16
  let v35 : BitVec 32 := Scalar.addi v2 v34
  let c0_i32_40_r12 : BitVec 32 := 0#32
  let c0_i32_41_r12 : BitVec 32 := 0#32
  ![v35.toNat, 0, 0]

def k0_chk16 (i : grid0.Coords) (k0_t3 : Fin (k0_t3_loop i).trips) (v36 : IVec S16 32) : Prop :=
  (∀ a x, ((![v36] : Fin 1 → IVec S16 32) a x).toNat < S40.size a)
theorem k0_idx16_inb : ∀ (i : grid0.Coords) (k0_t3 : Fin (k0_t3_loop i).trips) (v36 : IVec S16 32) (k0_hw16 : k0_chk16 i k0_t3 v36), ∀ a x, ((![v36] : Fin 1 → IVec S16 32) a x).toNat < S40.size a := fun i k0_t3 v36 k0_hw16 => k0_hw16

def k0_chk17 (i : grid0.Coords) (k0_t3 : Fin (k0_t3_loop i).trips) (v38 : IVec S16 32) : Prop :=
  (∀ a x, ((![v38] : Fin 1 → IVec S16 32) a x).toNat < S40.size a)
theorem k0_idx17_inb : ∀ (i : grid0.Coords) (k0_t3 : Fin (k0_t3_loop i).trips) (v38 : IVec S16 32) (k0_hw17 : k0_chk17 i k0_t3 v38), ∀ a x, ((![v38] : Fin 1 → IVec S16 32) a x).toNat < S40.size a := fun i k0_t3 v38 k0_hw17 => k0_hw17

def k0_chk18 (i : grid0.Coords) (k0_t3 : Fin (k0_t3_loop i).trips) (v40 : IVec S16 32) : Prop :=
  (∀ a x, ((![v40] : Fin 1 → IVec S16 32) a x).toNat < S40.size a)
theorem k0_idx18_inb : ∀ (i : grid0.Coords) (k0_t3 : Fin (k0_t3_loop i).trips) (v40 : IVec S16 32) (k0_hw18 : k0_chk18 i k0_t3 v40), ∀ a x, ((![v40] : Fin 1 → IVec S16 32) a x).toNat < S40.size a := fun i k0_t3 v40 k0_hw18 => k0_hw18

def k0_chk19 (i : grid0.Coords) (k0_t3 : Fin (k0_t3_loop i).trips) (v42 : IVec S16 32) : Prop :=
  (∀ a x, ((![v42] : Fin 1 → IVec S16 32) a x).toNat < S40.size a)
theorem k0_idx19_inb : ∀ (i : grid0.Coords) (k0_t3 : Fin (k0_t3_loop i).trips) (v42 : IVec S16 32) (k0_hw19 : k0_chk19 i k0_t3 v42), ∀ a x, ((![v42] : Fin 1 → IVec S16 32) a x).toNat < S40.size a := fun i k0_t3 v42 k0_hw19 => k0_hw19
@[reducible] def k0_t4_loop : Scf.Loop 32 :=
  let c0_i32_17 : BitVec 32 := 0#32
  let c48_i32 : BitVec 32 := 48#32
  let v44 : BitVec 32 := Scalar.addi c0_i32_17 c48_i32
  let c1_i32_18 : BitVec 32 := 1#32
  ⟨c0_i32_17, v44, c1_i32_18⟩
def k0_off31 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v112 : Index := Scalar.indexCast v106
  let c0_43 : Index := 0#32
  ![v112.toNat, 0]

def k0_chk20 (i : grid0.Coords) (k0_t3 : Fin (k0_t3_loop i).trips) (v115 : IVec S16 32) : Prop :=
  (∀ a x, ((![v115] : Fin 1 → IVec S16 32) a x).toNat < S32000.size a)
theorem k0_idx20_inb : ∀ (i : grid0.Coords) (k0_t3 : Fin (k0_t3_loop i).trips) (v115 : IVec S16 32) (k0_hw20 : k0_chk20 i k0_t3 v115), ∀ a x, ((![v115] : Fin 1 → IVec S16 32) a x).toNat < S32000.size a := fun i k0_t3 v115 k0_hw20 => k0_hw20
def k0_off32 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v117 : Index := Scalar.indexCast v106
  let c0_45 : Index := 0#32
  ![v117.toNat, 0]
def k0_off33 (k0_t4 : Fin k0_t4_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let c128_i32_50 : BitVec 32 := 128#32
  let v136 : BitVec 32 := Scalar.muli v106 c128_i32_50
  let c0_i32_51 : BitVec 32 := 0#32
  let v137 : BitVec 32 := Scalar.addi v136 c0_i32_51
  let v138 : Index := Scalar.indexCast v137
  ![v138.toNat]
def k0_off34 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v145 : Index := Scalar.indexCast v106
  let c16_54 : Index := 16#32
  ![v145.toNat, 16]

def k0_chk21 (i : grid0.Coords) (k0_t3 : Fin (k0_t3_loop i).trips) (v148 : IVec S16 32) : Prop :=
  (∀ a x, ((![v148] : Fin 1 → IVec S16 32) a x).toNat < S32000.size a)
theorem k0_idx21_inb : ∀ (i : grid0.Coords) (k0_t3 : Fin (k0_t3_loop i).trips) (v148 : IVec S16 32) (k0_hw21 : k0_chk21 i k0_t3 v148), ∀ a x, ((![v148] : Fin 1 → IVec S16 32) a x).toNat < S32000.size a := fun i k0_t3 v148 k0_hw21 => k0_hw21
def k0_off35 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v150 : Index := Scalar.indexCast v106
  let c16_56 : Index := 16#32
  ![v150.toNat, 16]
def k0_off36 (k0_t4 : Fin k0_t4_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let c128_i32_61 : BitVec 32 := 128#32
  let v169 : BitVec 32 := Scalar.muli v106 c128_i32_61
  let c16_i32_62 : BitVec 32 := 16#32
  let v170 : BitVec 32 := Scalar.addi v169 c16_i32_62
  let v171 : Index := Scalar.indexCast v170
  ![v171.toNat]
def k0_off37 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v178 : Index := Scalar.indexCast v106
  let c32 : Index := 32#32
  ![v178.toNat, 32]

def k0_chk22 (i : grid0.Coords) (k0_t3 : Fin (k0_t3_loop i).trips) (v181 : IVec S16 32) : Prop :=
  (∀ a x, ((![v181] : Fin 1 → IVec S16 32) a x).toNat < S32000.size a)
theorem k0_idx22_inb : ∀ (i : grid0.Coords) (k0_t3 : Fin (k0_t3_loop i).trips) (v181 : IVec S16 32) (k0_hw22 : k0_chk22 i k0_t3 v181), ∀ a x, ((![v181] : Fin 1 → IVec S16 32) a x).toNat < S32000.size a := fun i k0_t3 v181 k0_hw22 => k0_hw22
def k0_off38 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v183 : Index := Scalar.indexCast v106
  let c32_66 : Index := 32#32
  ![v183.toNat, 32]
def k0_off39 (k0_t4 : Fin k0_t4_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let c128_i32_71 : BitVec 32 := 128#32
  let v202 : BitVec 32 := Scalar.muli v106 c128_i32_71
  let c32_i32_72 : BitVec 32 := 32#32
  let v203 : BitVec 32 := Scalar.addi v202 c32_i32_72
  let v204 : Index := Scalar.indexCast v203
  ![v204.toNat]
def k0_off40 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v211 : Index := Scalar.indexCast v106
  let c48 : Index := 48#32
  ![v211.toNat, 48]

def k0_chk23 (i : grid0.Coords) (k0_t3 : Fin (k0_t3_loop i).trips) (v214 : IVec S16 32) : Prop :=
  (∀ a x, ((![v214] : Fin 1 → IVec S16 32) a x).toNat < S32000.size a)
theorem k0_idx23_inb : ∀ (i : grid0.Coords) (k0_t3 : Fin (k0_t3_loop i).trips) (v214 : IVec S16 32) (k0_hw23 : k0_chk23 i k0_t3 v214), ∀ a x, ((![v214] : Fin 1 → IVec S16 32) a x).toNat < S32000.size a := fun i k0_t3 v214 k0_hw23 => k0_hw23
def k0_off41 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v216 : Index := Scalar.indexCast v106
  let c48_76 : Index := 48#32
  ![v216.toNat, 48]
def k0_off42 (k0_t4 : Fin k0_t4_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let c128_i32_81 : BitVec 32 := 128#32
  let v235 : BitVec 32 := Scalar.muli v106 c128_i32_81
  let c48_i32_82 : BitVec 32 := 48#32
  let v236 : BitVec 32 := Scalar.addi v235 c48_i32_82
  let v237 : Index := Scalar.indexCast v236
  ![v237.toNat]
def k0_off43 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v244 : Index := Scalar.indexCast v106
  let c64 : Index := 64#32
  ![v244.toNat, 64]

def k0_chk24 (i : grid0.Coords) (k0_t3 : Fin (k0_t3_loop i).trips) (v247 : IVec S16 32) : Prop :=
  (∀ a x, ((![v247] : Fin 1 → IVec S16 32) a x).toNat < S32000.size a)
theorem k0_idx24_inb : ∀ (i : grid0.Coords) (k0_t3 : Fin (k0_t3_loop i).trips) (v247 : IVec S16 32) (k0_hw24 : k0_chk24 i k0_t3 v247), ∀ a x, ((![v247] : Fin 1 → IVec S16 32) a x).toNat < S32000.size a := fun i k0_t3 v247 k0_hw24 => k0_hw24
def k0_off44 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v249 : Index := Scalar.indexCast v106
  let c64_85 : Index := 64#32
  ![v249.toNat, 64]
def k0_off45 (k0_t4 : Fin k0_t4_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let c128_i32_90 : BitVec 32 := 128#32
  let v268 : BitVec 32 := Scalar.muli v106 c128_i32_90
  let c64_i32_91 : BitVec 32 := 64#32
  let v269 : BitVec 32 := Scalar.addi v268 c64_i32_91
  let v270 : Index := Scalar.indexCast v269
  ![v270.toNat]
def k0_off46 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v277 : Index := Scalar.indexCast v106
  let c80 : Index := 80#32
  ![v277.toNat, 80]

def k0_chk25 (i : grid0.Coords) (k0_t3 : Fin (k0_t3_loop i).trips) (v280 : IVec S16 32) : Prop :=
  (∀ a x, ((![v280] : Fin 1 → IVec S16 32) a x).toNat < S32000.size a)
theorem k0_idx25_inb : ∀ (i : grid0.Coords) (k0_t3 : Fin (k0_t3_loop i).trips) (v280 : IVec S16 32) (k0_hw25 : k0_chk25 i k0_t3 v280), ∀ a x, ((![v280] : Fin 1 → IVec S16 32) a x).toNat < S32000.size a := fun i k0_t3 v280 k0_hw25 => k0_hw25
def k0_off47 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v282 : Index := Scalar.indexCast v106
  let c80_94 : Index := 80#32
  ![v282.toNat, 80]
def k0_off48 (k0_t4 : Fin k0_t4_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let c128_i32_99 : BitVec 32 := 128#32
  let v301 : BitVec 32 := Scalar.muli v106 c128_i32_99
  let c80_i32_100 : BitVec 32 := 80#32
  let v302 : BitVec 32 := Scalar.addi v301 c80_i32_100
  let v303 : Index := Scalar.indexCast v302
  ![v303.toNat]
def k0_off49 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v310 : Index := Scalar.indexCast v106
  let c96 : Index := 96#32
  ![v310.toNat, 96]

def k0_chk26 (i : grid0.Coords) (k0_t3 : Fin (k0_t3_loop i).trips) (v313 : IVec S16 32) : Prop :=
  (∀ a x, ((![v313] : Fin 1 → IVec S16 32) a x).toNat < S32000.size a)
theorem k0_idx26_inb : ∀ (i : grid0.Coords) (k0_t3 : Fin (k0_t3_loop i).trips) (v313 : IVec S16 32) (k0_hw26 : k0_chk26 i k0_t3 v313), ∀ a x, ((![v313] : Fin 1 → IVec S16 32) a x).toNat < S32000.size a := fun i k0_t3 v313 k0_hw26 => k0_hw26
def k0_off50 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v315 : Index := Scalar.indexCast v106
  let c96_103 : Index := 96#32
  ![v315.toNat, 96]
def k0_off51 (k0_t4 : Fin k0_t4_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let c128_i32_108 : BitVec 32 := 128#32
  let v334 : BitVec 32 := Scalar.muli v106 c128_i32_108
  let c96_i32_109 : BitVec 32 := 96#32
  let v335 : BitVec 32 := Scalar.addi v334 c96_i32_109
  let v336 : Index := Scalar.indexCast v335
  ![v336.toNat]
def k0_off52 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v343 : Index := Scalar.indexCast v106
  let c112 : Index := 112#32
  ![v343.toNat, 112]

def k0_chk27 (i : grid0.Coords) (k0_t3 : Fin (k0_t3_loop i).trips) (v346 : IVec S16 32) : Prop :=
  (∀ a x, ((![v346] : Fin 1 → IVec S16 32) a x).toNat < S32000.size a)
theorem k0_idx27_inb : ∀ (i : grid0.Coords) (k0_t3 : Fin (k0_t3_loop i).trips) (v346 : IVec S16 32) (k0_hw27 : k0_chk27 i k0_t3 v346), ∀ a x, ((![v346] : Fin 1 → IVec S16 32) a x).toNat < S32000.size a := fun i k0_t3 v346 k0_hw27 => k0_hw27
def k0_off53 (k0_t4 : Fin k0_t4_loop.trips) : Fin 2 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let v348 : Index := Scalar.indexCast v106
  let c112_112 : Index := 112#32
  ![v348.toNat, 112]
def k0_off54 (k0_t4 : Fin k0_t4_loop.trips) : Fin 1 → Nat :=
  let c0_i32_41 : BitVec 32 := 0#32
  let c0_i32_17 : BitVec 32 := 0#32
  let c1_i32_18 : BitVec 32 := 1#32
  let arg25 : BitVec 32 := Scf.iv c0_i32_17 c1_i32_18 k0_t4
  let c1_i32_40 : BitVec 32 := 1#32
  let v105 : BitVec 32 := Scalar.muli arg25 c1_i32_40
  let v106 : BitVec 32 := Scalar.addi c0_i32_41 v105
  let c128_i32_117 : BitVec 32 := 128#32
  let v367 : BitVec 32 := Scalar.muli v106 c128_i32_117
  let c112_i32_118 : BitVec 32 := 112#32
  let v368 : BitVec 32 := Scalar.addi v367 c112_i32_118
  let v369 : Index := Scalar.indexCast v368
  ![v369.toNat]

def k0_chk28 (i : grid0.Coords) (k0_t3 : Fin (k0_t3_loop i).trips) (v45 : IVec S16 32) : Prop :=
  (∀ a x, ((![v45] : Fin 1 → IVec S16 32) a x).toNat < S40.size a)
theorem k0_idx28_inb : ∀ (i : grid0.Coords) (k0_t3 : Fin (k0_t3_loop i).trips) (v45 : IVec S16 32) (k0_hw28 : k0_chk28 i k0_t3 v45), ∀ a x, ((![v45] : Fin 1 → IVec S16 32) a x).toNat < S40.size a := fun i k0_t3 v45 k0_hw28 => k0_hw28

def k0_chk29 (i : grid0.Coords) (k0_t3 : Fin (k0_t3_loop i).trips) (v55 : IVec S16 32) : Prop :=
  (∀ a x, ((![v55] : Fin 1 → IVec S16 32) a x).toNat < S32000.size a)
theorem k0_idx29_inb : ∀ (i : grid0.Coords) (k0_t3 : Fin (k0_t3_loop i).trips) (v55 : IVec S16 32) (k0_hw29 : k0_chk29 i k0_t3 v55), ∀ a x, ((![v55] : Fin 1 → IVec S16 32) a x).toNat < S32000.size a := fun i k0_t3 v55 k0_hw29 => k0_hw29

def k0_chk30 (i : grid0.Coords) (k0_t3 : Fin (k0_t3_loop i).trips) (v83 : IVec S16 32) : Prop :=
  (∀ a x, ((![v83] : Fin 1 → IVec S16 32) a x).toNat < S32000.size a)
theorem k0_idx30_inb : ∀ (i : grid0.Coords) (k0_t3 : Fin (k0_t3_loop i).trips) (v83 : IVec S16 32) (k0_hw30 : k0_chk30 i k0_t3 v83), ∀ a x, ((![v83] : Fin 1 → IVec S16 32) a x).toNat < S32000.size a := fun i k0_t3 v83 k0_hw30 => k0_hw30
def k0_off55 (i : grid0.Coords) (k0_t3 : Fin (k0_t3_loop i).trips) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c0_i32_11 : BitVec 32 := 0#32
  let c0_i32_12 : BitVec 32 := 0#32
  let c40_i32 : BitVec 32 := 40#32
  let v3 : BitVec 32 := Scalar.subi c40_i32 v2
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c0_i32_6 : BitVec 32 := 0#32
  let v23 : BitVec 32 := Scalar.subi v22 c0_i32_6
  let c1_i32_7 : BitVec 32 := 1#32
  let c1_i32_8 : BitVec 32 := 1#32
  let v24 : BitVec 32 := Scalar.subi c1_i32_7 c1_i32_8
  let v25 : BitVec 32 := Scalar.addi v23 v24
  let c1_i32_9 : BitVec 32 := 1#32
  let v26 : BitVec 32 := Scalar.divsi v25 c1_i32_9
  let v27 : BitVec 32 := Scalar.subi v26 c0_i32_12
  let c1_i32_13 : BitVec 32 := 1#32
  let v29 : BitVec 32 := Scalar.divsi v27 c1_i32_13
  let v30 : BitVec 32 := Scalar.muli v29 c1_i32_13
  let v31 : BitVec 32 := Scalar.addi c0_i32_12 v30
  let c1_i32_15 : BitVec 32 := 1#32
  let arg24 : BitVec 32 := Scf.iv v31 c1_i32_15 k0_t3
  let c1_i32_10 : BitVec 32 := 1#32
  let v32 : BitVec 32 := Scalar.muli arg24 c1_i32_10
  let v33 : BitVec 32 := Scalar.addi c0_i32_11 v32
  let c32_i32_16 : BitVec 32 := 32#32
  let v34 : BitVec 32 := Scalar.muli v33 c32_i32_16
  let v35 : BitVec 32 := Scalar.addi v2 v34
  let c0_i32_40_r15 : BitVec 32 := 0#32
  ![v35.toNat, 0]
def k0_off56 (i : grid0.Coords) (k0_t3 : Fin (k0_t3_loop i).trips) : Fin 2 → Nat :=
  let arg1 : BitVec 32 := BitVec.ofNat 32 (i 1).val
  let c2_i32 : BitVec 32 := 2#32
  let v1 : BitVec 32 := Scalar.muli arg1 c2_i32
  let arg0 : BitVec 32 := BitVec.ofNat 32 (i 0).val
  let v2 : BitVec 32 := Scalar.addi v1 arg0
  let c0_i32_11 : BitVec 32 := 0#32
  let c0_i32_12 : BitVec 32 := 0#32
  let c40_i32 : BitVec 32 := 40#32
  let v3 : BitVec 32 := Scalar.subi c40_i32 v2
  let c32_i32 : BitVec 32 := 32#32
  let v4 : BitVec 32 := Scalar.addi v3 c32_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c32_i32_0 : BitVec 32 := 32#32
  let c0_i32_2 : BitVec 32 := 0#32
  let v12 : BitVec 1 := Scalar.cmpi .sgt c32_i32_0 c0_i32_2
  let v13 : BitVec 32 := Scalar.extui v12
  let c0_i32_3 : BitVec 32 := 0#32
  let v14 : BitVec 1 := Scalar.cmpi .slt c32_i32_0 c0_i32_3
  let v15 : BitVec 32 := Scalar.extui v14
  let v16 : BitVec 32 := Scalar.subi v13 v15
  let v17 : BitVec 1 := Scalar.cmpi .ne v11 v16
  let v18 : BitVec 32 := Scalar.remsi v5 c32_i32_0
  let c0_i32_4 : BitVec 32 := 0#32
  let v19 : BitVec 1 := Scalar.cmpi .ne v18 c0_i32_4
  let v20 : BitVec 1 := Scalar.andi v17 v19
  let v6 : BitVec 32 := Scalar.divsi v5 c32_i32_0
  let c1_i32_5 : BitVec 32 := 1#32
  let v21 : BitVec 32 := Scalar.subi v6 c1_i32_5
  let v22 : BitVec 32 := Scalar.select v20 v21 v6
  let c0_i32_6 : BitVec 32 := 0#32
  let v23 : BitVec 32 := Scalar.subi v22 c0_i32_6
  let c1_i32_7 : BitVec 32 := 1#32
  let c1_i32_8 : BitVec 32 := 1#32
  let v24 : BitVec 32 := Scalar.subi c1_i32_7 c1_i32_8
  let v25 : BitVec 32 := Scalar.addi v23 v24
  let c1_i32_9 : BitVec 32 := 1#32
  let v26 : BitVec 32 := Scalar.divsi v25 c1_i32_9
  let v27 : BitVec 32 := Scalar.subi v26 c0_i32_12
  let c1_i32_13 : BitVec 32 := 1#32
  let v29 : BitVec 32 := Scalar.divsi v27 c1_i32_13
  let v30 : BitVec 32 := Scalar.muli v29 c1_i32_13
  let v31 : BitVec 32 := Scalar.addi c0_i32_12 v30
  let c1_i32_15 : BitVec 32 := 1#32
  let arg24 : BitVec 32 := Scf.iv v31 c1_i32_15 k0_t3
  let c1_i32_10 : BitVec 32 := 1#32
  let v32 : BitVec 32 := Scalar.muli arg24 c1_i32_10
  let v33 : BitVec 32 := Scalar.addi c0_i32_11 v32
  let c32_i32_16 : BitVec 32 := 32#32
  let v34 : BitVec 32 := Scalar.muli v33 c32_i32_16
  let v35 : BitVec 32 := Scalar.addi v2 v34
  let c0_i32_41_r16 : BitVec 32 := 0#32
  ![v35.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReadbackReferenceIdeal.lean ====
abbrev S40x32000 : Shape := ⟨2, ![40, 32000]⟩
abbrev S40x56x128 : Shape := ⟨3, ![40, 56, 128]⟩
abbrev S40 : Shape := ⟨1, ![40]⟩
abbrev S6144 : Shape := ⟨1, ![6144]⟩
abbrev S1x6144 : Shape := ⟨2, ![1, 6144]⟩
abbrev S40x1 : Shape := ⟨2, ![40, 1]⟩
abbrev S40x6144 : Shape := ⟨2, ![40, 6144]⟩
abbrev S24 : Shape := ⟨1, ![24]⟩
abbrev S1x24 : Shape := ⟨2, ![1, 24]⟩
abbrev S40x24 : Shape := ⟨2, ![40, 24]⟩
abbrev S40x48x128 : Shape := ⟨3, ![40, 48, 128]⟩
abbrev S40x1x24 : Shape := ⟨3, ![40, 1, 24]⟩
abbrev S_ : Shape := ⟨0, ![]⟩
abbrev S40x6144x1 : Shape := ⟨3, ![40, 6144, 1]⟩
abbrev S40x24x1 : Shape := ⟨3, ![40, 24, 1]⟩

abbrev nBuf : Space → Nat
  | .hbm => 107
  | .vmem => 0
  | .smem => 0
  | _ => 0

abbrev bufTy : (tb : Table) → Fin (tcTables nBuf tb) → BufTy
  | .hbm, ⟨0, _⟩ => ⟨S40x32000, .f32⟩
  | .hbm, ⟨1, _⟩ => ⟨S40x56x128, .i32⟩
  | .hbm, ⟨2, _⟩ => ⟨S40x56x128, .i32⟩
  | .hbm, ⟨3, _⟩ => ⟨S40x56x128, .f32⟩
  | .hbm, ⟨4, _⟩ => ⟨S40, .i32⟩
  | .hbm, ⟨5, _⟩ => ⟨S40, .i32⟩
  | .hbm, ⟨6, _⟩ => ⟨S40, .f32⟩
  | .hbm, ⟨7, _⟩ => ⟨S40, .f32⟩
  | .hbm, ⟨8, _⟩ => ⟨S40, .f32⟩
  | .hbm, ⟨9, _⟩ => ⟨S6144, .i32⟩
  | .hbm, ⟨10, _⟩ => ⟨S1x6144, .i32⟩
  | .hbm, ⟨11, _⟩ => ⟨S40x1, .i32⟩
  | .hbm, ⟨12, _⟩ => ⟨S40x6144, .i32⟩
  | .hbm, ⟨13, _⟩ => ⟨S40x6144, .i32⟩
  | .hbm, ⟨14, _⟩ => ⟨S40x6144, .i1⟩
  | .hbm, ⟨15, _⟩ => ⟨S24, .i32⟩
  | .hbm, ⟨16, _⟩ => ⟨S1x24, .i32⟩
  | .hbm, ⟨17, _⟩ => ⟨S40x1, .i32⟩
  | .hbm, ⟨18, _⟩ => ⟨S40x24, .i32⟩
  | .hbm, ⟨19, _⟩ => ⟨S40x24, .i32⟩
  | .hbm, ⟨20, _⟩ => ⟨S40x24, .i1⟩
  | .hbm, ⟨21, _⟩ => ⟨S40x48x128, .i32⟩
  | .hbm, ⟨22, _⟩ => ⟨S40x6144, .i32⟩
  | .hbm, ⟨23, _⟩ => ⟨S40x48x128, .i32⟩
  | .hbm, ⟨24, _⟩ => ⟨S40x6144, .i32⟩
  | .hbm, ⟨25, _⟩ => ⟨S40x48x128, .f32⟩
  | .hbm, ⟨26, _⟩ => ⟨S40x6144, .f32⟩
  | .hbm, ⟨27, _⟩ => ⟨S40x1x24, .i32⟩
  | .hbm, ⟨28, _⟩ => ⟨S40x24, .i32⟩
  | .hbm, ⟨29, _⟩ => ⟨S40x1x24, .i32⟩
  | .hbm, ⟨30, _⟩ => ⟨S40x24, .i32⟩
  | .hbm, ⟨31, _⟩ => ⟨S40x1x24, .f32⟩
  | .hbm, ⟨32, _⟩ => ⟨S40x24, .f32⟩
  | .hbm, ⟨33, _⟩ => ⟨S_, .i32⟩
  | .hbm, ⟨34, _⟩ => ⟨S40x6144, .i32⟩
  | .hbm, ⟨35, _⟩ => ⟨S40x6144, .i1⟩
  | .hbm, ⟨36, _⟩ => ⟨S_, .i32⟩
  | .hbm, ⟨37, _⟩ => ⟨S40x6144, .i32⟩
  | .hbm, ⟨38, _⟩ => ⟨S40x6144, .i32⟩
  | .hbm, ⟨39, _⟩ => ⟨S40x6144, .i32⟩
  | .hbm, ⟨40, _⟩ => ⟨S40x6144x1, .i32⟩
  | .hbm, ⟨41, _⟩ => ⟨S40x6144, .f32⟩
  | .hbm, ⟨42, _⟩ => ⟨S40x6144, .f32⟩
  | .hbm, ⟨43, _⟩ => ⟨S_, .i32⟩
  | .hbm, ⟨44, _⟩ => ⟨S40x6144, .i32⟩
  | .hbm, ⟨45, _⟩ => ⟨S40x6144, .i1⟩
  | .hbm, ⟨46, _⟩ => ⟨S40x1, .f32⟩
  | .hbm, ⟨47, _⟩ => ⟨S_, .f32⟩
  | .hbm, ⟨48, _⟩ => ⟨S40x6144, .f32⟩
  | .hbm, ⟨49, _⟩ => ⟨S40x6144, .i1⟩
  | .hbm, ⟨50, _⟩ => ⟨S40x6144, .f32⟩
  | .hbm, ⟨51, _⟩ => ⟨S40x6144, .f32⟩
  | .hbm, ⟨52, _⟩ => ⟨S40x6144, .f32⟩
  | .hbm, ⟨53, _⟩ => ⟨S40x6144, .f32⟩
  | .hbm, ⟨54, _⟩ => ⟨S40x6144, .f32⟩
  | .hbm, ⟨55, _⟩ => ⟨S40x6144, .f32⟩
  | .hbm, ⟨56, _⟩ => ⟨S40x1, .f32⟩
  | .hbm, ⟨57, _⟩ => ⟨S40x6144, .f32⟩
  | .hbm, ⟨58, _⟩ => ⟨S40x6144, .f32⟩
  | .hbm, ⟨59, _⟩ => ⟨S40x6144, .f32⟩
  | .hbm, ⟨60, _⟩ => ⟨S40x6144, .f32⟩
  | .hbm, ⟨61, _⟩ => ⟨S40x1, .f32⟩
  | .hbm, ⟨62, _⟩ => ⟨S40x6144, .f32⟩
  | .hbm, ⟨63, _⟩ => ⟨S40x6144, .f32⟩
  | .hbm, ⟨64, _⟩ => ⟨S40x6144, .f32⟩
  | .hbm, ⟨65, _⟩ => ⟨S40x6144, .f32⟩
  | .hbm, ⟨66, _⟩ => ⟨S_, .f32⟩
  | .hbm, ⟨67, _⟩ => ⟨S_, .f32⟩
  | .hbm, ⟨68, _⟩ => ⟨S40x6144, .f32⟩
  | .hbm, ⟨69, _⟩ => ⟨S40x6144, .f32⟩
  | .hbm, ⟨70, _⟩ => ⟨S_, .i32⟩
  | .hbm, ⟨71, _⟩ => ⟨S40x24, .i32⟩
  | .hbm, ⟨72, _⟩ => ⟨S40x24, .i1⟩
  | .hbm, ⟨73, _⟩ => ⟨S_, .i32⟩
  | .hbm, ⟨74, _⟩ => ⟨S40x24, .i32⟩
  | .hbm, ⟨75, _⟩ => ⟨S40x24, .i32⟩
  | .hbm, ⟨76, _⟩ => ⟨S40x24, .i32⟩
  | .hbm, ⟨77, _⟩ => ⟨S40x24x1, .i32⟩
  | .hbm, ⟨78, _⟩ => ⟨S40x24, .f32⟩
  | .hbm, ⟨79, _⟩ => ⟨S40x24, .f32⟩
  | .hbm, ⟨80, _⟩ => ⟨S_, .i32⟩
  | .hbm, ⟨81, _⟩ => ⟨S40x24, .i32⟩
  | .hbm, ⟨82, _⟩ => ⟨S40x24, .i1⟩
  | .hbm, ⟨83, _⟩ => ⟨S40x1, .f32⟩
  | .hbm, ⟨84, _⟩ => ⟨S_, .f32⟩
  | .hbm, ⟨85, _⟩ => ⟨S40x24, .f32⟩
  | .hbm, ⟨86, _⟩ => ⟨S40x24, .i1⟩
  | .hbm, ⟨87, _⟩ => ⟨S40x24, .f32⟩
  | .hbm, ⟨88, _⟩ => ⟨S40x24, .f32⟩
  | .hbm, ⟨89, _⟩ => ⟨S40x24, .f32⟩
  | .hbm, ⟨90, _⟩ => ⟨S40x24, .f32⟩
  | .hbm, ⟨91, _⟩ => ⟨S40x24, .f32⟩
  | .hbm, ⟨92, _⟩ => ⟨S40x24, .f32⟩
  | .hbm, ⟨93, _⟩ => ⟨S40x1, .f32⟩
  | .hbm, ⟨94, _⟩ => ⟨S40x24, .f32⟩
  | .hbm, ⟨95, _⟩ => ⟨S40x24, .f32⟩
  | .hbm, ⟨96, _⟩ => ⟨S40x24, .f32⟩
  | .hbm, ⟨97, _⟩ => ⟨S40x24, .f32⟩
  | .hbm, ⟨98, _⟩ => ⟨S40x1, .f32⟩
  | .hbm, ⟨99, _⟩ => ⟨S40x24, .f32⟩
  | .hbm, ⟨100, _⟩ => ⟨S40x24, .f32⟩
  | .hbm, ⟨101, _⟩ => ⟨S40x24, .f32⟩
  | .hbm, ⟨102, _⟩ => ⟨S40x24, .f32⟩
  | .hbm, ⟨103, _⟩ => ⟨S_, .f32⟩
  | .hbm, ⟨104, _⟩ => ⟨S_, .f32⟩
  | .hbm, ⟨105, _⟩ => ⟨S40x24, .f32⟩
  | .hbm, ⟨106, _⟩ => ⟨S40x24, .f32⟩
  | _, _ => ⟨S40x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_0 : Ref sig .tc := ⟨.hbm, 66, rfl⟩
abbrev main_call3_v0 : Ref sig .tc := ⟨.hbm, 67, rfl⟩
abbrev main_call3_v1 : Ref sig .tc := ⟨.hbm, 68, rfl⟩
abbrev main_v47 : Ref sig .tc := ⟨.hbm, 69, rfl⟩
abbrev main_call4_c : Ref sig .tc := ⟨.hbm, 70, rfl⟩
abbrev main_call4_v0 : Ref sig .tc := ⟨.hbm, 71, rfl⟩
abbrev main_call4_v1 : Ref sig .tc := ⟨.hbm, 72, rfl⟩
abbrev main_call4_c_0 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_v48 : Ref sig .tc := ⟨.hbm, 78, rfl⟩
abbrev main_v49 : Ref sig .tc := ⟨.hbm, 79, rfl⟩
abbrev main_c_1 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_2 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_3 : Ref sig .tc := ⟨.hbm, 103, rfl⟩
abbrev main_call7_v0 : Ref sig .tc := ⟨.hbm, 104, rfl⟩
abbrev main_call7_v1 : Ref sig .tc := ⟨.hbm, 105, rfl⟩
abbrev main_v71 : Ref sig .tc := ⟨.hbm, 106, rfl⟩

abbrev nD : Nat := 1
abbrev τ : Topo := Topo.v7x

variable {F : FTy → Type} [FloatOps F]
-- ==== Proof.Bits.Body.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

/-!
# What one run of the epilogue's body does

The body of the second call has four cases over its 2 × 10 grid: point 0 starts the two running
arrays (lane maxima and lane sums) and takes in tile 0; points 1 to 9 take in their tiles; point 10
combines the lanes to the log-sum-exp, stores it, and writes tile 0 of the log probabilities;
points 11 to 19 write the other tiles.  Each theorem below is the triple of one case, with every
buffer's contents named.
-/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one tile does to the running arrays -/

/-- The penalised logits of one tile, from its blocks of logits, counts and bias and the three columns. -/
def tile (x0 : Vec F S40x3200 .f32) (x1 : Vec F S40x3200 .i32) (x2 : Vec F S40x3200 .f32)
    (x3 x4 x5 : Vec F S40x1 .f32) : FVec F S40x3200 .f32 := k1_pay8 x1 x3 x0 x2 x4 x5

/-- The lane maxima over the tile's first three chunks and those before it. -/
def headM (x0 : Vec F S40x3200 .f32) (x1 : Vec F S40x3200 .i32) (x2 : Vec F S40x3200 .f32)
    (x3 x4 x5 : Vec F S40x1 .f32) (mx : Vec F S40x128 .f32) : Vec F S40x128 .f32 :=
  k1_pay10 x1 x3 x0 x2 x4 x5 mx

/-- The lane maxima after a tile, from those before it. -/
def newM (x0 : Vec F S40x3200 .f32) (x1 : Vec F S40x3200 .i32) (x2 : Vec F S40x3200 .f32)
    (x3 x4 x5 : Vec F S40x1 .f32) (mx : Vec F S40x128 .f32) : FVec F S40x128 .f32 :=
  k1_pay11 (tile x0 x1 x2 x3 x4 x5) (headM x0 x1 x2 x3 x4 x5 mx)

/-- The lane maxima as stored after a tile. -/
def stepM (x0 : Vec F S40x3200 .f32) (x1 : Vec F S40x3200 .i32) (x2 : Vec F S40x3200 .f32)
    (x3 x4 x5 : Vec F S40x1 .f32) (mx : Vec F S40x128 .f32) : Vec F S40x128 .f32 :=
  k1_pay3 (newM x0 x1 x2 x3 x4 x5 mx)

/-- The lane sums after a tile, from the lane maxima and sums before it. -/
def stepS (x0 : Vec F S40x3200 .f32) (x1 : Vec F S40x3200 .i32) (x2 : Vec F S40x3200 .f32)
    (x3 x4 x5 : Vec F S40x1 .f32) (mx sm : Vec F S40x128 .f32) : Vec F S40x128 .f32 :=
  k1_pay4 (tile x0 x1 x2 x3 x4 x5) (newM x0 x1 x2 x3 x4 x5 mx)
    (k1_pay14 (tile x0 x1 x2 x3 x4 x5) (newM x0 x1 x2 x3 x4 x5 mx)
      (k1_pay12 (tile x0 x1 x2 x3 x4 x5) mx (headM x0 x1 x2 x3 x4 x5 mx) sm)
      (k1_pay13 (tile x0 x1 x2 x3 x4 x5) (headM x0 x1 x2 x3 x4 x5 mx)))
    (k1_pay15 (tile x0 x1 x2 x3 x4 x5) (newM x0 x1 x2 x3 x4 x5 mx))

/-- The first lane of the log-sum-exp's scratch, which the body reads back (every lane holds the same). -/
abbrev lseCol (lv : Vec F S40x128 .f32) : Vec F S40x1 .f32 :=
  View.ld lv (Rect.unit (s := S40x128) ![0, 0] S40x1.size inb_S40x128_S40x1_0_0)

/-! ## The branch conditions, at each point -/

/-- The first condition (start): the first point only. -/
abbrev c1 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem hc1 : ∀ t : Fin cfg1.N, c1 (grid1.coords t) ↔ t.val = 0 :=
  (fun t => by
    have ht : t.val < 20 := Nat.lt_of_lt_of_eq t.isLt N_1
    have e0 : (grid1.coords t 0).val = t.val / 10 % 2 := Pipeline.Grid.coords_val t 0 (by decide) rfl
    have e1 : (grid1.coords t 1).val = t.val / 1 % 10 := Pipeline.Grid.coords_val t 1 (by decide) rfl
    simp only [c1, e0, e1]
    word_cmp
   : ∀ t : Fin grid1.N, c1 (grid1.coords t) ↔ t.val = 0)

theorem hc2 : ∀ t : Fin cfg1.N, k1_cond2 (grid1.coords t) = 1#1 ↔ t.val < 10 :=
  (fun t => by
    have ht : t.val < 20 := Nat.lt_of_lt_of_eq t.isLt N_1
    have e0 : (grid1.coords t 0).val = t.val / 10 % 2 := Pipeline.Grid.coords_val t 0 (by decide) rfl
    have e1 : (grid1.coords t 1).val = t.val / 1 % 10 := Pipeline.Grid.coords_val t 1 (by decide) rfl
    simp only [k1_cond2, e0, e1]
    word_cmp
   : ∀ t : Fin grid1.N, k1_cond2 (grid1.coords t) = 1#1 ↔ t.val < 10)

theorem hc3 : ∀ t : Fin cfg1.N, k1_cond3 (grid1.coords t) = 1#1 ↔ t.val = 10 :=
  (fun t => by
    have ht : t.val < 20 := Nat.lt_of_lt_of_eq t.isLt N_1
    have e0 : (grid1.coords t 0).val = t.val / 10 % 2 := Pipeline.Grid.coords_val t 0 (by decide) rfl
    have e1 : (grid1.coords t 1).val = t.val / 1 % 10 := Pipeline.Grid.coords_val t 1 (by decide) rfl
    simp only [k1_cond3, e0, e1]
    word_cmp
   : ∀ t : Fin grid1.N, k1_cond3 (grid1.coords t) = 1#1 ↔ t.val = 10)

theorem hc4 : ∀ t : Fin cfg1.N, k1_cond4 (grid1.coords t) = 1#1 ↔ 10 ≤ t.val :=
  (fun t => by
    have ht : t.val < 20 := Nat.lt_of_lt_of_eq t.isLt N_1
    have e0 : (grid1.coords t 0).val = t.val / 10 % 2 := Pipeline.Grid.coords_val t 0 (by decide) rfl
    have e1 : (grid1.coords t 1).val = t.val / 1 % 10 := Pipeline.Grid.coords_val t 1 (by decide) rfl
    simp only [k1_cond4, e0, e1]
    word_cmp
   : ∀ t : Fin grid1.N, k1_cond4 (grid1.coords t) = 1#1 ↔ 10 ≤ t.val)

/-! ## Loads of whole buffers -/

section Whole
variable {sp : Space}

theorem full_40x3200 {e : EltTy} (v : View sig .tc sp S40x3200 e) (f : v.ty.Contents (Elt F)) (h) :
    v.readAt (Elt F) (Rect.unit (s := S40x3200) ![0, 0] ![40, 3200] h).toLoadRect f = v.read (Elt F) f := View.readAt_full v f h
theorem full_40x1 {e : EltTy} (v : View sig .tc sp S40x1 e) (f : v.ty.Contents (Elt F)) (h) :
    v.readAt (Elt F) (Rect.unit (s := S40x1) ![0, 0] ![40, 1] h).toLoadRect f = v.read (Elt F) f := View.readAt_full v f h
theorem full_40x128 {e : EltTy} (v : View sig .tc sp S40x128 e) (f : v.ty.Contents (Elt F)) (h) :
    v.readAt (Elt F) (Rect.unit (s := S40x128) ![0, 0] ![40, 128] h).toLoadRect f = v.read (Elt F) f := View.readAt_full v f h

/-- A load of the whole array just after a store of the whole array reads what was stored. -/
theorem cov_40x128 (v : View sig .tc sp S40x128 .f32) (w : Vec F S40x128 .f32) (h h' L) :
    v.readCov (Val := Elt F) (⟨Rect.unit (s := S40x128) ![0, 0] ![40, 128] h', w⟩ :: L)
      (Rect.unit (s := S40x128) ![0, 0] ![40, 128] h).toLoadRect = w := View.readCov_full v h h' w L

/-- A load of the first lane just after a store of the whole array reads the first lane of what was stored. -/
theorem cov_lane (v : View sig .tc sp S40x128 .f32) (w : Vec F S40x128 .f32) (h L) :
    v.readCov (Val := Elt F) (⟨Rect.unit (s := S40x128) ![0, 0] ![40, 128] h, w⟩ :: L)
      (Rect.unit (s := S40x128) ![0, 0] S40x1.size inb_S40x128_S40x1_0_0).toLoadRect = lseCol w := by
  show View.ld (v.read (Elt F) (v.writes (Elt F) v.junk _)) _ = _
  rw [View.read_writes_full v _ h w L]

end Whole

end Cert.Kernel.Hand

end
-- ==== Proof.Bits.Head.lean ====
module

public import proofs.«01_k».proof.Proof.Bits.Body

/-! # The first call, the head's product: its body's triple and its pipeline data -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_head_matmul` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S40x4096 := Rect.unit (s := S40x4096) ![0, 0] S40x4096.size inb_S40x4096_S40x4096_0_0
abbrev r0_1 : Rect S1280x4096 := Rect.unit (s := S1280x4096) ![0, 0] S1280x4096.size inb_S1280x4096_S1280x4096_0_0
abbrev r0_2 : Rect S40x1 := Rect.unit (s := S40x1) ![0, 0] S40x1.size inb_S40x1_S40x1_0_0
abbrev r0_3 : Rect S1x1280 := Rect.unit (s := S1x1280) ![0, 0] S1x1280.size inb_S1x1280_S1x1280_0_0
abbrev r0_4 : Rect S40x1280 := Rect.unit (s := S40x1280) ![0, 0] S40x1280.size inb_S40x1280_S40x1280_0_0

/-! ## What the body leaves in each output window's buffer -/

/-- Window 4's staging buffer after the body, from the input windows' blocks: its 1 store as pieces, LAST
    FIRST (Lib/Pipeline/FrameBody.lean `View.canon`; the payloads are the skeleton's). -/
def out0_4 (x0 : Vec F S40x4096 .fp8e4m3) (x1 : Vec F S40x1 .f32) (x2 : Vec F S1280x4096 .fp8e4m3) (x3 : Vec F S1x1280 .f32) : Vec F S40x1280 .f32 :=
  View.canon [⟨r0_4, k0_pay1 (View.ld x0 r0_0) (View.ld x2 r0_1) (View.ld x1 r0_2) (View.ld x3 r0_3)⟩]

/-- Its stores tile the buffer (checked by evaluation), so they cover it. -/
theorem cover0_4 (p0 : Vec F S40x1280 .f32) (y : S40x1280.Idx) :
    ∃ pc ∈ ([⟨r0_4, p0⟩] : List (View.Piece (Elt F) S40x1280 .f32)), y ∈ pc.1.set :=
  View.cover_of_tiled [⟨r0_4, p0⟩] S40x1280.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S40x4096 .fp8e4m3) (harg1 : arg1.IsWhole) (arg2 : Memref sig .tc .vmem S40x1 .f32) (harg2 : arg2.IsWhole) (arg3 : Memref sig .tc .vmem S1280x4096 .fp8e4m3) (harg3 : arg3.IsWhole) (arg4 : Memref sig .tc .vmem S1x1280 .f32) (harg4 : arg4.IsWhole) (arg5 : Memref sig .tc .vmem S40x1280 .f32) (harg5 : arg5.IsWhole)
    (x0 : Vec F S40x4096 .fp8e4m3) (x1 : Vec F S40x1 .f32) (x2 : Vec F S1280x4096 .fp8e4m3) (x3 : Vec F S1x1280 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0_head_matmul i arg1 harg1 arg2 harg2 arg3 harg3 arg4 harg4 arg5 harg5) K := by
  simp only [cc0_head_matmul_eq_skeleton]; unfold cc0_head_matmul_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Hand

end
-- ==== Proof.Bits.BodyA.lean ====
module

public import proofs.«01_k».proof.Proof.Bits.Body

/-! # Point 0 of the epilogue -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Point 0: the running arrays are started, tile 0 is stored and taken into them. -/
theorem run_A (c : Dev nD) (i : grid1.Coords) (arg2 : Memref sig .tc .vmem S40x3200 .f32) (harg2 : arg2.IsWhole) (arg3 : Memref sig .tc .vmem S40x3200 .i32) (harg3 : arg3.IsWhole) (arg4 : Memref sig .tc .vmem S40x3200 .f32) (harg4 : arg4.IsWhole)
    (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole)
    (arg8 : Memref sig .tc .vmem S40x3200 .bf16) (harg8 : arg8.IsWhole) (arg9 : Memref sig .tc .vmem S40x1 .f32) (harg9 : arg9.IsWhole) (arg10 : Memref sig .tc .vmem S40x32000 .f32) (harg10 : arg10.IsWhole)
    (arg11 : Memref sig .tc .vmem S40x128 .f32) (harg11 : arg11.IsWhole) (arg12 : Memref sig .tc .vmem S40x128 .f32) (harg12 : arg12.IsWhole) (arg13 : Memref sig .tc .vmem S40x128 .f32) (harg13 : arg13.IsWhole)
    (g1 : c1 i) (g2 : k1_cond2 i = 1#1) (g3 : ¬k1_cond3 i = 1#1) (g4 : ¬k1_cond4 i = 1#1)
    (x0 : Vec F S40x3200 .f32) (x1 : Vec F S40x3200 .i32) (x2 : Vec F S40x3200 .f32) (x3 x4 x5 : Vec F S40x1 .f32) (y6 : Vec F S40x3200 .bf16) (y7 : Vec F S40x1 .f32) (P : Vec F S40x32000 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare P ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare (VecWindow.put P (k1_off1 i) S40x3200.size (k1_pay9 x1 x3 x0 x2 x4 x5)) ∗ owns (c : Thread nD τ) arg11 fullShare (stepM x0 x1 x2 x3 x4 x5 k1_pay1) ∗ owns (c : Thread nD τ) arg12 fullShare (stepS x0 x1 x2 x3 x4 x5 k1_pay1 k1_pay2) ∗ (∃ d, owns (c : Thread nD τ) arg13 fullShare d)) -∗ K ⟨⟩))
      ⊢ wp frame (wpE (defs₀ (F := F)) Variants.none c none) E (cc1_penalty_logsoftmax i arg2 harg2 arg3 harg3 arg4 harg4 arg5 harg5 arg6 harg6 arg7 harg7 arg8 harg8 arg9 harg9 arg10 harg10 arg11 harg11 arg12 harg12 arg13 harg13) K := by
  simp only [cc1_penalty_logsoftmax_eq_skeleton]; unfold cc1_penalty_logsoftmax_skel
  simp only [k1_part1_eq_skeleton, k1_part2_eq_skeleton, k1_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf2 hf3 hf4 hf5 hf6 hf7 hf8 hf9 hf10
  sl_exec (disch := first | sl_exact g1 | sl_exact g2 | sl_exact g3 | sl_exact g4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    rw [View.read_writes_cons_put _ _ _ _ [] rfl, View.writes_nil]
    simp only [full_40x3200, full_40x1]
  isplitl [H11]
  · iexists _; isplitr; swap; · iexact H11
    ipureintro
    rw [View.read_writes_full]
    unfold stepM newM headM tile
    delta run_A.sl.r_2 run_A.sl.r_1 run_A.sl.r run_A.sl.v52 run_A.sl.H11_1
    simp only [full_40x3200, full_40x1, cov_40x128]
  isplitl [H12]
  · iexists _; isplitr; swap; · iexact H12
    ipureintro
    rw [View.read_writes_full]
    unfold stepS newM headM tile
    delta run_A.sl.r_6 run_A.sl.r_5 run_A.sl.r_4 run_A.sl.r_3 run_A.sl.r_2 run_A.sl.r_1 run_A.sl.r run_A.sl.v52 run_A.sl.v103 run_A.sl.H11_1 run_A.sl.H12_1
    simp only [full_40x3200, full_40x1, cov_40x128]
  iexists _, _; isplitr; swap; · iexact H13
  ipureintro; rfl

end Cert.Kernel.Hand

end
-- ==== Proof.Bits.BodyB.lean ====
module

public import proofs.«01_k».proof.Proof.Bits.Body

/-! # Points 1 to 9 of the epilogue -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Points 1 to 9: tile `i` is stored and taken into the running arrays. -/
theorem run_B (c : Dev nD) (i : grid1.Coords) (arg2 : Memref sig .tc .vmem S40x3200 .f32) (harg2 : arg2.IsWhole) (arg3 : Memref sig .tc .vmem S40x3200 .i32) (harg3 : arg3.IsWhole) (arg4 : Memref sig .tc .vmem S40x3200 .f32) (harg4 : arg4.IsWhole)
    (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole)
    (arg8 : Memref sig .tc .vmem S40x3200 .bf16) (harg8 : arg8.IsWhole) (arg9 : Memref sig .tc .vmem S40x1 .f32) (harg9 : arg9.IsWhole) (arg10 : Memref sig .tc .vmem S40x32000 .f32) (harg10 : arg10.IsWhole)
    (arg11 : Memref sig .tc .vmem S40x128 .f32) (harg11 : arg11.IsWhole) (arg12 : Memref sig .tc .vmem S40x128 .f32) (harg12 : arg12.IsWhole) (arg13 : Memref sig .tc .vmem S40x128 .f32) (harg13 : arg13.IsWhole)
    (g1 : ¬c1 i) (g2 : k1_cond2 i = 1#1) (g3 : ¬k1_cond3 i = 1#1) (g4 : ¬k1_cond4 i = 1#1)
    (x0 : Vec F S40x3200 .f32) (x1 : Vec F S40x3200 .i32) (x2 : Vec F S40x3200 .f32) (x3 x4 x5 : Vec F S40x1 .f32) (y6 : Vec F S40x3200 .bf16) (y7 : Vec F S40x1 .f32) (P : Vec F S40x32000 .f32) (mx sm : Vec F S40x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare P ∗ owns (c : Thread nD τ) arg11 fullShare mx ∗ owns (c : Thread nD τ) arg12 fullShare sm ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare (VecWindow.put P (k1_off1 i) S40x3200.size (k1_pay9 x1 x3 x0 x2 x4 x5)) ∗ owns (c : Thread nD τ) arg11 fullShare (stepM x0 x1 x2 x3 x4 x5 mx) ∗ owns (c : Thread nD τ) arg12 fullShare (stepS x0 x1 x2 x3 x4 x5 mx sm) ∗ (∃ d, owns (c : Thread nD τ) arg13 fullShare d)) -∗ K ⟨⟩))
      ⊢ wp frame (wpE (defs₀ (F := F)) Variants.none c none) E (cc1_penalty_logsoftmax i arg2 harg2 arg3 harg3 arg4 harg4 arg5 harg5 arg6 harg6 arg7 harg7 arg8 harg8 arg9 harg9 arg10 harg10 arg11 harg11 arg12 harg12 arg13 harg13) K := by
  simp only [cc1_penalty_logsoftmax_eq_skeleton]; unfold cc1_penalty_logsoftmax_skel
  simp only [k1_part1_eq_skeleton, k1_part2_eq_skeleton, k1_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf2 hf3 hf4 hf5 hf6 hf7 hf8 hf9 hf10 hf11 hf12
  sl_exec (disch := first | sl_exact g1 | sl_exact g2 | sl_exact g3 | sl_exact g4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    rw [View.read_writes_cons_put _ _ _ _ [] rfl, View.writes_nil]
    simp only [full_40x3200, full_40x1]
  isplitl [H11]
  · iexists _; isplitr; swap; · iexact H11
    ipureintro
    rw [View.read_writes_full]
    unfold stepM newM headM tile
    delta run_B.sl.r_3 run_B.sl.r_2 run_B.sl.r_1 run_B.sl.r
    simp only [full_40x3200, full_40x1, full_40x128]
  isplitl [H12]
  · iexists _; isplitr; swap; · iexact H12
    ipureintro
    rw [View.read_writes_full]
    unfold stepS newM headM tile
    delta run_B.sl.r_7 run_B.sl.r_6 run_B.sl.r_5 run_B.sl.r_4 run_B.sl.r_3 run_B.sl.r_2 run_B.sl.r_1 run_B.sl.r
    simp only [full_40x3200, full_40x1, full_40x128]
  iexists _, _; isplitr; swap; · iexact H13
  ipureintro; rfl

end Cert.Kernel.Hand

end
-- ==== Proof.Bits.BodyC.lean ====
module

public import proofs.«01_k».proof.Proof.Bits.Body

/-! # Point 10 of the epilogue -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Point 10: the lanes are combined to the log-sum-exp, it is stored, and so is tile 0 of the log probabilities. -/
theorem run_C (c : Dev nD) (i : grid1.Coords) (arg2 : Memref sig .tc .vmem S40x3200 .f32) (harg2 : arg2.IsWhole) (arg3 : Memref sig .tc .vmem S40x3200 .i32) (harg3 : arg3.IsWhole) (arg4 : Memref sig .tc .vmem S40x3200 .f32) (harg4 : arg4.IsWhole)
    (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole)
    (arg8 : Memref sig .tc .vmem S40x3200 .bf16) (harg8 : arg8.IsWhole) (arg9 : Memref sig .tc .vmem S40x1 .f32) (harg9 : arg9.IsWhole) (arg10 : Memref sig .tc .vmem S40x32000 .f32) (harg10 : arg10.IsWhole)
    (arg11 : Memref sig .tc .vmem S40x128 .f32) (harg11 : arg11.IsWhole) (arg12 : Memref sig .tc .vmem S40x128 .f32) (harg12 : arg12.IsWhole) (arg13 : Memref sig .tc .vmem S40x128 .f32) (harg13 : arg13.IsWhole)
    (g1 : ¬c1 i) (g2 : ¬k1_cond2 i = 1#1) (g3 : k1_cond3 i = 1#1) (g4 : k1_cond4 i = 1#1)
    (x0 : Vec F S40x3200 .f32) (x1 : Vec F S40x3200 .i32) (x2 : Vec F S40x3200 .f32) (x3 x4 x5 : Vec F S40x1 .f32) (P : Vec F S40x32000 .f32) (mx sm : Vec F S40x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare P ∗ owns (c : Thread nD τ) arg11 fullShare mx ∗ owns (c : Thread nD τ) arg12 fullShare sm ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay7 (View.ld P (Rect.unit (s := S40x32000) (k1_off2 i) S40x3200.size (k1_off2_inb i g4))) (lseCol (k1_pay6 mx sm mx))) ∗ owns (c : Thread nD τ) arg9 fullShare (k1_pay5 mx sm mx) ∗ owns (c : Thread nD τ) arg10 fullShare P ∗ owns (c : Thread nD τ) arg11 fullShare mx ∗ owns (c : Thread nD τ) arg12 fullShare sm ∗ owns (c : Thread nD τ) arg13 fullShare (k1_pay6 mx sm mx)) -∗ K ⟨⟩))
      ⊢ wp frame (wpE (defs₀ (F := F)) Variants.none c none) E (cc1_penalty_logsoftmax i arg2 harg2 arg3 harg3 arg4 harg4 arg5 harg5 arg6 harg6 arg7 harg7 arg8 harg8 arg9 harg9 arg10 harg10 arg11 harg11 arg12 harg12 arg13 harg13) K := by
  simp only [cc1_penalty_logsoftmax_eq_skeleton]; unfold cc1_penalty_logsoftmax_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%d13, %f13, -, H13⟩, Hk⟩
  subst hf2 hf3 hf4 hf5 hf6 hf7 hf10 hf11 hf12
  sl_exec (disch := first | sl_exact g1 | sl_exact g2 | sl_exact g3 | sl_exact g4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    rw [View.read_writes_full]
    delta run_C.sl.v20 run_C.sl.H13_1
    rw [cov_lane]
    simp only [full_40x128]
    rfl
  isplitl [H9]
  · iexists _; isplitr; swap; · iexact H9
    ipureintro
    rw [View.read_writes_full]
    simp only [full_40x128]
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr; swap; · iexact H13
  ipureintro
  delta run_C.sl.H13_1
  rw [View.read_writes_full]
  simp only [full_40x128]

end Cert.Kernel.Hand

end
-- ==== Proof.Bits.BodyD.lean ====
module

public import proofs.«01_k».proof.Proof.Bits.Body

/-! # Points 11 to 19 of the epilogue -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Points 11 to 19: one tile of the log probabilities is stored. -/
theorem run_D (c : Dev nD) (i : grid1.Coords) (arg2 : Memref sig .tc .vmem S40x3200 .f32) (harg2 : arg2.IsWhole) (arg3 : Memref sig .tc .vmem S40x3200 .i32) (harg3 : arg3.IsWhole) (arg4 : Memref sig .tc .vmem S40x3200 .f32) (harg4 : arg4.IsWhole)
    (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole)
    (arg8 : Memref sig .tc .vmem S40x3200 .bf16) (harg8 : arg8.IsWhole) (arg9 : Memref sig .tc .vmem S40x1 .f32) (harg9 : arg9.IsWhole) (arg10 : Memref sig .tc .vmem S40x32000 .f32) (harg10 : arg10.IsWhole)
    (arg11 : Memref sig .tc .vmem S40x128 .f32) (harg11 : arg11.IsWhole) (arg12 : Memref sig .tc .vmem S40x128 .f32) (harg12 : arg12.IsWhole) (arg13 : Memref sig .tc .vmem S40x128 .f32) (harg13 : arg13.IsWhole)
    (g1 : ¬c1 i) (g2 : ¬k1_cond2 i = 1#1) (g3 : ¬k1_cond3 i = 1#1) (g4 : k1_cond4 i = 1#1)
    (x0 : Vec F S40x3200 .f32) (x1 : Vec F S40x3200 .i32) (x2 : Vec F S40x3200 .f32) (x3 x4 x5 : Vec F S40x1 .f32) (y7 : Vec F S40x1 .f32) (P : Vec F S40x32000 .f32) (mx sm lv : Vec F S40x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare P ∗ owns (c : Thread nD τ) arg11 fullShare mx ∗ owns (c : Thread nD τ) arg12 fullShare sm ∗ owns (c : Thread nD τ) arg13 fullShare lv
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay7 (View.ld P (Rect.unit (s := S40x32000) (k1_off2 i) S40x3200.size (k1_off2_inb i g4))) (lseCol lv)) ∗ owns (c : Thread nD τ) arg9 fullShare y7 ∗ owns (c : Thread nD τ) arg10 fullShare P ∗ owns (c : Thread nD τ) arg11 fullShare mx ∗ owns (c : Thread nD τ) arg12 fullShare sm ∗ owns (c : Thread nD τ) arg13 fullShare lv) -∗ K ⟨⟩))
      ⊢ wp frame (wpE (defs₀ (F := F)) Variants.none c none) E (cc1_penalty_logsoftmax i arg2 harg2 arg3 harg3 arg4 harg4 arg5 harg5 arg6 harg6 arg7 harg7 arg8 harg8 arg9 harg9 arg10 harg10 arg11 harg11 arg12 harg12 arg13 harg13) K := by
  simp only [cc1_penalty_logsoftmax_eq_skeleton]; unfold cc1_penalty_logsoftmax_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
  subst hf2 hf3 hf4 hf5 hf6 hf7 hf9 hf10 hf11 hf12 hf13
  sl_exec (disch := first | sl_exact g1 | sl_exact g2 | sl_exact g3 | sl_exact g4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    rw [View.read_writes_full]
    rfl
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists f13; isplitr; · ipureintro; rfl
  iexact H13

end Cert.Kernel.Hand

end
-- ==== Proof.Bits.Data.lean ====
module

public import proofs.«01_k».proof.Proof.Bits.BodyA
public import proofs.«01_k».proof.Proof.Bits.BodyB
public import proofs.«01_k».proof.Proof.Bits.BodyC
public import proofs.«01_k».proof.Proof.Bits.BodyD

/-!
# The epilogue's pipeline data

What every buffer of the second call holds at every one of its 20 points, from the arrays it is
entered with: the lane maxima and sums after each tile (`lanes`), the log-sum-exp (`lseV`, `lseC`),
the tiles of the log probabilities (`outLp`), and the invariant that carries the scratch arrays from
point to point (`Phi1`).
-/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The carried arrays -/

/-- Point `n`, as a point of the grid. -/
def pt (n : ℕ) : Fin cfg1.N := ⟨n % 20, Nat.lt_of_lt_of_eq (Nat.mod_lt _ (by decide)) N_1.symm⟩

theorem pt_val (t : Fin cfg1.N) : pt t.val = t :=
  Fin.ext (Nat.mod_eq_of_lt (Nat.lt_of_lt_of_eq t.isLt N_1))

/-- The penalised logits of tile `n`, as stored. -/
def penT (c : Dev nD) (n : ℕ) : FVec F S40x3200 .f32 :=
  k1_pay9 (iblk1 V c 1 (pt n)) (iblk1 V c 3 (pt n)) (iblk1 V c 0 (pt n)) (iblk1 V c 2 (pt n)) (iblk1 V c 4 (pt n)) (iblk1 V c 5 (pt n))

/-- The lane maxima and the lane sums after point `n`: tiles 0 to `n` taken in, up to the last tile, 9. -/
def lanes (c : Dev nD) : ℕ → Vec F S40x128 .f32 × Vec F S40x128 .f32
  | 0 => (stepM (iblk1 V c 0 (pt 0)) (iblk1 V c 1 (pt 0)) (iblk1 V c 2 (pt 0)) (iblk1 V c 3 (pt 0)) (iblk1 V c 4 (pt 0)) (iblk1 V c 5 (pt 0)) k1_pay1,
      stepS (iblk1 V c 0 (pt 0)) (iblk1 V c 1 (pt 0)) (iblk1 V c 2 (pt 0)) (iblk1 V c 3 (pt 0)) (iblk1 V c 4 (pt 0)) (iblk1 V c 5 (pt 0)) k1_pay1 k1_pay2)
  | n + 1 => if n + 1 < 10 then
      (stepM (iblk1 V c 0 (pt (n + 1))) (iblk1 V c 1 (pt (n + 1))) (iblk1 V c 2 (pt (n + 1))) (iblk1 V c 3 (pt (n + 1))) (iblk1 V c 4 (pt (n + 1))) (iblk1 V c 5 (pt (n + 1))) (lanes c n).1,
        stepS (iblk1 V c 0 (pt (n + 1))) (iblk1 V c 1 (pt (n + 1))) (iblk1 V c 2 (pt (n + 1))) (iblk1 V c 3 (pt (n + 1))) (iblk1 V c 4 (pt (n + 1))) (iblk1 V c 5 (pt (n + 1))) (lanes c n).1 (lanes c n).2)
    else lanes c n

theorem lanes_pos (c : Dev nD) (n : ℕ) (h0 : n ≠ 0) (h : n < 10) : lanes V c n =
    (stepM (iblk1 V c 0 (pt n)) (iblk1 V c 1 (pt n)) (iblk1 V c 2 (pt n)) (iblk1 V c 3 (pt n)) (iblk1 V c 4 (pt n)) (iblk1 V c 5 (pt n)) (lanes V c (n - 1)).1,
      stepS (iblk1 V c 0 (pt n)) (iblk1 V c 1 (pt n)) (iblk1 V c 2 (pt n)) (iblk1 V c 3 (pt n)) (iblk1 V c 4 (pt n)) (iblk1 V c 5 (pt n)) (lanes V c (n - 1)).1 (lanes V c (n - 1)).2) := by
  cases n with
  | zero => exact absurd rfl h0
  | succ n => rw [lanes, if_pos h]; rfl

/-- After the last tile the lanes stay as they are. -/
theorem lanes_late (c : Dev nD) (n : ℕ) (h : 9 ≤ n) : lanes V c n = lanes V c 9 := by
  induction n with
  | zero => omega
  | succ n ih =>
    by_cases h9 : 9 ≤ n
    · rw [lanes, if_neg (by omega), ih h9]
    · have : n = 8 := by omega
      subst this; rfl

/-- The log-sum-exp, on every lane, as kept in scratch. -/
def lseV (c : Dev nD) : Vec F S40x128 .f32 := k1_pay6 (lanes V c 9).1 (lanes V c 9).2 (lanes V c 9).1

/-- The log-sum-exp, the column that is stored as a result. -/
def lseC (c : Dev nD) : Vec F S40x1 .f32 := k1_pay5 (lanes V c 9).1 (lanes V c 9).2 (lanes V c 9).1

/-- The tile of log probabilities that point `n` stores. -/
def outLp (c : Dev nD) (n : ℕ) : Vec F S40x3200 .bf16 := k1_pay7 (penT V c (n % 10)) (lseCol (lseV V c))

/-- Tile `j`'s columns lie in the array. -/
theorem tile_inb (j : ℕ) (h : j < 10) : ∀ a, (![0, 3200 * j] : Fin 2 → ℕ) a + S40x3200.size a ≤ S40x32000.size a := fun a => by
  fin_cases a
  · show 0 + 40 ≤ 40; omega
  · show 3200 * j + 3200 ≤ 32000; omega

/-- The scratch of penalised logits holds the tiles up to `n`. -/
def PenOk (c : Dev nD) (n : ℕ) (P : Vec F S40x32000 .f32) : Prop :=
  ∀ (j : ℕ) (h : j < 10), j ≤ n → VecWindow.window P ![0, 3200 * j] S40x3200.size (tile_inb j h) = penT V c j

/-- Storing tile `n` adds it to those held. -/
theorem penOk_put (c : Dev nD) (n : ℕ) (hn : n < 10) (P : Vec F S40x32000 .f32) (h : n ≠ 0 → PenOk V c (n - 1) P) :
    PenOk V c n (VecWindow.put P ![0, 3200 * n] S40x3200.size (penT V c n)) := fun j hj hjn => by
  by_cases e : j = n
  · subst e; exact VecWindow.window_put_same _ _ _ _ _
  · refine (VecWindow.window_put_of_disjoint P _ _ _ _ _ _ (1 : Fin 2) (.inl ?_)).trans (h (by omega) j hj (by omega))
    show 3200 * j + 3200 ≤ 3200 * n
    omega

/-- Once all ten tiles are held, they are held at any later point. -/
theorem penOk_late (c : Dev nD) (n n' : ℕ) (hn : 9 ≤ n) (P : Vec F S40x32000 .f32) (h : PenOk V c n P) : PenOk V c n' P :=
  fun j hj _ => h j hj (by omega)

/-- The offsets of the store of tile `t`. -/
theorem off1_eq : ∀ t : Fin cfg1.N, k1_off1 (grid1.coords t) = ![0, 3200 * (t.val % 10)] :=
  (by decide +kernel : ∀ t : Fin grid1.N, k1_off1 (grid1.coords t) = ![0, 3200 * (t.val % 10)])

/-- The offsets of the load of tile `t - 10`. -/
theorem off2_eq : ∀ t : Fin cfg1.N, k1_off2 (grid1.coords t) = ![0, 3200 * (t.val % 10)] :=
  (by decide +kernel : ∀ t : Fin grid1.N, k1_off2 (grid1.coords t) = ![0, 3200 * (t.val % 10)])

/-- The load of a tile from a scratch that holds all of them. -/
theorem ld_pen (c : Dev nD) (t : Fin cfg1.N) (n : ℕ) (hn : 9 ≤ n) (P : Vec F S40x32000 .f32) (hP : PenOk V c n P) (inb) :
    View.ld P (Rect.unit (s := S40x32000) (k1_off2 (grid1.coords t)) S40x3200.size inb) = penT V c (t.val % 10) := by
  have h := hP (t.val % 10) (Nat.mod_lt _ (by decide)) (by omega)
  rw [← h]
  revert inb
  rw [off2_eq t]
  intro inb
  rfl

/-! ## The scratch buffers and the invariant -/

abbrev sc0 : Memref sig .tc .vmem S40x32000 .f32 := Memref.whole cc1_scratch0
abbrev sc1 : Memref sig .tc .vmem S40x128 .f32 := Memref.whole cc1_scratch1
abbrev sc2 : Memref sig .tc .vmem S40x128 .f32 := Memref.whole cc1_scratch2
abbrev sc3 : Memref sig .tc .vmem S40x128 .f32 := Memref.whole cc1_scratch3

/-- A buffer held whole at contents nothing names. -/
abbrev ex (c : Dev nD) (b : Ref sig .tc) : sProp 𝕄 :=
  iprop(∃ f : Buf (Elt F) ((c : Thread nD τ).loc b), ((c : Thread nD τ).loc b) ↦{fullShare} f)

/-- What the launch hands the region: the scoped buffers, at anything, and the generator register. -/
theorem PhiA1_eq (c : Dev nD) : (Pipeline.ΦA spec1 c : sProp 𝕄)
    = iprop(iprop(ex c cc0_stg0_0 ∗ ex c cc0_stg1_0 ∗ ex c cc0_stg2_0 ∗ ex c cc0_stg2_1 ∗ ex c cc0_stg3_0 ∗ ex c cc0_stg3_1 ∗ ex c cc0_stg4_0 ∗ ex c cc0_stg4_1
      ∗ (∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)) ∗ (∃ r, prngReg c r)) := by
  unfold Pipeline.ΦA; rw [scopedRest1_eq]; simp only [sc0, sc1, sc2, sc3, ex, owns_whole]; try rfl

/-- The invariant before point `n`: at the first point what the launch hands over; later the scratch as the point
    before left it. -/
def Phi1 (c : Dev nD) : ℕ → sProp 𝕄
  | 0 => Pipeline.ΦA spec1 c
  | n + 1 => iprop(iprop(ex c cc0_stg0_0 ∗ ex c cc0_stg1_0 ∗ ex c cc0_stg2_0 ∗ ex c cc0_stg2_1 ∗ ex c cc0_stg3_0 ∗ ex c cc0_stg3_1 ∗ ex c cc0_stg4_0 ∗ ex c cc0_stg4_1
      ∗ (∃ P, ⌜PenOk V c (n) P⌝ ∗ owns (c : Thread nD τ) sc0 fullShare P) ∗ owns (c : Thread nD τ) sc1 fullShare (lanes V c (n)).1
      ∗ owns (c : Thread nD τ) sc2 fullShare (lanes V c (n)).2 ∗ (∃ L, ⌜10 ≤ n → L = lseV V c⌝ ∗ owns (c : Thread nD τ) sc3 fullShare L)) ∗ (∃ r, prngReg c r))

theorem Phi1_pos (c : Dev nD) (n : ℕ) (h : n ≠ 0) : Phi1 V c n = iprop(iprop(ex c cc0_stg0_0 ∗ ex c cc0_stg1_0 ∗ ex c cc0_stg2_0 ∗ ex c cc0_stg2_1 ∗ ex c cc0_stg3_0 ∗ ex c cc0_stg3_1 ∗ ex c cc0_stg4_0 ∗ ex c cc0_stg4_1
      ∗ (∃ P, ⌜PenOk V c (n - 1) P⌝ ∗ owns (c : Thread nD τ) sc0 fullShare P) ∗ owns (c : Thread nD τ) sc1 fullShare (lanes V c (n - 1)).1
      ∗ owns (c : Thread nD τ) sc2 fullShare (lanes V c (n - 1)).2 ∗ (∃ L, ⌜10 ≤ n - 1 → L = lseV V c⌝ ∗ owns (c : Thread nD τ) sc3 fullShare L)) ∗ (∃ r, prngReg c r)) := by
  cases n with
  | zero => exact absurd rfl h
  | succ n => rfl

theorem Phi1_succ (c : Dev nD) (n : ℕ) : Phi1 V c (n + 1) = iprop(iprop(ex c cc0_stg0_0 ∗ ex c cc0_stg1_0 ∗ ex c cc0_stg2_0 ∗ ex c cc0_stg2_1 ∗ ex c cc0_stg3_0 ∗ ex c cc0_stg3_1 ∗ ex c cc0_stg4_0 ∗ ex c cc0_stg4_1
      ∗ (∃ P, ⌜PenOk V c (n) P⌝ ∗ owns (c : Thread nD τ) sc0 fullShare P) ∗ owns (c : Thread nD τ) sc1 fullShare (lanes V c (n)).1
      ∗ owns (c : Thread nD τ) sc2 fullShare (lanes V c (n)).2 ∗ (∃ L, ⌜10 ≤ n → L = lseV V c⌝ ∗ owns (c : Thread nD τ) sc3 fullShare L)) ∗ (∃ r, prngReg c r)) := rfl

/-! ## The pipeline's proof data -/

/-- The proof data of the epilogue's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outLp V c t.val
    | ⟨7, _⟩ => lseC V c
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outLp V c t.val := by dsimp only [dat1]
theorem after1_7 (c : Dev nD) (t : Fin cfg1.N) : (dat1 V c).after 7 t = lseC V c := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The outputs' schedule -/

theorem idle6 : ∀ t : Fin cfg1.N, cfg1.idle 6 (grid1.coords t) = decide (t.val < 10) :=
  (by decide +kernel : ∀ t : Fin grid1.N, idle1 6 (grid1.coords t) = decide (t.val < 10))
theorem idle7 : ∀ t : Fin cfg1.N, cfg1.idle 7 (grid1.coords t) = decide (t.val ≠ 10) :=
  (by decide +kernel : ∀ t : Fin grid1.N, idle1 7 (grid1.coords t) = decide (t.val ≠ 10))
theorem flush6 : ∀ t : Fin cfg1.N, (cfg1.win 6).flush t = decide (10 ≤ t.val) :=
  (by decide +kernel : ∀ t : Fin grid1.N, win1_6.flush t = decide (10 ≤ t.val))
theorem flush7 : ∀ t : Fin cfg1.N, (cfg1.win 7).flush t = decide (t.val = 19) :=
  (by decide +kernel : ∀ t : Fin grid1.N, win1_7.flush t = decide (t.val = 19))

/-- After point 10 the log-sum-exp's staging buffer holds what that point stored. -/
theorem before1_7 (c : Dev nD) (n : ℕ) (h : 11 ≤ n) (hn : n < cfg1.N) (d) : (dat1 V c).before 7 ⟨n, hn⟩ d = lseC V c := by
  have hN : cfg1.N = 20 := N_1
  induction n with
  | zero => omega
  | succ n ih =>
    rw [(dat1 V c).before_of_pos 7 ⟨n + 1, hn⟩ (Nat.succ_ne_zero n) ((cfg1.win 7).fetch_out rfl _)]
    have e : (⟨(⟨n + 1, hn⟩ : Fin cfg1.N).val - 1, Nat.lt_of_le_of_lt (Nat.sub_le _ _) hn⟩ : Fin cfg1.N) = ⟨n, by omega⟩ := rfl
    rw [flush7, if_neg (by rw [decide_eq_true_eq]; show ¬ n + 1 - 1 = 19; omega)]
    unfold Dat.left
    rw [idle7]
    by_cases h10 : n = 10
    · rw [show decide ((⟨(⟨n + 1, hn⟩ : Fin cfg1.N).val - 1, Nat.lt_of_le_of_lt (Nat.sub_le _ _) hn⟩ : Fin cfg1.N).val ≠ 10) = false from by
        simp; omega]
      rfl
    · rw [show decide ((⟨(⟨n + 1, hn⟩ : Fin cfg1.N).val - 1, Nat.lt_of_le_of_lt (Nat.sub_le _ _) hn⟩ : Fin cfg1.N).val ≠ 10) = true from by
        simp; omega]
      exact ih (by omega) (by omega)

end Region

end Cert.Kernel.Hand

end
-- ==== Proof.Bits.Sound.lean ====
module

public import proofs.«01_k».proof.Proof.Bits.Data

/-!
# The epilogue's body meets its pipeline data

At each of the 20 points the body, handed the windows and the invariant of `Data.lean`, returns them
as that module states.
-/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! What the body leaves in an input's buffer: its block. -/

theorem leaves1_0 (c : Dev nD) (t : Fin cfg1.N) : (dat1 V c).leavesExact 0 t = owns (c : Thread nD τ) (st1_0 t) fullShare (iblk1 V c 0 t) := by
  rw [Dat.leavesExact, show cfg1.idle 0 (cfg1.grid.coords t) = false from rfl]; dsimp only; rw [after1_0]
theorem leaves1_1 (c : Dev nD) (t : Fin cfg1.N) : (dat1 V c).leavesExact 1 t = owns (c : Thread nD τ) (st1_1 t) fullShare (iblk1 V c 1 t) := by
  rw [Dat.leavesExact, show cfg1.idle 1 (cfg1.grid.coords t) = false from rfl]; dsimp only; rw [after1_1]
theorem leaves1_2 (c : Dev nD) (t : Fin cfg1.N) : (dat1 V c).leavesExact 2 t = owns (c : Thread nD τ) (st1_2 t) fullShare (iblk1 V c 2 t) := by
  rw [Dat.leavesExact, show cfg1.idle 2 (cfg1.grid.coords t) = false from rfl]; dsimp only; rw [after1_2]
theorem leaves1_3 (c : Dev nD) (t : Fin cfg1.N) : (dat1 V c).leavesExact 3 t = owns (c : Thread nD τ) (st1_3 t) fullShare (iblk1 V c 3 t) := by
  rw [Dat.leavesExact, show cfg1.idle 3 (cfg1.grid.coords t) = false from rfl]; dsimp only; rw [after1_3]
theorem leaves1_4 (c : Dev nD) (t : Fin cfg1.N) : (dat1 V c).leavesExact 4 t = owns (c : Thread nD τ) (st1_4 t) fullShare (iblk1 V c 4 t) := by
  rw [Dat.leavesExact, show cfg1.idle 4 (cfg1.grid.coords t) = false from rfl]; dsimp only; rw [after1_4]
theorem leaves1_5 (c : Dev nD) (t : Fin cfg1.N) : (dat1 V c).leavesExact 5 t = owns (c : Thread nD τ) (st1_5 t) fullShare (iblk1 V c 5 t) := by
  rw [Dat.leavesExact, show cfg1.idle 5 (cfg1.grid.coords t) = false from rfl]; dsimp only; rw [after1_5]

/-- After point 10 the log-sum-exp's buffer, as the body leaves it, is the buffer as it was handed. -/
theorem leaves1_7_late (c : Dev nD) (t : Fin cfg1.N) (h : 11 ≤ t.val) (d) :
    owns (c : Thread nD τ) (st1_7 t) fullShare ((dat1 V c).before 7 t d) ⊢ ((dat1 V c).leavesExact 7 t : sProp 𝕄) := by
  have hb : (dat1 V c).before 7 t d = lseC V c := before1_7 V c t.val h t.isLt d
  by_cases h19 : t.val = 19
  · rw [Dat.leavesExact, show cfg1.idle 7 (cfg1.grid.coords t) = true from by rw [show cfg1.grid.coords t = grid1.coords t from rfl, idle7]; simp; omega,
      show (cfg1.win 7).flush t = true from by rw [flush7]; simp [h19]]
    dsimp only
    rw [after1_7, hb]
  · rw [(dat1 V c).leavesExact_idle 7 t (by rw [show cfg1.grid.coords t = grid1.coords t from rfl, idle7]; simp; omega) (by rw [flush7]; simp; omega)]
    iintro H; iexists d; iexact H

/-- The lanes after point 0, at the point's own blocks. -/
theorem lanes_zero (c : Dev nD) (t : Fin cfg1.N) (h0 : t.val = 0) : lanes V c t.val =
    (stepM (iblk1 V c 0 t) (iblk1 V c 1 t) (iblk1 V c 2 t) (iblk1 V c 3 t) (iblk1 V c 4 t) (iblk1 V c 5 t) k1_pay1, stepS (iblk1 V c 0 t) (iblk1 V c 1 t) (iblk1 V c 2 t) (iblk1 V c 3 t) (iblk1 V c 4 t) (iblk1 V c 5 t) k1_pay1 k1_pay2) := by
  have e : pt 0 = t := by rw [← h0, pt_val]
  rw [h0, lanes, e]

/-- The lanes after a later point of the first pass, at the point's own blocks. -/
theorem lanes_step (c : Dev nD) (t : Fin cfg1.N) (h0 : t.val ≠ 0) (h1 : t.val < 10) : lanes V c t.val =
    (stepM (iblk1 V c 0 t) (iblk1 V c 1 t) (iblk1 V c 2 t) (iblk1 V c 3 t) (iblk1 V c 4 t) (iblk1 V c 5 t) (lanes V c (t.val - 1)).1, stepS (iblk1 V c 0 t) (iblk1 V c 1 t) (iblk1 V c 2 t) (iblk1 V c 3 t) (iblk1 V c 4 t) (iblk1 V c 5 t) (lanes V c (t.val - 1)).1 (lanes V c (t.val - 1)).2) := by
  rw [lanes_pos V c t.val h0 h1, pt_val]

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- Point 0. -/
theorem sound_A (c : Dev nD) (t : Fin cfg1.N) (h0 : t.val = 0) :
    bodyPre1 V c t ⊢ wp frame (wpE (defs₀ (F := F)) Variants.none c none) Set.univ (bodyAt1 t) (fun _ => bodyPost1 V c t) := by
  have hN : t.val < 20 := Nat.lt_of_lt_of_eq t.isLt N_1
  have h1 : t.val < 10 := by omega
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = Phi1 V c t.val from rfl, show (dat1 V c).Φ t.succ = Phi1 V c (t.val + 1) from rfl, Phi1_succ, show Phi1 V c t.val = Phi1 V c 0 from by rw [h0], show Phi1 V c 0 = Pipeline.ΦA spec1 c from rfl, PhiA1_eq]
  rw [leaves1_0, leaves1_1, leaves1_2, leaves1_3, leaves1_4, leaves1_5, (dat1 V c).leavesExact_idle 6 t (by rw [show cfg1.grid.coords t = grid1.coords t from rfl, idle6]; simp; omega) (by rw [flush6]; simp; omega),
    (dat1 V c).leavesExact_idle 7 t (by rw [show cfg1.grid.coords t = grid1.coords t from rfl, idle7]; simp; omega) (by rw [flush7]; simp; omega)]
  iintro ⟨⟨⟨E0, E1, E2, E3, E4, E5, E6, E7, ⟨%P, HS0⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩

  iapply (run_A c (grid1.coords t) _ _ _ _ _ _ _ _ _ _ _ _ _ _ _ _ _ _ _ _ _ _ _ _ ((hc1 t).mpr h0) ((hc2 t).mpr h1) (fun h => by have := (hc3 t).mp h; omega) (fun h => by have := (hc4 t).mp h; omega) (iblk1 V c 0 t) (iblk1 V c 1 t) (iblk1 V c 2 t) (iblk1 V c 3 t) (iblk1 V c 4 t) (iblk1 V c 5 t) _ _ P Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [E0 E1 E2 E3 E4 E5 E6 E7 HS0 HS1 HS2 HS3 Hg]
  · isplitr [Hg]; swap; · iexact Hg
    isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [HS0]
    · iexists _; isplitr; swap; · iexact HS0
      ipureintro
      rw [off1_eq t, Nat.mod_eq_of_lt h1]
      have hput := penOk_put V c t.val h1 P (fun h => absurd h0 h)
      unfold penT at hput
      rw [pt_val] at hput
      exact hput
    rw [lanes_zero V c t h0]
    isplitl [HS1]; · iexact HS1
    isplitl [HS2]; · iexact HS2
    icases HS3 with ⟨%L, HS3⟩
    iexists L; isplitr; swap; · iexact HS3
    ipureintro; intro h; omega
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iexists d7; iexact H7

/-- Points 1 to 9. -/
theorem sound_B (c : Dev nD) (t : Fin cfg1.N) (h0 : t.val ≠ 0) (h1 : t.val < 10) :
    bodyPre1 V c t ⊢ wp frame (wpE (defs₀ (F := F)) Variants.none c none) Set.univ (bodyAt1 t) (fun _ => bodyPost1 V c t) := by
  have hN : t.val < 20 := Nat.lt_of_lt_of_eq t.isLt N_1

  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = Phi1 V c t.val from rfl, show (dat1 V c).Φ t.succ = Phi1 V c (t.val + 1) from rfl, Phi1_succ, Phi1_pos V c t.val h0]
  rw [leaves1_0, leaves1_1, leaves1_2, leaves1_3, leaves1_4, leaves1_5, (dat1 V c).leavesExact_idle 6 t (by rw [show cfg1.grid.coords t = grid1.coords t from rfl, idle6]; simp; omega) (by rw [flush6]; simp; omega),
    (dat1 V c).leavesExact_idle 7 t (by rw [show cfg1.grid.coords t = grid1.coords t from rfl, idle7]; simp; omega) (by rw [flush7]; simp; omega)]
  iintro ⟨⟨⟨E0, E1, E2, E3, E4, E5, E6, E7, ⟨%P, %hP, HS0⟩, HS1, HS2, ⟨%L0, -, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩

  iapply (run_B c (grid1.coords t) _ _ _ _ _ _ _ _ _ _ _ _ _ _ _ _ _ _ _ _ _ _ _ _ (fun h => h0 ((hc1 t).mp h)) ((hc2 t).mpr h1) (fun h => by have := (hc3 t).mp h; omega) (fun h => by have := (hc4 t).mp h; omega) (iblk1 V c 0 t) (iblk1 V c 1 t) (iblk1 V c 2 t) (iblk1 V c 3 t) (iblk1 V c 4 t) (iblk1 V c 5 t) _ _ P _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexists _; iexact HS3
  iintro ⟨H0, H1, H2, H3, H4, H5, H6, H7, HS0, HS1, HS2, HS3⟩
  isplitl [E0 E1 E2 E3 E4 E5 E6 E7 HS0 HS1 HS2 HS3 Hg]
  · isplitr [Hg]; swap; · iexact Hg
    isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [HS0]
    · iexists _; isplitr; swap; · iexact HS0
      ipureintro
      rw [off1_eq t, Nat.mod_eq_of_lt h1]
      have hput := penOk_put V c t.val h1 P (fun _ => hP)
      unfold penT at hput
      rw [pt_val] at hput
      exact hput
    rw [lanes_step V c t h0 h1]
    isplitl [HS1]; · iexact HS1
    isplitl [HS2]; · iexact HS2
    icases HS3 with ⟨%L, HS3⟩
    iexists L; isplitr; swap; · iexact HS3
    ipureintro; intro h; omega
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iexists d7; iexact H7

/-- Point 10. -/
theorem sound_C (c : Dev nD) (t : Fin cfg1.N) (h0 : t.val = 10) :
    bodyPre1 V c t ⊢ wp frame (wpE (defs₀ (F := F)) Variants.none c none) Set.univ (bodyAt1 t) (fun _ => bodyPost1 V c t) := by
  have hN : t.val < 20 := Nat.lt_of_lt_of_eq t.isLt N_1

  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = Phi1 V c t.val from rfl, show (dat1 V c).Φ t.succ = Phi1 V c (t.val + 1) from rfl, Phi1_succ, Phi1_pos V c t.val (by omega), lanes_late V c (t.val - 1) (by omega)]
  rw [leaves1_0, leaves1_1, leaves1_2, leaves1_3, leaves1_4, leaves1_5, show (dat1 V c).leavesExact 6 t = owns (c : Thread nD τ) (st1_6 t) fullShare (outLp V c t.val) from by
    rw [Dat.leavesExact, show cfg1.idle 6 (cfg1.grid.coords t) = false from by rw [show cfg1.grid.coords t = grid1.coords t from rfl, idle6]; simp; omega]; dsimp only; rw [after1_6],
    show (dat1 V c).leavesExact 7 t = owns (c : Thread nD τ) (st1_7 t) fullShare (lseC V c) from by
    rw [Dat.leavesExact, show cfg1.idle 7 (cfg1.grid.coords t) = false from by rw [show cfg1.grid.coords t = grid1.coords t from rfl, idle7]; simp; omega]; dsimp only; rw [after1_7]]
  iintro ⟨⟨⟨E0, E1, E2, E3, E4, E5, E6, E7, ⟨%P, %hP, HS0⟩, HS1, HS2, ⟨%L0, -, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩

  iapply (run_C c (grid1.coords t) _ _ _ _ _ _ _ _ _ _ _ _ _ _ _ _ _ _ _ _ _ _ _ _ (fun h => by have := (hc1 t).mp h; omega) (fun h => by have := (hc2 t).mp h; omega) ((hc3 t).mpr h0) ((hc4 t).mpr (by omega)) (iblk1 V c 0 t) (iblk1 V c 1 t) (iblk1 V c 2 t) (iblk1 V c 3 t) (iblk1 V c 4 t) (iblk1 V c 5 t) P _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexists _; iexact HS3
  iintro ⟨H0, H1, H2, H3, H4, H5, H6, H7, HS0, HS1, HS2, HS3⟩
  isplitl [E0 E1 E2 E3 E4 E5 E6 E7 HS0 HS1 HS2 HS3 Hg]
  · isplitr [Hg]; swap; · iexact Hg
    isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [HS0]
    · iexists P; isplitr; swap; · iexact HS0
      ipureintro; exact penOk_late V c (t.val - 1) t.val (by omega) P hP
    rw [lanes_late V c t.val (by omega)]
    isplitl [HS1]; · iexact HS1
    isplitl [HS2]; · iexact HS2
    iexists _; isplitr; swap; · iexact HS3
    ipureintro; intro _; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · rw [ld_pen V c t (t.val - 1) (by omega) P hP]; iexact H6
  iexact H7

/-- Points 11 to 19. At the last one the log-sum-exp is written back, and its buffer is required to hold it. -/
theorem sound_D (c : Dev nD) (t : Fin cfg1.N) (h0 : 11 ≤ t.val) :
    bodyPre1 V c t ⊢ wp frame (wpE (defs₀ (F := F)) Variants.none c none) Set.univ (bodyAt1 t) (fun _ => bodyPost1 V c t) := by
  have hN : t.val < 20 := Nat.lt_of_lt_of_eq t.isLt N_1

  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = Phi1 V c t.val from rfl, show (dat1 V c).Φ t.succ = Phi1 V c (t.val + 1) from rfl, Phi1_succ, Phi1_pos V c t.val (by omega), lanes_late V c (t.val - 1) (by omega)]
  rw [leaves1_0, leaves1_1, leaves1_2, leaves1_3, leaves1_4, leaves1_5, show (dat1 V c).leavesExact 6 t = owns (c : Thread nD τ) (st1_6 t) fullShare (outLp V c t.val) from by
    rw [Dat.leavesExact, show cfg1.idle 6 (cfg1.grid.coords t) = false from by rw [show cfg1.grid.coords t = grid1.coords t from rfl, idle6]; simp; omega]; dsimp only; rw [after1_6]]
  iintro ⟨⟨⟨E0, E1, E2, E3, E4, E5, E6, E7, ⟨%P, %hP, HS0⟩, HS1, HS2, ⟨%L0, %hL, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hL0 : L0 = lseV V c := hL (by omega)
  iapply (run_D c (grid1.coords t) _ _ _ _ _ _ _ _ _ _ _ _ _ _ _ _ _ _ _ _ _ _ _ _ (fun h => by have := (hc1 t).mp h; omega) (fun h => by have := (hc2 t).mp h; omega) (fun h => by have := (hc3 t).mp h; omega) ((hc4 t).mpr (by omega)) (iblk1 V c 0 t) (iblk1 V c 1 t) (iblk1 V c 2 t) (iblk1 V c 3 t) (iblk1 V c 4 t) (iblk1 V c 5 t) _ P _ _ L0 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [E0 E1 E2 E3 E4 E5 E6 E7 HS0 HS1 HS2 HS3 Hg]
  · isplitr [Hg]; swap; · iexact Hg
    isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [HS0]
    · iexists P; isplitr; swap; · iexact HS0
      ipureintro; exact penOk_late V c (t.val - 1) t.val (by omega) P hP
    rw [lanes_late V c t.val (by omega)]
    isplitl [HS1]; · iexact HS1
    isplitl [HS2]; · iexact HS2
    iexists _; isplitr; swap; · iexact HS3
    ipureintro; intro _; exact hL0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · rw [ld_pen V c t (t.val - 1) (by omega) P hP, hL0]; iexact H6
  iapply (leaves1_7_late V c t h0 d7); iexact H7

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val = 0
  · exact sound_A V c t h0
  by_cases h1 : t.val < 10
  · exact sound_B V c t h0 h1
  by_cases h2 : t.val = 10
  · exact sound_C V c t h2
  exact sound_D V c t (by omega)

/-- The body table's row at point `t`. -/
theorem defs₀_row1 (t : Fin cfg1.N) :
    defs₀ (F := F) .tc cfg1.body (cfg1.bodyArgs t (cfg1.slots t)) = bodyAt1 t := by
  unfold defs₀; rw [Defs.onTc_tc]

/-- The pipeline's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The invariant after the last point gives the scoped buffers and the generator register back. -/
theorem Phi1_out (c : Dev nD) : (dat1 V c).Φ (Fin.last _) ⊢ (Pipeline.ΦA spec1 c : sProp 𝕄) := by
  rw [show (dat1 V c).Φ (Fin.last _) = Phi1 V c (Fin.last cfg1.N).val from rfl, Phi1_pos V c _ (by rw [Fin.val_last, show cfg1.N = 20 from N_1]; decide), PhiA1_eq]
  iintro ⟨⟨E0, E1, E2, E3, E4, E5, E6, E7, ⟨%P, %hP, HS0⟩, HS1, HS2, ⟨%L0, %hL, HS3⟩⟩, Hg⟩
  isplitr [Hg]; swap; · iexact Hg
  isplitl [E0]; · iexact E0
  isplitl [E1]; · iexact E1
  isplitl [E2]; · iexact E2
  isplitl [E3]; · iexact E3
  isplitl [E4]; · iexact E4
  isplitl [E5]; · iexact E5
  isplitl [E6]; · iexact E6
  isplitl [E7]; · iexact E7
  isplitl [HS0]; · iexists P; iexact HS0
  isplitl [HS1]; · iexists _; iexact HS1
  isplitl [HS2]; · iexists _; iexact HS2
  iexists _; iexact HS3

end Region

end Cert.Kernel.Hand

end
-- ==== Proof.Bits.Run.lean ====
module

public import proofs.«01_k».proof.Proof.Bits.Head
public import proofs.«01_k».proof.Proof.Bits.Sound
public import Idealize.ShloMosaic.Lib.Pipeline.RegionsLoop
public import Idealize.ShloMosaic.Lib.Pipeline.FrameSuffix

/-! # The program's run: both calls and the host operations between them -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_v4, main_v5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from Phi1_out (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of the program ends, without fault, with the arguments as launched, both results at
    what the epilogue's pipeline leaves in their arrays, and every semaphore counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v6_0) = (dat1 (V3 m ρ) c).arrAt 6 cfg1.N
      ∧ r.2.mem ((c.tc : Thread nD τ).loc main_v6_1) = (dat1 (V3 m ρ) c).arrAt 7 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_v6_0 (by decide))).trans (W4_arr m ρ c 6),
       (h c _ (mem_uc main_v6_1 (by decide))).trans (W4_arr m ρ c 7)⟩), funext fun g => hz g (.inr (no_unscoped g.2))⟩)
/-- The frame: the arguments end as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1⟩, h.2⟩) (run m ρ)

end Cert.Kernel.Hand

end
-- ==== Proof.Ideal.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

/-!
# What one run of the epilogue's body does

The body of the second call has four cases over its 2 × 10 grid: point 0 starts the two running
arrays (lane maxima and lane sums) and takes in tile 0; points 1 to 9 take in their tiles; point 10
combines the lanes to the log-sum-exp, stores it, and writes tile 0 of the log probabilities;
points 11 to 19 write the other tiles.  Each theorem below is the triple of one case, with every
buffer's contents named.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one tile does to the running arrays -/

/-- The penalised logits of one tile, from its blocks of logits, counts and bias and the three columns. -/
def tile (x0 : Vec F S40x3200 .f32) (x1 : Vec F S40x3200 .i32) (x2 : Vec F S40x3200 .f32)
    (x3 x4 x5 : Vec F S40x1 .f32) : FVec F S40x3200 .f32 := k1_pay8 x1 x3 x0 x2 x4 x5

/-- The lane maxima over the tile's first three chunks and those before it. -/
def headM (x0 : Vec F S40x3200 .f32) (x1 : Vec F S40x3200 .i32) (x2 : Vec F S40x3200 .f32)
    (x3 x4 x5 : Vec F S40x1 .f32) (mx : Vec F S40x128 .f32) : Vec F S40x128 .f32 :=
  k1_pay10 x1 x3 x0 x2 x4 x5 mx

/-- The lane maxima after a tile, from those before it. -/
def newM (x0 : Vec F S40x3200 .f32) (x1 : Vec F S40x3200 .i32) (x2 : Vec F S40x3200 .f32)
    (x3 x4 x5 : Vec F S40x1 .f32) (mx : Vec F S40x128 .f32) : FVec F S40x128 .f32 :=
  k1_pay11 (tile x0 x1 x2 x3 x4 x5) (headM x0 x1 x2 x3 x4 x5 mx)

/-- The lane maxima as stored after a tile. -/
def stepM (x0 : Vec F S40x3200 .f32) (x1 : Vec F S40x3200 .i32) (x2 : Vec F S40x3200 .f32)
    (x3 x4 x5 : Vec F S40x1 .f32) (mx : Vec F S40x128 .f32) : Vec F S40x128 .f32 :=
  k1_pay3 (newM x0 x1 x2 x3 x4 x5 mx)

/-- The lane sums after a tile, from the lane maxima and sums before it. -/
def stepS (x0 : Vec F S40x3200 .f32) (x1 : Vec F S40x3200 .i32) (x2 : Vec F S40x3200 .f32)
    (x3 x4 x5 : Vec F S40x1 .f32) (mx sm : Vec F S40x128 .f32) : Vec F S40x128 .f32 :=
  k1_pay4 (tile x0 x1 x2 x3 x4 x5) (newM x0 x1 x2 x3 x4 x5 mx)
    (k1_pay14 (tile x0 x1 x2 x3 x4 x5) (newM x0 x1 x2 x3 x4 x5 mx)
      (k1_pay12 (tile x0 x1 x2 x3 x4 x5) mx (headM x0 x1 x2 x3 x4 x5 mx) sm)
      (k1_pay13 (tile x0 x1 x2 x3 x4 x5) (headM x0 x1 x2 x3 x4 x5 mx)))
    (k1_pay15 (tile x0 x1 x2 x3 x4 x5) (newM x0 x1 x2 x3 x4 x5 mx))

/-- The first lane of the log-sum-exp's scratch, which the body reads back (every lane holds the same). -/
abbrev lseCol (lv : Vec F S40x128 .f32) : Vec F S40x1 .f32 :=
  View.ld lv (Rect.unit (s := S40x128) ![0, 0] S40x1.size inb_S40x128_S40x1_0_0)

/-! ## The branch conditions, at each point -/

/-- The first condition (start): the first point only. -/
abbrev c1 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem hc1 : ∀ t : Fin cfg1.N, c1 (grid1.coords t) ↔ t.val = 0 :=
  (fun t => by
    have ht : t.val < 20 := Nat.lt_of_lt_of_eq t.isLt N_1
    have e0 : (grid1.coords t 0).val = t.val / 10 % 2 := Pipeline.Grid.coords_val t 0 (by decide) rfl
    have e1 : (grid1.coords t 1).val = t.val / 1 % 10 := Pipeline.Grid.coords_val t 1 (by decide) rfl
    simp only [c1, e0, e1]
    word_cmp
   : ∀ t : Fin grid1.N, c1 (grid1.coords t) ↔ t.val = 0)

theorem hc2 : ∀ t : Fin cfg1.N, k1_cond2 (grid1.coords t) = 1#1 ↔ t.val < 10 :=
  (fun t => by
    have ht : t.val < 20 := Nat.lt_of_lt_of_eq t.isLt N_1
    have e0 : (grid1.coords t 0).val = t.val / 10 % 2 := Pipeline.Grid.coords_val t 0 (by decide) rfl
    have e1 : (grid1.coords t 1).val = t.val / 1 % 10 := Pipeline.Grid.coords_val t 1 (by decide) rfl
    simp only [k1_cond2, e0, e1]
    word_cmp
   : ∀ t : Fin grid1.N, k1_cond2 (grid1.coords t) = 1#1 ↔ t.val < 10)

theorem hc3 : ∀ t : Fin cfg1.N, k1_cond3 (grid1.coords t) = 1#1 ↔ t.val = 10 :=
  (fun t => by
    have ht : t.val < 20 := Nat.lt_of_lt_of_eq t.isLt N_1
    have e0 : (grid1.coords t 0).val = t.val / 10 % 2 := Pipeline.Grid.coords_val t 0 (by decide) rfl
    have e1 : (grid1.coords t 1).val = t.val / 1 % 10 := Pipeline.Grid.coords_val t 1 (by decide) rfl
    simp only [k1_cond3, e0, e1]
    word_cmp
   : ∀ t : Fin grid1.N, k1_cond3 (grid1.coords t) = 1#1 ↔ t.val = 10)

theorem hc4 : ∀ t : Fin cfg1.N, k1_cond4 (grid1.coords t) = 1#1 ↔ 10 ≤ t.val :=
  (fun t => by
    have ht : t.val < 20 := Nat.lt_of_lt_of_eq t.isLt N_1
    have e0 : (grid1.coords t 0).val = t.val / 10 % 2 := Pipeline.Grid.coords_val t 0 (by decide) rfl
    have e1 : (grid1.coords t 1).val = t.val / 1 % 10 := Pipeline.Grid.coords_val t 1 (by decide) rfl
    simp only [k1_cond4, e0, e1]
    word_cmp
   : ∀ t : Fin grid1.N, k1_cond4 (grid1.coords t) = 1#1 ↔ 10 ≤ t.val)

/-! ## Loads of whole buffers -/

section Whole
variable {sp : Space}

theorem full_40x3200 {e : EltTy} (v : View sig .tc sp S40x3200 e) (f : v.ty.Contents (Elt F)) (h) :
    v.readAt (Elt F) (Rect.unit (s := S40x3200) ![0, 0] ![40, 3200] h).toLoadRect f = v.read (Elt F) f := View.readAt_full v f h
theorem full_40x1 {e : EltTy} (v : View sig .tc sp S40x1 e) (f : v.ty.Contents (Elt F)) (h) :
    v.readAt (Elt F) (Rect.unit (s := S40x1) ![0, 0] ![40, 1] h).toLoadRect f = v.read (Elt F) f := View.readAt_full v f h
theorem full_40x128 {e : EltTy} (v : View sig .tc sp S40x128 e) (f : v.ty.Contents (Elt F)) (h) :
    v.readAt (Elt F) (Rect.unit (s := S40x128) ![0, 0] ![40, 128] h).toLoadRect f = v.read (Elt F) f := View.readAt_full v f h

/-- A load of the whole array just after a store of the whole array reads what was stored. -/
theorem cov_40x128 (v : View sig .tc sp S40x128 .f32) (w : Vec F S40x128 .f32) (h h' L) :
    v.readCov (Val := Elt F) (⟨Rect.unit (s := S40x128) ![0, 0] ![40, 128] h', w⟩ :: L)
      (Rect.unit (s := S40x128) ![0, 0] ![40, 128] h).toLoadRect = w := View.readCov_full v h h' w L

/-- A load of the first lane just after a store of the whole array reads the first lane of what was stored. -/
theorem cov_lane (v : View sig .tc sp S40x128 .f32) (w : Vec F S40x128 .f32) (h L) :
    v.readCov (Val := Elt F) (⟨Rect.unit (s := S40x128) ![0, 0] ![40, 128] h, w⟩ :: L)
      (Rect.unit (s := S40x128) ![0, 0] S40x1.size inb_S40x128_S40x1_0_0).toLoadRect = lseCol w := by
  show View.ld (v.read (Elt F) (v.writes (Elt F) v.junk _)) _ = _
  rw [View.read_writes_full v _ h w L]

end Whole

end Cert.KernelIdeal.Hand

end
-- ==== Proof.Ideal.Head.lean ====
module

public import proofs.«01_k».proof.Proof.Ideal.Body

/-! # The first call, the head's product: its body's triple and its pipeline data -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_head_matmul` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S40x4096 := Rect.unit (s := S40x4096) ![0, 0] S40x4096.size inb_S40x4096_S40x4096_0_0
abbrev r0_1 : Rect S1280x4096 := Rect.unit (s := S1280x4096) ![0, 0] S1280x4096.size inb_S1280x4096_S1280x4096_0_0
abbrev r0_2 : Rect S40x1 := Rect.unit (s := S40x1) ![0, 0] S40x1.size inb_S40x1_S40x1_0_0
abbrev r0_3 : Rect S1x1280 := Rect.unit (s := S1x1280) ![0, 0] S1x1280.size inb_S1x1280_S1x1280_0_0
abbrev r0_4 : Rect S40x1280 := Rect.unit (s := S40x1280) ![0, 0] S40x1280.size inb_S40x1280_S40x1280_0_0

/-! ## What the body leaves in each output window's buffer -/

/-- Window 4's staging buffer after the body, from the input windows' blocks: its 1 store as pieces, LAST
    FIRST (Lib/Pipeline/FrameBody.lean `View.canon`; the payloads are the skeleton's). -/
def out0_4 (x0 : Vec F S40x4096 .fp8e4m3) (x1 : Vec F S40x1 .f32) (x2 : Vec F S1280x4096 .fp8e4m3) (x3 : Vec F S1x1280 .f32) : Vec F S40x1280 .f32 :=
  View.canon [⟨r0_4, k0_pay1 (View.ld x0 r0_0) (View.ld x2 r0_1) (View.ld x1 r0_2) (View.ld x3 r0_3)⟩]

/-- Its stores tile the buffer (checked by evaluation), so they cover it. -/
theorem cover0_4 (p0 : Vec F S40x1280 .f32) (y : S40x1280.Idx) :
    ∃ pc ∈ ([⟨r0_4, p0⟩] : List (View.Piece (Elt F) S40x1280 .f32)), y ∈ pc.1.set :=
  View.cover_of_tiled [⟨r0_4, p0⟩] S40x1280.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S40x4096 .fp8e4m3) (harg1 : arg1.IsWhole) (arg2 : Memref sig .tc .vmem S40x1 .f32) (harg2 : arg2.IsWhole) (arg3 : Memref sig .tc .vmem S1280x4096 .fp8e4m3) (harg3 : arg3.IsWhole) (arg4 : Memref sig .tc .vmem S1x1280 .f32) (harg4 : arg4.IsWhole) (arg5 : Memref sig .tc .vmem S40x1280 .f32) (harg5 : arg5.IsWhole)
    (x0 : Vec F S40x4096 .fp8e4m3) (x1 : Vec F S40x1 .f32) (x2 : Vec F S1280x4096 .fp8e4m3) (x3 : Vec F S1x1280 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0_head_matmul i arg1 harg1 arg2 harg2 arg3 harg3 arg4 harg4 arg5 harg5) K := by
  simp only [cc0_head_matmul_eq_skeleton]; unfold cc0_head_matmul_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand

end
-- ==== Proof.Ideal.BodyA.lean ====
module

public import proofs.«01_k».proof.Proof.Ideal.Body

/-! # Point 0 of the epilogue -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Point 0: the running arrays are started, tile 0 is stored and taken into them. -/
theorem run_A (c : Dev nD) (i : grid1.Coords) (arg2 : Memref sig .tc .vmem S40x3200 .f32) (harg2 : arg2.IsWhole) (arg3 : Memref sig .tc .vmem S40x3200 .i32) (harg3 : arg3.IsWhole) (arg4 : Memref sig .tc .vmem S40x3200 .f32) (harg4 : arg4.IsWhole)
    (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole)
    (arg8 : Memref sig .tc .vmem S40x3200 .bf16) (harg8 : arg8.IsWhole) (arg9 : Memref sig .tc .vmem S40x1 .f32) (harg9 : arg9.IsWhole) (arg10 : Memref sig .tc .vmem S40x32000 .f32) (harg10 : arg10.IsWhole)
    (arg11 : Memref sig .tc .vmem S40x128 .f32) (harg11 : arg11.IsWhole) (arg12 : Memref sig .tc .vmem S40x128 .f32) (harg12 : arg12.IsWhole) (arg13 : Memref sig .tc .vmem S40x128 .f32) (harg13 : arg13.IsWhole)
    (g1 : c1 i) (g2 : k1_cond2 i = 1#1) (g3 : ¬k1_cond3 i = 1#1) (g4 : ¬k1_cond4 i = 1#1)
    (x0 : Vec F S40x3200 .f32) (x1 : Vec F S40x3200 .i32) (x2 : Vec F S40x3200 .f32) (x3 x4 x5 : Vec F S40x1 .f32) (y6 : Vec F S40x3200 .bf16) (y7 : Vec F S40x1 .f32) (P : Vec F S40x32000 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare P ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare (VecWindow.put P (k1_off1 i) S40x3200.size (k1_pay9 x1 x3 x0 x2 x4 x5)) ∗ owns (c : Thread nD τ) arg11 fullShare (stepM x0 x1 x2 x3 x4 x5 k1_pay1) ∗ owns (c : Thread nD τ) arg12 fullShare (stepS x0 x1 x2 x3 x4 x5 k1_pay1 k1_pay2) ∗ (∃ d, owns (c : Thread nD τ) arg13 fullShare d)) -∗ K ⟨⟩))
      ⊢ wp frame (wpE (defs₀ (F := F)) Variants.none c none) E (cc1_penalty_logsoftmax i arg2 harg2 arg3 harg3 arg4 harg4 arg5 harg5 arg6 harg6 arg7 harg7 arg8 harg8 arg9 harg9 arg10 harg10 arg11 harg11 arg12 harg12 arg13 harg13) K := by
  simp only [cc1_penalty_logsoftmax_eq_skeleton]; unfold cc1_penalty_logsoftmax_skel
  simp only [k1_part1_eq_skeleton, k1_part2_eq_skeleton, k1_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf2 hf3 hf4 hf5 hf6 hf7 hf8 hf9 hf10
  sl_exec (disch := first | sl_exact g1 | sl_exact g2 | sl_exact g3 | sl_exact g4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    rw [View.read_writes_cons_put _ _ _ _ [] rfl, View.writes_nil]
    simp only [full_40x3200, full_40x1]
  isplitl [H11]
  · iexists _; isplitr; swap; · iexact H11
    ipureintro
    rw [View.read_writes_full]
    unfold stepM newM headM tile
    delta run_A.sl.r_2 run_A.sl.r_1 run_A.sl.r run_A.sl.v52 run_A.sl.H11_1
    simp only [full_40x3200, full_40x1, cov_40x128]
  isplitl [H12]
  · iexists _; isplitr; swap; · iexact H12
    ipureintro
    rw [View.read_writes_full]
    unfold stepS newM headM tile
    delta run_A.sl.r_6 run_A.sl.r_5 run_A.sl.r_4 run_A.sl.r_3 run_A.sl.r_2 run_A.sl.r_1 run_A.sl.r run_A.sl.v52 run_A.sl.v103 run_A.sl.H11_1 run_A.sl.H12_1
    simp only [full_40x3200, full_40x1, cov_40x128]
  iexists _, _; isplitr; swap; · iexact H13
  ipureintro; rfl

end Cert.KernelIdeal.Hand

end
-- ==== Proof.Ideal.BodyB.lean ====
module

public import proofs.«01_k».proof.Proof.Ideal.Body

/-! # Points 1 to 9 of the epilogue -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Points 1 to 9: tile `i` is stored and taken into the running arrays. -/
theorem run_B (c : Dev nD) (i : grid1.Coords) (arg2 : Memref sig .tc .vmem S40x3200 .f32) (harg2 : arg2.IsWhole) (arg3 : Memref sig .tc .vmem S40x3200 .i32) (harg3 : arg3.IsWhole) (arg4 : Memref sig .tc .vmem S40x3200 .f32) (harg4 : arg4.IsWhole)
    (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole)
    (arg8 : Memref sig .tc .vmem S40x3200 .bf16) (harg8 : arg8.IsWhole) (arg9 : Memref sig .tc .vmem S40x1 .f32) (harg9 : arg9.IsWhole) (arg10 : Memref sig .tc .vmem S40x32000 .f32) (harg10 : arg10.IsWhole)
    (arg11 : Memref sig .tc .vmem S40x128 .f32) (harg11 : arg11.IsWhole) (arg12 : Memref sig .tc .vmem S40x128 .f32) (harg12 : arg12.IsWhole) (arg13 : Memref sig .tc .vmem S40x128 .f32) (harg13 : arg13.IsWhole)
    (g1 : ¬c1 i) (g2 : k1_cond2 i = 1#1) (g3 : ¬k1_cond3 i = 1#1) (g4 : ¬k1_cond4 i = 1#1)
    (x0 : Vec F S40x3200 .f32) (x1 : Vec F S40x3200 .i32) (x2 : Vec F S40x3200 .f32) (x3 x4 x5 : Vec F S40x1 .f32) (y6 : Vec F S40x3200 .bf16) (y7 : Vec F S40x1 .f32) (P : Vec F S40x32000 .f32) (mx sm : Vec F S40x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare P ∗ owns (c : Thread nD τ) arg11 fullShare mx ∗ owns (c : Thread nD τ) arg12 fullShare sm ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare (VecWindow.put P (k1_off1 i) S40x3200.size (k1_pay9 x1 x3 x0 x2 x4 x5)) ∗ owns (c : Thread nD τ) arg11 fullShare (stepM x0 x1 x2 x3 x4 x5 mx) ∗ owns (c : Thread nD τ) arg12 fullShare (stepS x0 x1 x2 x3 x4 x5 mx sm) ∗ (∃ d, owns (c : Thread nD τ) arg13 fullShare d)) -∗ K ⟨⟩))
      ⊢ wp frame (wpE (defs₀ (F := F)) Variants.none c none) E (cc1_penalty_logsoftmax i arg2 harg2 arg3 harg3 arg4 harg4 arg5 harg5 arg6 harg6 arg7 harg7 arg8 harg8 arg9 harg9 arg10 harg10 arg11 harg11 arg12 harg12 arg13 harg13) K := by
  simp only [cc1_penalty_logsoftmax_eq_skeleton]; unfold cc1_penalty_logsoftmax_skel
  simp only [k1_part1_eq_skeleton, k1_part2_eq_skeleton, k1_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf2 hf3 hf4 hf5 hf6 hf7 hf8 hf9 hf10 hf11 hf12
  sl_exec (disch := first | sl_exact g1 | sl_exact g2 | sl_exact g3 | sl_exact g4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    rw [View.read_writes_cons_put _ _ _ _ [] rfl, View.writes_nil]
    simp only [full_40x3200, full_40x1]
  isplitl [H11]
  · iexists _; isplitr; swap; · iexact H11
    ipureintro
    rw [View.read_writes_full]
    unfold stepM newM headM tile
    delta run_B.sl.r_3 run_B.sl.r_2 run_B.sl.r_1 run_B.sl.r
    simp only [full_40x3200, full_40x1, full_40x128]
  isplitl [H12]
  · iexists _; isplitr; swap; · iexact H12
    ipureintro
    rw [View.read_writes_full]
    unfold stepS newM headM tile
    delta run_B.sl.r_7 run_B.sl.r_6 run_B.sl.r_5 run_B.sl.r_4 run_B.sl.r_3 run_B.sl.r_2 run_B.sl.r_1 run_B.sl.r
    simp only [full_40x3200, full_40x1, full_40x128]
  iexists _, _; isplitr; swap; · iexact H13
  ipureintro; rfl

end Cert.KernelIdeal.Hand

end
-- ==== Proof.Ideal.BodyC.lean ====
module

public import proofs.«01_k».proof.Proof.Ideal.Body

/-! # Point 10 of the epilogue -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Point 10: the lanes are combined to the log-sum-exp, it is stored, and so is tile 0 of the log probabilities. -/
theorem run_C (c : Dev nD) (i : grid1.Coords) (arg2 : Memref sig .tc .vmem S40x3200 .f32) (harg2 : arg2.IsWhole) (arg3 : Memref sig .tc .vmem S40x3200 .i32) (harg3 : arg3.IsWhole) (arg4 : Memref sig .tc .vmem S40x3200 .f32) (harg4 : arg4.IsWhole)
    (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole)
    (arg8 : Memref sig .tc .vmem S40x3200 .bf16) (harg8 : arg8.IsWhole) (arg9 : Memref sig .tc .vmem S40x1 .f32) (harg9 : arg9.IsWhole) (arg10 : Memref sig .tc .vmem S40x32000 .f32) (harg10 : arg10.IsWhole)
    (arg11 : Memref sig .tc .vmem S40x128 .f32) (harg11 : arg11.IsWhole) (arg12 : Memref sig .tc .vmem S40x128 .f32) (harg12 : arg12.IsWhole) (arg13 : Memref sig .tc .vmem S40x128 .f32) (harg13 : arg13.IsWhole)
    (g1 : ¬c1 i) (g2 : ¬k1_cond2 i = 1#1) (g3 : k1_cond3 i = 1#1) (g4 : k1_cond4 i = 1#1)
    (x0 : Vec F S40x3200 .f32) (x1 : Vec F S40x3200 .i32) (x2 : Vec F S40x3200 .f32) (x3 x4 x5 : Vec F S40x1 .f32) (P : Vec F S40x32000 .f32) (mx sm : Vec F S40x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare P ∗ owns (c : Thread nD τ) arg11 fullShare mx ∗ owns (c : Thread nD τ) arg12 fullShare sm ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay7 (View.ld P (Rect.unit (s := S40x32000) (k1_off2 i) S40x3200.size (k1_off2_inb i g4))) (lseCol (k1_pay6 mx sm mx))) ∗ owns (c : Thread nD τ) arg9 fullShare (k1_pay5 mx sm mx) ∗ owns (c : Thread nD τ) arg10 fullShare P ∗ owns (c : Thread nD τ) arg11 fullShare mx ∗ owns (c : Thread nD τ) arg12 fullShare sm ∗ owns (c : Thread nD τ) arg13 fullShare (k1_pay6 mx sm mx)) -∗ K ⟨⟩))
      ⊢ wp frame (wpE (defs₀ (F := F)) Variants.none c none) E (cc1_penalty_logsoftmax i arg2 harg2 arg3 harg3 arg4 harg4 arg5 harg5 arg6 harg6 arg7 harg7 arg8 harg8 arg9 harg9 arg10 harg10 arg11 harg11 arg12 harg12 arg13 harg13) K := by
  simp only [cc1_penalty_logsoftmax_eq_skeleton]; unfold cc1_penalty_logsoftmax_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%d13, %f13, -, H13⟩, Hk⟩
  subst hf2 hf3 hf4 hf5 hf6 hf7 hf10 hf11 hf12
  sl_exec (disch := first | sl_exact g1 | sl_exact g2 | sl_exact g3 | sl_exact g4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    rw [View.read_writes_full]
    delta run_C.sl.v20 run_C.sl.H13_1
    rw [cov_lane]
    simp only [full_40x128]
    rfl
  isplitl [H9]
  · iexists _; isplitr; swap; · iexact H9
    ipureintro
    rw [View.read_writes_full]
    simp only [full_40x128]
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr; swap; · iexact H13
  ipureintro
  delta run_C.sl.H13_1
  rw [View.read_writes_full]
  simp only [full_40x128]

end Cert.KernelIdeal.Hand

end
-- ==== Proof.Ideal.BodyD.lean ====
module

public import proofs.«01_k».proof.Proof.Ideal.Body

/-! # Points 11 to 19 of the epilogue -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Points 11 to 19: one tile of the log probabilities is stored. -/
theorem run_D (c : Dev nD) (i : grid1.Coords) (arg2 : Memref sig .tc .vmem S40x3200 .f32) (harg2 : arg2.IsWhole) (arg3 : Memref sig .tc .vmem S40x3200 .i32) (harg3 : arg3.IsWhole) (arg4 : Memref sig .tc .vmem S40x3200 .f32) (harg4 : arg4.IsWhole)
    (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole)
    (arg8 : Memref sig .tc .vmem S40x3200 .bf16) (harg8 : arg8.IsWhole) (arg9 : Memref sig .tc .vmem S40x1 .f32) (harg9 : arg9.IsWhole) (arg10 : Memref sig .tc .vmem S40x32000 .f32) (harg10 : arg10.IsWhole)
    (arg11 : Memref sig .tc .vmem S40x128 .f32) (harg11 : arg11.IsWhole) (arg12 : Memref sig .tc .vmem S40x128 .f32) (harg12 : arg12.IsWhole) (arg13 : Memref sig .tc .vmem S40x128 .f32) (harg13 : arg13.IsWhole)
    (g1 : ¬c1 i) (g2 : ¬k1_cond2 i = 1#1) (g3 : ¬k1_cond3 i = 1#1) (g4 : k1_cond4 i = 1#1)
    (x0 : Vec F S40x3200 .f32) (x1 : Vec F S40x3200 .i32) (x2 : Vec F S40x3200 .f32) (x3 x4 x5 : Vec F S40x1 .f32) (y7 : Vec F S40x1 .f32) (P : Vec F S40x32000 .f32) (mx sm lv : Vec F S40x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare P ∗ owns (c : Thread nD τ) arg11 fullShare mx ∗ owns (c : Thread nD τ) arg12 fullShare sm ∗ owns (c : Thread nD τ) arg13 fullShare lv
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay7 (View.ld P (Rect.unit (s := S40x32000) (k1_off2 i) S40x3200.size (k1_off2_inb i g4))) (lseCol lv)) ∗ owns (c : Thread nD τ) arg9 fullShare y7 ∗ owns (c : Thread nD τ) arg10 fullShare P ∗ owns (c : Thread nD τ) arg11 fullShare mx ∗ owns (c : Thread nD τ) arg12 fullShare sm ∗ owns (c : Thread nD τ) arg13 fullShare lv) -∗ K ⟨⟩))
      ⊢ wp frame (wpE (defs₀ (F := F)) Variants.none c none) E (cc1_penalty_logsoftmax i arg2 harg2 arg3 harg3 arg4 harg4 arg5 harg5 arg6 harg6 arg7 harg7 arg8 harg8 arg9 harg9 arg10 harg10 arg11 harg11 arg12 harg12 arg13 harg13) K := by
  simp only [cc1_penalty_logsoftmax_eq_skeleton]; unfold cc1_penalty_logsoftmax_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
  subst hf2 hf3 hf4 hf5 hf6 hf7 hf9 hf10 hf11 hf12 hf13
  sl_exec (disch := first | sl_exact g1 | sl_exact g2 | sl_exact g3 | sl_exact g4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    rw [View.read_writes_full]
    rfl
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists f13; isplitr; · ipureintro; rfl
  iexact H13

end Cert.KernelIdeal.Hand

end
-- ==== Proof.Ideal.Data.lean ====
module

public import proofs.«01_k».proof.Proof.Ideal.BodyA
public import proofs.«01_k».proof.Proof.Ideal.BodyB
public import proofs.«01_k».proof.Proof.Ideal.BodyC
public import proofs.«01_k».proof.Proof.Ideal.BodyD

/-!
# The epilogue's pipeline data

What every buffer of the second call holds at every one of its 20 points, from the arrays it is
entered with: the lane maxima and sums after each tile (`lanes`), the log-sum-exp (`lseV`, `lseC`),
the tiles of the log probabilities (`outLp`), and the invariant that carries the scratch arrays from
point to point (`Phi1`).
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The carried arrays -/

/-- Point `n`, as a point of the grid. -/
def pt (n : ℕ) : Fin cfg1.N := ⟨n % 20, Nat.lt_of_lt_of_eq (Nat.mod_lt _ (by decide)) N_1.symm⟩

theorem pt_val (t : Fin cfg1.N) : pt t.val = t :=
  Fin.ext (Nat.mod_eq_of_lt (Nat.lt_of_lt_of_eq t.isLt N_1))

/-- The penalised logits of tile `n`, as stored. -/
def penT (c : Dev nD) (n : ℕ) : FVec F S40x3200 .f32 :=
  k1_pay9 (iblk1 V c 1 (pt n)) (iblk1 V c 3 (pt n)) (iblk1 V c 0 (pt n)) (iblk1 V c 2 (pt n)) (iblk1 V c 4 (pt n)) (iblk1 V c 5 (pt n))

/-- The lane maxima and the lane sums after point `n`: tiles 0 to `n` taken in, up to the last tile, 9. -/
def lanes (c : Dev nD) : ℕ → Vec F S40x128 .f32 × Vec F S40x128 .f32
  | 0 => (stepM (iblk1 V c 0 (pt 0)) (iblk1 V c 1 (pt 0)) (iblk1 V c 2 (pt 0)) (iblk1 V c 3 (pt 0)) (iblk1 V c 4 (pt 0)) (iblk1 V c 5 (pt 0)) k1_pay1,
      stepS (iblk1 V c 0 (pt 0)) (iblk1 V c 1 (pt 0)) (iblk1 V c 2 (pt 0)) (iblk1 V c 3 (pt 0)) (iblk1 V c 4 (pt 0)) (iblk1 V c 5 (pt 0)) k1_pay1 k1_pay2)
  | n + 1 => if n + 1 < 10 then
      (stepM (iblk1 V c 0 (pt (n + 1))) (iblk1 V c 1 (pt (n + 1))) (iblk1 V c 2 (pt (n + 1))) (iblk1 V c 3 (pt (n + 1))) (iblk1 V c 4 (pt (n + 1))) (iblk1 V c 5 (pt (n + 1))) (lanes c n).1,
        stepS (iblk1 V c 0 (pt (n + 1))) (iblk1 V c 1 (pt (n + 1))) (iblk1 V c 2 (pt (n + 1))) (iblk1 V c 3 (pt (n + 1))) (iblk1 V c 4 (pt (n + 1))) (iblk1 V c 5 (pt (n + 1))) (lanes c n).1 (lanes c n).2)
    else lanes c n

theorem lanes_pos (c : Dev nD) (n : ℕ) (h0 : n ≠ 0) (h : n < 10) : lanes V c n =
    (stepM (iblk1 V c 0 (pt n)) (iblk1 V c 1 (pt n)) (iblk1 V c 2 (pt n)) (iblk1 V c 3 (pt n)) (iblk1 V c 4 (pt n)) (iblk1 V c 5 (pt n)) (lanes V c (n - 1)).1,
      stepS (iblk1 V c 0 (pt n)) (iblk1 V c 1 (pt n)) (iblk1 V c 2 (pt n)) (iblk1 V c 3 (pt n)) (iblk1 V c 4 (pt n)) (iblk1 V c 5 (pt n)) (lanes V c (n - 1)).1 (lanes V c (n - 1)).2) := by
  cases n with
  | zero => exact absurd rfl h0
  | succ n => rw [lanes, if_pos h]; rfl

/-- After the last tile the lanes stay as they are. -/
theorem lanes_late (c : Dev nD) (n : ℕ) (h : 9 ≤ n) : lanes V c n = lanes V c 9 := by
  induction n with
  | zero => omega
  | succ n ih =>
    by_cases h9 : 9 ≤ n
    · rw [lanes, if_neg (by omega), ih h9]
    · have : n = 8 := by omega
      subst this; rfl

/-- The log-sum-exp, on every lane, as kept in scratch. -/
def lseV (c : Dev nD) : Vec F S40x128 .f32 := k1_pay6 (lanes V c 9).1 (lanes V c 9).2 (lanes V c 9).1

/-- The log-sum-exp, the column that is stored as a result. -/
def lseC (c : Dev nD) : Vec F S40x1 .f32 := k1_pay5 (lanes V c 9).1 (lanes V c 9).2 (lanes V c 9).1

/-- The tile of log probabilities that point `n` stores. -/
def outLp (c : Dev nD) (n : ℕ) : Vec F S40x3200 .bf16 := k1_pay7 (penT V c (n % 10)) (lseCol (lseV V c))

/-- Tile `j`'s columns lie in the array. -/
theorem tile_inb (j : ℕ) (h : j < 10) : ∀ a, (![0, 3200 * j] : Fin 2 → ℕ) a + S40x3200.size a ≤ S40x32000.size a := fun a => by
  fin_cases a
  · show 0 + 40 ≤ 40; omega
  · show 3200 * j + 3200 ≤ 32000; omega

/-- The scratch of penalised logits holds the tiles up to `n`. -/
def PenOk (c : Dev nD) (n : ℕ) (P : Vec F S40x32000 .f32) : Prop :=
  ∀ (j : ℕ) (h : j < 10), j ≤ n → VecWindow.window P ![0, 3200 * j] S40x3200.size (tile_inb j h) = penT V c j

/-- Storing tile `n` adds it to those held. -/
theorem penOk_put (c : Dev nD) (n : ℕ) (hn : n < 10) (P : Vec F S40x32000 .f32) (h : n ≠ 0 → PenOk V c (n - 1) P) :
    PenOk V c n (VecWindow.put P ![0, 3200 * n] S40x3200.size (penT V c n)) := fun j hj hjn => by
  by_cases e : j = n
  · subst e; exact VecWindow.window_put_same _ _ _ _ _
  · refine (VecWindow.window_put_of_disjoint P _ _ _ _ _ _ (1 : Fin 2) (.inl ?_)).trans (h (by omega) j hj (by omega))
    show 3200 * j + 3200 ≤ 3200 * n
    omega

/-- Once all ten tiles are held, they are held at any later point. -/
theorem penOk_late (c : Dev nD) (n n' : ℕ) (hn : 9 ≤ n) (P : Vec F S40x32000 .f32) (h : PenOk V c n P) : PenOk V c n' P :=
  fun j hj _ => h j hj (by omega)

/-- The offsets of the store of tile `t`. -/
theorem off1_eq : ∀ t : Fin cfg1.N, k1_off1 (grid1.coords t) = ![0, 3200 * (t.val % 10)] :=
  (by decide +kernel : ∀ t : Fin grid1.N, k1_off1 (grid1.coords t) = ![0, 3200 * (t.val % 10)])

/-- The offsets of the load of tile `t - 10`. -/
theorem off2_eq : ∀ t : Fin cfg1.N, k1_off2 (grid1.coords t) = ![0, 3200 * (t.val % 10)] :=
  (by decide +kernel : ∀ t : Fin grid1.N, k1_off2 (grid1.coords t) = ![0, 3200 * (t.val % 10)])

/-- The load of a tile from a scratch that holds all of them. -/
theorem ld_pen (c : Dev nD) (t : Fin cfg1.N) (n : ℕ) (hn : 9 ≤ n) (P : Vec F S40x32000 .f32) (hP : PenOk V c n P) (inb) :
    View.ld P (Rect.unit (s := S40x32000) (k1_off2 (grid1.coords t)) S40x3200.size inb) = penT V c (t.val % 10) := by
  have h := hP (t.val % 10) (Nat.mod_lt _ (by decide)) (by omega)
  rw [← h]
  revert inb
  rw [off2_eq t]
  intro inb
  rfl

/-! ## The scratch buffers and the invariant -/

abbrev sc0 : Memref sig .tc .vmem S40x32000 .f32 := Memref.whole cc1_scratch0
abbrev sc1 : Memref sig .tc .vmem S40x128 .f32 := Memref.whole cc1_scratch1
abbrev sc2 : Memref sig .tc .vmem S40x128 .f32 := Memref.whole cc1_scratch2
abbrev sc3 : Memref sig .tc .vmem S40x128 .f32 := Memref.whole cc1_scratch3

/-- A buffer held whole at contents nothing names. -/
abbrev ex (c : Dev nD) (b : Ref sig .tc) : sProp 𝕄 :=
  iprop(∃ f : Buf (Elt F) ((c : Thread nD τ).loc b), ((c : Thread nD τ).loc b) ↦{fullShare} f)

/-- What the launch hands the region: the scoped buffers, at anything, and the generator register. -/
theorem PhiA1_eq (c : Dev nD) : (Pipeline.ΦA spec1 c : sProp 𝕄)
    = iprop(iprop(ex c cc0_stg0_0 ∗ ex c cc0_stg1_0 ∗ ex c cc0_stg2_0 ∗ ex c cc0_stg2_1 ∗ ex c cc0_stg3_0 ∗ ex c cc0_stg3_1 ∗ ex c cc0_stg4_0 ∗ ex c cc0_stg4_1
      ∗ (∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)) ∗ (∃ r, prngReg c r)) := by
  unfold Pipeline.ΦA; rw [scopedRest1_eq]; simp only [sc0, sc1, sc2, sc3, ex, owns_whole]; try rfl

/-- The invariant before point `n`: at the first point what the launch hands over; later the scratch as the point
    before left it. -/
def Phi1 (c : Dev nD) : ℕ → sProp 𝕄
  | 0 => Pipeline.ΦA spec1 c
  | n + 1 => iprop(iprop(ex c cc0_stg0_0 ∗ ex c cc0_stg1_0 ∗ ex c cc0_stg2_0 ∗ ex c cc0_stg2_1 ∗ ex c cc0_stg3_0 ∗ ex c cc0_stg3_1 ∗ ex c cc0_stg4_0 ∗ ex c cc0_stg4_1
      ∗ (∃ P, ⌜PenOk V c (n) P⌝ ∗ owns (c : Thread nD τ) sc0 fullShare P) ∗ owns (c : Thread nD τ) sc1 fullShare (lanes V c (n)).1
      ∗ owns (c : Thread nD τ) sc2 fullShare (lanes V c (n)).2 ∗ (∃ L, ⌜10 ≤ n → L = lseV V c⌝ ∗ owns (c : Thread nD τ) sc3 fullShare L)) ∗ (∃ r, prngReg c r))

theorem Phi1_pos (c : Dev nD) (n : ℕ) (h : n ≠ 0) : Phi1 V c n = iprop(iprop(ex c cc0_stg0_0 ∗ ex c cc0_stg1_0 ∗ ex c cc0_stg2_0 ∗ ex c cc0_stg2_1 ∗ ex c cc0_stg3_0 ∗ ex c cc0_stg3_1 ∗ ex c cc0_stg4_0 ∗ ex c cc0_stg4_1
      ∗ (∃ P, ⌜PenOk V c (n - 1) P⌝ ∗ owns (c : Thread nD τ) sc0 fullShare P) ∗ owns (c : Thread nD τ) sc1 fullShare (lanes V c (n - 1)).1
      ∗ owns (c : Thread nD τ) sc2 fullShare (lanes V c (n - 1)).2 ∗ (∃ L, ⌜10 ≤ n - 1 → L = lseV V c⌝ ∗ owns (c : Thread nD τ) sc3 fullShare L)) ∗ (∃ r, prngReg c r)) := by
  cases n with
  | zero => exact absurd rfl h
  | succ n => rfl

theorem Phi1_succ (c : Dev nD) (n : ℕ) : Phi1 V c (n + 1) = iprop(iprop(ex c cc0_stg0_0 ∗ ex c cc0_stg1_0 ∗ ex c cc0_stg2_0 ∗ ex c cc0_stg2_1 ∗ ex c cc0_stg3_0 ∗ ex c cc0_stg3_1 ∗ ex c cc0_stg4_0 ∗ ex c cc0_stg4_1
      ∗ (∃ P, ⌜PenOk V c (n) P⌝ ∗ owns (c : Thread nD τ) sc0 fullShare P) ∗ owns (c : Thread nD τ) sc1 fullShare (lanes V c (n)).1
      ∗ owns (c : Thread nD τ) sc2 fullShare (lanes V c (n)).2 ∗ (∃ L, ⌜10 ≤ n → L = lseV V c⌝ ∗ owns (c : Thread nD τ) sc3 fullShare L)) ∗ (∃ r, prngReg c r)) := rfl

/-! ## The pipeline's proof data -/

/-- The proof data of the epilogue's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outLp V c t.val
    | ⟨7, _⟩ => lseC V c
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outLp V c t.val := by dsimp only [dat1]
theorem after1_7 (c : Dev nD) (t : Fin cfg1.N) : (dat1 V c).after 7 t = lseC V c := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The outputs' schedule -/

theorem idle6 : ∀ t : Fin cfg1.N, cfg1.idle 6 (grid1.coords t) = decide (t.val < 10) :=
  (by decide +kernel : ∀ t : Fin grid1.N, idle1 6 (grid1.coords t) = decide (t.val < 10))
theorem idle7 : ∀ t : Fin cfg1.N, cfg1.idle 7 (grid1.coords t) = decide (t.val ≠ 10) :=
  (by decide +kernel : ∀ t : Fin grid1.N, idle1 7 (grid1.coords t) = decide (t.val ≠ 10))
theorem flush6 : ∀ t : Fin cfg1.N, (cfg1.win 6).flush t = decide (10 ≤ t.val) :=
  (by decide +kernel : ∀ t : Fin grid1.N, win1_6.flush t = decide (10 ≤ t.val))
theorem flush7 : ∀ t : Fin cfg1.N, (cfg1.win 7).flush t = decide (t.val = 19) :=
  (by decide +kernel : ∀ t : Fin grid1.N, win1_7.flush t = decide (t.val = 19))

/-- After point 10 the log-sum-exp's staging buffer holds what that point stored. -/
theorem before1_7 (c : Dev nD) (n : ℕ) (h : 11 ≤ n) (hn : n < cfg1.N) (d) : (dat1 V c).before 7 ⟨n, hn⟩ d = lseC V c := by
  have hN : cfg1.N = 20 := N_1
  induction n with
  | zero => omega
  | succ n ih =>
    rw [(dat1 V c).before_of_pos 7 ⟨n + 1, hn⟩ (Nat.succ_ne_zero n) ((cfg1.win 7).fetch_out rfl _)]
    have e : (⟨(⟨n + 1, hn⟩ : Fin cfg1.N).val - 1, Nat.lt_of_le_of_lt (Nat.sub_le _ _) hn⟩ : Fin cfg1.N) = ⟨n, by omega⟩ := rfl
    rw [flush7, if_neg (by rw [decide_eq_true_eq]; show ¬ n + 1 - 1 = 19; omega)]
    unfold Dat.left
    rw [idle7]
    by_cases h10 : n = 10
    · rw [show decide ((⟨(⟨n + 1, hn⟩ : Fin cfg1.N).val - 1, Nat.lt_of_le_of_lt (Nat.sub_le _ _) hn⟩ : Fin cfg1.N).val ≠ 10) = false from by
        simp; omega]
      rfl
    · rw [show decide ((⟨(⟨n + 1, hn⟩ : Fin cfg1.N).val - 1, Nat.lt_of_le_of_lt (Nat.sub_le _ _) hn⟩ : Fin cfg1.N).val ≠ 10) = true from by
        simp; omega]
      exact ih (by omega) (by omega)

end Region

end Cert.KernelIdeal.Hand

end
-- ==== Proof.Ideal.Sound.lean ====
module

public import proofs.«01_k».proof.Proof.Ideal.Data

/-!
# The epilogue's body meets its pipeline data

At each of the 20 points the body, handed the windows and the invariant of `Data.lean`, returns them
as that module states.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! What the body leaves in an input's buffer: its block. -/

theorem leaves1_0 (c : Dev nD) (t : Fin cfg1.N) : (dat1 V c).leavesExact 0 t = owns (c : Thread nD τ) (st1_0 t) fullShare (iblk1 V c 0 t) := by
  rw [Dat.leavesExact, show cfg1.idle 0 (cfg1.grid.coords t) = false from rfl]; dsimp only; rw [after1_0]
theorem leaves1_1 (c : Dev nD) (t : Fin cfg1.N) : (dat1 V c).leavesExact 1 t = owns (c : Thread nD τ) (st1_1 t) fullShare (iblk1 V c 1 t) := by
  rw [Dat.leavesExact, show cfg1.idle 1 (cfg1.grid.coords t) = false from rfl]; dsimp only; rw [after1_1]
theorem leaves1_2 (c : Dev nD) (t : Fin cfg1.N) : (dat1 V c).leavesExact 2 t = owns (c : Thread nD τ) (st1_2 t) fullShare (iblk1 V c 2 t) := by
  rw [Dat.leavesExact, show cfg1.idle 2 (cfg1.grid.coords t) = false from rfl]; dsimp only; rw [after1_2]
theorem leaves1_3 (c : Dev nD) (t : Fin cfg1.N) : (dat1 V c).leavesExact 3 t = owns (c : Thread nD τ) (st1_3 t) fullShare (iblk1 V c 3 t) := by
  rw [Dat.leavesExact, show cfg1.idle 3 (cfg1.grid.coords t) = false from rfl]; dsimp only; rw [after1_3]
theorem leaves1_4 (c : Dev nD) (t : Fin cfg1.N) : (dat1 V c).leavesExact 4 t = owns (c : Thread nD τ) (st1_4 t) fullShare (iblk1 V c 4 t) := by
  rw [Dat.leavesExact, show cfg1.idle 4 (cfg1.grid.coords t) = false from rfl]; dsimp only; rw [after1_4]
theorem leaves1_5 (c : Dev nD) (t : Fin cfg1.N) : (dat1 V c).leavesExact 5 t = owns (c : Thread nD τ) (st1_5 t) fullShare (iblk1 V c 5 t) := by
  rw [Dat.leavesExact, show cfg1.idle 5 (cfg1.grid.coords t) = false from rfl]; dsimp only; rw [after1_5]

/-- After point 10 the log-sum-exp's buffer, as the body leaves it, is the buffer as it was handed. -/
theorem leaves1_7_late (c : Dev nD) (t : Fin cfg1.N) (h : 11 ≤ t.val) (d) :
    owns (c : Thread nD τ) (st1_7 t) fullShare ((dat1 V c).before 7 t d) ⊢ ((dat1 V c).leavesExact 7 t : sProp 𝕄) := by
  have hb : (dat1 V c).before 7 t d = lseC V c := before1_7 V c t.val h t.isLt d
  by_cases h19 : t.val = 19
  · rw [Dat.leavesExact, show cfg1.idle 7 (cfg1.grid.coords t) = true from by rw [show cfg1.grid.coords t = grid1.coords t from rfl, idle7]; simp; omega,
      show (cfg1.win 7).flush t = true from by rw [flush7]; simp [h19]]
    dsimp only
    rw [after1_7, hb]
  · rw [(dat1 V c).leavesExact_idle 7 t (by rw [show cfg1.grid.coords t = grid1.coords t from rfl, idle7]; simp; omega) (by rw [flush7]; simp; omega)]
    iintro H; iexists d; iexact H

/-- The lanes after point 0, at the point's own blocks. -/
theorem lanes_zero (c : Dev nD) (t : Fin cfg1.N) (h0 : t.val = 0) : lanes V c t.val =
    (stepM (iblk1 V c 0 t) (iblk1 V c 1 t) (iblk1 V c 2 t) (iblk1 V c 3 t) (iblk1 V c 4 t) (iblk1 V c 5 t) k1_pay1, stepS (iblk1 V c 0 t) (iblk1 V c 1 t) (iblk1 V c 2 t) (iblk1 V c 3 t) (iblk1 V c 4 t) (iblk1 V c 5 t) k1_pay1 k1_pay2) := by
  have e : pt 0 = t := by rw [← h0, pt_val]
  rw [h0, lanes, e]

/-- The lanes after a later point of the first pass, at the point's own blocks. -/
theorem lanes_step (c : Dev nD) (t : Fin cfg1.N) (h0 : t.val ≠ 0) (h1 : t.val < 10) : lanes V c t.val =
    (stepM (iblk1 V c 0 t) (iblk1 V c 1 t) (iblk1 V c 2 t) (iblk1 V c 3 t) (iblk1 V c 4 t) (iblk1 V c 5 t) (lanes V c (t.val - 1)).1, stepS (iblk1 V c 0 t) (iblk1 V c 1 t) (iblk1 V c 2 t) (iblk1 V c 3 t) (iblk1 V c 4 t) (iblk1 V c 5 t) (lanes V c (t.val - 1)).1 (lanes V c (t.val - 1)).2) := by
  rw [lanes_pos V c t.val h0 h1, pt_val]

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- Point 0. -/
theorem sound_A (c : Dev nD) (t : Fin cfg1.N) (h0 : t.val = 0) :
    bodyPre1 V c t ⊢ wp frame (wpE (defs₀ (F := F)) Variants.none c none) Set.univ (bodyAt1 t) (fun _ => bodyPost1 V c t) := by
  have hN : t.val < 20 := Nat.lt_of_lt_of_eq t.isLt N_1
  have h1 : t.val < 10 := by omega
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = Phi1 V c t.val from rfl, show (dat1 V c).Φ t.succ = Phi1 V c (t.val + 1) from rfl, Phi1_succ, show Phi1 V c t.val = Phi1 V c 0 from by rw [h0], show Phi1 V c 0 = Pipeline.ΦA spec1 c from rfl, PhiA1_eq]
  rw [leaves1_0, leaves1_1, leaves1_2, leaves1_3, leaves1_4, leaves1_5, (dat1 V c).leavesExact_idle 6 t (by rw [show cfg1.grid.coords t = grid1.coords t from rfl, idle6]; simp; omega) (by rw [flush6]; simp; omega),
    (dat1 V c).leavesExact_idle 7 t (by rw [show cfg1.grid.coords t = grid1.coords t from rfl, idle7]; simp; omega) (by rw [flush7]; simp; omega)]
  iintro ⟨⟨⟨E0, E1, E2, E3, E4, E5, E6, E7, ⟨%P, HS0⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩

  iapply (run_A c (grid1.coords t) _ _ _ _ _ _ _ _ _ _ _ _ _ _ _ _ _ _ _ _ _ _ _ _ ((hc1 t).mpr h0) ((hc2 t).mpr h1) (fun h => by have := (hc3 t).mp h; omega) (fun h => by have := (hc4 t).mp h; omega) (iblk1 V c 0 t) (iblk1 V c 1 t) (iblk1 V c 2 t) (iblk1 V c 3 t) (iblk1 V c 4 t) (iblk1 V c 5 t) _ _ P Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [E0 E1 E2 E3 E4 E5 E6 E7 HS0 HS1 HS2 HS3 Hg]
  · isplitr [Hg]; swap; · iexact Hg
    isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [HS0]
    · iexists _; isplitr; swap; · iexact HS0
      ipureintro
      rw [off1_eq t, Nat.mod_eq_of_lt h1]
      have hput := penOk_put V c t.val h1 P (fun h => absurd h0 h)
      unfold penT at hput
      rw [pt_val] at hput
      exact hput
    rw [lanes_zero V c t h0]
    isplitl [HS1]; · iexact HS1
    isplitl [HS2]; · iexact HS2
    icases HS3 with ⟨%L, HS3⟩
    iexists L; isplitr; swap; · iexact HS3
    ipureintro; intro h; omega
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iexists d7; iexact H7

/-- Points 1 to 9. -/
theorem sound_B (c : Dev nD) (t : Fin cfg1.N) (h0 : t.val ≠ 0) (h1 : t.val < 10) :
    bodyPre1 V c t ⊢ wp frame (wpE (defs₀ (F := F)) Variants.none c none) Set.univ (bodyAt1 t) (fun _ => bodyPost1 V c t) := by
  have hN : t.val < 20 := Nat.lt_of_lt_of_eq t.isLt N_1

  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = Phi1 V c t.val from rfl, show (dat1 V c).Φ t.succ = Phi1 V c (t.val + 1) from rfl, Phi1_succ, Phi1_pos V c t.val h0]
  rw [leaves1_0, leaves1_1, leaves1_2, leaves1_3, leaves1_4, leaves1_5, (dat1 V c).leavesExact_idle 6 t (by rw [show cfg1.grid.coords t = grid1.coords t from rfl, idle6]; simp; omega) (by rw [flush6]; simp; omega),
    (dat1 V c).leavesExact_idle 7 t (by rw [show cfg1.grid.coords t = grid1.coords t from rfl, idle7]; simp; omega) (by rw [flush7]; simp; omega)]
  iintro ⟨⟨⟨E0, E1, E2, E3, E4, E5, E6, E7, ⟨%P, %hP, HS0⟩, HS1, HS2, ⟨%L0, -, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩

  iapply (run_B c (grid1.coords t) _ _ _ _ _ _ _ _ _ _ _ _ _ _ _ _ _ _ _ _ _ _ _ _ (fun h => h0 ((hc1 t).mp h)) ((hc2 t).mpr h1) (fun h => by have := (hc3 t).mp h; omega) (fun h => by have := (hc4 t).mp h; omega) (iblk1 V c 0 t) (iblk1 V c 1 t) (iblk1 V c 2 t) (iblk1 V c 3 t) (iblk1 V c 4 t) (iblk1 V c 5 t) _ _ P _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexists _; iexact HS3
  iintro ⟨H0, H1, H2, H3, H4, H5, H6, H7, HS0, HS1, HS2, HS3⟩
  isplitl [E0 E1 E2 E3 E4 E5 E6 E7 HS0 HS1 HS2 HS3 Hg]
  · isplitr [Hg]; swap; · iexact Hg
    isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [HS0]
    · iexists _; isplitr; swap; · iexact HS0
      ipureintro
      rw [off1_eq t, Nat.mod_eq_of_lt h1]
      have hput := penOk_put V c t.val h1 P (fun _ => hP)
      unfold penT at hput
      rw [pt_val] at hput
      exact hput
    rw [lanes_step V c t h0 h1]
    isplitl [HS1]; · iexact HS1
    isplitl [HS2]; · iexact HS2
    icases HS3 with ⟨%L, HS3⟩
    iexists L; isplitr; swap; · iexact HS3
    ipureintro; intro h; omega
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iexists d7; iexact H7

/-- Point 10. -/
theorem sound_C (c : Dev nD) (t : Fin cfg1.N) (h0 : t.val = 10) :
    bodyPre1 V c t ⊢ wp frame (wpE (defs₀ (F := F)) Variants.none c none) Set.univ (bodyAt1 t) (fun _ => bodyPost1 V c t) := by
  have hN : t.val < 20 := Nat.lt_of_lt_of_eq t.isLt N_1

  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = Phi1 V c t.val from rfl, show (dat1 V c).Φ t.succ = Phi1 V c (t.val + 1) from rfl, Phi1_succ, Phi1_pos V c t.val (by omega), lanes_late V c (t.val - 1) (by omega)]
  rw [leaves1_0, leaves1_1, leaves1_2, leaves1_3, leaves1_4, leaves1_5, show (dat1 V c).leavesExact 6 t = owns (c : Thread nD τ) (st1_6 t) fullShare (outLp V c t.val) from by
    rw [Dat.leavesExact, show cfg1.idle 6 (cfg1.grid.coords t) = false from by rw [show cfg1.grid.coords t = grid1.coords t from rfl, idle6]; simp; omega]; dsimp only; rw [after1_6],
    show (dat1 V c).leavesExact 7 t = owns (c : Thread nD τ) (st1_7 t) fullShare (lseC V c) from by
    rw [Dat.leavesExact, show cfg1.idle 7 (cfg1.grid.coords t) = false from by rw [show cfg1.grid.coords t = grid1.coords t from rfl, idle7]; simp; omega]; dsimp only; rw [after1_7]]
  iintro ⟨⟨⟨E0, E1, E2, E3, E4, E5, E6, E7, ⟨%P, %hP, HS0⟩, HS1, HS2, ⟨%L0, -, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩

  iapply (run_C c (grid1.coords t) _ _ _ _ _ _ _ _ _ _ _ _ _ _ _ _ _ _ _ _ _ _ _ _ (fun h => by have := (hc1 t).mp h; omega) (fun h => by have := (hc2 t).mp h; omega) ((hc3 t).mpr h0) ((hc4 t).mpr (by omega)) (iblk1 V c 0 t) (iblk1 V c 1 t) (iblk1 V c 2 t) (iblk1 V c 3 t) (iblk1 V c 4 t) (iblk1 V c 5 t) P _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexists _; iexact HS3
  iintro ⟨H0, H1, H2, H3, H4, H5, H6, H7, HS0, HS1, HS2, HS3⟩
  isplitl [E0 E1 E2 E3 E4 E5 E6 E7 HS0 HS1 HS2 HS3 Hg]
  · isplitr [Hg]; swap; · iexact Hg
    isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [HS0]
    · iexists P; isplitr; swap; · iexact HS0
      ipureintro; exact penOk_late V c (t.val - 1) t.val (by omega) P hP
    rw [lanes_late V c t.val (by omega)]
    isplitl [HS1]; · iexact HS1
    isplitl [HS2]; · iexact HS2
    iexists _; isplitr; swap; · iexact HS3
    ipureintro; intro _; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · rw [ld_pen V c t (t.val - 1) (by omega) P hP]; iexact H6
  iexact H7

/-- Points 11 to 19. At the last one the log-sum-exp is written back, and its buffer is required to hold it. -/
theorem sound_D (c : Dev nD) (t : Fin cfg1.N) (h0 : 11 ≤ t.val) :
    bodyPre1 V c t ⊢ wp frame (wpE (defs₀ (F := F)) Variants.none c none) Set.univ (bodyAt1 t) (fun _ => bodyPost1 V c t) := by
  have hN : t.val < 20 := Nat.lt_of_lt_of_eq t.isLt N_1

  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = Phi1 V c t.val from rfl, show (dat1 V c).Φ t.succ = Phi1 V c (t.val + 1) from rfl, Phi1_succ, Phi1_pos V c t.val (by omega), lanes_late V c (t.val - 1) (by omega)]
  rw [leaves1_0, leaves1_1, leaves1_2, leaves1_3, leaves1_4, leaves1_5, show (dat1 V c).leavesExact 6 t = owns (c : Thread nD τ) (st1_6 t) fullShare (outLp V c t.val) from by
    rw [Dat.leavesExact, show cfg1.idle 6 (cfg1.grid.coords t) = false from by rw [show cfg1.grid.coords t = grid1.coords t from rfl, idle6]; simp; omega]; dsimp only; rw [after1_6]]
  iintro ⟨⟨⟨E0, E1, E2, E3, E4, E5, E6, E7, ⟨%P, %hP, HS0⟩, HS1, HS2, ⟨%L0, %hL, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hL0 : L0 = lseV V c := hL (by omega)
  iapply (run_D c (grid1.coords t) _ _ _ _ _ _ _ _ _ _ _ _ _ _ _ _ _ _ _ _ _ _ _ _ (fun h => by have := (hc1 t).mp h; omega) (fun h => by have := (hc2 t).mp h; omega) (fun h => by have := (hc3 t).mp h; omega) ((hc4 t).mpr (by omega)) (iblk1 V c 0 t) (iblk1 V c 1 t) (iblk1 V c 2 t) (iblk1 V c 3 t) (iblk1 V c 4 t) (iblk1 V c 5 t) _ P _ _ L0 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [E0 E1 E2 E3 E4 E5 E6 E7 HS0 HS1 HS2 HS3 Hg]
  · isplitr [Hg]; swap; · iexact Hg
    isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [HS0]
    · iexists P; isplitr; swap; · iexact HS0
      ipureintro; exact penOk_late V c (t.val - 1) t.val (by omega) P hP
    rw [lanes_late V c t.val (by omega)]
    isplitl [HS1]; · iexact HS1
    isplitl [HS2]; · iexact HS2
    iexists _; isplitr; swap; · iexact HS3
    ipureintro; intro _; exact hL0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · rw [ld_pen V c t (t.val - 1) (by omega) P hP, hL0]; iexact H6
  iapply (leaves1_7_late V c t h0 d7); iexact H7

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val = 0
  · exact sound_A V c t h0
  by_cases h1 : t.val < 10
  · exact sound_B V c t h0 h1
  by_cases h2 : t.val = 10
  · exact sound_C V c t h2
  exact sound_D V c t (by omega)

/-- The body table's row at point `t`. -/
theorem defs₀_row1 (t : Fin cfg1.N) :
    defs₀ (F := F) .tc cfg1.body (cfg1.bodyArgs t (cfg1.slots t)) = bodyAt1 t := by
  unfold defs₀; rw [Defs.onTc_tc]

/-- The pipeline's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The invariant after the last point gives the scoped buffers and the generator register back. -/
theorem Phi1_out (c : Dev nD) : (dat1 V c).Φ (Fin.last _) ⊢ (Pipeline.ΦA spec1 c : sProp 𝕄) := by
  rw [show (dat1 V c).Φ (Fin.last _) = Phi1 V c (Fin.last cfg1.N).val from rfl, Phi1_pos V c _ (by rw [Fin.val_last, show cfg1.N = 20 from N_1]; decide), PhiA1_eq]
  iintro ⟨⟨E0, E1, E2, E3, E4, E5, E6, E7, ⟨%P, %hP, HS0⟩, HS1, HS2, ⟨%L0, %hL, HS3⟩⟩, Hg⟩
  isplitr [Hg]; swap; · iexact Hg
  isplitl [E0]; · iexact E0
  isplitl [E1]; · iexact E1
  isplitl [E2]; · iexact E2
  isplitl [E3]; · iexact E3
  isplitl [E4]; · iexact E4
  isplitl [E5]; · iexact E5
  isplitl [E6]; · iexact E6
  isplitl [E7]; · iexact E7
  isplitl [HS0]; · iexists P; iexact HS0
  isplitl [HS1]; · iexists _; iexact HS1
  isplitl [HS2]; · iexists _; iexact HS2
  iexists _; iexact HS3

end Region

end Cert.KernelIdeal.Hand

end
-- ==== Proof.Ideal.Run.lean ====
module

public import proofs.«01_k».proof.Proof.Ideal.Head
public import proofs.«01_k».proof.Proof.Ideal.Sound
public import Idealize.ShloMosaic.Lib.Pipeline.RegionsLoop
public import Idealize.ShloMosaic.Lib.Pipeline.FrameSuffix

/-! # The program's run: both calls and the host operations between them -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_v4, main_v5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from Phi1_out (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of the program ends, without fault, with the arguments as launched, both results at
    what the epilogue's pipeline leaves in their arrays, and every semaphore counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v6_0) = (dat1 (V3 m ρ) c).arrAt 6 cfg1.N
      ∧ r.2.mem ((c.tc : Thread nD τ).loc main_v6_1) = (dat1 (V3 m ρ) c).arrAt 7 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_v6_0 (by decide))).trans (W4_arr m ρ c 6),
       (h c _ (mem_uc main_v6_1 (by decide))).trans (W4_arr m ρ c 7)⟩), funext fun g => hz g (.inr (no_unscoped g.2))⟩)
/-- The frame: the arguments end as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1⟩, h.2⟩) (run m ρ)

end Cert.KernelIdeal.Hand

end
-- ==== Proof.Reads.lean ====
/-
  Hand-written, untrusted. Layout operations read at an index: the broadcasts and shape casts that the programs
  use, at shapes of any extents.
-/
module

public import Idealize.ShloMosaic.Lib.Pipeline.Value
public import Idealize.ShloMosaic.Lib.ValueIdx
public import Idealize.ShloMosaic.Lib.ValueLayout
public import Idealize.ShloMosaic.Lib.MatmulPlain

@[expose] public section

namespace Cert.Proof.Reads

open Idealize.ShloMosaic Idealize.ShloMosaic.ValueIdx

variable {α : Type}

/-- A column `[a, 1]` broadcast to `[a, b]` reads, at `(p, c)`, the column at `p`. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `[a, 1, 1]` broadcast to `[a, 1, b]` reads, at `(p, 0, c)`, the operand at `p`. -/
theorem bcast_a11 {a b : ℕ} (v : (⟨3, ![a, 1, 1]⟩ : Shape).Idx → α) (h : (⟨3, ![a, 1, 1]⟩ : Shape).Broadcasts ⟨3, ![a, 1, b]⟩)
    (p : Fin a) (c : Fin b) : broadcastTo ⟨3, ![a, 1, b]⟩ v h (ix3 p (0 : Fin 1) c) = v (ix3 p (0 : Fin 1) (0 : Fin 1)) := by
  refine broadcastTo_apply v h _ (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- `[1, 1, b]` broadcast to `[a, 1, b]` reads, at `(p, 0, c)`, the operand at `c`. -/
theorem bcast_11b {a b : ℕ} (v : (⟨3, ![1, 1, b]⟩ : Shape).Idx → α) (h : (⟨3, ![1, 1, b]⟩ : Shape).Broadcasts ⟨3, ![a, 1, b]⟩)
    (p : Fin a) (c : Fin b) : broadcastTo ⟨3, ![a, 1, b]⟩ v h (ix3 p (0 : Fin 1) c) = v (ix3 (0 : Fin 1) (0 : Fin 1) c) := by
  refine broadcastTo_apply v h _ (ix3 (0 : Fin 1) (0 : Fin 1) c) fun ax => ?_
  match ax with
  | ⟨0, _⟩ => rfl
  | ⟨1, _⟩ => rfl
  | ⟨2, _⟩ =>
    show c.val = if b = 1 then 0 else c.val
    split
    · have := c.isLt; omega
    · rfl

/-- `[a, 1]` recast as `[a, 1, 1]`. -/
theorem cast_a1_a11 {a : ℕ} (v : (⟨2, ![a, 1]⟩ : Shape).Idx → α) (h : (⟨2, ![a, 1]⟩ : Shape).ShapeCasts ⟨3, ![a, 1, 1]⟩)
    (p : Fin a) : shapeCast ⟨3, ![a, 1, 1]⟩ v h (ix3 p (0 : Fin 1) (0 : Fin 1)) = v (ix2 p (0 : Fin 1)) := by
  refine shapeCast_apply v h _ _ ?_
  rw [Shape.rowMajor_val_two, Shape.rowMajor_val_three]
  show p.val * 1 + 0 = (p.val * 1 + 0) * 1 + 0
  omega

/-- `[b]` recast as `[1, 1, b]`. -/
theorem cast_b_11b {b : ℕ} (v : (⟨1, ![b]⟩ : Shape).Idx → α) (h : (⟨1, ![b]⟩ : Shape).ShapeCasts ⟨3, ![1, 1, b]⟩)
    (c : Fin b) : shapeCast ⟨3, ![1, 1, b]⟩ v h (ix3 (0 : Fin 1) (0 : Fin 1) c) = v (ix1 c) := by
  refine shapeCast_apply v h _ _ ?_
  rw [Shape.rowMajor_val_one, Shape.rowMajor_val_three]
  show c.val = (0 * 1 + 0) * b + c.val
  omega

/-- `[a, 1, b]` recast as `[a, b]`. -/
theorem cast_a1b_ab {a b : ℕ} (v : (⟨3, ![a, 1, b]⟩ : Shape).Idx → α) (h : (⟨3, ![a, 1, b]⟩ : Shape).ShapeCasts ⟨2, ![a, b]⟩)
    (p : Fin a) (c : Fin b) : shapeCast ⟨2, ![a, b]⟩ v h (ix2 p c) = v (ix3 p (0 : Fin 1) c) := by
  refine shapeCast_apply v h _ _ ?_
  rw [Shape.rowMajor_val_two, Shape.rowMajor_val_three]
  show (p.val * 1 + 0) * b + c.val = p.val * b + c.val
  rw [Nat.mul_one, Nat.add_zero]

/-- `[a, b]` recast as `[a, 1, b]`. -/
theorem cast_ab_a1b {a b : ℕ} (v : (⟨2, ![a, b]⟩ : Shape).Idx → α) (h : (⟨2, ![a, b]⟩ : Shape).ShapeCasts ⟨3, ![a, 1, b]⟩)
    (p : Fin a) (c : Fin b) : shapeCast ⟨3, ![a, 1, b]⟩ v h (ix3 p (0 : Fin 1) c) = v (ix2 p c) := by
  refine shapeCast_apply v h _ _ ?_
  rw [Shape.rowMajor_val_two, Shape.rowMajor_val_three]
  show p.val * b + c.val = (p.val * 1 + 0) * b + c.val
  rw [Nat.mul_one, Nat.add_zero]

/-- A vector read as a column. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) := by
  refine shapeCast_apply v h _ _ ?_
  rw [Shape.rowMajor_val_one, Shape.rowMajor_val_two]
  show p.val = p.val * 1 + u.val
  have := u.isLt
  omega

/-- A vector read as a `[a, 1, 1]` array. -/
theorem cast_a_a11 {a : ℕ} (v : (⟨1, ![a]⟩ : Shape).Idx → α) (h : (⟨1, ![a]⟩ : Shape).ShapeCasts ⟨3, ![a, 1, 1]⟩)
    (p : Fin a) : shapeCast ⟨3, ![a, 1, 1]⟩ v h (ix3 p (0 : Fin 1) (0 : Fin 1)) = v (ix1 p) := by
  refine shapeCast_apply v h _ _ ?_
  rw [Shape.rowMajor_val_one, Shape.rowMajor_val_three]
  show p.val = (p.val * 1 + 0) * 1 + 0
  omega

end Cert.Proof.Reads
-- ==== Proof.Logits.lean ====
module

public import proofs.«01_k».proof.Proof.Gen.KernelIdeal.Skeleton
public import proofs.«01_k».proof.Proof.Gen.ReferenceIdeal.Skeleton
public import proofs.«01_k».proof.Proof.Reads

/-!
# One logit

What one block of the first call computes and what the reference's product computes, at the extended reals.
-/

@[expose] public section

noncomputable section

namespace Cert.Proof.Logits

open Idealize.ShloMosaic Idealize.ShloMosaic.ValueIdx Cert.Proof.Reads
open scoped BigOperators

/-- One logit: the dot product of a row of activations with a row of weights, times the two scales. -/
def logit {K : ℕ} (x w : Fin K → EReal) (xs ws : EReal) : EReal := (∑ k : Fin K, x k * w k) * xs * ws

/-- One block of the kernel, entry by entry: the logit of row `r` and the block's column `v`. -/
theorem block_apply (x : Vec Ideal KernelIdeal.S40x4096 .fp8e4m3) (w : Vec Ideal KernelIdeal.S1280x4096 .fp8e4m3)
    (xs : Vec Ideal KernelIdeal.S40x1 .f32) (ws : Vec Ideal KernelIdeal.S1x1280 .f32) (r : Fin 40) (v : Fin 1280) :
    KernelIdeal.Gen.k0_pay1 x w xs ws (ix2 r v)
      = logit (fun k : Fin 4096 => x (ix2 r k)) (fun k => w (ix2 v k)) (xs (ix2 r (0 : Fin 1))) (ws (ix2 (0 : Fin 1) v)) := by
  unfold KernelIdeal.Gen.k0_pay1 logit
  simp only [shapeCast_self]
  rw [mulf_apply, mulf_apply, broadcastTo_1b_ab_apply, bcast_col]
  refine congrArg (· * _ * _) ?_
  refine (Ideal.matmul_transposedRhs_apply (M := 40) (K := 4096) (N := 1280) none x w _ r v).trans ?_
  rw [constant_apply, Ideal.ofBits_zero_f32, zero_add]

/-- The reference's product, entry by entry: the dot product of row `r` of the activations and row `v` of the weights. -/
theorem ref_dot (x : Vec Ideal ReferenceIdeal.S40x1x4096 .fp8e4m3) (w : Vec Ideal ReferenceIdeal.S32000x4096 .fp8e4m3)
    (acc : FVec Ideal ReferenceIdeal.S40x1x32000 .f32) (r : Fin 40) (v : Fin 32000) :
    FloatOps.matmul (φ₁ := .fp8e4m3) (φ₂ := .fp8e4m3) ReferenceIdeal.dot_S40x1x4096_S32000x4096_S40x1x32000_2_1_01_0_n_n none x w acc (ix3 r (0 : Fin 1) v)
      = acc (ix3 r (0 : Fin 1) v) + ∑ k : Fin 4096, x (ix3 r (0 : Fin 1) k) * w (ix2 v k) := by
  have hr : ReferenceIdeal.dot_S40x1x4096_S32000x4096_S40x1x32000_2_1_01_0_n_n.contr.rank = 1 := rfl
  have hs : ReferenceIdeal.dot_S40x1x4096_S32000x4096_S40x1x32000_2_1_01_0_n_n.contr.size ⟨0, by omega⟩ = 4096 := rfl
  rw [Ideal.matmul_apply, ← Equiv.sum_comp (contrEquiv1 _ 4096 hr hs).symm]
  refine congrArg (acc _ + ·) (Finset.sum_congr rfl fun k _ => ?_)
  have hk := contrEquiv1_symm_val _ 4096 hr hs k
  have el : ReferenceIdeal.dot_S40x1x4096_S32000x4096_S40x1x32000_2_1_01_0_n_n.lhsIdx (ix3 r (0 : Fin 1) v)
      ((contrEquiv1 _ 4096 hr hs).symm k) = ix3 r (0 : Fin 1) k := by
    funext a; apply Fin.ext
    match a with
    | ⟨0, _⟩ => rfl
    | ⟨1, _⟩ => rfl
    | ⟨2, _⟩ => exact hk
  have er : ReferenceIdeal.dot_S40x1x4096_S32000x4096_S40x1x32000_2_1_01_0_n_n.rhsIdx (ix3 r (0 : Fin 1) v)
      ((contrEquiv1 _ 4096 hr hs).symm k) = ix2 v k := by
    funext a; apply Fin.ext
    match a with
    | ⟨0, _⟩ => rfl
    | ⟨1, _⟩ => exact hk
  rw [el, er]

end Cert.Proof.Logits

end
-- ==== Proof.HeadValue.lean ====
module

public import proofs.«01_k».proof.Proof.Logits
public import proofs.«01_k».proof.Proof.Ideal.Run
public import Idealize.ShloMosaic.Lib.Claim

/-!
# The array of logits that the first call leaves
-/

@[expose] public section

set_option maxRecDepth 16384

noncomputable section

namespace Cert.Proof.HeadValue

open Idealize.ShloMosaic Idealize.ShloMosaic.ValueIdx Cert.Proof.Reads Cert.Proof.Logits
open Cert.KernelIdeal Cert.KernelIdeal.Gen Cert.KernelIdeal.Hand Idealize.ShloMosaic.TcCoe
open Idealize.ShloMosaic.Pipeline (Dat)

variable (m : (ℓ : Loc nD τ sig) → Buf (Elt Ideal) ℓ) (ρ : Dev nD → PrngReg)

/-- The array of logits of the four arguments. -/
def logits (x : Vec Ideal S40x1x4096 .fp8e4m3) (xs : Vec Ideal S40x1 .f32) (w : Vec Ideal S32000x4096 .fp8e4m3)
    (ws : Vec Ideal S32000 .f32) : Vec Ideal S40x32000 .f32 := fun i =>
  logit (fun k : Fin 4096 => x (ix3 (i 0) (0 : Fin 1) k)) (fun k => w (ix2 (i 1) k)) (xs (ix2 (i 0) (0 : Fin 1))) (ws (ix1 (i 1)))

/-- The region finds the activations as the host's reshape leaves them. -/
theorem V_v0 (c : Dev nD) : V1 m ρ c main_v0 = shapeCast S40x4096 (m ((c : Thread nD τ).loc main_arg0)) shapeCasts_S40x1x4096_S40x4096 := by
  unfold_abbrev_sides
  after_results
  rfl

/-- The region finds the weights' scales as the host's reshape leaves them. -/
theorem V_v1 (c : Dev nD) : V1 m ρ c main_v1 = shapeCast S1x32000 (m ((c : Thread nD τ).loc main_arg3)) shapeCasts_S32000_S1x32000 := by
  unfold_abbrev_sides
  after_results
  rfl

/-- The windows' block indices at each of the 25 points. -/
theorem idx : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = t.val)
    ∧ (win0_4.index t (0 : Fin 2) = 0 ∧ win0_4.index t (1 : Fin 2) = t.val) :=
  (by decide +kernel : ∀ t : Fin grid0.N, _)

/-- Column `v` of block `t` of the vocabulary. -/
def col (t : Fin cfg0.N) (v : Fin 1280) : Fin 32000 := ⟨t.val * 1280 + v.val, by
  have : t.val < 25 := t.isLt
  have := v.isLt
  omega⟩

theorem blk0 (c : Dev nD) (t : Fin cfg0.N) (r : Fin 40) (k : Fin 4096) :
    iblk0 (V1 m ρ) c 0 t (ix2 r k) = m ((c : Thread nD τ).loc main_arg0) (ix3 r (0 : Fin 1) k) := by
  obtain ⟨⟨h0, h1⟩, -⟩ := idx t
  show V1 m ρ c main_v0 (((cfg0.win 0).blk t).view.emb (ix2 r k)) = _
  have e : ((cfg0.win 0).blk t).view.emb (ix2 r k) = (ix2 r k : S40x4096.Idx) := by
    funext a; apply Fin.ext
    match a with
    | ⟨0, _⟩ => show win0_0.index t (0 : Fin 2) * 40 + 1 * r.val = r.val; omega
    | ⟨1, _⟩ => show win0_0.index t (1 : Fin 2) * 4096 + 1 * k.val = k.val; omega
  rw [e, V_v0 m ρ c]
  exact cast_a1b_ab _ _ r k

theorem blk1 (c : Dev nD) (t : Fin cfg0.N) (r : Fin 40) :
    iblk0 (V1 m ρ) c 1 t (ix2 r (0 : Fin 1)) = m ((c : Thread nD τ).loc main_arg1) (ix2 r (0 : Fin 1)) := by
  obtain ⟨-, ⟨h0, h1⟩, -⟩ := idx t
  show V1 m ρ c main_arg1 (((cfg0.win 1).blk t).view.emb (ix2 r (0 : Fin 1))) = _
  have e : ((cfg0.win 1).blk t).view.emb (ix2 r (0 : Fin 1)) = (ix2 r (0 : Fin 1) : S40x1.Idx) := by
    funext a; apply Fin.ext
    match a with
    | ⟨0, _⟩ => show win0_1.index t (0 : Fin 2) * 40 + 1 * r.val = r.val; omega
    | ⟨1, _⟩ => show win0_1.index t (1 : Fin 2) * 1 + 1 * 0 = 0; omega
  rw [e]
  exact congrFun (W1_args m ρ c main_arg1 (by decide)) _

theorem blk2 (c : Dev nD) (t : Fin cfg0.N) (v : Fin 1280) (k : Fin 4096) :
    iblk0 (V1 m ρ) c 2 t (ix2 v k) = m ((c : Thread nD τ).loc main_arg2) (ix2 (col t v) k) := by
  obtain ⟨-, -, ⟨h0, h1⟩, -⟩ := idx t
  show V1 m ρ c main_arg2 (((cfg0.win 2).blk t).view.emb (ix2 v k)) = _
  have e : ((cfg0.win 2).blk t).view.emb (ix2 v k) = (ix2 (col t v) k : S32000x4096.Idx) := by
    funext a; apply Fin.ext
    match a with
    | ⟨0, _⟩ => show win0_2.index t (0 : Fin 2) * 1280 + 1 * v.val = t.val * 1280 + v.val; omega
    | ⟨1, _⟩ => show win0_2.index t (1 : Fin 2) * 4096 + 1 * k.val = k.val; omega
  rw [e]
  exact congrFun (W1_args m ρ c main_arg2 (by decide)) _

theorem blk3 (c : Dev nD) (t : Fin cfg0.N) (v : Fin 1280) :
    iblk0 (V1 m ρ) c 3 t (ix2 (0 : Fin 1) v) = m ((c : Thread nD τ).loc main_arg3) (ix1 (col t v)) := by
  obtain ⟨-, -, -, ⟨h0, h1⟩, -⟩ := idx t
  show V1 m ρ c main_v1 (((cfg0.win 3).blk t).view.emb (ix2 (0 : Fin 1) v)) = _
  have e : ((cfg0.win 3).blk t).view.emb (ix2 (0 : Fin 1) v) = (ix2 (0 : Fin 1) (col t v) : S1x32000.Idx) := by
    funext a; apply Fin.ext
    match a with
    | ⟨0, _⟩ => show win0_3.index t (0 : Fin 2) * 1 + 1 * 0 = 0; omega
    | ⟨1, _⟩ => show win0_3.index t (1 : Fin 2) * 1280 + 1 * v.val = t.val * 1280 + v.val; omega
  rw [e, V_v1 m ρ c]
  exact shapeCast_a_1a_apply _ _ _ (col t v)

theorem emb4 (t : Fin cfg0.N) (r : Fin 40) (v : Fin 1280) :
    ((cfg0.win 4).blk t).view.emb (ix2 r v) = (ix2 r (col t v) : S40x32000.Idx) := by
  obtain ⟨-, -, -, -, ⟨h0, h1⟩⟩ := idx t
  funext a; apply Fin.ext
  match a with
  | ⟨0, _⟩ => show win0_4.index t (0 : Fin 2) * 40 + 1 * r.val = r.val; omega
  | ⟨1, _⟩ => show win0_4.index t (1 : Fin 2) * 1280 + 1 * v.val = t.val * 1280 + v.val; omega

/-- The one store through the whole block leaves its payload. -/
theorem out_eq (x0 : Vec Ideal S40x4096 .fp8e4m3) (x1 : Vec Ideal S40x1 .f32) (x2 : Vec Ideal S1280x4096 .fp8e4m3)
    (x3 : Vec Ideal S1x1280 .f32) : out0_4 x0 x1 x2 x3 = k0_pay1 x0 x2 x1 x3 := by
  have z : (![0, 0] : Fin 2 → Nat) = fun _ => 0 := funext fun a => by fin_cases a <;> rfl
  unfold out0_4
  rw [View.canon_unit_zero z, View.ld_unit_zero (S := S40x4096) z _ x0, View.ld_unit_zero (S := S40x1) z _ x1,
    View.ld_unit_zero (S := S1280x4096) z _ x2, View.ld_unit_zero (S := S1x1280) z _ x3]

/-- The array after the run is the array of logits. -/
theorem final (c : Dev nD) : (dat0 (V1 m ρ) c).arrAt 4 cfg0.N
    = logits (m ((c : Thread nD τ).loc main_arg0)) (m ((c : Thread nD τ).loc main_arg1)) (m ((c : Thread nD τ).loc main_arg2))
        (m ((c : Thread nD τ).loc main_arg3)) := by
  refine (dat0 (V1 m ρ) c).arrAt_eq_of_cover 4 _ (fun t _ => ?_) (fun i => ?_)
  · funext j
    obtain ⟨r, v, rfl⟩ : ∃ (r : Fin 40) (v : Fin 1280), j = ix2 r v := ⟨_, _, eq_ix2 (n0 := 40) (n1 := 1280) j⟩
    show (dat0 (V1 m ρ) c).after 4 t (ix2 r v) = logits _ _ _ _ (((cfg0.win 4).blk t).view.emb (ix2 r v))
    rw [emb4, after0_4, out_eq]
    refine (block_apply _ _ _ _ r v).trans ?_
    unfold logits
    exact congr (congr (congr (congrArg logit (funext fun k => blk0 m ρ c t r k)) (funext fun k => blk2 m ρ c t v k)) (blk1 m ρ c t r)) (blk3 m ρ c t v)
  · obtain ⟨r, v, rfl⟩ : ∃ (r : Fin 40) (v : Fin 32000), i = ix2 r v := ⟨_, _, eq_ix2 (n0 := 40) (n1 := 32000) i⟩
    have h1 : v.val < 32000 := v.isLt
    have ht : v.val / 1280 < 25 := by omega
    refine ⟨⟨v.val / 1280, ht⟩, flush0_4 _, ?_⟩
    have h := ((cfg0.win 4).blk (⟨v.val / 1280, ht⟩ : Fin cfg0.N)).view.emb_mem_set
      (ix2 r (⟨v.val % 1280, Nat.mod_lt _ (by omega)⟩ : Fin 1280) : S40x1280.Idx)
    have e : (ix2 r (col ⟨v.val / 1280, ht⟩ ⟨v.val % 1280, Nat.mod_lt _ (by omega)⟩) : S40x32000.Idx) = ix2 r v := by
      funext a; apply Fin.ext
      match a with
      | ⟨0, _⟩ => rfl
      | ⟨1, _⟩ => show v.val / 1280 * 1280 + v.val % 1280 = v.val; omega
    have e2 := (emb4 ⟨v.val / 1280, ht⟩ r ⟨v.val % 1280, Nat.mod_lt _ (by omega)⟩).trans e
    exact e2 ▸ h

end Cert.Proof.HeadValue

end
-- ==== Proof.Lse.lean ====
module

public import Idealize.ShloMosaic.PureOps.Ideal
public import Mathlib.Data.EReal.Operations

/-!
# Log-sum-exp over the extended reals, taken in parts

A running maximum and a running sum of exponentials, rescaled whenever the maximum grows, end at the
maximum of all terms and the sum of their exponentials against it.  Everything holds for all
extended reals, the infinities included.
-/

@[expose] public section

noncomputable section

namespace Cert.Proof.Lse

open Idealize.ShloMosaic
open scoped BigOperators

/-- The exponential is nonnegative. -/
theorem exp_nonneg (x : EReal) : 0 ≤ Ideal.exp x := by
  induction x using EReal.rec with
  | bot => exact le_refl _
  | top => exact le_top
  | coe r => exact EReal.coe_nonneg.mpr (Real.exp_pos r).le

/-- Changing the subtracted maximum from `m` to a larger `m'`. -/
theorem exp_step {p m m' : EReal} (h : p ≤ m) (h' : m ≤ m') :
    Ideal.exp (p - m) * Ideal.exp (m - m') = Ideal.exp (p - m') := by
  induction p using EReal.rec with
  | bot => rw [EReal.bot_sub, EReal.bot_sub, Ideal.exp_bot, zero_mul]
  | top =>
    obtain rfl := top_le_iff.mp h
    obtain rfl := top_le_iff.mp h'
    rw [EReal.sub_top, Ideal.exp_bot, zero_mul]
  | coe a =>
    induction m using EReal.rec with
    | bot => exact absurd h (by simp)
    | top =>
      obtain rfl := top_le_iff.mp h'
      rw [EReal.sub_top, EReal.sub_top, Ideal.exp_bot, zero_mul]
    | coe b =>
      induction m' using EReal.rec with
      | bot => exact absurd h' (by simp)
      | top => rw [EReal.sub_top, EReal.sub_top, Ideal.exp_bot, mul_zero]
      | coe c =>
        rw [← EReal.coe_sub, ← EReal.coe_sub, ← EReal.coe_sub, Ideal.exp_coe, Ideal.exp_coe, Ideal.exp_coe, ← EReal.coe_mul,
          ← Real.exp_add, sub_add_sub_cancel]

/-- The same for a sum of terms none of which exceeds `m`. -/
theorem sum_rescale {ι : Type} (s : Finset ι) (q : ι → EReal) {m m' : EReal} (h : ∀ j ∈ s, q j ≤ m) (h' : m ≤ m') :
    (∑ j ∈ s, Ideal.exp (q j - m)) * Ideal.exp (m - m') = ∑ j ∈ s, Ideal.exp (q j - m') := by
  classical
  induction s using Finset.induction_on with
  | empty => simp
  | insert a s ha ih =>
    rw [Finset.sum_insert ha, Finset.sum_insert ha,
      EReal.right_distrib_of_nonneg (exp_nonneg _) (Finset.sum_nonneg fun j _ => exp_nonneg _),
      exp_step (h a (Finset.mem_insert_self a s)) h', ih fun j hj => h j (Finset.mem_insert_of_mem hj)]

/-- The maximum of the first `n` terms. -/
def mx (q : ℕ → EReal) (n : ℕ) : EReal := (Finset.range n).sup q

/-- The sum of the exponentials of the first `n` terms, against their maximum. -/
def sm (q : ℕ → EReal) (n : ℕ) : EReal := ∑ j ∈ Finset.range n, Ideal.exp (q j - mx q n)

theorem mx_zero (q : ℕ → EReal) : mx q 0 = ⊥ := rfl
theorem sm_zero (q : ℕ → EReal) : sm q 0 = 0 := rfl

theorem sup_range_succ (q : ℕ → EReal) (n : ℕ) : (Finset.range (n + 1)).sup q = max ((Finset.range n).sup q) (q n) := by
  rw [Finset.range_add_one, Finset.sup_insert, sup_comm]

theorem mx_succ (q : ℕ → EReal) (n : ℕ) : mx q (n + 1) = max (mx q n) (q n) := sup_range_succ q n

theorem mx_mono (q : ℕ → EReal) {n n' : ℕ} (h : n ≤ n') : mx q n ≤ mx q n' :=
  Finset.sup_mono (Finset.range_subset_range.mpr h)

/-- Rescaling the running sum and adding the exponentials of the terms up to `n'` gives the sum up to `n'`. -/
theorem sm_step (q : ℕ → EReal) {n n' : ℕ} (h : n ≤ n') :
    sm q n * Ideal.exp (mx q n - mx q n') + ∑ k ∈ Finset.range (n' - n), Ideal.exp (q (n + k) - mx q n') = sm q n' := by
  obtain ⟨d, rfl⟩ := Nat.exists_eq_add_of_le h
  unfold sm
  rw [sum_rescale (m := mx q n) _ q (fun j hj => Finset.le_sup (f := q) hj) (mx_mono q h), Nat.add_sub_cancel_left,
    Finset.sum_range_add (fun j => Ideal.exp (q j - mx q (n + d)))]

/-! ## The lanes put together -/

/-- The maximum of a row of `a * b` terms is the maximum over `b` lanes of each lane's maximum. -/
theorem sup_lanes {a b : ℕ} (f : ℕ → EReal) :
    (Finset.univ.sup fun l : Fin b => mx (fun j => f (b * j + l.val)) a) = Finset.univ.sup fun v : Fin (a * b) => f v.val := by
  apply le_antisymm
  · refine Finset.sup_le fun l _ => Finset.sup_le fun j hj => ?_
    have hv : b * j + l.val < a * b := by
      have hj := Finset.mem_range.mp hj
      calc b * j + l.val < b * j + b := Nat.add_lt_add_left l.isLt _
        _ = (j + 1) * b := by ring
        _ ≤ a * b := Nat.mul_le_mul_right b hj
    exact Finset.le_sup (f := fun v : Fin (a * b) => f v.val) (Finset.mem_univ (⟨b * j + l.val, hv⟩ : Fin (a * b)))
  · refine Finset.sup_le fun v _ => ?_
    have hb : 0 < b := by
      rcases Nat.eq_zero_or_pos b with rfl | h
      · exact absurd v.isLt (by simp)
      · exact h
    refine le_trans ?_ (Finset.le_sup (f := fun l : Fin b => mx (fun j => f (b * j + l.val)) a) (Finset.mem_univ (⟨v.val % b, Nat.mod_lt _ hb⟩ : Fin b)))
    refine le_trans (le_of_eq ?_) (Finset.le_sup (f := fun j => f (b * j + v.val % b)) (Finset.mem_range.mpr (Nat.div_lt_of_lt_mul (lt_of_lt_of_eq v.isLt (Nat.mul_comm a b)) : v.val / b < a)))
    show f v.val = f (b * (v.val / b) + v.val % b)
    rw [Nat.div_add_mod]

/-- A sum over `a * b` terms, lane by lane. -/
theorem sum_lanes {a b : ℕ} (f : ℕ → EReal) :
    (∑ l : Fin b, ∑ j ∈ Finset.range a, f (b * j + l.val)) = ∑ v : Fin (a * b), f v.val := by
  rw [← Equiv.sum_comp finProdFinEquiv (fun v : Fin (a * b) => f v.val), Fintype.sum_prod_type_right]
  refine Finset.sum_congr rfl fun l _ => ?_
  rw [← Fin.sum_univ_eq_sum_range (fun j => f (b * j + l.val))]
  refine Finset.sum_congr rfl fun j _ => ?_
  rw [finProdFinEquiv_apply_val, Nat.add_comm]

/-- The lane sums, rescaled from the lane maxima to the row's maximum and added up, are the row's sum of exponentials. -/
theorem lse_lanes {a b : ℕ} (f : ℕ → EReal) (M : EReal)
    (hM : M = Finset.univ.sup fun l : Fin b => mx (fun j => f (b * j + l.val)) a) :
    (∑ l : Fin b, sm (fun j => f (b * j + l.val)) a * Ideal.exp (mx (fun j => f (b * j + l.val)) a - M))
      = ∑ v : Fin (a * b), Ideal.exp (f v.val - M) := by
  rw [← sum_lanes (fun v => Ideal.exp (f v - M))]
  refine Finset.sum_congr rfl fun l _ => ?_
  unfold sm
  refine sum_rescale _ _ (fun j hj => Finset.le_sup (f := fun j => f (b * j + l.val)) hj) ?_
  rw [hM]
  exact Finset.le_sup (f := fun l : Fin b => mx (fun j => f (b * j + l.val)) a) (Finset.mem_univ l)

/-- A fold of `max` from `-∞` is the supremum. -/
theorem fold_max {ι : Type} (s : Finset ι) (f : ι → EReal) : s.fold max ⊥ f = s.sup f := rfl

/-- The log-sum-exp of a row: its maximum plus the logarithm of the sum of the exponentials against the maximum. -/
def lse {n : ℕ} (f : Fin n → EReal) : EReal :=
  Finset.univ.sup f + Ideal.log (∑ v, Ideal.exp (f v - Finset.univ.sup f))

end Cert.Proof.Lse

end
-- ==== Proof.Lanes.lean ====
module

public import proofs.«01_k».proof.Proof.Ideal.Body
public import proofs.«01_k».proof.Proof.Lse
public import proofs.«01_k».proof.Proof.Reads
public import Idealize.ShloMosaic.Lib.ValueLayout
public import Idealize.ShloMosaic.Lib.ValueIdx
public import Idealize.ShloMosaic.Lib.Pointwise.ElementwiseCore

/-!
# What the epilogue's arithmetic computes, entry by entry

At the extended reals: one penalised logit, one tile of them, the lane maxima and lane sums after a
tile, and the log-sum-exp that the lanes are combined to.
-/

@[expose] public section

set_option maxRecDepth 16384

noncomputable section

namespace Cert.Proof.Lanes

open Idealize.ShloMosaic Idealize.ShloMosaic.ValueIdx Cert.Proof.Reads Cert.Proof.Lse
open Cert.KernelIdeal Cert.KernelIdeal.Gen Cert.KernelIdeal.Hand
open scoped BigOperators

/-- Whether a token was seen: its count is positive. -/
def seen (cnt : BitVec 32) : BitVec 1 := IntOp.cmpi .sgt cnt 0#32

/-- One penalised logit: the biased logit, divided (or, unless positive, multiplied) by the repetition penalty if the
    token was seen, less the frequency penalty times its count, less the presence penalty if it was seen. -/
def penal (lg : EReal) (cnt : BitVec 32) (b rep freq pres : EReal) : EReal :=
  Scalar.select (seen cnt)
      (Scalar.select (FloatOps.cmpf (F := Ideal) (φ := .f32) .ogt (lg + b) (0 : EReal)) (Ideal.div (lg + b) rep) ((lg + b) * rep)) (lg + b)
    - freq * FloatOps.sitofp (F := Ideal) .f32 cnt - Scalar.select (seen cnt) pres (0 : EReal)

/-- A tile of penalised logits, entry by entry. -/
theorem pay8_apply (x0 : Vec Ideal S40x3200 .f32) (x1 : Vec Ideal S40x3200 .i32) (x2 : Vec Ideal S40x3200 .f32)
    (x3 x4 x5 : Vec Ideal S40x1 .f32) (r : Fin 40) (v : Fin 3200) :
    k1_pay8 (F := Ideal) x1 x3 x0 x2 x4 x5 (ix2 r v)
      = penal (x0 (ix2 r v)) (x1 (ix2 r v)) (x2 (ix2 r v)) (x3 (ix2 r (0 : Fin 1))) (x4 (ix2 r (0 : Fin 1))) (x5 (ix2 r (0 : Fin 1))) := by
  unfold k1_pay8 penal seen
  simp only [shapeCast_self, subf_apply, select_apply, mulf_apply, divf_apply, addf_apply, cmpf_apply, cmpi_apply, sitofp_apply,
    broadcast_apply, bcast_col]
  rw [show (Scalar.ofBits (F := Ideal) .f32 0x00000000#32) = (0 : EReal) from Ideal.ofBits_zero_f32]

section Tile
variable (x0 : Vec Ideal S40x3200 .f32) (x1 : Vec Ideal S40x3200 .i32) (x2 : Vec Ideal S40x3200 .f32)
    (x3 x4 x5 : Vec Ideal S40x1 .f32) (mv sv : Vec Ideal S40x128 .f32) (G : ℕ → EReal) (n : ℕ) (r : Fin 40) (l : Fin 128)

/-- If row `r` of the tile is the 3200 terms of `G` from `3200 n` on, and lane `l`'s maximum is that of its terms so
    far, then after the tile it is that of its terms up to the tile's end. -/
theorem newM_apply (hT : ∀ v : Fin 3200, k1_pay8 (F := Ideal) x1 x3 x0 x2 x4 x5 (ix2 r v) = G (3200 * n + v.val))
    (hm : mv (ix2 r l) = mx (fun j => G (128 * j + l.val)) (25 * n)) :
    newM (F := Ideal) x0 x1 x2 x3 x4 x5 mv (ix2 r l) = mx (fun j => G (128 * j + l.val)) (25 * n + 25) := by
  unfold newM headM tile k1_pay11 k1_pay10
  simp only [maximumf_apply, slice2_axis1_eq, hT, hm, mx_succ, Nat.mul_add, ← Nat.mul_assoc, Nat.reduceMul, ← Nat.add_assoc, Nat.add_zero, Nat.mul_one]

theorem stepM_apply (hT : ∀ v : Fin 3200, k1_pay8 (F := Ideal) x1 x3 x0 x2 x4 x5 (ix2 r v) = G (3200 * n + v.val))
    (hm : mv (ix2 r l) = mx (fun j => G (128 * j + l.val)) (25 * n)) :
    stepM (F := Ideal) x0 x1 x2 x3 x4 x5 mv (ix2 r l) = mx (fun j => G (128 * j + l.val)) (25 * n + 25) := by
  unfold stepM k1_pay3
  rw [shapeCast_self]
  exact newM_apply x0 x1 x2 x3 x4 x5 mv G n r l hT hm

/-- Likewise the lane's sum of exponentials. -/
theorem stepS_apply (hT : ∀ v : Fin 3200, k1_pay8 (F := Ideal) x1 x3 x0 x2 x4 x5 (ix2 r v) = G (3200 * n + v.val))
    (hm : mv (ix2 r l) = mx (fun j => G (128 * j + l.val)) (25 * n))
    (hs : sv (ix2 r l) = sm (fun j => G (128 * j + l.val)) (25 * n)) :
    stepS (F := Ideal) x0 x1 x2 x3 x4 x5 mv sv (ix2 r l) = sm (fun j => G (128 * j + l.val)) (25 * n + 25) := by
  have hM := newM_apply x0 x1 x2 x3 x4 x5 mv G n r l hT hm
  rw [← sm_step (fun j => G (128 * j + l.val)) (Nat.le_add_right (25 * n) 25), Nat.add_sub_cancel_left, ← hM, ← hm, ← hs]
  unfold stepS k1_pay4 k1_pay14 k1_pay12 k1_pay13 k1_pay15
  rw [show k1_pay11 (tile x0 x1 x2 x3 x4 x5) (headM x0 x1 x2 x3 x4 x5 mv) = newM x0 x1 x2 x3 x4 x5 mv from rfl]
  generalize newM (F := Ideal) x0 x1 x2 x3 x4 x5 mv = M
  unfold tile
  simp only [shapeCast_self, addf_apply, mulf_apply, subf_apply, exp_apply, Ideal.exp_def, slice2_axis1_eq, hT, Finset.sum_range_succ, Finset.sum_range_zero,
    Nat.mul_add, ← Nat.mul_assoc, Nat.reduceMul, ← Nat.add_assoc, Nat.add_zero, Nat.mul_one, ← add_assoc, zero_add, add_zero]

end Tile

/-- The pattern of `-∞` reads as the least extended real. -/
theorem ofBits_neg_inf : Ideal.ofBits .f32 0xFF800000#32 = ⊥ := by simp [Ideal.ofBits, Ideal.ieee]

/-- Before the first tile the lane maxima are `-∞` … -/
theorem pay1_apply (i : S40x128.Idx) : k1_pay1 (F := Ideal) i = ⊥ := by
  unfold k1_pay1
  rw [shapeCast_self]
  exact ofBits_neg_inf

/-- … and the lane sums zero. -/
theorem pay2_apply (i : S40x128.Idx) : k1_pay2 (F := Ideal) i = 0 := by
  unfold k1_pay2
  rw [shapeCast_self]
  exact Ideal.ofBits_zero_f32

/-- The lanes combined: the log-sum-exp of the row they are the lanes of. -/
theorem pay5_apply (mv sv : Vec Ideal S40x128 .f32) (G : ℕ → EReal) (r : Fin 40)
    (hm : ∀ l : Fin 128, mv (ix2 r l) = mx (fun j => G (128 * j + l.val)) 250)
    (hs : ∀ l : Fin 128, sv (ix2 r l) = sm (fun j => G (128 * j + l.val)) 250) :
    k1_pay5 (F := Ideal) mv sv mv (ix2 r (0 : Fin 1)) = lse (fun v : Fin 32000 => G v.val) := by
  have hl : ∀ l : Fin 128, (reduces_S40x128_S40).lift (ix1 r) l = ix2 r l := fun l => by
    funext a; apply Fin.ext
    match a with
    | ⟨0, _⟩ => rfl
    | ⟨1, _⟩ => rfl
  have hM : multiReduction (F := Ideal) .maximumf [1] S40 mv 0xFF800000#32 reduces_S40x128_S40 (.inl rfl) rfl (ix1 r)
      = Finset.univ.sup fun v : Fin 32000 => G v.val := by
    refine (Ideal.multiReduction_maximumf_single mv _ reduces_S40x128_S40 (.inl rfl) rfl (ix1 r)).trans ?_
    rw [Ideal.ofBits_def]
    refine Eq.trans (congrArg (fun z => Finset.fold max z _ _) ofBits_neg_inf) ?_
    refine Eq.trans ?_ (sup_lanes (a := 250) (b := 128) G)
    refine (fold_max _ _).trans (Finset.sup_congr rfl fun l _ => ?_)
    exact (congrArg mv (hl l)).trans (hm l)
  unfold k1_pay5 lse
  rw [ValueIdx.addf_apply, log_apply, shapeCast_a_a1_apply, shapeCast_a_a1_apply, hM, Ideal.log_def]
  refine congrArg (fun s => _ + Ideal.log s) ?_
  refine (Ideal.multiReduction_add_single _ _ reduces_S40x128_S40 (.inl rfl) rfl (ix1 r)).trans ?_
  refine Eq.trans ?_ (lse_lanes (a := 250) (b := 128) G _ (sup_lanes (a := 250) (b := 128) G).symm)
  refine Finset.sum_congr rfl fun (l : Fin 128) _ => ?_
  refine (congrArg (mulf (F := Ideal) sv _) (hl l)).trans ?_
  rw [ValueIdx.mulf_apply, exp_apply, ValueIdx.subf_apply, bcast_col, shapeCast_a_a1_apply, hM, hm, hs, Ideal.exp_def]

/-- A tile of log probabilities: the penalised logits less the log-sum-exp. -/
theorem pay7_apply (T : Vec Ideal S40x3200 .f32) (c : Vec Ideal S40x1 .f32) (r : Fin 40) (v : Fin 3200) :
    k1_pay7 (F := Ideal) T c (ix2 r v) = T (ix2 r v) - c (ix2 r (0 : Fin 1)) := by
  unfold k1_pay7
  rw [ValueIdx.truncf_apply, ValueIdx.subf_apply, bcast_col]

/-- The first lane of the log-sum-exp kept on every lane is the column. -/
theorem lseCol_apply (a b c : Vec Ideal S40x128 .f32) (r : Fin 40) :
    lseCol (F := Ideal) (k1_pay6 (F := Ideal) a b c) (ix2 r (0 : Fin 1)) = k1_pay5 (F := Ideal) a b c (ix2 r (0 : Fin 1)) := by
  have h : lseCol (F := Ideal) (k1_pay6 (F := Ideal) a b c) (ix2 r (0 : Fin 1)) = k1_pay6 (F := Ideal) a b c (ix2 r (0 : Fin 128)) := by
    unfold lseCol View.ld
    refine congrArg (k1_pay6 (F := Ideal) a b c) ?_
    funext a; apply Fin.ext
    match a with
    | ⟨0, _⟩ => show 0 + 1 * r.val = r.val; omega
    | ⟨1, _⟩ => rfl
  rw [h]
  unfold k1_pay6
  rw [shapeCast_self, shapeCast_self, bcast_col]

end Cert.Proof.Lanes

end
-- ==== Proof.EpiValue.lean ====
module

public import proofs.«01_k».proof.Proof.Lanes
public import proofs.«01_k».proof.Proof.Ideal.Data
public import Idealize.ShloMosaic.Lib.Pipeline.Value

/-!
# The arrays that the epilogue leaves

From the arrays the second call is entered with: every log probability is the penalised logit less
its row's log-sum-exp, and the second result is the log-sum-exp of each row.
-/

@[expose] public section

set_option maxRecDepth 16384

noncomputable section

namespace Cert.Proof.EpiValue

open Idealize.ShloMosaic Idealize.ShloMosaic.ValueIdx Idealize.ShloMosaic.TcCoe
open Cert.Proof.Reads Cert.Proof.Lse Cert.Proof.Lanes
open Cert.KernelIdeal Cert.KernelIdeal.Gen Cert.KernelIdeal.Hand
open Idealize.ShloMosaic.Pipeline (Dat)

/-- The penalised logits of a whole vocabulary. -/
def penals (lg : Vec Ideal S40x32000 .f32) (cnt : Vec Ideal S40x32000 .i32) (b : Vec Ideal S40x32000 .f32)
    (rep freq pres : Fin 40 → EReal) (r : Fin 40) (v : Fin 32000) : EReal :=
  penal (lg (ix2 r v)) (cnt (ix2 r v)) (b (ix2 r v)) (rep r) (freq r) (pres r)

variable (V : (c : Dev nD) → (b : Ref sig .tc) → Buf (Elt Ideal) ((c : Thread nD τ).loc b))

/-- The penalised logits of the arrays the region is entered with. -/
abbrev pens (c : Dev nD) : Fin 40 → Fin 32000 → EReal :=
  penals (V c main_v2) (V c main_arg4) (V c main_arg5) (fun r => V c main_v3 (ix2 r (0 : Fin 1)))
    (fun r => V c main_v4 (ix2 r (0 : Fin 1))) (fun r => V c main_v5 (ix2 r (0 : Fin 1)))

/-- Row `r` of them, over the natural numbers. -/
def row (c : Dev nD) (r : Fin 40) (v : ℕ) : EReal := if h : v < 32000 then pens V c r ⟨v, h⟩ else 0

theorem row_val (c : Dev nD) (r : Fin 40) (v : Fin 32000) : row V c r v.val = pens V c r v := dif_pos v.isLt

/-- The windows' block indices at each of the 20 points. -/
theorem idx1 : ∀ t : Fin cfg1.N, (win1_0.index t (0 : Fin 2) = 0 ∧ win1_0.index t (1 : Fin 2) = min t.val 9)
    ∧ (win1_1.index t (0 : Fin 2) = 0 ∧ win1_1.index t (1 : Fin 2) = min t.val 9)
    ∧ (win1_2.index t (0 : Fin 2) = 0 ∧ win1_2.index t (1 : Fin 2) = min t.val 9)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = t.val - 10)
    ∧ (win1_7.index t (0 : Fin 2) = 0 ∧ win1_7.index t (1 : Fin 2) = 0) :=
  (by decide +kernel : ∀ t : Fin grid1.N, _)

/-- Column `x` of tile `n` of the vocabulary. -/
def tcol (n : ℕ) (hn : n < 10) (x : Fin 3200) : Fin 32000 := ⟨3200 * n + x.val, by
  have := x.isLt
  omega⟩

theorem eblk0 (c : Dev nD) (t : Fin cfg1.N) (ht : t.val < 10) (r : Fin 40) (x : Fin 3200) :
    iblk1 V c 0 t (ix2 r x) = V c main_v2 (ix2 r (tcol t.val ht x)) := by
  obtain ⟨⟨h0, h1⟩, -⟩ := idx1 t
  refine congrArg (V c main_v2) ?_
  funext a; apply Fin.ext
  match a with
  | ⟨0, _⟩ => show win1_0.index t (0 : Fin 2) * 40 + 1 * r.val = r.val; omega
  | ⟨1, _⟩ => show win1_0.index t (1 : Fin 2) * 3200 + 1 * x.val = 3200 * t.val + x.val; omega

theorem eblk1 (c : Dev nD) (t : Fin cfg1.N) (ht : t.val < 10) (r : Fin 40) (x : Fin 3200) :
    iblk1 V c 1 t (ix2 r x) = V c main_arg4 (ix2 r (tcol t.val ht x)) := by
  obtain ⟨-, ⟨h0, h1⟩, -⟩ := idx1 t
  refine congrArg (V c main_arg4) ?_
  funext a; apply Fin.ext
  match a with
  | ⟨0, _⟩ => show win1_1.index t (0 : Fin 2) * 40 + 1 * r.val = r.val; omega
  | ⟨1, _⟩ => show win1_1.index t (1 : Fin 2) * 3200 + 1 * x.val = 3200 * t.val + x.val; omega

theorem eblk2 (c : Dev nD) (t : Fin cfg1.N) (ht : t.val < 10) (r : Fin 40) (x : Fin 3200) :
    iblk1 V c 2 t (ix2 r x) = V c main_arg5 (ix2 r (tcol t.val ht x)) := by
  obtain ⟨-, -, ⟨h0, h1⟩, -⟩ := idx1 t
  refine congrArg (V c main_arg5) ?_
  funext a; apply Fin.ext
  match a with
  | ⟨0, _⟩ => show win1_2.index t (0 : Fin 2) * 40 + 1 * r.val = r.val; omega
  | ⟨1, _⟩ => show win1_2.index t (1 : Fin 2) * 3200 + 1 * x.val = 3200 * t.val + x.val; omega

theorem eblk3 (c : Dev nD) (t : Fin cfg1.N) (r : Fin 40) :
    iblk1 V c 3 t (ix2 r (0 : Fin 1)) = V c main_v3 (ix2 r (0 : Fin 1)) := by
  obtain ⟨-, -, -, ⟨h0, h1⟩, -⟩ := idx1 t
  refine congrArg (V c main_v3) ?_
  funext a; apply Fin.ext
  match a with
  | ⟨0, _⟩ => show win1_3.index t (0 : Fin 2) * 40 + 1 * r.val = r.val; omega
  | ⟨1, _⟩ => show win1_3.index t (1 : Fin 2) * 1 + 1 * 0 = 0; omega

theorem eblk4 (c : Dev nD) (t : Fin cfg1.N) (r : Fin 40) :
    iblk1 V c 4 t (ix2 r (0 : Fin 1)) = V c main_v4 (ix2 r (0 : Fin 1)) := by
  obtain ⟨-, -, -, -, ⟨h0, h1⟩, -⟩ := idx1 t
  refine congrArg (V c main_v4) ?_
  funext a; apply Fin.ext
  match a with
  | ⟨0, _⟩ => show win1_4.index t (0 : Fin 2) * 40 + 1 * r.val = r.val; omega
  | ⟨1, _⟩ => show win1_4.index t (1 : Fin 2) * 1 + 1 * 0 = 0; omega

theorem eblk5 (c : Dev nD) (t : Fin cfg1.N) (r : Fin 40) :
    iblk1 V c 5 t (ix2 r (0 : Fin 1)) = V c main_v5 (ix2 r (0 : Fin 1)) := by
  obtain ⟨-, -, -, -, -, ⟨h0, h1⟩, -⟩ := idx1 t
  refine congrArg (V c main_v5) ?_
  funext a; apply Fin.ext
  match a with
  | ⟨0, _⟩ => show win1_5.index t (0 : Fin 2) * 40 + 1 * r.val = r.val; omega
  | ⟨1, _⟩ => show win1_5.index t (1 : Fin 2) * 1 + 1 * 0 = 0; omega

/-- Tile `t` of penalised logits is 3200 entries of the row. -/
theorem tile_row (c : Dev nD) (t : Fin cfg1.N) (ht : t.val < 10) (r : Fin 40) (x : Fin 3200) :
    k1_pay8 (F := Ideal) (iblk1 V c 1 t) (iblk1 V c 3 t) (iblk1 V c 0 t) (iblk1 V c 2 t) (iblk1 V c 4 t) (iblk1 V c 5 t) (ix2 r x)
      = row V c r (3200 * t.val + x.val) := by
  refine (pay8_apply _ _ _ _ _ _ r x).trans ?_
  rw [eblk0 V c t ht r x, eblk1 V c t ht r x, eblk2 V c t ht r x, eblk3, eblk4, eblk5]
  exact (row_val V c r (tcol t.val ht x)).symm

/-- Tile `n` as it is stored. -/
theorem penT_apply (c : Dev nD) (n : ℕ) (hn : n < 10) (r : Fin 40) (x : Fin 3200) :
    penT V c n (ix2 r x) = pens V c r (tcol n hn x) := by
  have hp : (pt n).val = n := Nat.mod_eq_of_lt (by omega)
  unfold penT k1_pay9
  rw [shapeCast_self]
  refine (tile_row V c (pt n) (by omega) r x).trans ?_
  rw [hp]
  exact row_val V c r (tcol n hn x)

/-- The lane maxima and sums after each of the ten tiles. -/
theorem lanes_apply (c : Dev nD) (r : Fin 40) (l : Fin 128) (n : ℕ) (hn : n < 10) :
    (lanes V c n).1 (ix2 r l) = mx (fun j => row V c r (128 * j + l.val)) (25 * n + 25)
      ∧ (lanes V c n).2 (ix2 r l) = sm (fun j => row V c r (128 * j + l.val)) (25 * n + 25) := by
  have hT : ∀ k, k < 10 → ∀ x : Fin 3200,
      k1_pay8 (F := Ideal) (iblk1 V c 1 (pt k)) (iblk1 V c 3 (pt k)) (iblk1 V c 0 (pt k)) (iblk1 V c 2 (pt k)) (iblk1 V c 4 (pt k)) (iblk1 V c 5 (pt k)) (ix2 r x)
        = row V c r (3200 * k + x.val) := fun k hk x => by
    have hp : (pt k).val = k := Nat.mod_eq_of_lt (by omega)
    refine (tile_row V c (pt k) (by omega) r x).trans ?_
    rw [hp]
  induction n with
  | zero =>
    rw [lanes]
    exact ⟨stepM_apply _ _ _ _ _ _ _ (row V c r) 0 r l (hT 0 (by omega)) (pay1_apply _),
      stepS_apply _ _ _ _ _ _ _ _ (row V c r) 0 r l (hT 0 (by omega)) (pay1_apply _) (pay2_apply _)⟩
  | succ n ih =>
    obtain ⟨h1, h2⟩ := ih (by omega)
    rw [lanes_pos V c (n + 1) (by omega) hn]
    exact ⟨stepM_apply _ _ _ _ _ _ _ (row V c r) (n + 1) r l (hT (n + 1) hn) h1,
      stepS_apply _ _ _ _ _ _ _ _ (row V c r) (n + 1) r l (hT (n + 1) hn) h1 h2⟩

/-- The stored column is the log-sum-exp of each row. -/
theorem lseC_apply (c : Dev nD) (r : Fin 40) : lseC V c (ix2 r (0 : Fin 1)) = lse (pens V c r) := by
  unfold lseC
  refine (pay5_apply _ _ (row V c r) r (fun l => (lanes_apply V c r l 9 (by omega)).1) (fun l => (lanes_apply V c r l 9 (by omega)).2)).trans ?_
  exact congrArg lse (funext fun v => row_val V c r v)

/-- A stored tile of log probabilities. -/
theorem outLp_apply (c : Dev nD) (n : ℕ) (r : Fin 40) (x : Fin 3200) :
    outLp V c n (ix2 r x) = pens V c r (tcol (n % 10) (Nat.mod_lt _ (by omega)) x) - lse (pens V c r) := by
  unfold outLp
  refine (pay7_apply _ _ r x).trans ?_
  rw [penT_apply V c (n % 10) (Nat.mod_lt _ (by omega)) r x]
  refine congrArg (fun z : EReal => pens V c r (tcol (n % 10) (Nat.mod_lt _ (by omega)) x) - z) ?_
  unfold lseV
  exact (lseCol_apply _ _ _ r).trans (lseC_apply V c r)

theorem emb6 (t : Fin cfg1.N) (ht : 10 ≤ t.val) (r : Fin 40) (x : Fin 3200) :
    ((cfg1.win 6).blk t).view.emb (ix2 r x) = (ix2 r (tcol (t.val % 10) (Nat.mod_lt _ (by omega)) x) : S40x32000.Idx) := by
  obtain ⟨-, -, -, -, -, -, ⟨h0, h1⟩, -⟩ := idx1 t
  have hN : t.val < 20 := Nat.lt_of_lt_of_eq t.isLt N_1
  funext a; apply Fin.ext
  match a with
  | ⟨0, _⟩ => show win1_6.index t (0 : Fin 2) * 40 + 1 * r.val = r.val; omega
  | ⟨1, _⟩ => show win1_6.index t (1 : Fin 2) * 3200 + 1 * x.val = 3200 * (t.val % 10) + x.val; omega

theorem emb7 (t : Fin cfg1.N) (r : Fin 40) :
    ((cfg1.win 7).blk t).view.emb (ix2 r (0 : Fin 1)) = (ix2 r (0 : Fin 1) : S40x1.Idx) := by
  obtain ⟨-, -, -, -, -, -, -, ⟨h0, h1⟩⟩ := idx1 t
  funext a; apply Fin.ext
  match a with
  | ⟨0, _⟩ => show win1_7.index t (0 : Fin 2) * 40 + 1 * r.val = r.val; omega
  | ⟨1, _⟩ => show win1_7.index t (1 : Fin 2) * 1 + 1 * 0 = 0; omega

/-- The log probabilities of penalised logits. -/
def logprobs (p : Fin 40 → Fin 32000 → EReal) : Vec Ideal S40x32000 .bf16 := fun i => p (i 0) (i 1) - lse (p (i 0))

/-- The column of log-sum-exps of penalised logits. -/
def lses (p : Fin 40 → Fin 32000 → EReal) : Vec Ideal S40x1 .f32 := fun i => lse (p (i 0))

/-- The first result's array after the run. -/
theorem final6 (c : Dev nD) : (dat1 V c).arrAt 6 cfg1.N = logprobs (pens V c) := by
  refine (dat1 V c).arrAt_eq_of_cover 6 _ (fun t ht => ?_) (fun i => ?_)
  · have ht' : 10 ≤ t.val := by rw [flush6] at ht; exact of_decide_eq_true ht
    funext j
    obtain ⟨r, x, rfl⟩ : ∃ (r : Fin 40) (x : Fin 3200), j = ix2 r x := ⟨_, _, eq_ix2 (n0 := 40) (n1 := 3200) j⟩
    show (dat1 V c).after 6 t (ix2 r x) = logprobs (pens V c) (((cfg1.win 6).blk t).view.emb (ix2 r x))
    rw [emb6 t ht', after1_6]
    exact outLp_apply V c t.val r x
  · obtain ⟨r, v, rfl⟩ : ∃ (r : Fin 40) (v : Fin 32000), i = ix2 r v := ⟨_, _, eq_ix2 (n0 := 40) (n1 := 32000) i⟩
    have h1 : v.val < 32000 := v.isLt
    have ht : 10 + v.val / 3200 < cfg1.N := Nat.lt_of_lt_of_eq (by omega : 10 + v.val / 3200 < 20) N_1.symm
    refine ⟨⟨10 + v.val / 3200, ht⟩, by rw [flush6]; exact decide_eq_true (Nat.le_add_right _ _), ?_⟩
    have h := ((cfg1.win 6).blk (⟨10 + v.val / 3200, ht⟩ : Fin cfg1.N)).view.emb_mem_set
      (ix2 r (⟨v.val % 3200, Nat.mod_lt _ (by omega)⟩ : Fin 3200) : S40x3200.Idx)
    have e2 := emb6 ⟨10 + v.val / 3200, ht⟩ (Nat.le_add_right _ _) r ⟨v.val % 3200, Nat.mod_lt _ (by omega)⟩
    have e : (ix2 r (tcol ((10 + v.val / 3200) % 10) (Nat.mod_lt _ (by omega)) ⟨v.val % 3200, Nat.mod_lt _ (by omega)⟩) : S40x32000.Idx) = ix2 r v := by
      funext a; apply Fin.ext
      match a with
      | ⟨0, _⟩ => rfl
      | ⟨1, _⟩ => show 3200 * ((10 + v.val / 3200) % 10) + v.val % 3200 = v.val; omega
    exact (e2.trans e) ▸ h

/-- The second result's array after the run. -/
theorem final7 (c : Dev nD) : (dat1 V c).arrAt 7 cfg1.N = lses (pens V c) := by
  have h19 : 19 < cfg1.N := Nat.lt_of_lt_of_eq (by decide : 19 < 20) N_1.symm
  refine (dat1 V c).arrAt_eq_of_cover 7 _ (fun t ht => ?_) (fun i => ?_)
  · funext j
    obtain ⟨r, u, rfl⟩ : ∃ (r : Fin 40) (u : Fin 1), j = ix2 r u := ⟨_, _, eq_ix2 (n0 := 40) (n1 := 1) j⟩
    obtain rfl : u = 0 := Subsingleton.elim _ _
    show (dat1 V c).after 7 t (ix2 r (0 : Fin 1)) = lses (pens V c) (((cfg1.win 7).blk t).view.emb (ix2 r (0 : Fin 1)))
    rw [emb7 t, after1_7]
    exact lseC_apply V c r
  · obtain ⟨r, u, rfl⟩ : ∃ (r : Fin 40) (u : Fin 1), i = ix2 r u := ⟨_, _, eq_ix2 (n0 := 40) (n1 := 1) i⟩
    obtain rfl : u = 0 := Subsingleton.elim _ _
    refine ⟨⟨19, h19⟩, by rw [flush7]; rfl, ?_⟩
    have h := ((cfg1.win 7).blk (⟨19, h19⟩ : Fin cfg1.N)).view.emb_mem_set (ix2 r (0 : Fin 1) : S40x1.Idx)
    exact (emb7 ⟨19, h19⟩ r) ▸ h

end Cert.Proof.EpiValue

end
-- ==== Proof.RefValue.lean ====
module

public import proofs.«01_k».proof.Proof.Logits
public import proofs.«01_k».proof.Proof.Lanes
public import proofs.«01_k».proof.Proof.Gen.ReferenceIdeal.Frame

/-!
# What the reference computes

Entry by entry, at the extended reals: a penalised logit, the log-sum-exp of a row of them, and the
log probability.
-/

@[expose] public section

set_option maxRecDepth 16384

noncomputable section

namespace Cert.Proof.RefValue

open Idealize.ShloMosaic Idealize.ShloMosaic.ValueIdx
open Cert.Proof.Reads Cert.Proof.Logits Cert.Proof.Lse Cert.Proof.Lanes
open Cert.ReferenceIdeal Cert.ReferenceIdeal.Gen

/-- Multiplying the penalty by whether the token was seen is choosing between the penalty and zero. -/
theorem presence (s : BitVec 1) (p : EReal) :
    p * FloatOps.sitofp (F := Ideal) .f32 (s.setWidth 32) = Scalar.select s p (0 : EReal) := by
  rcases BitVec.eq_zero_or_eq_one s with rfl | rfl
  · refine Eq.trans (congrArg (p * ·) (?_ : _ = (0 : EReal))) ?_
    · show ((((0#1).setWidth 32).toInt : ℝ) : EReal) = 0
      norm_num
    · rw [mul_zero]; rfl
  · refine Eq.trans (congrArg (p * ·) (?_ : _ = (1 : EReal))) ?_
    · show ((((1#1).setWidth 32).toInt : ℝ) : EReal) = 1
      norm_num
    · rw [mul_one]; rfl

/-- A penalised logit of the reference. -/
theorem pen_apply (x : Vec Ideal S40x1x4096 .fp8e4m3) (xs : Vec Ideal S40x1 .f32) (w : Vec Ideal S32000x4096 .fp8e4m3)
    (ws : Vec Ideal S32000 .f32) (cnt : Vec Ideal S40x32000 .i32) (b : Vec Ideal S40x32000 .f32)
    (rep freq pres : Vec Ideal S40 .f32) (r : Fin 40) (v : Fin 32000) :
    k0_pay3 (F := Ideal) x w xs ws b cnt rep freq pres (ix3 r (0 : Fin 1) v)
      = penal (logit (fun k : Fin 4096 => x (ix3 r (0 : Fin 1) k)) (fun k => w (ix2 v k)) (xs (ix2 r (0 : Fin 1))) (ws (ix1 v)))
          (cnt (ix2 r v)) (b (ix2 r v)) (rep (ix1 r)) (freq (ix1 r)) (pres (ix1 r)) := by
  have hd : matmul (F := Ideal) (φ₁ := .fp8e4m3) (φ₂ := .fp8e4m3) dot_S40x1x4096_S32000x4096_S40x1x32000_2_1_01_0_n_n none x w (constant S40x1x32000 .f32 0x00000000#32) (ix3 r (0 : Fin 1) v)
      = ∑ k : Fin 4096, x (ix3 r (0 : Fin 1) k) * w (ix2 v k) := by
    refine (ref_dot x w _ r v).trans ?_
    rw [constant_apply, Ideal.ofBits_zero_f32, zero_add]
  unfold k0_pay3 penal seen logit
  simp only [ValueIdx.subf_apply, ValueIdx.select_apply, ValueIdx.mulf_apply, ValueIdx.divf_apply, ValueIdx.addf_apply, cmpf_apply,
    cmpi_apply, sitofp_apply, extui_apply, broadcast_apply, bcast_a11, bcast_11b, cast_a1_a11, cast_a_a11, cast_b_11b, cast_ab_a1b, hd,
    presence]
  rw [show (Scalar.ofBits (F := Ideal) .f32 0x00000000#32) = (0 : EReal) from Ideal.ofBits_zero_f32]

/-- The reference's second result, of whatever penalised logits: the log-sum-exp of each row. -/
theorem lse_apply (P : FVec Ideal S40x1x32000 .f32) (p : Fin 32000 → EReal) (r : Fin 40)
    (hP : ∀ v, P (ix3 r (0 : Fin 1) v) = p v) : k0_pay1 (F := Ideal) P (ix2 r (0 : Fin 1)) = lse p := by
  have hl : ∀ v : Fin 32000, (reduces_S40x1x32000_S40x1).lift (ix2 r (0 : Fin 1)) v = ix3 r (0 : Fin 1) v := fun v => by
    funext a; apply Fin.ext
    match a with
    | ⟨0, _⟩ => rfl
    | ⟨1, _⟩ => rfl
    | ⟨2, _⟩ => rfl
  have hM : multiReduction (F := Ideal) .maximumf [2] S40x1 P 0xFF800000#32 reduces_S40x1x32000_S40x1 (.inl rfl) rfl (ix2 r (0 : Fin 1))
      = Finset.univ.sup p := by
    refine (Ideal.multiReduction_maximumf_single P _ reduces_S40x1x32000_S40x1 (.inl rfl) rfl (ix2 r (0 : Fin 1))).trans ?_
    rw [Ideal.ofBits_def]
    refine Eq.trans (congrArg (fun z => Finset.fold max z _ _) ofBits_neg_inf) ?_
    refine (fold_max _ _).trans (Finset.sup_congr rfl fun (v : Fin 32000) _ => ?_)
    exact (congrArg P (hl v)).trans (hP v)
  unfold k0_pay1 lse
  rw [ValueIdx.addf_apply, log_apply, hM, Ideal.log_def]
  refine congrArg (fun s => _ + Ideal.log s) ?_
  refine (Ideal.multiReduction_add_single _ _ reduces_S40x1x32000_S40x1 (.inl rfl) rfl (ix2 r (0 : Fin 1))).trans ?_
  refine Finset.sum_congr rfl fun (v : Fin 32000) _ => ?_
  refine (congrArg (exp (F := Ideal) _) (hl v)).trans ?_
  rw [exp_apply, ValueIdx.subf_apply, bcast_a11, cast_a1_a11, hM, hP, Ideal.exp_def]

/-- The reference's first result: the penalised logit less the log-sum-exp. -/
theorem logprob_apply (P : FVec Ideal S40x1x32000 .f32) (p : Fin 32000 → EReal) (r : Fin 40)
    (hP : ∀ v, P (ix3 r (0 : Fin 1) v) = p v) (v : Fin 32000) : k0_pay2 (F := Ideal) P (ix2 r v) = p v - lse p := by
  unfold k0_pay2
  refine (cast_a1b_ab _ _ r v).trans ?_
  rw [ValueIdx.truncf_apply, ValueIdx.subf_apply, bcast_a11, cast_a1_a11, hP, lse_apply P p r hP]

end Cert.Proof.RefValue

end
-- ==== Proof.Values.lean ====
module

public import proofs.«01_k».proof.Proof.HeadValue
public import proofs.«01_k».proof.Proof.EpiValue
public import proofs.«01_k».proof.Proof.RefValue
public import proofs.«01_k».proof.Proof.Gen.ReferenceIdeal.Value

/-!
# The two results, as functions of the nine arguments

The penalised logits of the arguments, what the kernel's two arrays hold in terms of them, and that
the reference's two results are the same.
-/

@[expose] public section

set_option maxRecDepth 16384

noncomputable section

namespace Cert.Proof.Values

open Idealize.ShloMosaic Idealize.ShloMosaic.ValueIdx Idealize.ShloMosaic.TcCoe Idealize.ShloMosaic.Tactic
open Cert.Proof.Reads Cert.Proof.Lse Cert.Proof.HeadValue Cert.Proof.EpiValue
open Cert.KernelIdeal Cert.KernelIdeal.Gen Cert.KernelIdeal.Hand

/-- The penalised logits of the nine arguments. -/
def pensOf (x : Vec Ideal S40x1x4096 .fp8e4m3) (xs : Vec Ideal S40x1 .f32) (w : Vec Ideal S32000x4096 .fp8e4m3)
    (ws : Vec Ideal S32000 .f32) (cnt : Vec Ideal S40x32000 .i32) (b : Vec Ideal S40x32000 .f32)
    (rep freq pres : Vec Ideal S40 .f32) : Fin 40 → Fin 32000 → EReal :=
  penals (logits x xs w ws) cnt b (fun r => rep (ix1 r)) (fun r => freq (ix1 r)) (fun r => pres (ix1 r))

section Kernel
variable (m : (ℓ : Loc nD τ sig) → Buf (Elt Ideal) ℓ) (ρ : Dev nD → PrngReg)

/-- The second call is entered with the logits that the first one leaves. -/
theorem V3_v2 (c : Dev nD) : V3 m ρ c main_v2 = logits (m ((c : Thread nD τ).loc main_arg0)) (m ((c : Thread nD τ).loc main_arg1))
    (m ((c : Thread nD τ).loc main_arg2)) (m ((c : Thread nD τ).loc main_arg3)) :=
  (W3_of m ρ c main_v2 (by decide)).trans ((W2_arr m ρ c 4).trans (HeadValue.final m ρ c))

/-- A vector that the host broadcasts to a column. -/
theorem bcast0_apply (x : Vec Ideal S40 .f32) (r : Fin 40) :
    broadcastInDim S40x1 ![0] bcast_S40_S40x1_0 x (ix2 r (0 : Fin 1)) = x (ix1 r) := by
  refine congrArg x ?_
  funext a; apply Fin.ext
  match a with
  | ⟨0, _⟩ => rfl

/-- And with the repetition penalties as a column. -/
theorem V3_v3 (c : Dev nD) (r : Fin 40) : V3 m ρ c main_v3 (ix2 r (0 : Fin 1)) = m ((c : Thread nD τ).loc main_arg6) (ix1 r) := by
  have e : V3 m ρ c main_v3 = broadcastInDim S40x1 ![0] bcast_S40_S40x1_0 (W2 m ρ c (Proc.devRef .tc main_arg6) : Vec Ideal S40 .f32) := by
    unfold_abbrev_sides
    after_results
  rw [e, W2_args m ρ c main_arg6 (by decide)]
  exact bcast0_apply _ r

/-- And with the frequency penalties as a column. -/
theorem V3_v4 (c : Dev nD) (r : Fin 40) : V3 m ρ c main_v4 (ix2 r (0 : Fin 1)) = m ((c : Thread nD τ).loc main_arg7) (ix1 r) := by
  have e : V3 m ρ c main_v4 = broadcastInDim S40x1 ![0] bcast_S40_S40x1_0 (W2 m ρ c (Proc.devRef .tc main_arg7) : Vec Ideal S40 .f32) := by
    unfold_abbrev_sides
    after_results
  rw [e, W2_args m ρ c main_arg7 (by decide)]
  exact bcast0_apply _ r

/-- And with the presence penalties as a column. -/
theorem V3_v5 (c : Dev nD) (r : Fin 40) : V3 m ρ c main_v5 (ix2 r (0 : Fin 1)) = m ((c : Thread nD τ).loc main_arg8) (ix1 r) := by
  have e : V3 m ρ c main_v5 = broadcastInDim S40x1 ![0] bcast_S40_S40x1_0 (W2 m ρ c (Proc.devRef .tc main_arg8) : Vec Ideal S40 .f32) := by
    unfold_abbrev_sides
    after_results
  rw [e, W2_args m ρ c main_arg8 (by decide)]
  exact bcast0_apply _ r

/-- The second call's penalised logits are those of the arguments. -/
theorem pens_eq (c : Dev nD) : pens (V3 m ρ) c = pensOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) := by
  unfold pens pensOf
  exact congr (congr (congr (congr (congr (congrArg penals (V3_v2 m ρ c)) (W3_args m ρ c main_arg4 (by decide))) (W3_args m ρ c main_arg5 (by decide)))
    (funext fun r => V3_v3 m ρ c r)) (funext fun r => V3_v4 m ρ c r)) (funext fun r => V3_v5 m ρ c r)

end Kernel

section Reference
open Cert.ReferenceIdeal.Gen (k0_pay1 k0_pay2 k0_pay3 k0_pay4)

variable (x : Vec Ideal S40x1x4096 .fp8e4m3) (xs : Vec Ideal S40x1 .f32) (w : Vec Ideal S32000x4096 .fp8e4m3)
    (ws : Vec Ideal S32000 .f32) (cnt : Vec Ideal S40x32000 .i32) (b : Vec Ideal S40x32000 .f32)
    (rep freq pres : Vec Ideal S40 .f32)

/-- The reference's penalised logits are those of the arguments. -/
theorem ref_pens (r : Fin 40) (v : Fin 32000) :
    k0_pay4 (F := Ideal) x xs w ws cnt b rep freq pres (ix3 r (0 : Fin 1) v) = pensOf x xs w ws cnt b rep freq pres r v := by
  have z1 : (![0] : Fin 1 → Nat) = fun _ => 0 := funext fun a => by fin_cases a <;> rfl
  have z2 : (![0, 0] : Fin 2 → Nat) = fun _ => 0 := funext fun a => by fin_cases a <;> rfl
  have z3 : (![0, 0, 0] : Fin 3 → Nat) = fun _ => 0 := funext fun a => by fin_cases a <;> rfl
  unfold k0_pay4
  rw [View.ld_unit_zero (S := S40x1x4096) z3 _ x, View.ld_unit_zero (S := S32000x4096) z2 _ w, View.ld_unit_zero (S := S40x1) z2 _ xs,
    View.ld_unit_zero (S := S32000) z1 _ ws, View.ld_unit_zero (S := S40x32000) z2 _ b, View.ld_unit_zero (S := S40x32000) z2 _ cnt,
    View.ld_unit_zero (S := S40) z1 _ rep, View.ld_unit_zero (S := S40) z1 _ freq, View.ld_unit_zero (S := S40) z1 _ pres]
  exact RefValue.pen_apply x xs w ws cnt b rep freq pres r v

/-- The reference's first result: the log probabilities of the penalised logits. -/
theorem ref_logprobs : Cert.ReferenceIdeal.Value.G9 (F := Ideal) x xs w ws cnt b rep freq pres
    = logprobs (pensOf x xs w ws cnt b rep freq pres) := by
  funext i
  obtain ⟨r, v, rfl⟩ : ∃ (r : Fin 40) (v : Fin 32000), i = ix2 r v := ⟨_, _, eq_ix2 (n0 := 40) (n1 := 32000) i⟩
  exact RefValue.logprob_apply _ _ r (fun v => ref_pens x xs w ws cnt b rep freq pres r v) v

/-- The reference's second result: the log-sum-exp of each row of them. -/
theorem ref_lses : Cert.ReferenceIdeal.Value.G10 (F := Ideal) x xs w ws cnt b rep freq pres
    = lses (pensOf x xs w ws cnt b rep freq pres) := by
  funext i
  obtain ⟨r, u, rfl⟩ : ∃ (r : Fin 40) (u : Fin 1), i = ix2 r u := ⟨_, _, eq_ix2 (n0 := 40) (n1 := 1) i⟩
  obtain rfl : u = 0 := Subsingleton.elim _ _
  exact RefValue.lse_apply _ _ r (fun v => ref_pens x xs w ws cnt b rep freq pres r v)

end Reference

end Cert.Proof.Values

end
-- ==== Proof.Readback.Cell.lean ====
module

public import proofs.«01_k».proof.Defs
public import Idealize.ShloMosaic.Lib.ValueIdx
public import Idealize.ShloMosaic.Lib.ValueLayout
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.Readback
public import proofs.«01_k».proof.Proof.Gen.Readback.Skeleton

@[expose] public section

noncomputable section

namespace Cert.Readback.Hand

open Cert.Readback Cert.Readback.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev cV (L : grid0.Coords) : Fin τ.nSC := (L 0).castLE hcore0
abbrev jV (L : grid0.Coords) : Fin τ.nSub := (L 1).castLE hsub0

variable [FloatOps F]

/-! ## The penalised value of one place -/

/-- The penalised logits of a vector of places, zero at and after the `n`-th: `l` the gathered logits, `c` the counts,
    `b` the biases, `rp`, `fp`, `pp` the repetition, frequency and presence penalties, `pos` the places' numbers. -/
def cellVec {s : Shape} (n pos : IVec s 32) (l : FVec F s .f32) (c : IVec s 32) (b rp fp pp : FVec F s .f32) : FVec F s .f32 :=
  select (cmpi .slt pos n)
    (subf (subf
      (select (cmpi .sgt c (broadcast s 0#32))
        (select (cmpf .ogt (addf l b) (broadcast s (Scalar.ofBits .f32 0x00000000#32))) (divf (addf l b) rp) (mulf (addf l b) rp))
        (addf l b))
      (mulf fp (sitofp .f32 c)))
      (select (cmpi .sgt c (broadcast s 0#32)) pp (broadcast s (Scalar.ofBits .f32 0x00000000#32))))
    (broadcast s (Scalar.ofBits .f32 0x00000000#32))

/-- The same at one place. -/
def cell1 (n pos : BitVec 32) (l : F .f32) (c : BitVec 32) (b rp fp pp : F .f32) : F .f32 :=
  cellVec (s := S16) (fun _ => n) (fun _ => pos) (fun _ => l) (fun _ => c) (fun _ => b) (fun _ => rp) (fun _ => fp) (fun _ => pp)
    (fun | 0 => (⟨0, by decide⟩ : Fin 16))

theorem cellVec_apply {s : Shape} (n pos : IVec s 32) (l : FVec F s .f32) (c : IVec s 32) (b rp fp pp : FVec F s .f32) (x : s.Idx) :
    cellVec n pos l c b rp fp pp x = cell1 (n x) (pos x) (l x) (c x) (b x) (rp x) (fp x) (pp x) := rfl

/-! ## Reading the scratch arrays -/

abbrev at1 {n : ℕ} (i : ℕ) (h : i < n) : (⟨1, ![n]⟩ : Shape).Idx := fun | 0 => ⟨i, h⟩
abbrev at2 {n k : ℕ} (i j : ℕ) (hi : i < n) (hj : j < k) : (⟨2, ![n, k]⟩ : Shape).Idx := fun | 0 => ⟨i, hi⟩ | 1 => ⟨j, hj⟩

/-- The logit that a token id names. -/
def logitAt (fl : Vec F S32000 .f32) (w : BitVec 32) : F .f32 := fl (at1 (w.toNat % 32000) (Nat.mod_lt _ (by decide)))

omit [FloatOps F] in
theorem loadIdx_logit (fl : Vec F S32000 .f32) (v : IVec S16 32) (h : ∀ a x, ((![v] : Fin 1 → IVec S16 32) a x).toNat < S32000.size a) (x : S16.Idx) :
    loadIdx fl (![v] : Fin S32000.rank → IVec S16 32) h x = logitAt fl (v x) := by
  unfold loadIdx idxAt logitAt
  congr 1
  funext a
  match a with
  | 0 =>
    apply Fin.ext
    show (v x).toNat = (v x).toNat % 32000
    exact (Nat.mod_eq_of_lt (h 0 x)).symm

/-- Row `p`, column `q` of a block: the penalised value of that place of the block, from the row's contents. -/
def cellAt (fl : Vec F S32000 .f32) (fi fc : Vec F S56x128 .i32) (fb : Vec F S56x128 .f32) (n : BitVec 32) (rp fp pp : F .f32)
    (pos : BitVec 32) (y : S56x128.Idx) : F .f32 :=
  cell1 n pos (logitAt fl (fi y)) (fc y) (fb y) rp fp pp

omit [FloatOps F] in
/-- A load of sixteen lanes at row `p`, from column `q`, recast as a vector, reads the block at that row. -/
theorem cast16 {e : EltTy} (f : Vec F S56x128 e) {o : Fin 2 → ℕ} (inb : ∀ a, o a + S1x16.size a ≤ S56x128.size a)
    (p q : ℕ) (ho : o = ![p, q]) (hp : p < 56) (hq : q + 16 ≤ 128) (x : S16.Idx) :
    shapeCast S16 (fun z => f ((Rect.unit (s := S56x128) o S1x16.size inb).emb z)) shapeCasts_S1x16_S16 x
      = f (at2 p (q + (x 0).val) hp (lt_of_lt_of_le (Nat.add_lt_add_left (x 0).isLt q) hq)) := by
  subst ho
  have hx : x = ValueIdx.ix1 (x 0) := funext fun a => match a with | 0 => rfl
  rw [hx]
  refine (ValueIdx.shapeCast_1a_a_apply (a := 16) _ _ (x 0)).trans ?_
  congr 1
  funext a
  match a with
  | 0 => rfl
  | 1 => apply Fin.ext; show q + 1 * (x 0).val = q + (x 0).val; omega

/-- Place `j` of a row: its penalised value, from the row's contents. -/
def histAt (fl : Vec F S32000 .f32) (fi fc : Vec F S56x128 .i32) (fb : Vec F S56x128 .f32) (n : BitVec 32) (rp fp pp : F .f32) (j : S6144.Idx) : F .f32 :=
  cellAt fl fi fc fb n rp fp pp (BitVec.ofNat 32 (j 0).val)
    (at2 ((j 0).val / 128) ((j 0).val % 128) (by have h : (j 0).val < 6144 := (j 0).isLt; omega) (Nat.mod_lt _ (by decide)))

/-- Slot `j` of a row: its penalised value, from the row's contents. -/
def slotAt (fl : Vec F S32000 .f32) (fi fc : Vec F S56x128 .i32) (fb : Vec F S56x128 .f32) (n : BitVec 32) (rp fp pp : F .f32) (j : S32.Idx) : F .f32 :=
  cellAt fl fi fc fb n rp fp pp (BitVec.ofNat 32 (j 0).val)
    (at2 48 (j 0).val (by decide) (lt_trans (j 0).isLt (by decide)))

omit [FloatOps F] in
theorem read_whole5 (fl : Vec F S32000 .f32) :
    View.read (Elt F) ((Memref.whole cc0_scratch5 : Memref sig .scVector .vmem S32000 .f32).access (Rect.whole S32000)) fl = fl := by
  funext y
  show fl ((Rect.whole S32000).emb y) = fl y
  congr 1
  funext a
  apply Fin.ext
  show 0 + 1 * (y a).val = (y a).val
  omega

/-- Sixteen lanes computed from the loads at row `p`, column `q` are the penalised values of those places. -/
theorem lanes (fl : Vec F S32000 .f32) (fi fc : Vec F S56x128 .i32) (fb : Vec F S56x128 .f32) (n : BitVec 32) (rp fp pp : F .f32)
    (v0 : IVec S16 32) (h0 : ∀ x, v0 x = BitVec.ofNat 32 (x 0).val)
    (v43 : IVec S16 32) (hn : ∀ x, v43 x = n) (v37 v39 v41 : FVec F S16 .f32) (hr : ∀ x, v37 x = rp) (hf : ∀ x, v39 x = fp) (hp : ∀ x, v41 x = pp)
    (p q : ℕ) (hp' : p < 56) (hq : q + 16 ≤ 128) (pos : ℕ) (w : BitVec 32) (hw : w = BitVec.ofNat 32 pos)
    {o o' o'' : Fin 2 → ℕ} (ho : o = ![p, q]) (ho' : o' = ![p, q]) (ho'' : o'' = ![p, q])
    (inb : ∀ a, o a + S1x16.size a ≤ S56x128.size a) (inb' : ∀ a, o' a + S1x16.size a ≤ S56x128.size a) (inb'' : ∀ a, o'' a + S1x16.size a ≤ S56x128.size a)
    (h : ∀ a x, ((![(shapeCast S16 (View.readAt (Elt F) (Memref.whole cc0_scratch6 : Memref sig .scVector .vmem S56x128 .i32).view (Rect.unit (s := S56x128) o' S1x16.size inb').toLoadRect fi) shapeCasts_S1x16_S16 : IVec S16 32)] : Fin 1 → IVec S16 32) a x).toNat < S32000.size a)
    (P : FVec F S16 .f32)
    (hP : P = cellVec v43 (addi (broadcast S16 w) v0)
      (loadIdx (View.read (Elt F) ((Memref.whole cc0_scratch5 : Memref sig .scVector .vmem S32000 .f32).access (Rect.whole S32000)) fl) (s := S32000)
        (![(shapeCast S16 (View.readAt (Elt F) (Memref.whole cc0_scratch6 : Memref sig .scVector .vmem S56x128 .i32).view (Rect.unit (s := S56x128) o' S1x16.size inb').toLoadRect fi) shapeCasts_S1x16_S16 : IVec S16 32)] : Fin 1 → IVec S16 32) h)
      (shapeCast S16 (View.readAt (Elt F) (Memref.whole cc0_scratch7 : Memref sig .scVector .vmem S56x128 .i32).view (Rect.unit (s := S56x128) o S1x16.size inb).toLoadRect fc) shapeCasts_S1x16_S16 : IVec S16 32)
      (shapeCast S16 (View.readAt (Elt F) (Memref.whole cc0_scratch8 : Memref sig .scVector .vmem S56x128 .f32).view (Rect.unit (s := S56x128) o'' S1x16.size inb'').toLoadRect fb) shapeCasts_S1x16_S16 : FVec F S16 .f32)
      v37 v39 v41) (x : S16.Idx) :
    P x = cellAt fl fi fc fb n rp fp pp (BitVec.ofNat 32 (pos + (x 0).val))
      (at2 p (q + (x 0).val) hp' (lt_of_lt_of_le (Nat.add_lt_add_left (x 0).isLt q) hq)) := by
  subst hP
  rw [cellVec_apply, hn, hr, hf, hp, loadIdx_logit, read_whole5]
  have e1 := cast16 fi inb' p q ho' hp' hq x
  have e2 := cast16 fc inb p q ho hp' hq x
  have e3 := cast16 fb inb'' p q ho'' hp' hq x
  have ew : addi (broadcast S16 w) v0 x = BitVec.ofNat 32 (pos + (x 0).val) := by
    show w + v0 x = _
    rw [hw, h0, BitVec.ofNat_add]
  unfold cellAt
  rw [ew]
  have key : ∀ (W : BitVec 32) (l l' c c' : BitVec 32) (b b' : F .f32), l = l' → c = c' → b = b' →
      cell1 n W (logitAt fl l) c b rp fp pp = cell1 n W (logitAt fl l') c' b' rp fp pp := by
    rintro W l _ c _ b _ rfl rfl rfl; rfl
  exact key _ _ _ _ _ _ _ e1 e2 e3

end Cert.Readback.Hand
-- ==== Proof.Readback.Trip.lean ====
module

public import proofs.«01_k».proof.Defs
public import proofs.«01_k».proof.Proof.Readback.Cell
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.Readback
public import proofs.«01_k».proof.Proof.Gen.Readback.Skeleton

@[expose] public section

noncomputable section

namespace Cert.Readback.Hand

open Cert.Readback Cert.Readback.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UU : Type := UH × Counters
local notation "𝕄" => MT nD τ sig (HIx 1) (Elt F) ℕ UU ℕ
abbrev 𝒱₀ : Variants := Variants.none
variable [FloatOps F]

/-- One trip of the block loop, over the program's arrays. -/
abbrev trip (L : grid0.Coords) (v0 : IVec S16 32) (k : Fin (k0_t1_loop L).trips) (v35 : BitVec 32) (v37 v39 v41 : Vec F S16 .f32) (v43 : Vec F S16 .i32) :=
  k0_t2_body L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 v0 k v35 v37 v39 v41 v43

theorem posW : ∀ (t : Fin k0_t2_loop.trips) (c : Fin 8),
    Scalar.addi (Scalar.muli (Scalar.addi 0#32 (Scalar.muli (Scf.iv 0#32 1#32 t) 1#32)) 128#32) (BitVec.ofNat 32 (16 * c.val))
      = BitVec.ofNat 32 (128 * t.val + 16 * c.val) := by decide +kernel
theorem trips2 : k0_t2_loop.trips = 48 := by decide +kernel

/-- The sixteen ids that a load at rows below 49 takes name logits. -/
def IdsOK (fi : Vec F S56x128 .i32) : Prop :=
  ∀ y : S56x128.Idx, (y 0).val < 48 ∨ ((y 0).val = 48 ∧ (y 1).val < 32) → (fi y).toNat < 32000

omit [FloatOps F] in
theorem ids_lt (fi : Vec F S56x128 .i32) (hi : IdsOK fi) {o : Fin 2 → ℕ} (inb : ∀ a, o a + S1x16.size a ≤ S56x128.size a)
    (p q : ℕ) (ho : o = ![p, q]) (hp : p < 56) (hq : q + 16 ≤ 128) (hpq : p < 48 ∨ (p = 48 ∧ q + 16 ≤ 32)) :
    ∀ (a : Fin 1) (x : S16.Idx), ((![(shapeCast S16 (View.readAt (Elt F) (Memref.whole cc0_scratch6 : Memref sig .scVector .vmem S56x128 .i32).view
      (Rect.unit (s := S56x128) o S1x16.size inb).toLoadRect fi) shapeCasts_S1x16_S16 : IVec S16 32)] : Fin 1 → IVec S16 32) a x).toNat < S32000.size a := by
  intro a x
  match a with
  | 0 =>
    have e := cast16 fi inb p q ho hp hq x
    refine lt_of_eq_of_lt (congrArg BitVec.toNat e) (hi _ ?_)
    rcases hpq with h | ⟨h, h'⟩
    · exact .inl h
    · refine .inr ⟨h, ?_⟩
      have : (x 0).val < 16 := (x 0).isLt
      show q + (x 0).val < 32
      omega

omit [FloatOps F] in
/-- Eight pieces of sixteen places fill a block of 128. -/
theorem block8 (fo G : Vec F S6144 .f32) (t : ℕ) (ht : t < 48) (hfo : ∀ j : S6144.Idx, (j 0).val < 128 * t → fo j = G j)
    {o7 : Fin 1 → ℕ} {i7 : ∀ a, o7 a + S16.size a ≤ S6144.size a} {P7 : Vec F S16 .f32}
    (h7 : ∀ x, P7 x = G ((Rect.unit (s := S6144) o7 S16.size i7).emb x)) (e7 : o7 = ![128 * t + 112])
    {o6 : Fin 1 → ℕ} {i6 : ∀ a, o6 a + S16.size a ≤ S6144.size a} {P6 : Vec F S16 .f32}
    (h6 : ∀ x, P6 x = G ((Rect.unit (s := S6144) o6 S16.size i6).emb x)) (e6 : o6 = ![128 * t + 96])
    {o5 : Fin 1 → ℕ} {i5 : ∀ a, o5 a + S16.size a ≤ S6144.size a} {P5 : Vec F S16 .f32}
    (h5 : ∀ x, P5 x = G ((Rect.unit (s := S6144) o5 S16.size i5).emb x)) (e5 : o5 = ![128 * t + 80])
    {o4 : Fin 1 → ℕ} {i4 : ∀ a, o4 a + S16.size a ≤ S6144.size a} {P4 : Vec F S16 .f32}
    (h4 : ∀ x, P4 x = G ((Rect.unit (s := S6144) o4 S16.size i4).emb x)) (e4 : o4 = ![128 * t + 64])
    {o3 : Fin 1 → ℕ} {i3 : ∀ a, o3 a + S16.size a ≤ S6144.size a} {P3 : Vec F S16 .f32}
    (h3 : ∀ x, P3 x = G ((Rect.unit (s := S6144) o3 S16.size i3).emb x)) (e3 : o3 = ![128 * t + 48])
    {o2 : Fin 1 → ℕ} {i2 : ∀ a, o2 a + S16.size a ≤ S6144.size a} {P2 : Vec F S16 .f32}
    (h2 : ∀ x, P2 x = G ((Rect.unit (s := S6144) o2 S16.size i2).emb x)) (e2 : o2 = ![128 * t + 32])
    {o1 : Fin 1 → ℕ} {i1 : ∀ a, o1 a + S16.size a ≤ S6144.size a} {P1 : Vec F S16 .f32}
    (h1 : ∀ x, P1 x = G ((Rect.unit (s := S6144) o1 S16.size i1).emb x)) (e1 : o1 = ![128 * t + 16])
    {o0 : Fin 1 → ℕ} {i0 : ∀ a, o0 a + S16.size a ≤ S6144.size a} {P0 : Vec F S16 .f32}
    (h0 : ∀ x, P0 x = G ((Rect.unit (s := S6144) o0 S16.size i0).emb x)) (e0 : o0 = ![128 * t])
    (j : S6144.Idx) (hj : (j 0).val < 128 * (t + 1)) :
    (Memref.whole cc0_scratch9 : Memref sig .scVector .vmem S6144 .f32).view.writes (Elt F) fo
      [⟨Rect.unit (s := S6144) o7 S16.size i7, P7⟩,
       ⟨Rect.unit (s := S6144) o6 S16.size i6, P6⟩,
       ⟨Rect.unit (s := S6144) o5 S16.size i5, P5⟩,
       ⟨Rect.unit (s := S6144) o4 S16.size i4, P4⟩,
       ⟨Rect.unit (s := S6144) o3 S16.size i3, P3⟩,
       ⟨Rect.unit (s := S6144) o2 S16.size i2, P2⟩,
       ⟨Rect.unit (s := S6144) o1 S16.size i1, P1⟩,
       ⟨Rect.unit (s := S6144) o0 S16.size i0, P0⟩] j = G j := by
  subst e7 e6 e5 e4 e3 e2 e1 e0
  have one : ∀ (q : ℕ) (inb : ∀ a, (![q] : Fin 1 → ℕ) a + S16.size a ≤ S6144.size a), j ∈ (Rect.unit (s := S6144) ![q] S16.size inb).set ↔ q ≤ (j 0).val ∧ (j 0).val < q + 16 := by
    intro q inb
    rw [Rect.mem_set_unit]
    exact ⟨fun h => h 0, fun h a => by match a with | 0 => exact h⟩
  have hr : ∀ f : Vec F S6144 .f32, View.read (Elt F) (Memref.whole cc0_scratch9 : Memref sig .scVector .vmem S6144 .f32).view f = f := fun f => rfl
  refine (congrFun (hr _).symm j).trans ?_
  by_cases h : (j 0).val < 128 * t
  · rw [View.read_writes_apply_of_forall_not_mem, hr, hfo j h]
    simp only [List.forall_mem_cons, one, List.not_mem_nil, false_imp_iff, implies_true, and_true]
    omega
  · refine View.read_writes_apply_of_pieces (v := (Memref.whole cc0_scratch9 : Memref sig .scVector .vmem S6144 .f32).view) (f := fo) (G := G) _ ?_ j ?_
    · simp only [List.forall_mem_cons, List.not_mem_nil, false_imp_iff, implies_true, and_true]
      exact ⟨h7, h6, h5, h4, h3, h2, h1, h0⟩
    · by_contra hc
      simp only [not_exists, not_and, List.forall_mem_cons, one, List.not_mem_nil, false_imp_iff, implies_true, and_true] at hc
      omega

/-- The sixteen lanes of group `c` of block `t` are those places of the row's value. -/
theorem lanes_hist (fl : Vec F S32000 .f32) (fi fc : Vec F S56x128 .i32) (fb : Vec F S56x128 .f32) (n : BitVec 32) (rp fp pp : F .f32)
    (v0 : IVec S16 32) (h0 : ∀ x, v0 x = BitVec.ofNat 32 (x 0).val)
    (v43 : IVec S16 32) (hn : ∀ x, v43 x = n) (v37 v39 v41 : FVec F S16 .f32) (hr : ∀ x, v37 x = rp) (hf : ∀ x, v39 x = fp) (hp : ∀ x, v41 x = pp)
    (t : Fin k0_t2_loop.trips) (c : Fin 8) {oo : Fin 1 → ℕ} (hoo : oo = ![128 * t.val + 16 * c.val]) (inbo : ∀ a, oo a + S16.size a ≤ S6144.size a)
    {o o' o'' : Fin 2 → ℕ} (ho : o = ![t.val, 16 * c.val]) (ho' : o' = ![t.val, 16 * c.val]) (ho'' : o'' = ![t.val, 16 * c.val])
    (inb : ∀ a, o a + S1x16.size a ≤ S56x128.size a) (inb' : ∀ a, o' a + S1x16.size a ≤ S56x128.size a) (inb'' : ∀ a, o'' a + S1x16.size a ≤ S56x128.size a)
    (h : ∀ a x, ((![(shapeCast S16 (View.readAt (Elt F) (Memref.whole cc0_scratch6 : Memref sig .scVector .vmem S56x128 .i32).view (Rect.unit (s := S56x128) o' S1x16.size inb').toLoadRect fi) shapeCasts_S1x16_S16 : IVec S16 32)] : Fin 1 → IVec S16 32) a x).toNat < S32000.size a)
    (P : FVec F S16 .f32)
    (hP : P = cellVec v43 (addi (broadcast S16 (Scalar.addi (Scalar.muli (Scalar.addi 0#32 (Scalar.muli (Scf.iv 0#32 1#32 t) 1#32)) 128#32) (BitVec.ofNat 32 (16 * c.val)))) v0)
      (loadIdx (View.read (Elt F) ((Memref.whole cc0_scratch5 : Memref sig .scVector .vmem S32000 .f32).access (Rect.whole S32000)) fl) (s := S32000)
        (![(shapeCast S16 (View.readAt (Elt F) (Memref.whole cc0_scratch6 : Memref sig .scVector .vmem S56x128 .i32).view (Rect.unit (s := S56x128) o' S1x16.size inb').toLoadRect fi) shapeCasts_S1x16_S16 : IVec S16 32)] : Fin 1 → IVec S16 32) h)
      (shapeCast S16 (View.readAt (Elt F) (Memref.whole cc0_scratch7 : Memref sig .scVector .vmem S56x128 .i32).view (Rect.unit (s := S56x128) o S1x16.size inb).toLoadRect fc) shapeCasts_S1x16_S16 : IVec S16 32)
      (shapeCast S16 (View.readAt (Elt F) (Memref.whole cc0_scratch8 : Memref sig .scVector .vmem S56x128 .f32).view (Rect.unit (s := S56x128) o'' S1x16.size inb'').toLoadRect fb) shapeCasts_S1x16_S16 : FVec F S16 .f32)
      v37 v39 v41) :
    ∀ x, P x = histAt fl fi fc fb n rp fp pp ((Rect.unit (s := S6144) oo S16.size inbo).emb x) := by
  intro x
  have ht : t.val < 48 := lt_of_lt_of_eq t.isLt trips2
  have hc := c.isLt
  have hx : (x 0).val < 16 := (x 0).isLt
  rw [lanes fl fi fc fb n rp fp pp v0 h0 v43 hn v37 v39 v41 hr hf hp t.val (16 * c.val) (by omega) (by omega) (128 * t.val + 16 * c.val) _ (posW t c)
    ho ho' ho'' inb inb' inb'' h P hP x]
  have e : (((Rect.unit (s := S6144) oo S16.size inbo).emb x) 0).val = 128 * t.val + 16 * c.val + (x 0).val := by
    subst hoo; rw [Rect.emb_apply]; show _ + 1 * (x 0).val = _; rw [Nat.one_mul]; rfl
  unfold histAt
  have key : ∀ (j j' a a' b b' : ℕ) (h1 h2 h3 h4), j = j' → a = a' → b = b' →
      cellAt fl fi fc fb n rp fp pp (BitVec.ofNat 32 j) (at2 a b h1 h2) = cellAt fl fi fc fb n rp fp pp (BitVec.ofNat 32 j') (at2 a' b' h3 h4) := by
    rintro j _ a _ b _ _ _ _ _ rfl rfl rfl; rfl
  exact key _ _ _ _ _ _ _ _ _ _ e.symm (by rw [e]; omega) (by rw [e]; omega)

variable (d : Dev nD) (L : grid0.Coords)

/-- Before trip `p` of the block loop the first `p` blocks of the row are written; the row's inputs are in place. -/
def inv2 (fl : Vec F S32000 .f32) (fi fc : Vec F S56x128 .i32) (fb : Vec F S56x128 .f32) (n : BitVec 32) (rp fp pp : F .f32) (p : ℕ) (_ : PUnit) : sProp 𝕄 :=
  iprop(((Memref.whole cc0_scratch5).view.loc (V d (cV L) (jV L)) ↦{fullShare} fl) ∗ ((Memref.whole cc0_scratch6).view.loc (V d (cV L) (jV L)) ↦{fullShare} fi) ∗ ((Memref.whole cc0_scratch7).view.loc (V d (cV L) (jV L)) ↦{fullShare} fc) ∗ ((Memref.whole cc0_scratch8).view.loc (V d (cV L) (jV L)) ↦{fullShare} fb) ∗ ∃ fo, ⌜∀ j : S6144.Idx, (j 0).val < 128 * p → fo j = histAt fl fi fc fb n rp fp pp j⌝ ∗ ((Memref.whole cc0_scratch9).view.loc (V d (cV L) (jV L)) ↦{fullShare} fo))

/-- A trip of the block loop writes block `t` of the row, and leaves what was there before it. -/
theorem trip_spec (v0 : IVec S16 32) (k : Fin (k0_t1_loop L).trips) (v35 : BitVec 32) (v37 v39 v41 : Vec F S16 .f32) (v43 : Vec F S16 .i32)
    (t : Fin k0_t2_loop.trips) (n : BitVec 32) (rp fp pp : F .f32)
    (h0 : ∀ x, v0 x = BitVec.ofNat 32 (x 0).val) (hn : ∀ x, v43 x = n) (hr : ∀ x, v37 x = rp) (hf : ∀ x, v39 x = fp) (hp : ∀ x, v41 x = pp)
    (fl : Vec F S32000 .f32) (fi fc : Vec F S56x128 .i32) (fb : Vec F S56x128 .f32) (hids : IdsOK fi) :
    inv2 d L fl fi fc fb n rp fp pp t.val ()
    ⊢ (wp frame (wpE (defs₀ (F := F)) 𝒱₀ (V d (cV L) (jV L)) none) Set.univ (trip L v0 k v35 v37 v39 v41 v43 t ())
      fun _ => inv2 d L fl fi fc fb n rp fp pp (t.val + 1) () : sProp 𝕄) := by
  unfold inv2
  iintro ⟨Hl, Hi, Hc, Hb, ⟨%fo, %hfo, Ho⟩⟩
  have ht : t.val < 48 := lt_of_lt_of_eq t.isLt trips2
  unfold trip k0_t2_body
  iterate 8 (
    sl_exec (disch := exact ids_lt fi hids _ t.val _ (by first | exact k0_off3_eq t | exact k0_off6_eq t | exact k0_off9_eq t | exact k0_off12_eq t | exact k0_off15_eq t | exact k0_off18_eq t | exact k0_off21_eq t | exact k0_off24_eq t) (by omega) (by decide) (.inl ht))
    iapply (SparseCore.wp_vectorLoadIdx 𝒱₀ (V d (cV L) (jV L)) none Set.univ (base := (Memref.whole cc0_scratch5 : Memref sig .scVector .vmem S32000 .f32)) (S := Finset.univ) (q := fullShare) (Finset.subset_univ _)) $$ Hl
    iintro Hl)
  sl_exec
  sl_step
  isplitl [Hl]; · iexact Hl
  isplitl [Hi]; · iexact Hi
  isplitl [Hc]; · iexact Hc
  isplitl [Hb]; · iexact Hb
  iexists _
  isplitr
  swap
  · iexact Ho
  ipureintro
  intro j hj
  exact block8 fo (histAt fl fi fc fb n rp fp pp) t.val (by omega) hfo
    (lanes_hist fl fi fc fb n rp fp pp v0 h0 v43 hn v37 v39 v41 hr hf hp t 7 (k0_off26_eq t) (k0_off26_inb t) (k0_off24_eq t) (k0_off24_eq t) (k0_off25_eq t) _ _ _ _ _ rfl) (k0_off26_eq t)
    (lanes_hist fl fi fc fb n rp fp pp v0 h0 v43 hn v37 v39 v41 hr hf hp t 6 (k0_off23_eq t) (k0_off23_inb t) (k0_off21_eq t) (k0_off21_eq t) (k0_off22_eq t) _ _ _ _ _ rfl) (k0_off23_eq t)
    (lanes_hist fl fi fc fb n rp fp pp v0 h0 v43 hn v37 v39 v41 hr hf hp t 5 (k0_off20_eq t) (k0_off20_inb t) (k0_off18_eq t) (k0_off18_eq t) (k0_off19_eq t) _ _ _ _ _ rfl) (k0_off20_eq t)
    (lanes_hist fl fi fc fb n rp fp pp v0 h0 v43 hn v37 v39 v41 hr hf hp t 4 (k0_off17_eq t) (k0_off17_inb t) (k0_off15_eq t) (k0_off15_eq t) (k0_off16_eq t) _ _ _ _ _ rfl) (k0_off17_eq t)
    (lanes_hist fl fi fc fb n rp fp pp v0 h0 v43 hn v37 v39 v41 hr hf hp t 3 (k0_off14_eq t) (k0_off14_inb t) (k0_off12_eq t) (k0_off12_eq t) (k0_off13_eq t) _ _ _ _ _ rfl) (k0_off14_eq t)
    (lanes_hist fl fi fc fb n rp fp pp v0 h0 v43 hn v37 v39 v41 hr hf hp t 2 (k0_off11_eq t) (k0_off11_inb t) (k0_off9_eq t) (k0_off9_eq t) (k0_off10_eq t) _ _ _ _ _ rfl) (k0_off11_eq t)
    (lanes_hist fl fi fc fb n rp fp pp v0 h0 v43 hn v37 v39 v41 hr hf hp t 1 (k0_off8_eq t) (k0_off8_inb t) (k0_off6_eq t) (k0_off6_eq t) (k0_off7_eq t) _ _ _ _ _ rfl) (k0_off8_eq t)
    (lanes_hist fl fi fc fb n rp fp pp v0 h0 v43 hn v37 v39 v41 hr hf hp t 0 (k0_off5_eq t) (k0_off5_inb t) (k0_off3_eq t) (k0_off3_eq t) (k0_off4_eq t) _ _ _ _ _ rfl) (k0_off5_eq t)
    j hj

end Cert.Readback.Hand
-- ==== Proof.Readback.Fetch.lean ====
module

public import proofs.«01_k».proof.Defs
public import proofs.«01_k».proof.Proof.Readback.Cell
public import Idealize.ShloMosaic.Lib.ValueIdx
public import Idealize.ShloMosaic.Lib.ValueLayout
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.Readback
public import proofs.«01_k».proof.Proof.Gen.Readback.Skeleton

@[expose] public section

noncomputable section

namespace Cert.Readback.Hand

open Cert.Readback Cert.Readback.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

abbrev at3 {n k l : ℕ} (i j m : ℕ) (hi : i < n) (hj : j < k) (hm : m < l) : (⟨3, ![n, k, l]⟩ : Shape).Idx := fun | 0 => ⟨i, hi⟩ | 1 => ⟨j, hj⟩ | 2 => ⟨m, hm⟩

/-- Row `b` of a matrix, and matrix `b` of a stack. -/
def rowOf {α : Type} {n m : ℕ} (A : (⟨2, ![n, m]⟩ : Shape).Idx → α) (b : Fin n) : (⟨1, ![m]⟩ : Shape).Idx → α := fun y => A (at2 b.val (y 0).val b.isLt (y 0).isLt)
def matOf {α : Type} {n k l : ℕ} (A : (⟨3, ![n, k, l]⟩ : Shape).Idx → α) (b : Fin n) : (⟨2, ![k, l]⟩ : Shape).Idx → α := fun y => A (at3 b.val (y 0).val (y 1).val b.isLt (y 0).isLt (y 1).isLt)

omit [FloatOps F] in
theorem castRow {α : Type} {n m : ℕ} (A : (⟨2, ![n, m]⟩ : Shape).Idx → α) {o : Fin 2 → ℕ} (inb : ∀ a, o a + (![1, m] : Fin 2 → ℕ) a ≤ (![n, m] : Fin 2 → ℕ) a)
    (b : Fin n) (ho : o = ![b.val, 0]) (hc : (⟨2, ![1, m]⟩ : Shape).ShapeCasts ⟨1, ![m]⟩) :
    shapeCast ⟨1, ![m]⟩ (fun z => A ((Rect.unit (s := ⟨2, ![n, m]⟩) o ![1, m] inb).emb z)) hc = rowOf A b := by
  funext x
  subst ho
  have hx : x = ValueIdx.ix1 (x 0) := funext fun a => match a with | 0 => rfl
  refine (congrArg _ hx).trans ((ValueIdx.shapeCast_1a_a_apply (a := m) _ _ (x 0)).trans ?_)
  unfold rowOf
  congr 1
  funext a
  match a with
  | 0 => apply Fin.ext; rw [Rect.emb_apply]; show b.val + 1 * 0 = b.val; omega
  | 1 => apply Fin.ext; rw [Rect.emb_apply]; show 0 + 1 * (x 0).val = (x 0).val; omega

omit [FloatOps F] in
theorem castMat {α : Type} {n k l : ℕ} (A : (⟨3, ![n, k, l]⟩ : Shape).Idx → α) {o : Fin 3 → ℕ} (inb : ∀ a, o a + (![1, k, l] : Fin 3 → ℕ) a ≤ (![n, k, l] : Fin 3 → ℕ) a)
    (b : Fin n) (ho : o = ![b.val, 0, 0]) (hc : (⟨3, ![1, k, l]⟩ : Shape).ShapeCasts ⟨2, ![k, l]⟩) :
    shapeCast ⟨2, ![k, l]⟩ (fun z => A ((Rect.unit (s := ⟨3, ![n, k, l]⟩) o ![1, k, l] inb).emb z)) hc = matOf A b := by
  funext x
  subst ho
  have hx : x = ValueIdx.ix2 (x 0) (x 1) := funext fun a => match a with | 0 => rfl | 1 => rfl
  refine (congrArg _ hx).trans ((ValueIdx.shapeCast_1ab_ab_apply (a := k) (b := l) _ _ (x 0) (x 1)).trans ?_)
  unfold matOf
  congr 1
  funext a
  match a with
  | 0 => apply Fin.ext; rw [Rect.emb_apply]; show b.val + 1 * 0 = b.val; omega
  | 1 => apply Fin.ext; rw [Rect.emb_apply]; show 0 + 1 * (x 0).val = (x 0).val; omega
  | 2 => apply Fin.ext; rw [Rect.emb_apply]; show 0 + 1 * (x 1).val = (x 1).val; omega

/-! ## The row of a trip -/

/-- The first row of a task, as the program computes it; and the row of trip `k`. -/
abbrev v2E (L : grid0.Coords) : BitVec 32 := Scalar.addi (Scalar.muli (BitVec.ofNat 32 (L 1).val) 2#32) (BitVec.ofNat 32 (L 0).val)
abbrev bW (L : grid0.Coords) (k : Fin (k0_t1_loop L).trips) : BitVec 32 :=
  Scalar.addi (v2E L) (Scalar.muli (Scalar.addi 0#32 (Scalar.muli (Scf.iv 0#32 1#32 k) 1#32)) 32#32)
abbrev bN (L : grid0.Coords) (k : Fin (k0_t1_loop L).trips) : ℕ := 2 * (L 1).val + (L 0).val + 32 * k.val
theorem bW_eq : ∀ (L : grid0.Coords) (k : Fin (k0_t1_loop L).trips), bW L k = BitVec.ofNat 32 (bN L k) ∧ bN L k < 40 := by decide +kernel
def bF (L : grid0.Coords) (k : Fin (k0_t1_loop L).trips) : Fin 40 := ⟨bN L k, (bW_eq L k).2⟩
theorem bW_toNat (L : grid0.Coords) (k : Fin (k0_t1_loop L).trips) : (bW L k).toNat = (bF L k).val := by
  obtain ⟨e, h⟩ := bW_eq L k
  rw [e, BitVec.toNat_ofNat, Nat.mod_eq_of_lt (by omega)]; rfl
theorem bW_lt (L : grid0.Coords) (k : Fin (k0_t1_loop L).trips) : (bW L k).toNat < 40 := by
  rw [bW_toNat]; exact (bF L k).isLt
theorem chk40 (w : BitVec 32) (h : w.toNat < 40) : ∀ (a : Fin 1) (x : S16.Idx), ((![broadcast S16 w] : Fin 1 → IVec S16 32) a x).toNat < S40.size a := by
  intro a x
  match a with
  | 0 => exact h

omit [FloatOps F] in
/-- A gather at one index sixteen times reads that entry sixteen times. -/
theorem loadIdx40 {e : EltTy} (B : Vec F S40 e) (w : BitVec 32) (b : Fin 40) (hw : w.toNat = b.val)
    (h : ∀ a x, ((![broadcast S16 w] : Fin S40.rank → IVec S16 32) a x).toNat < S40.size a) (x : S16.Idx) :
    loadIdx B (![broadcast S16 w] : Fin S40.rank → IVec S16 32) h x = B (at1 b.val b.isLt) := by
  unfold loadIdx idxAt
  congr 1
  funext a
  match a with
  | 0 => exact Fin.ext hw

/-! ## What the copies in leave -/

abbrev hRow (L : grid0.Coords) (k : Fin (k0_t1_loop L).trips) : Memref sig .scVector .hbm S6144 .f32 :=
  ((Memref.whole main_v0_0_scv : Memref sig .scVector .hbm S40x6144 .f32).slice (Rect.unit (s := S40x6144) (k0_off27 L k) S1x6144.size (k0_off27_inb L k)) (fun _ => rfl)).squeeze S6144 squeezes_S1x6144_S6144
abbrev sRow (L : grid0.Coords) (k : Fin (k0_t1_loop L).trips) : Memref sig .scVector .hbm S24 .f32 :=
  ((Memref.whole main_v0_1_scv : Memref sig .scVector .hbm S40x24 .f32).slice (Rect.unit (s := S40x24) (k0_off28 L k) S1x24.size (k0_off28_inb L k)) (fun _ => rfl)).squeeze S24 squeezes_S1x24_S24
abbrev lRow (L : grid0.Coords) (k : Fin (k0_t1_loop L).trips) : Memref sig .scVector .hbm S32000 .f32 :=
  ((Memref.whole main_arg0_scv : Memref sig .scVector .hbm S40x32000 .f32).slice (Rect.unit (s := S40x32000) (k0_off1 L k) S1x32000.size (k0_off1_inb L k)) (fun _ => rfl)).squeeze S32000 squeezes_S1x32000_S32000
abbrev iRow (L : grid0.Coords) (k : Fin (k0_t1_loop L).trips) : Memref sig .scVector .hbm S56x128 .i32 :=
  ((Memref.whole main_arg1_scv : Memref sig .scVector .hbm S40x56x128 .i32).slice (Rect.unit (s := S40x56x128) (k0_off2 L k) S1x56x128.size (k0_off2_inb L k)) (fun _ => rfl)).squeeze S56x128 squeezes_S1x56x128_S56x128
abbrev cRow (L : grid0.Coords) (k : Fin (k0_t1_loop L).trips) : Memref sig .scVector .hbm S56x128 .i32 :=
  ((Memref.whole main_arg2_scv : Memref sig .scVector .hbm S40x56x128 .i32).slice (Rect.unit (s := S40x56x128) (k0_off2 L k) S1x56x128.size (k0_off2_inb L k)) (fun _ => rfl)).squeeze S56x128 squeezes_S1x56x128_S56x128
abbrev pRow (L : grid0.Coords) (k : Fin (k0_t1_loop L).trips) : Memref sig .scVector .hbm S56x128 .f32 :=
  ((Memref.whole main_arg3_scv : Memref sig .scVector .hbm S40x56x128 .f32).slice (Rect.unit (s := S40x56x128) (k0_off2 L k) S1x56x128.size (k0_off2_inb L k)) (fun _ => rfl)).squeeze S56x128 squeezes_S1x56x128_S56x128

variable (L : grid0.Coords) (k : Fin (k0_t1_loop L).trips)

omit [FloatOps F] in
theorem fetch5 (A : Vec F S40x32000 .f32) (f : Vec F S32000 .f32) :
    View.write (Elt F) (Memref.whole cc0_scratch5 : Memref sig .scVector .vmem S32000 .f32).view f ((lRow L k).view.read (Elt F) A) Finset.univ = rowOf A (bF L k) :=
  (View.write_whole_univ _ _ _).trans (castRow A (k0_off1_inb L k) (bF L k) (k0_off1_eq L k) (by decide))
omit [FloatOps F] in
theorem fetch6 (A : Vec F S40x56x128 .i32) (f : Vec F S56x128 .i32) :
    View.write (Elt F) (Memref.whole cc0_scratch6 : Memref sig .scVector .vmem S56x128 .i32).view f ((iRow L k).view.read (Elt F) A) Finset.univ = matOf A (bF L k) :=
  (View.write_whole_univ _ _ _).trans (castMat A (k0_off2_inb L k) (bF L k) (k0_off2_eq L k) (by decide))
omit [FloatOps F] in
theorem fetch7 (A : Vec F S40x56x128 .i32) (f : Vec F S56x128 .i32) :
    View.write (Elt F) (Memref.whole cc0_scratch7 : Memref sig .scVector .vmem S56x128 .i32).view f ((cRow L k).view.read (Elt F) A) Finset.univ = matOf A (bF L k) :=
  (View.write_whole_univ _ _ _).trans (castMat A (k0_off2_inb L k) (bF L k) (k0_off2_eq L k) (by decide))
omit [FloatOps F] in
theorem fetch8 (A : Vec F S40x56x128 .f32) (f : Vec F S56x128 .f32) :
    View.write (Elt F) (Memref.whole cc0_scratch8 : Memref sig .scVector .vmem S56x128 .f32).view f ((pRow L k).view.read (Elt F) A) Finset.univ = matOf A (bF L k) :=
  (View.write_whole_univ _ _ _).trans (castMat A (k0_off2_inb L k) (bF L k) (k0_off2_eq L k) (by decide))

theorem hRow_emb (y : S6144.Idx) : (hRow L k).view.emb y = (at2 (bF L k).val (y 0).val (bF L k).isLt (y 0).isLt : S40x6144.Idx) :=
  congrFun (castRow (fun z : S40x6144.Idx => z) (k0_off27_inb L k) (bF L k) (k0_off27_eq L k) (by decide)) y
theorem hRow_mem (x : S40x6144.Idx) : x ∈ (hRow L k).view.set ↔ (x 0).val = (bF L k).val := by
  constructor
  · intro h
    obtain ⟨y, -, hy⟩ := Finset.mem_map.mp h
    rw [hRow_emb] at hy
    rw [← hy]
  · intro h
    refine Finset.mem_map.mpr ⟨at1 (x 1).val (x 1).isLt, Finset.mem_univ _, ?_⟩
    rw [hRow_emb]
    funext a
    match a with
    | 0 => exact Fin.ext h.symm
    | 1 => rfl

theorem sRow_emb (y : S24.Idx) : (sRow L k).view.emb y = (at2 (bF L k).val (y 0).val (bF L k).isLt (y 0).isLt : S40x24.Idx) :=
  congrFun (castRow (fun z : S40x24.Idx => z) (k0_off28_inb L k) (bF L k) (k0_off28_eq L k) (by decide)) y
theorem sRow_mem (x : S40x24.Idx) : x ∈ (sRow L k).view.set ↔ (x 0).val = (bF L k).val := by
  constructor
  · intro h
    obtain ⟨y, -, hy⟩ := Finset.mem_map.mp h
    rw [sRow_emb] at hy
    rw [← hy]
  · intro h
    refine Finset.mem_map.mpr ⟨at1 (x 1).val (x 1).isLt, Finset.mem_univ _, ?_⟩
    rw [sRow_emb]
    funext a
    match a with
    | 0 => exact Fin.ext h.symm
    | 1 => rfl

/-! ## What the call leaves in its results -/

/-- The number of a row's slots that are filled: the block length, 24 at most. -/
def slotN (w : BitVec 32) : BitVec 32 := minsi (s := S16) (fun _ => w) (broadcast S16 24#32) (fun | 0 => (⟨0, by decide⟩ : Fin 16))

/-- The read-back history: place `(b, j)` from row `b` of every array. -/
def histF (A0 : Vec F S40x32000 .f32) (A1 A2 : Vec F S40x56x128 .i32) (A3 : Vec F S40x56x128 .f32) (B0 : Vec F S40 .i32) (B2 B3 B4 : Vec F S40 .f32) : Vec F S40x6144 .f32 :=
  fun x => histAt (rowOf A0 (x 0)) (matOf A1 (x 0)) (matOf A2 (x 0)) (matOf A3 (x 0)) (B0 (at1 (x 0).val (x 0).isLt)) (B2 (at1 (x 0).val (x 0).isLt))
    (B3 (at1 (x 0).val (x 0).isLt)) (B4 (at1 (x 0).val (x 0).isLt)) (at1 (x 1).val (x 1).isLt)

/-- The read-back slots. -/
def slotF (A0 : Vec F S40x32000 .f32) (A1 A2 : Vec F S40x56x128 .i32) (A3 : Vec F S40x56x128 .f32) (B1 : Vec F S40 .i32) (B2 B3 B4 : Vec F S40 .f32) : Vec F S40x24 .f32 :=
  fun x => slotAt (rowOf A0 (x 0)) (matOf A1 (x 0)) (matOf A2 (x 0)) (matOf A3 (x 0)) (slotN (B1 (at1 (x 0).val (x 0).isLt))) (B2 (at1 (x 0).val (x 0).isLt))
    (B3 (at1 (x 0).val (x 0).isLt)) (B4 (at1 (x 0).val (x 0).isLt)) (at1 (x 1).val (lt_trans (x 1).isLt (by decide)))

/-- Two stores of sixteen lanes, the upper and the lower, read through the first 24 of the 32 slots. -/
theorem slots_read (f10 : Vec F S32 .f32) (G : Vec F S32 .f32) (P0 P1 : Vec F S16 .f32)
    (h0 : ∀ x, P0 x = G (at1 (x 0).val (lt_trans (x 0).isLt (by decide))))
    (h1 : ∀ x, P1 x = G (at1 (16 + (x 0).val) (Nat.add_lt_add_left (x 0).isLt 16))) (y : S24.Idx) :
    ((Memref.whole cc0_scratch10 : Memref sig .scVector .vmem S32 .f32).slice (Rect.unit (s := S32) ![0] S24.size inb_S32_S24_0) (fun _ => rfl)).view.read (Elt F)
      ((Memref.whole cc0_scratch10 : Memref sig .scVector .vmem S32 .f32).view.writes (Elt F) f10
        [⟨Rect.unit (s := S32) ![16] S16.size inb_S32_S16_16, P1⟩, ⟨Rect.unit (s := S32) ![0] S16.size inb_S32_S16_0, P0⟩]) y
      = G (at1 (y 0).val (lt_trans (y 0).isLt (by decide))) := by
  have hy : (y 0).val < 24 := (y 0).isLt
  have e : (Rect.unit (s := S32) ![0] S24.size inb_S32_S24_0).emb y = at1 (y 0).val (lt_trans (y 0).isLt (by decide)) := by
    funext a
    match a with
    | 0 => apply Fin.ext; rw [Rect.emb_apply]; show 0 + 1 * (y 0).val = (y 0).val; omega
  have one : ∀ (q : ℕ) (inb : ∀ a, (![q] : Fin 1 → ℕ) a + S16.size a ≤ S32.size a) (j : S32.Idx), j ∈ (Rect.unit (s := S32) ![q] S16.size inb).set ↔ q ≤ (j 0).val ∧ (j 0).val < q + 16 := by
    intro q inb j
    rw [Rect.mem_set_unit]
    exact ⟨fun h => h 0, fun h a => by match a with | 0 => exact h⟩
  rw [← e]
  refine View.read_writes_apply_of_pieces (v := (Memref.whole cc0_scratch10 : Memref sig .scVector .vmem S32 .f32).view) (f := f10) (G := G) _ ?_ _ ?_
  · simp only [List.forall_mem_cons, List.not_mem_nil, false_imp_iff, implies_true, and_true]
    refine ⟨fun x => (h1 x).trans (congrArg G ?_), fun x => (h0 x).trans (congrArg G ?_)⟩
    · funext a
      match a with
      | 0 => apply Fin.ext; rw [Rect.emb_apply]; show 16 + (x 0).val = 16 + 1 * (x 0).val; omega
    · funext a
      match a with
      | 0 => apply Fin.ext; rw [Rect.emb_apply]; show (x 0).val = 0 + 1 * (x 0).val; omega
  · by_contra hc
    simp only [not_exists, not_and, List.forall_mem_cons, one, List.not_mem_nil, false_imp_iff, implies_true, and_true] at hc
    rw [e] at hc
    change (16 ≤ (y 0).val → ¬ (y 0).val < 16 + 16) ∧ (0 ≤ (y 0).val → ¬ (y 0).val < 0 + 16) at hc
    omega

end Cert.Readback.Hand
-- ==== Proof.Readback.Row.lean ====
module

public import proofs.«01_k».proof.Defs
public import proofs.«01_k».proof.Proof.Readback.Trip
public import proofs.«01_k».proof.Proof.Readback.Fetch
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.Readback
public import proofs.«01_k».proof.Proof.Gen.Readback.Skeleton

@[expose] public section

noncomputable section

namespace Cert.Readback.Hand

open Cert.Readback Cert.Readback.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F]

/-- One trip of the row loop, over the program's arrays. -/
abbrev rowTrip (L : grid0.Coords) (v0 : IVec S16 32) (v2 : BitVec 32) :=
  k0_t1_body (F := F) L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 v0 v2 1#32 0#32 0#32

theorem conv {ℓ : Loc nD τ sig} {f g : Buf (Elt F) ℓ} {q : PosShare TreeShare} (h : f = g) :
    (ℓ ↦{q} f : sProp 𝕄) ⊢ ℓ ↦{q} g := by
  subst h; iintro H; iexact H

omit [FloatOps F] in
/-- The same of a gather from a whole buffer. -/
theorem loadWhole40 {e : EltTy} (f B : Vec F S40 e) (hf : f = B) (w : BitVec 32) (b : Fin 40) (hw : w.toNat = b.val)
    (h : ∀ a x, ((![broadcast S16 w] : Fin S40.rank → IVec S16 32) a x).toNat < S40.size a) (x : S16.Idx) :
    loadIdx f (![broadcast S16 w] : Fin S40.rank → IVec S16 32) h x = B (at1 b.val b.isLt) := by
  subst hf; exact loadIdx40 f w b hw h x

omit [FloatOps F] in
/-- What one write of a whole view leaves in the view's elements. -/
theorem writes_on {κ : Kind} {sp : Space} {s : Shape} {e : EltTy} (v : View sig κ sp s e) (f g : v.ty.Contents (Elt F)) (P : s.Idx → Elt F e)
    (h : ∀ y, P y = v.read (Elt F) g y) (z : v.ty.Idx) (hz : z ∈ v.set) : v.writes (Elt F) f [⟨Rect.whole s, P⟩] z = g z := by
  obtain ⟨y, -, rfl⟩ := Finset.mem_map.mp hz
  have e := (congrFun (View.read_writes_whole v f P) y).trans (h y)
  exact cast_inj _ |>.mp e

omit [FloatOps F] in
theorem read_hRow (L : grid0.Coords) (k : Fin (k0_t1_loop L).trips) (g : Vec F S40x6144 .f32) (y : S6144.Idx) :
    (hRow L k).view.read (Elt F) g y = g (at2 (bF L k).val (y 0).val (bF L k).isLt (y 0).isLt : S40x6144.Idx) :=
  congrArg g (hRow_emb L k y)
omit [FloatOps F] in
theorem read_sRow (L : grid0.Coords) (k : Fin (k0_t1_loop L).trips) (g : Vec F S40x24 .f32) (y : S24.Idx) :
    (sRow L k).view.read (Elt F) g y = g (at2 (bF L k).val (y 0).val (bF L k).isLt (y 0).isLt : S40x24.Idx) :=
  congrArg g (sRow_emb L k y)

theorem at1_eta {n : ℕ} (y : (⟨1, ![n]⟩ : Shape).Idx) : at1 (y 0).val (y 0).isLt = y := by
  funext a
  match a with
  | 0 => rfl

theorem slot_of (fl : Vec F S32000 .f32) (fi fc : Vec F S56x128 .i32) (fb : Vec F S56x128 .f32) (n : BitVec 32) (rp fp pp : F .f32)
    (j m : ℕ) (hj : j < 32) (e : m = j) (hm : m < 128) :
    cellAt fl fi fc fb n rp fp pp (BitVec.ofNat 32 m) (at2 48 m (by decide) hm) = slotAt fl fi fc fb n rp fp pp (at1 j hj) := by
  subst e; rfl

variable (d : Dev nD) (L : grid0.Coords)

/-- What a task holds throughout the row loop: a share of the four arrays it fetches from, its copies of the five small ones,
    its scratch buffers at some contents, its idle semaphores. -/
def rowSt (q : PosShare TreeShare) (A0 : Vec F S40x32000 .f32) (A1 A2 : Vec F S40x56x128 .i32) (A3 : Vec F S40x56x128 .f32)
    (B0 B1 : Vec F S40 .i32) (B2 B3 B4 : Vec F S40 .f32) (O : CellTallies nD τ sig (HIx 1)) (W : Waits sig (HIx 1)) : sProp 𝕄 :=
  iprop(Transfers.MayWaits (V d (cV L) (jV L)) (none : HIx 1) O
      ∗ ((Memref.whole main_arg0_scv).view.loc (V d (cV L) (jV L)) ↦{q} A0)
      ∗ ((Memref.whole main_arg1_scv).view.loc (V d (cV L) (jV L)) ↦{q} A1)
      ∗ ((Memref.whole main_arg2_scv).view.loc (V d (cV L) (jV L)) ↦{q} A2)
      ∗ ((Memref.whole main_arg3_scv).view.loc (V d (cV L) (jV L)) ↦{q} A3)
      ∗ ((Memref.whole cc0_scratch0).view.loc (V d (cV L) (jV L)) ↦{fullShare} B0)
      ∗ ((Memref.whole cc0_scratch1).view.loc (V d (cV L) (jV L)) ↦{fullShare} B1)
      ∗ ((Memref.whole cc0_scratch2).view.loc (V d (cV L) (jV L)) ↦{fullShare} B2)
      ∗ ((Memref.whole cc0_scratch3).view.loc (V d (cV L) (jV L)) ↦{fullShare} B3)
      ∗ ((Memref.whole cc0_scratch4).view.loc (V d (cV L) (jV L)) ↦{fullShare} B4)
      ∗ (∃ f : Vec F S32000 .f32, ((Memref.whole cc0_scratch5).view.loc (V d (cV L) (jV L)) ↦{fullShare} f))
      ∗ (∃ f : Vec F S56x128 .i32, ((Memref.whole cc0_scratch6).view.loc (V d (cV L) (jV L)) ↦{fullShare} f))
      ∗ (∃ f : Vec F S56x128 .i32, ((Memref.whole cc0_scratch7).view.loc (V d (cV L) (jV L)) ↦{fullShare} f))
      ∗ (∃ f : Vec F S56x128 .f32, ((Memref.whole cc0_scratch8).view.loc (V d (cV L) (jV L)) ↦{fullShare} f))
      ∗ (∃ f : Vec F S6144 .f32, ((Memref.whole cc0_scratch9).view.loc (V d (cV L) (jV L)) ↦{fullShare} f))
      ∗ (∃ f : Vec F S32 .f32, ((Memref.whole cc0_scratch10).view.loc (V d (cV L) (jV L)) ↦{fullShare} f))
      ∗ semVal ((V d (cV L) (jV L)), SemLoc.dma cc0_scoped5.sem) 0
      ∗ semVal ((V d (cV L) (jV L)), SemLoc.dma cc0_scoped6.sem) 0
      ∗ semVal ((V d (cV L) (jV L)), SemLoc.dma cc0_scoped7.sem) 0
      ∗ semVal ((V d (cV L) (jV L)), SemLoc.dma cc0_scoped8.sem) 0
      ∗ semVal ((V d (cV L) (jV L)), SemLoc.dma cc0_scoped9.sem) 0
      ∗ semVal ((V d (cV L) (jV L)), SemLoc.dma cc0_scoped10.sem) 0
      ∗ (∃ W', ⌜∀ p ∈ W', p ∈ W ∨ p.2 = none⌝ ∗ owes (V d (cV L) (jV L)) O W'))

theorem row_spec (v0 : IVec S16 32) (k : Fin (k0_t1_loop L).trips) (q : PosShare TreeShare)
    (h0 : ∀ x, v0 x = BitVec.ofNat 32 (x 0).val)
    (A0 : Vec F S40x32000 .f32) (A1 A2 : Vec F S40x56x128 .i32) (A3 : Vec F S40x56x128 .f32)
    (B0 B1 : Vec F S40 .i32) (B2 B3 B4 : Vec F S40 .f32) (hids : ∀ b : Fin 40, IdsOK (matOf A1 b))
    (gH : Vec F S40x6144 .f32) (gS : Vec F S40x24 .f32) (O : CellTallies nD τ sig (HIx 1)) (W : Waits sig (HIx 1)) :
    iprop(rowSt d L q A0 A1 A2 A3 B0 B1 B2 B3 B4 O W
      ∗ ((hRow L k).view.loc (V d (cV L) (jV L)) ↦[(hRow L k).view.set]{fullShare} gH) ∗ ((sRow L k).view.loc (V d (cV L) (jV L)) ↦[(sRow L k).view.set]{fullShare} gS))
    ⊢ (wp frame (wpE (defs₀ (F := F)) 𝒱₀ (V d (cV L) (jV L)) none) Set.univ (rowTrip L v0 (v2E L) k ())
      fun _ => iprop(rowSt d L q A0 A1 A2 A3 B0 B1 B2 B3 B4 O W
      ∗ ((hRow L k).view.loc (V d (cV L) (jV L)) ↦[(hRow L k).view.set]{fullShare} histF A0 A1 A2 A3 B0 B2 B3 B4) ∗ ((sRow L k).view.loc (V d (cV L) (jV L)) ↦[(sRow L k).view.set]{fullShare} slotF A0 A1 A2 A3 B1 B2 B3 B4)) : sProp 𝕄) := by
  unfold rowSt
  iintro ⟨⟨#Hmw, HA0, HA1, HA2, HA3, HB0, HB1, HB2, HB3, HB4, ⟨%f5, HF5⟩, ⟨%f6, HF6⟩, ⟨%f7, HF7⟩, ⟨%f8, HF8⟩, ⟨%f9, HF9⟩, ⟨%f10, HF10⟩, Hs5, Hs6, Hs7, Hs8, Hs9, Hs10, ⟨%W', %hW', HO⟩⟩, HH, HS⟩
  unfold rowTrip k0_t1_body
  have hb := bW_toNat L k
  sl_exec (disch := first | exact View.amount_pos _ _ (show 0 < S32000.numel by decide) | exact View.amount_pos _ _ (show 0 < S56x128.numel by decide) | exact chk40 _ (bW_lt L k))
  iapply (SparseCore.wp_vectorLoadIdx 𝒱₀ (V d (cV L) (jV L)) none Set.univ (base := (Memref.whole cc0_scratch2 : Memref sig .scVector .vmem S40 .f32)) (S := Finset.univ) (q := fullShare) (Finset.subset_univ _)) $$ HB2
  iintro HB2
  sl_exec (disch := exact chk40 _ (bW_lt L k))
  iapply (SparseCore.wp_vectorLoadIdx 𝒱₀ (V d (cV L) (jV L)) none Set.univ (base := (Memref.whole cc0_scratch3 : Memref sig .scVector .vmem S40 .f32)) (S := Finset.univ) (q := fullShare) (Finset.subset_univ _)) $$ HB3
  iintro HB3
  sl_exec (disch := exact chk40 _ (bW_lt L k))
  iapply (SparseCore.wp_vectorLoadIdx 𝒱₀ (V d (cV L) (jV L)) none Set.univ (base := (Memref.whole cc0_scratch4 : Memref sig .scVector .vmem S40 .f32)) (S := Finset.univ) (q := fullShare) (Finset.subset_univ _)) $$ HB4
  iintro HB4
  sl_exec (disch := exact chk40 _ (bW_lt L k))
  iapply (SparseCore.wp_vectorLoadIdx 𝒱₀ (V d (cV L) (jV L)) none Set.univ (base := (Memref.whole cc0_scratch0 : Memref sig .scVector .vmem S40 .i32)) (S := Finset.univ) (q := fullShare) (Finset.subset_univ _)) $$ HB0
  iintro HB0
  sl_exec (disch := exact chk40 _ (bW_lt L k))
  ihave HF5 := (conv (fetch5 L k A0 f5)) $$ HF5
  ihave HF6 := (conv (fetch6 L k A1 f6)) $$ HF6
  ihave HF7 := (conv (fetch7 L k A2 f7)) $$ HF7
  ihave HF8 := (conv (fetch8 L k A3 f8)) $$ HF8
  sl_for (inv2 d L (rowOf A0 (bF L k)) (matOf A1 (bF L k)) (matOf A2 (bF L k)) (matOf A3 (bF L k)) (B0 (at1 (bF L k).val (bF L k).isLt)) (B2 (at1 (bF L k).val (bF L k).isLt)) (B3 (at1 (bF L k).val (bF L k).isLt)) (B4 (at1 (bF L k).val (bF L k).isLt))) $$ [HF5 HF6 HF7 HF8 HF9]
  case region =>
    intro t _
    exact trip_spec d L v0 k _ _ _ _ _ t _ _ _ _ h0 (fun x => loadWhole40 _ B0 (Memref.read_access_whole _ _ _) _ (bF L k) hb _ x) (fun x => loadWhole40 _ B2 (Memref.read_access_whole _ _ _) _ (bF L k) hb _ x) (fun x => loadWhole40 _ B3 (Memref.read_access_whole _ _ _) _ (bF L k) hb _ x) (fun x => loadWhole40 _ B4 (Memref.read_access_whole _ _ _) _ (bF L k) hb _ x) _ _ _ _ (hids _)
  · unfold inv2
    isplitl [HF5]; · iexact HF5
    isplitl [HF6]; · iexact HF6
    isplitl [HF7]; · iexact HF7
    isplitl [HF8]; · iexact HF8
    iexists f9
    isplitr
    · ipureintro; intro j hj; exact absurd hj (by omega)
    · iexact HF9
  iintro %_ HI
  unfold inv2
  icases HI with ⟨HF5, HF6, HF7, HF8, ⟨%fo, %hfo, HF9⟩⟩
  sl_exec (disch := exact chk40 _ (bW_lt L k))
  iapply (SparseCore.wp_vectorLoadIdx 𝒱₀ (V d (cV L) (jV L)) none Set.univ (base := (Memref.whole cc0_scratch1 : Memref sig .scVector .vmem S40 .i32)) (S := Finset.univ) (q := fullShare) (Finset.subset_univ _)) $$ HB1
  iintro HB1
  sl_exec (disch := exact ids_lt (matOf A1 (bF L k)) (hids _) _ 48 0 rfl (by decide) (by decide) (.inr ⟨rfl, by decide⟩))
  iapply (SparseCore.wp_vectorLoadIdx 𝒱₀ (V d (cV L) (jV L)) none Set.univ (base := (Memref.whole cc0_scratch5 : Memref sig .scVector .vmem S32000 .f32)) (S := Finset.univ) (q := fullShare) (Finset.subset_univ _)) $$ HF5
  iintro HF5
  sl_exec (disch := exact ids_lt (matOf A1 (bF L k)) (hids _) _ 48 16 rfl (by decide) (by decide) (.inr ⟨rfl, by decide⟩))
  iapply (SparseCore.wp_vectorLoadIdx 𝒱₀ (V d (cV L) (jV L)) none Set.univ (base := (Memref.whole cc0_scratch5 : Memref sig .scVector .vmem S32000 .f32)) (S := Finset.univ) (q := fullShare) (Finset.subset_univ _)) $$ HF5
  iintro HF5
  sl_exec (disch := first | exact View.amount_pos _ _ (show 0 < S6144.numel by decide) | exact View.amount_pos _ _ (show 0 < S24.numel by decide))
  sl_step
  isplitr [HH HS]
  swap
  · isplitl [HH]
    · iapply (show ((hRow L k).view.loc (V d (cV L) (jV L)) ↦[(hRow L k).view.set]{fullShare} (hRow L k).view.writes (Elt F) gH [⟨Rect.whole S6144, row_spec.sl.dma3 d L fo⟩] : sProp 𝕄) ⊢ _ from
        Entails.of_eq (pointsTo_congr (g := histF A0 A1 A2 A3 B0 B2 B3 B4) (fun z hz => writes_on (hRow L k).view gH _ _ (fun y => ?_) z hz))) $$ HH
      rw [read_hRow]
      refine (hfo y ?_).trans (congrArg (histAt _ _ _ _ _ _ _ _) (at1_eta y).symm)
      exact lt_of_lt_of_eq (y 0).isLt (congrArg (128 * ·) trips2).symm
    · iapply (show ((sRow L k).view.loc (V d (cV L) (jV L)) ↦[(sRow L k).view.set]{fullShare} (sRow L k).view.writes (Elt F) gS [⟨Rect.whole S24, row_spec.sl.dma3_1 d L v0 k A0 A1 A2 A3 B1 B2 B3 B4 hids f10⟩] : sProp 𝕄) ⊢ _ from
        Entails.of_eq (pointsTo_congr (g := slotF A0 A1 A2 A3 B1 B2 B3 B4) (fun z hz => writes_on (sRow L k).view gS _ _ (fun y => ?_) z hz))) $$ HS
      rw [read_sRow]
      have hn : ∀ x, minsi (loadIdx (View.read (Elt F) ((Memref.whole cc0_scratch1 : Memref sig .scVector .vmem S40 .i32).access (Rect.whole S40)) B1) (![broadcast S16 (bW L k)] : Fin S40.rank → IVec S16 32) (chk40 _ (bW_lt L k))) (broadcast S16 24#32) x = slotN (B1 (at1 (bF L k).val (bF L k).isLt)) := fun x =>
        congrArg slotN (loadWhole40 _ B1 (Memref.read_access_whole _ _ _) _ (bF L k) hb _ x)
      exact slots_read f10 (slotAt (rowOf A0 (bF L k)) (matOf A1 (bF L k)) (matOf A2 (bF L k)) (matOf A3 (bF L k)) (slotN (B1 (at1 (bF L k).val (bF L k).isLt))) (B2 (at1 (bF L k).val (bF L k).isLt)) (B3 (at1 (bF L k).val (bF L k).isLt)) (B4 (at1 (bF L k).val (bF L k).isLt))) _ _
        (fun x => (lanes (rowOf A0 (bF L k)) (matOf A1 (bF L k)) (matOf A2 (bF L k)) (matOf A3 (bF L k)) (slotN (B1 (at1 (bF L k).val (bF L k).isLt))) (B2 (at1 (bF L k).val (bF L k).isLt)) (B3 (at1 (bF L k).val (bF L k).isLt)) (B4 (at1 (bF L k).val (bF L k).isLt))
          v0 h0 _ hn _ _ _ (fun x => loadWhole40 _ B2 (Memref.read_access_whole _ _ _) _ (bF L k) hb (chk40 _ (bW_lt L k)) x) (fun x => loadWhole40 _ B3 (Memref.read_access_whole _ _ _) _ (bF L k) hb (chk40 _ (bW_lt L k)) x) (fun x => loadWhole40 _ B4 (Memref.read_access_whole _ _ _) _ (bF L k) hb (chk40 _ (bW_lt L k)) x)
          48 0 (by decide) (by decide) 0 0#32 rfl rfl rfl rfl _ _ _ _ _ rfl x).trans (slot_of _ _ _ _ _ _ _ _ (x 0).val _ _ (Nat.zero_add _) _)) (fun x => (lanes (rowOf A0 (bF L k)) (matOf A1 (bF L k)) (matOf A2 (bF L k)) (matOf A3 (bF L k)) (slotN (B1 (at1 (bF L k).val (bF L k).isLt))) (B2 (at1 (bF L k).val (bF L k).isLt)) (B3 (at1 (bF L k).val (bF L k).isLt)) (B4 (at1 (bF L k).val (bF L k).isLt))
          v0 h0 _ hn _ _ _ (fun x => loadWhole40 _ B2 (Memref.read_access_whole _ _ _) _ (bF L k) hb (chk40 _ (bW_lt L k)) x) (fun x => loadWhole40 _ B3 (Memref.read_access_whole _ _ _) _ (bF L k) hb (chk40 _ (bW_lt L k)) x) (fun x => loadWhole40 _ B4 (Memref.read_access_whole _ _ _) _ (bF L k) hb (chk40 _ (bW_lt L k)) x)
          48 16 (by decide) (by decide) 16 16#32 rfl rfl rfl rfl _ _ _ _ _ rfl x).trans (slot_of _ _ _ _ _ _ _ _ (16 + (x 0).val) _ _ rfl _)) y
  isplitl []; · iexact Hmw
  isplitl [HA0]; · iexact HA0
  isplitl [HA1]; · iexact HA1
  isplitl [HA2]; · iexact HA2
  isplitl [HA3]; · iexact HA3
  isplitl [HB0]; · iexact HB0
  isplitl [HB1]; · iexact HB1
  isplitl [HB2]; · iexact HB2
  isplitl [HB3]; · iexact HB3
  isplitl [HB4]; · iexact HB4
  isplitl [HF5]; · iexists _; iexact HF5
  isplitl [HF6]; · iexists _; iexact HF6
  isplitl [HF7]; · iexists _; iexact HF7
  isplitl [HF8]; · iexists _; iexact HF8
  isplitl [HF9]; · iexists _; iexact HF9
  isplitl [HF10]; · iexists _; iexact HF10
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  iexists _
  isplitr
  swap
  · iexact HO
  ipureintro
  intro p hp
  simp only [Finset.mem_insert] at hp
  rcases hp with rfl | rfl | rfl | rfl | rfl | rfl | hp
  all_goals first | exact .inr rfl | exact hW' p hp

end Cert.Readback.Hand
-- ==== Proof.Readback.Rows.lean ====
module

public import proofs.«01_k».proof.Defs
public import proofs.«01_k».proof.Proof.Readback.Row
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.Readback
public import proofs.«01_k».proof.Proof.Gen.Readback.Skeleton

@[expose] public section

noncomputable section

namespace Cert.Readback.Hand

open Cert.Readback Cert.Readback.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F]

/-! ## The rows of a task -/

/-- A task's number: its rows are those whose number is this modulo 32. -/
abbrev tN (L : grid0.Coords) : ℕ := 2 * (L 1).val + (L 0).val

def rset (n t : ℕ) : Finset (⟨2, ![40, n]⟩ : Shape).Idx := Finset.univ.filter fun x => (x 0).val % 32 = t

/-- The rows before trip `p` at their new contents, the others at their old ones. -/
def mix {n : ℕ} {α : Type} (p : ℕ) (new old : (⟨2, ![40, n]⟩ : Shape).Idx → α) : (⟨2, ![40, n]⟩ : Shape).Idx → α :=
  fun x => if (x 0).val / 32 < p then new x else old x

theorem mix_zero {n : ℕ} {α : Type} (new old : (⟨2, ![40, n]⟩ : Shape).Idx → α) : mix 0 new old = old := by
  funext x; exact if_neg (Nat.not_lt_zero _)

theorem trips_rows : ∀ (L : grid0.Coords) (b : Fin 40), b.val % 32 = tN L → b.val / 32 < (k0_t1_loop L).trips := by decide +kernel

theorem mix_last {n : ℕ} {α : Type} (L : grid0.Coords) (new old : (⟨2, ![40, n]⟩ : Shape).Idx → α) (x : (⟨2, ![40, n]⟩ : Shape).Idx) (hx : x ∈ rset n (tN L)) :
    mix (k0_t1_loop L).trips new old x = new x :=
  if_pos (trips_rows L (x 0) (Finset.mem_filter.mp hx).2)

theorem tN_lt (L : grid0.Coords) : tN L < 32 := by
  have h0 : (L 0).val < 2 := (L 0).isLt
  have h1 : (L 1).val < 16 := (L 1).isLt
  show 2 * (L 1).val + (L 0).val < 32
  omega

theorem mix_row {n : ℕ} {α : Type} (L : grid0.Coords) (k : Fin (k0_t1_loop L).trips) (new old : (⟨2, ![40, n]⟩ : Shape).Idx → α) (x : (⟨2, ![40, n]⟩ : Shape).Idx)
    (hx : (x 0).val = (bF L k).val) : new x = mix (k.val + 1) new old x := by
  have h := tN_lt L
  refine (if_pos ?_).symm
  rw [hx]
  show (tN L + 32 * k.val) / 32 < k.val + 1
  omega

theorem mix_other {n : ℕ} {α : Type} (L : grid0.Coords) (k : Fin (k0_t1_loop L).trips) (new old : (⟨2, ![40, n]⟩ : Shape).Idx → α) (x : (⟨2, ![40, n]⟩ : Shape).Idx)
    (hr : x ∈ rset n (tN L)) (hx : ¬ (x 0).val = (bF L k).val) : mix k.val new old x = mix (k.val + 1) new old x := by
  have h := tN_lt L
  have hm : (x 0).val % 32 = tN L := (Finset.mem_filter.mp hr).2
  have hx' : ¬ (x 0).val = tN L + 32 * k.val := hx
  have e : ((x 0).val / 32 < k.val) ↔ ((x 0).val / 32 < k.val + 1) := by omega
  unfold mix
  simp only [e]

theorem row_sub {n : ℕ} (L : grid0.Coords) (k : Fin (k0_t1_loop L).trips) (x : (⟨2, ![40, n]⟩ : Shape).Idx) (hx : (x 0).val = (bF L k).val) : x ∈ rset n (tN L) := by
  have h := tN_lt L
  refine Finset.mem_filter.mpr ⟨Finset.mem_univ _, ?_⟩
  rw [hx]
  show (tN L + 32 * k.val) % 32 = tN L
  omega

variable (d : Dev nD) (L : grid0.Coords)

omit [FloatOps F] in
theorem subH (k : Fin (k0_t1_loop L).trips) : ((hRow L k).view.set : Finset S40x6144.Idx) ⊆ rset 6144 (tN L) := fun x hx => row_sub L k x ((hRow_mem L k x).mp hx)

/-- A trip's row is taken out of a task's rows, -/
theorem splitH (k : Fin (k0_t1_loop L).trips) (f : Vec F S40x6144 .f32) :
    ((Memref.whole main_v0_0_scv : Memref sig .scVector .hbm S40x6144 .f32).view.loc (V d (cV L) (jV L)) ↦[rset 6144 (tN L)]{fullShare} f : sProp 𝕄)
      ⊢ iprop(((hRow L k).view.loc (V d (cV L) (jV L)) ↦[(hRow L k).view.set]{fullShare} f) ∗ ((Memref.whole main_v0_0_scv : Memref sig .scVector .hbm S40x6144 .f32).view.loc (V d (cV L) (jV L)) ↦[rset 6144 (tN L) \ (hRow L k).view.set]{fullShare} f)) := by
  have e : ((Memref.whole main_v0_0_scv : Memref sig .scVector .hbm S40x6144 .f32).view.loc (V d (cV L) (jV L)) ↦[rset 6144 (tN L)]{fullShare} f : sProp 𝕄) = ((Memref.whole main_v0_0_scv : Memref sig .scVector .hbm S40x6144 .f32).view.loc (V d (cV L) (jV L)) ↦[(hRow L k).view.set ∪ (rset 6144 (tN L) \ (hRow L k).view.set)]{fullShare} f) := by
    rw [Finset.union_sdiff_of_subset (subH L k)]
  rw [e]
  exact (pointsTo_union Finset.disjoint_sdiff).1

/-- and put back. -/
theorem joinH (k : Fin (k0_t1_loop L).trips) (new old : Vec F S40x6144 .f32) :
    iprop(((hRow L k).view.loc (V d (cV L) (jV L)) ↦[(hRow L k).view.set]{fullShare} new) ∗ ((Memref.whole main_v0_0_scv : Memref sig .scVector .hbm S40x6144 .f32).view.loc (V d (cV L) (jV L)) ↦[rset 6144 (tN L) \ (hRow L k).view.set]{fullShare} mix k.val new old))
      ⊢ ((Memref.whole main_v0_0_scv : Memref sig .scVector .hbm S40x6144 .f32).view.loc (V d (cV L) (jV L)) ↦[rset 6144 (tN L)]{fullShare} mix (k.val + 1) new old : sProp 𝕄) := by
  have e : ((Memref.whole main_v0_0_scv : Memref sig .scVector .hbm S40x6144 .f32).view.loc (V d (cV L) (jV L)) ↦[rset 6144 (tN L)]{fullShare} mix (k.val + 1) new old : sProp 𝕄) = ((Memref.whole main_v0_0_scv : Memref sig .scVector .hbm S40x6144 .f32).view.loc (V d (cV L) (jV L)) ↦[(hRow L k).view.set ∪ (rset 6144 (tN L) \ (hRow L k).view.set)]{fullShare} mix (k.val + 1) new old) := by
    rw [Finset.union_sdiff_of_subset (subH L k)]
  rw [e]
  have h1 : ((Memref.whole main_v0_0_scv : Memref sig .scVector .hbm S40x6144 .f32).view.loc (V d (cV L) (jV L)) ↦[(hRow L k).view.set]{fullShare} new : sProp 𝕄) = ((Memref.whole main_v0_0_scv : Memref sig .scVector .hbm S40x6144 .f32).view.loc (V d (cV L) (jV L)) ↦[(hRow L k).view.set]{fullShare} mix (k.val + 1) new old) :=
    pointsTo_congr fun x hx => mix_row L k new old x ((hRow_mem L k x).mp hx)
  have h2 : ((Memref.whole main_v0_0_scv : Memref sig .scVector .hbm S40x6144 .f32).view.loc (V d (cV L) (jV L)) ↦[rset 6144 (tN L) \ (hRow L k).view.set]{fullShare} mix k.val new old : sProp 𝕄) = ((Memref.whole main_v0_0_scv : Memref sig .scVector .hbm S40x6144 .f32).view.loc (V d (cV L) (jV L)) ↦[rset 6144 (tN L) \ (hRow L k).view.set]{fullShare} mix (k.val + 1) new old) :=
    pointsTo_congr fun x hx => mix_other L k new old x (Finset.mem_sdiff.mp hx).1 fun h => (Finset.mem_sdiff.mp hx).2 ((hRow_mem L k x).mpr h)
  iintro ⟨H1, H2⟩
  ihave H1 := (Entails.of_eq h1) $$ H1
  ihave H2 := (Entails.of_eq h2) $$ H2
  iapply (pointsTo_union Finset.disjoint_sdiff).2
  isplitl [H1]; · iexact H1
  iexact H2

omit [FloatOps F] in
theorem subS (k : Fin (k0_t1_loop L).trips) : ((sRow L k).view.set : Finset S40x24.Idx) ⊆ rset 24 (tN L) := fun x hx => row_sub L k x ((sRow_mem L k x).mp hx)

/-- A trip's row is taken out of a task's rows, -/
theorem splitS (k : Fin (k0_t1_loop L).trips) (f : Vec F S40x24 .f32) :
    ((Memref.whole main_v0_1_scv : Memref sig .scVector .hbm S40x24 .f32).view.loc (V d (cV L) (jV L)) ↦[rset 24 (tN L)]{fullShare} f : sProp 𝕄)
      ⊢ iprop(((sRow L k).view.loc (V d (cV L) (jV L)) ↦[(sRow L k).view.set]{fullShare} f) ∗ ((Memref.whole main_v0_1_scv : Memref sig .scVector .hbm S40x24 .f32).view.loc (V d (cV L) (jV L)) ↦[rset 24 (tN L) \ (sRow L k).view.set]{fullShare} f)) := by
  have e : ((Memref.whole main_v0_1_scv : Memref sig .scVector .hbm S40x24 .f32).view.loc (V d (cV L) (jV L)) ↦[rset 24 (tN L)]{fullShare} f : sProp 𝕄) = ((Memref.whole main_v0_1_scv : Memref sig .scVector .hbm S40x24 .f32).view.loc (V d (cV L) (jV L)) ↦[(sRow L k).view.set ∪ (rset 24 (tN L) \ (sRow L k).view.set)]{fullShare} f) := by
    rw [Finset.union_sdiff_of_subset (subS L k)]
  rw [e]
  exact (pointsTo_union Finset.disjoint_sdiff).1

/-- and put back. -/
theorem joinS (k : Fin (k0_t1_loop L).trips) (new old : Vec F S40x24 .f32) :
    iprop(((sRow L k).view.loc (V d (cV L) (jV L)) ↦[(sRow L k).view.set]{fullShare} new) ∗ ((Memref.whole main_v0_1_scv : Memref sig .scVector .hbm S40x24 .f32).view.loc (V d (cV L) (jV L)) ↦[rset 24 (tN L) \ (sRow L k).view.set]{fullShare} mix k.val new old))
      ⊢ ((Memref.whole main_v0_1_scv : Memref sig .scVector .hbm S40x24 .f32).view.loc (V d (cV L) (jV L)) ↦[rset 24 (tN L)]{fullShare} mix (k.val + 1) new old : sProp 𝕄) := by
  have e : ((Memref.whole main_v0_1_scv : Memref sig .scVector .hbm S40x24 .f32).view.loc (V d (cV L) (jV L)) ↦[rset 24 (tN L)]{fullShare} mix (k.val + 1) new old : sProp 𝕄) = ((Memref.whole main_v0_1_scv : Memref sig .scVector .hbm S40x24 .f32).view.loc (V d (cV L) (jV L)) ↦[(sRow L k).view.set ∪ (rset 24 (tN L) \ (sRow L k).view.set)]{fullShare} mix (k.val + 1) new old) := by
    rw [Finset.union_sdiff_of_subset (subS L k)]
  rw [e]
  have h1 : ((Memref.whole main_v0_1_scv : Memref sig .scVector .hbm S40x24 .f32).view.loc (V d (cV L) (jV L)) ↦[(sRow L k).view.set]{fullShare} new : sProp 𝕄) = ((Memref.whole main_v0_1_scv : Memref sig .scVector .hbm S40x24 .f32).view.loc (V d (cV L) (jV L)) ↦[(sRow L k).view.set]{fullShare} mix (k.val + 1) new old) :=
    pointsTo_congr fun x hx => mix_row L k new old x ((sRow_mem L k x).mp hx)
  have h2 : ((Memref.whole main_v0_1_scv : Memref sig .scVector .hbm S40x24 .f32).view.loc (V d (cV L) (jV L)) ↦[rset 24 (tN L) \ (sRow L k).view.set]{fullShare} mix k.val new old : sProp 𝕄) = ((Memref.whole main_v0_1_scv : Memref sig .scVector .hbm S40x24 .f32).view.loc (V d (cV L) (jV L)) ↦[rset 24 (tN L) \ (sRow L k).view.set]{fullShare} mix (k.val + 1) new old) :=
    pointsTo_congr fun x hx => mix_other L k new old x (Finset.mem_sdiff.mp hx).1 fun h => (Finset.mem_sdiff.mp hx).2 ((sRow_mem L k x).mpr h)
  iintro ⟨H1, H2⟩
  ihave H1 := (Entails.of_eq h1) $$ H1
  ihave H2 := (Entails.of_eq h2) $$ H2
  iapply (pointsTo_union Finset.disjoint_sdiff).2
  isplitl [H1]; · iexact H1
  iexact H2

/-! ## The row loop -/

def invR (q : PosShare TreeShare) (A0 : Vec F S40x32000 .f32) (A1 A2 : Vec F S40x56x128 .i32) (A3 : Vec F S40x56x128 .f32) (A4 A5 : Vec F S40 .i32) (A6 A7 A8 : Vec F S40 .f32) (gH : Vec F S40x6144 .f32) (gS : Vec F S40x24 .f32)
    (O : CellTallies nD τ sig (HIx 1)) (W : Waits sig (HIx 1)) (p : ℕ) (_ : PUnit) : sProp 𝕄 :=
  iprop(rowSt d L q A0 A1 A2 A3 A4 A5 A6 A7 A8 O W
    ∗ ((Memref.whole main_v0_0_scv : Memref sig .scVector .hbm S40x6144 .f32).view.loc (V d (cV L) (jV L)) ↦[rset 6144 (tN L)]{fullShare} mix p (histF A0 A1 A2 A3 A4 A6 A7 A8) gH)
    ∗ ((Memref.whole main_v0_1_scv : Memref sig .scVector .hbm S40x24 .f32).view.loc (V d (cV L) (jV L)) ↦[rset 24 (tN L)]{fullShare} mix p (slotF A0 A1 A2 A3 A5 A6 A7 A8) gS))

theorem rowLoop_trip (v0 : IVec S16 32) (k : Fin (k0_t1_loop L).trips) (q : PosShare TreeShare)
    (h0 : ∀ x, v0 x = BitVec.ofNat 32 (x 0).val) (A0 : Vec F S40x32000 .f32) (A1 A2 : Vec F S40x56x128 .i32) (A3 : Vec F S40x56x128 .f32) (A4 A5 : Vec F S40 .i32) (A6 A7 A8 : Vec F S40 .f32) (hids : ∀ b : Fin 40, IdsOK (matOf A1 b)) (gH : Vec F S40x6144 .f32) (gS : Vec F S40x24 .f32)
    (O : CellTallies nD τ sig (HIx 1)) (W : Waits sig (HIx 1)) :
    invR d L q A0 A1 A2 A3 A4 A5 A6 A7 A8 gH gS O W k.val ()
    ⊢ (wp frame (wpE (defs₀ (F := F)) 𝒱₀ (V d (cV L) (jV L)) none) Set.univ (rowTrip L v0 (v2E L) k ())
      fun _ => invR d L q A0 A1 A2 A3 A4 A5 A6 A7 A8 gH gS O W (k.val + 1) () : sProp 𝕄) := by
  have pre : invR d L q A0 A1 A2 A3 A4 A5 A6 A7 A8 gH gS O W k.val () ⊢
      (iprop((((Memref.whole main_v0_0_scv : Memref sig .scVector .hbm S40x6144 .f32).view.loc (V d (cV L) (jV L)) ↦[rset 6144 (tN L) \ (hRow L k).view.set]{fullShare} mix k.val (histF A0 A1 A2 A3 A4 A6 A7 A8) gH)
          ∗ ((Memref.whole main_v0_1_scv : Memref sig .scVector .hbm S40x24 .f32).view.loc (V d (cV L) (jV L)) ↦[rset 24 (tN L) \ (sRow L k).view.set]{fullShare} mix k.val (slotF A0 A1 A2 A3 A5 A6 A7 A8) gS))
        ∗ (rowSt d L q A0 A1 A2 A3 A4 A5 A6 A7 A8 O W
          ∗ ((hRow L k).view.loc (V d (cV L) (jV L)) ↦[(hRow L k).view.set]{fullShare} mix k.val (histF A0 A1 A2 A3 A4 A6 A7 A8) gH)
          ∗ ((sRow L k).view.loc (V d (cV L) (jV L)) ↦[(sRow L k).view.set]{fullShare} mix k.val (slotF A0 A1 A2 A3 A5 A6 A7 A8) gS))) : sProp 𝕄) := by
    unfold invR
    iintro ⟨Hst, HH, HS⟩
    ihave HH := (splitH d L k _) $$ HH
    icases HH with ⟨HH, HH'⟩
    ihave HS := (splitS d L k _) $$ HS
    icases HS with ⟨HS, HS'⟩
    isplitl [HH' HS']
    · isplitl [HH']; · iexact HH'
      iexact HS'
    isplitl [Hst]; · iexact Hst
    isplitl [HH]; · iexact HH
    iexact HS
  refine pre.trans ((sep_mono_r (row_spec d L v0 k q h0 A0 A1 A2 A3 A4 A5 A6 A7 A8 hids _ _ O W)).trans ((wp_frame_l frame _ _).trans (wp_mono frame _ _ fun _ => ?_)))
  unfold invR
  iintro ⟨⟨HH', HS'⟩, ⟨Hst, HH, HS⟩⟩
  isplitl [Hst]; · iexact Hst
  isplitl [HH HH']
  · iapply (joinH d L k (histF A0 A1 A2 A3 A4 A6 A7 A8) gH)
    isplitl [HH]; · iexact HH
    iexact HH'
  · iapply (joinS d L k (slotF A0 A1 A2 A3 A5 A6 A7 A8) gS)
    isplitl [HS]; · iexact HS
    iexact HS'

end Cert.Readback.Hand
-- ==== Proof.Readback.Body.lean ====
module

public import proofs.«01_k».proof.Defs
public import proofs.«01_k».proof.Proof.Readback.Rows
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.Readback
public import proofs.«01_k».proof.Proof.Gen.Readback.Skeleton

@[expose] public section

noncomputable section

namespace Cert.Readback.Hand

open Cert.Readback Cert.Readback.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]
variable (d : Dev nD) (L : grid0.Coords)

/-! ## A task's own cells and buffers -/

omit [FloatOps F] in
/-- A separating conjunction over a set, the image of another taken out of it. -/
theorem take_image {I J : Type} [DecidableEq I] [DecidableEq J] {s : Finset I} {t : Finset J} {f : J → I} (inj : Set.InjOn f t)
    (sub : ∀ j ∈ t, f j ∈ s) {Φ : I → sProp 𝕄} :
    bigSep s Φ = iprop(bigSep t (fun j => Φ (f j)) ∗ bigSep (s \ t.image f) Φ) := by
  rw [SparseCore.bigSep_sdiff_split' (t := t.image f) fun x mem => by obtain ⟨j, among, rfl⟩ := Finset.mem_image.mp mem; exact sub j among,
    bigSep_image_of_injOn inj]

/-- The DMA cells of the copies that run. -/
abbrev cells : Finset (SemLoc sig) := {.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem}
omit [FloatOps F] in
theorem ownSems0_V :
    (ownSems0 (V d (cV L) (jV L)) : sProp 𝕄)
      = iprop((semVal ((V d (cV L) (jV L)), SemLoc.dma cc0_scoped0.sem) 0 ∗ semVal ((V d (cV L) (jV L)), SemLoc.dma cc0_scoped1.sem) 0 ∗ semVal ((V d (cV L) (jV L)), SemLoc.dma cc0_scoped2.sem) 0 ∗ semVal ((V d (cV L) (jV L)), SemLoc.dma cc0_scoped3.sem) 0 ∗ semVal ((V d (cV L) (jV L)), SemLoc.dma cc0_scoped4.sem) 0 ∗ semVal ((V d (cV L) (jV L)), SemLoc.dma cc0_scoped5.sem) 0 ∗ semVal ((V d (cV L) (jV L)), SemLoc.dma cc0_scoped6.sem) 0 ∗ semVal ((V d (cV L) (jV L)), SemLoc.dma cc0_scoped7.sem) 0 ∗ semVal ((V d (cV L) (jV L)), SemLoc.dma cc0_scoped8.sem) 0 ∗ semVal ((V d (cV L) (jV L)), SemLoc.dma cc0_scoped9.sem) 0 ∗ semVal ((V d (cV L) (jV L)), SemLoc.dma cc0_scoped10.sem) 0)
          ∗ bigSep (ownCells (V d (cV L) (jV L)) \ cells.image fun s => ((V d (cV L) (jV L), s) : GSem nD τ sig)) fun g => semVal g 0) := by
  unfold SparseCore.Cfg.ownSems0
  rw [take_image (t := cells) (f := fun s => ((V d (cV L) (jV L), s) : GSem nD τ sig)) (fun a _ b _ e => congrArg Prod.snd e)
    (fun j hj => mem_ownCells.mpr ⟨rfl, (show ∀ j ∈ cells, (j : SemLoc sig).isScoped .scVector = true by decide) j hj⟩)]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

abbrev refs : Finset (Ref sig .scVector) := {cc0_scratch0, cc0_scratch1, cc0_scratch2, cc0_scratch3, cc0_scratch4, cc0_scratch5, cc0_scratch6, cc0_scratch7, cc0_scratch8, cc0_scratch9, cc0_scratch10}
omit [FloatOps F] in
theorem ownBufs_V :
    (ownBufs (V d (cV L) (jV L)) : sProp 𝕄)
      = iprop(((∃ f, (Memref.whole cc0_scratch0).view.loc (V d (cV L) (jV L)) ↦{fullShare} f) ∗ (∃ f, (Memref.whole cc0_scratch1).view.loc (V d (cV L) (jV L)) ↦{fullShare} f) ∗ (∃ f, (Memref.whole cc0_scratch2).view.loc (V d (cV L) (jV L)) ↦{fullShare} f) ∗ (∃ f, (Memref.whole cc0_scratch3).view.loc (V d (cV L) (jV L)) ↦{fullShare} f) ∗ (∃ f, (Memref.whole cc0_scratch4).view.loc (V d (cV L) (jV L)) ↦{fullShare} f) ∗ (∃ f, (Memref.whole cc0_scratch5).view.loc (V d (cV L) (jV L)) ↦{fullShare} f) ∗ (∃ f, (Memref.whole cc0_scratch6).view.loc (V d (cV L) (jV L)) ↦{fullShare} f) ∗ (∃ f, (Memref.whole cc0_scratch7).view.loc (V d (cV L) (jV L)) ↦{fullShare} f) ∗ (∃ f, (Memref.whole cc0_scratch8).view.loc (V d (cV L) (jV L)) ↦{fullShare} f) ∗ (∃ f, (Memref.whole cc0_scratch9).view.loc (V d (cV L) (jV L)) ↦{fullShare} f) ∗ (∃ f, (Memref.whole cc0_scratch10).view.loc (V d (cV L) (jV L)) ↦{fullShare} f))
          ∗ bigSep (ownRefs (τ := τ) (.scVector (cV L) (jV L)) \ refs.image (Proc.scVector (cV L) (jV L)).devRef) fun b => iprop(∃ f, ((d, b) : Loc nD τ sig) ↦{fullShare} f)) := by
  unfold SparseCore.Cfg.ownBufs
  rw [take_image (s := ownRefs (τ := τ) (.scVector (cV L) (jV L))) (t := refs) (f := (Proc.scVector (cV L) (jV L)).devRef) (fun a _ b _ e => Proc.devRef_injective _ e)
    (fun j hj => SparseCore.Cfg.mem_ownRefs_of_owner (p := Proc.scVector (cV L) (jV L)) (by
      simp only [Finset.mem_insert, Finset.mem_singleton] at hj
      rcases hj with rfl | rfl | rfl | rfl | rfl | rfl | rfl | rfl | rfl | rfl | rfl <;> rfl))]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The task -/

theorem iota16 (x : S16.Idx) : iota .scVector S16 32 [0] iota_S16_d0_w32_scVector x = BitVec.ofNat 32 (x 0).val := by
  show BitVec.ofNat 32 (0 * 16 + (x 0).val) = _
  rw [Nat.zero_mul, Nat.zero_add]

/-- After the last trip the rows of this instance hold the new counts. -/
theorem lastH (new old : Vec F S40x6144 .f32) :
    ((Memref.whole main_v0_0_scv : Memref sig .scVector .hbm S40x6144 .f32).view.loc (V d (cV L) (jV L)) ↦[rset 6144 (tN L)]{fullShare} mix (k0_t1_loop L).trips new old : sProp 𝕄) = ((Memref.whole main_v0_0_scv : Memref sig .scVector .hbm S40x6144 .f32).view.loc (V d (cV L) (jV L)) ↦[rset 6144 (tN L)]{fullShare} new) :=
  pointsTo_congr fun x hx => mix_last L new old x hx

/-- After the last trip the rows of this instance hold the new slots. -/
theorem lastS (new old : Vec F S40x24 .f32) :
    ((Memref.whole main_v0_1_scv : Memref sig .scVector .hbm S40x24 .f32).view.loc (V d (cV L) (jV L)) ↦[rset 24 (tN L)]{fullShare} mix (k0_t1_loop L).trips new old : sProp 𝕄) = ((Memref.whole main_v0_1_scv : Memref sig .scVector .hbm S40x24 .f32).view.loc (V d (cV L) (jV L)) ↦[rset 24 (tN L)]{fullShare} new) :=
  pointsTo_congr fun x hx => mix_last L new old x hx

set_option maxHeartbeats 1600000 in
theorem tile_body (hF : (K (F := F)).Facts) (q : PosShare TreeShare) (A0 : Vec F S40x32000 .f32) (A1 A2 : Vec F S40x56x128 .i32) (A3 : Vec F S40x56x128 .f32) (A4 A5 : Vec F S40 .i32) (A6 A7 A8 : Vec F S40 .f32) (hids : ∀ b : Fin 40, IdsOK (matOf A1 b)) (gH : Vec F S40x6144 .f32) (gS : Vec F S40x24 .f32)
    (O : CellTallies nD τ sig (HIx 1)) (W : Waits sig (HIx 1)) (hO : ∀ g, O g none = 0) :
    (iprop(levAts (K (F := F)).L (K (F := F)).lev ∗ emp
        ∗ ((((Memref.whole main_arg0_scv).view.loc (V d (cV L) (jV L)) ↦{q} A0) ∗ ((Memref.whole main_arg1_scv).view.loc (V d (cV L) (jV L)) ↦{q} A1) ∗ ((Memref.whole main_arg2_scv).view.loc (V d (cV L) (jV L)) ↦{q} A2) ∗ ((Memref.whole main_arg3_scv).view.loc (V d (cV L) (jV L)) ↦{q} A3) ∗ ((Memref.whole main_arg4_scv).view.loc (V d (cV L) (jV L)) ↦{q} A4) ∗ ((Memref.whole main_arg5_scv).view.loc (V d (cV L) (jV L)) ↦{q} A5) ∗ ((Memref.whole main_arg6_scv).view.loc (V d (cV L) (jV L)) ↦{q} A6) ∗ ((Memref.whole main_arg7_scv).view.loc (V d (cV L) (jV L)) ↦{q} A7) ∗ ((Memref.whole main_arg8_scv).view.loc (V d (cV L) (jV L)) ↦{q} A8)) ∗ ((Memref.whole main_v0_0_scv : Memref sig .scVector .hbm S40x6144 .f32).view.loc (V d (cV L) (jV L)) ↦[rset 6144 (tN L)]{fullShare} gH) ∗ ((Memref.whole main_v0_1_scv : Memref sig .scVector .hbm S40x24 .f32).view.loc (V d (cV L) (jV L)) ↦[rset 24 (tN L)]{fullShare} gS))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_history_readback L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(((((Memref.whole main_arg0_scv).view.loc (V d (cV L) (jV L)) ↦{q} A0) ∗ ((Memref.whole main_arg1_scv).view.loc (V d (cV L) (jV L)) ↦{q} A1) ∗ ((Memref.whole main_arg2_scv).view.loc (V d (cV L) (jV L)) ↦{q} A2) ∗ ((Memref.whole main_arg3_scv).view.loc (V d (cV L) (jV L)) ↦{q} A3) ∗ ((Memref.whole main_arg4_scv).view.loc (V d (cV L) (jV L)) ↦{q} A4) ∗ ((Memref.whole main_arg5_scv).view.loc (V d (cV L) (jV L)) ↦{q} A5) ∗ ((Memref.whole main_arg6_scv).view.loc (V d (cV L) (jV L)) ↦{q} A6) ∗ ((Memref.whole main_arg7_scv).view.loc (V d (cV L) (jV L)) ↦{q} A7) ∗ ((Memref.whole main_arg8_scv).view.loc (V d (cV L) (jV L)) ↦{q} A8)) ∗ ((Memref.whole main_v0_0_scv : Memref sig .scVector .hbm S40x6144 .f32).view.loc (V d (cV L) (jV L)) ↦[rset 6144 (tN L)]{fullShare} (histF A0 A1 A2 A3 A4 A6 A7 A8)) ∗ ((Memref.whole main_v0_1_scv : Memref sig .scVector .hbm S40x24 .f32).view.loc (V d (cV L) (jV L)) ↦[rset 24 (tN L)]{fullShare} (slotF A0 A1 A2 A3 A5 A6 A7 A8)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨⟨HA0, HA1, HA2, HA3, HA4, HA5, HA6, HA7, HA8⟩, HH, HS⟩, ⟨⟨⟨%f0, HF0⟩, ⟨%f1, HF1⟩, ⟨%f2, HF2⟩, ⟨%f3, HF3⟩, ⟨%f4, HF4⟩, ⟨%f5, HF5⟩, ⟨%f6, HF6⟩, ⟨%f7, HF7⟩, ⟨%f8, HF8⟩, ⟨%f9, HF9⟩, ⟨%f10, HF10⟩⟩, Hbufs⟩, ⟨⟨Hs0, Hs1, Hs2, Hs3, Hs4, Hs5, Hs6, Hs7, Hs8, Hs9, Hs10⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_unfold [cc0_history_readback]
  sl_exec (disch := exact View.amount_pos _ _ (show 0 < S40.numel by decide))
  ihave HF0 := (conv (View.write_whole_univ (Val := Elt F) cc0_scratch0 f0 A4)) $$ HF0
  ihave HF1 := (conv (View.write_whole_univ (Val := Elt F) cc0_scratch1 f1 A5)) $$ HF1
  ihave HF2 := (conv (View.write_whole_univ (Val := Elt F) cc0_scratch2 f2 A6)) $$ HF2
  ihave HF3 := (conv (View.write_whole_univ (Val := Elt F) cc0_scratch3 f3 A7)) $$ HF3
  ihave HF4 := (conv (View.write_whole_univ (Val := Elt F) cc0_scratch4 f4 A8)) $$ HF4
  sl_for (invR d L q A0 A1 A2 A3 A4 A5 A6 A7 A8 gH gS O W) $$ [HA0 HA1 HA2 HA3 HF0 HF1 HF2 HF3 HF4 HF5 HF6 HF7 HF8 HF9 HF10 HH HS Hs5 Hs6 Hs7 Hs8 Hs9 Hs10 HO]
  case region =>
    intro k _
    exact rowLoop_trip d L _ k q (fun x => iota16 x) A0 A1 A2 A3 A4 A5 A6 A7 A8 hids gH gS O W
  · unfold invR rowSt
    rw [mix_zero, mix_zero]
    isplitr [HH HS]
    swap
    · isplitl [HH]; · iexact HH
      iexact HS
    isplitl []; · iexact Hmw
    isplitl [HA0]; · iexact HA0
    isplitl [HA1]; · iexact HA1
    isplitl [HA2]; · iexact HA2
    isplitl [HA3]; · iexact HA3
    isplitl [HF0]; · iexact HF0
    isplitl [HF1]; · iexact HF1
    isplitl [HF2]; · iexact HF2
    isplitl [HF3]; · iexact HF3
    isplitl [HF4]; · iexact HF4
    isplitl [HF5]; · iexists _; iexact HF5
    isplitl [HF6]; · iexists _; iexact HF6
    isplitl [HF7]; · iexists _; iexact HF7
    isplitl [HF8]; · iexists _; iexact HF8
    isplitl [HF9]; · iexists _; iexact HF9
    isplitl [HF10]; · iexists _; iexact HF10
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexists _
    isplitr
    swap
    · iexact HO
    ipureintro
    intro p hp
    simp only [Finset.mem_insert] at hp
    rcases hp with rfl | rfl | rfl | rfl | rfl | hp
    all_goals first | exact .inr rfl | exact .inl hp
  iintro %_ HI
  unfold invR rowSt
  icases HI with ⟨⟨-, HA0, HA1, HA2, HA3, HF0, HF1, HF2, HF3, HF4, ⟨%g5, HF5⟩, ⟨%g6, HF6⟩, ⟨%g7, HF7⟩, ⟨%g8, HF8⟩, ⟨%g9, HF9⟩, ⟨%g10, HF10⟩, Hs5, Hs6, Hs7, Hs8, Hs9, Hs10, ⟨%W', %hW', HO⟩⟩, HH, HS⟩
  sl_for (fun _ _ => (iprop(emp) : sProp 𝕄)) $$ []
  case region =>
    intro k _
    exact absurd k.isLt (Nat.not_lt.2 (le_trans (k0_t3_abs L).2.1 (Nat.zero_le _)))
  · iempintro
  iintro %_ -
  sl_step
  isplitl [HA0 HA1 HA2 HA3 HA4 HA5 HA6 HA7 HA8 HH HS]
  · isplitl [HA0 HA1 HA2 HA3 HA4 HA5 HA6 HA7 HA8]
    · isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      isplitl [HA7]; · iexact HA7
      iexact HA8
    isplitl [HH]
    · iapply (Entails.of_eq (lastH d L _ _)) $$ HH
    · iapply (Entails.of_eq (lastS d L _ _)) $$ HS
  isplitl [HF0 HF1 HF2 HF3 HF4 HF5 HF6 HF7 HF8 HF9 HF10 Hbufs]
  · isplitr [Hbufs]
    swap
    · iexact Hbufs
    isplitl [HF0]; · iexists _; iexact HF0
    isplitl [HF1]; · iexists _; iexact HF1
    isplitl [HF2]; · iexists _; iexact HF2
    isplitl [HF3]; · iexists _; iexact HF3
    isplitl [HF4]; · iexists _; iexact HF4
    isplitl [HF5]; · iexists _; iexact HF5
    isplitl [HF6]; · iexists _; iexact HF6
    isplitl [HF7]; · iexists _; iexact HF7
    isplitl [HF8]; · iexists _; iexact HF8
    isplitl [HF9]; · iexists _; iexact HF9
    iexists _; iexact HF10
  isplitl [Hs0 Hs1 Hs2 Hs3 Hs4 Hs5 Hs6 Hs7 Hs8 Hs9 Hs10 Hsems]
  · isplitr [Hsems]
    swap
    · iexact Hsems
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hs10
  iexists _; isplitr
  swap; · iexact HO
  ipureintro; intro p _
  rcases p.2 with _ | q
  · exact .inr (.inl rfl)
  · exact .inr (.inr (congrArg some (Subsingleton.elim q 0)))

end Cert.Readback.Hand
-- ==== Proof.Readback.Launch.lean ====
module

public import proofs.«01_k».proof.Defs
public import proofs.«01_k».proof.Proof.Readback.Body
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.Readback
public import proofs.«01_k».proof.Proof.Gen.Readback.Skeleton

@[expose] public section

noncomputable section

namespace Cert.Readback.Hand

open Cert.Readback Cert.Readback.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ShareLeaves (leaf pointsTo_leaves)

variable (m : (ℓ : Loc nD τ sig) → Buf (Elt F) ℓ) (ρ : Dev nD → PrngReg)

/-- Where the handshakes' rounds live. -/
abbrev EH : Emb UH (MT nD τ sig (HIx 1) (Elt F) ℕ UU ℕ) := embL

theorem sep_assoc_eq (P Q R : sProp 𝕄) : iprop((P ∗ Q) ∗ R) = iprop(P ∗ (Q ∗ R)) := BI.Entails.antisymm sep_assoc sep_assoc'

/-! ## What one task holds -/

/-- The nine inputs at a share. -/
def insAt (d : Dev nD) (q : PosShare TreeShare) : sProp 𝕄 :=
  iprop(((SparseCore.T d).loc main_arg0 ↦{q} m ((SparseCore.T d).loc main_arg0)) ∗ ((SparseCore.T d).loc main_arg1 ↦{q} m ((SparseCore.T d).loc main_arg1)) ∗ ((SparseCore.T d).loc main_arg2 ↦{q} m ((SparseCore.T d).loc main_arg2)) ∗ ((SparseCore.T d).loc main_arg3 ↦{q} m ((SparseCore.T d).loc main_arg3)) ∗ ((SparseCore.T d).loc main_arg4 ↦{q} m ((SparseCore.T d).loc main_arg4)) ∗ ((SparseCore.T d).loc main_arg5 ↦{q} m ((SparseCore.T d).loc main_arg5)) ∗ ((SparseCore.T d).loc main_arg6 ↦{q} m ((SparseCore.T d).loc main_arg6)) ∗ ((SparseCore.T d).loc main_arg7 ↦{q} m ((SparseCore.T d).loc main_arg7)) ∗ ((SparseCore.T d).loc main_arg8 ↦{q} m ((SparseCore.T d).loc main_arg8)))

/-- The place of the history values. -/
abbrev hLoc (d : Dev nD) : Loc nD τ sig := (SparseCore.T d).loc main_v0_0
/-- The place of the slots. -/
abbrev sLoc (d : Dev nD) : Loc nD τ sig := (SparseCore.T d).loc main_v0_1

/-- The rows of the two results that task `(c, i)` writes, at given contents. -/
def outAt (d : Dev nD) (c : Fin 2) (i : Fin 16) (gH : Buf (Elt F) (hLoc d)) (gS : Buf (Elt F) (sLoc d)) : sProp 𝕄 :=
  iprop((hLoc d ↦[rset 6144 (2 * i.val + c.val)]{fullShare} gH) ∗ (sLoc d ↦[rset 24 (2 * i.val + c.val)]{fullShare} gS))

/-- What task `(c, i)` holds: every input at a share of its own, and its rows of the two results. -/
def part (d : Dev nD) (gH : Buf (Elt F) (hLoc d)) (gS : Buf (Elt F) (sLoc d)) (c : Fin 2) (i : Fin 16) : sProp 𝕄 :=
  iprop(insAt m d (leaf 4 (leaf 1 fullShare c) i) ∗ outAt d c i gH gS)

/-- All the arrays, whole. -/
def allAt (d : Dev nD) (gH : Buf (Elt F) (hLoc d)) (gS : Buf (Elt F) (sLoc d)) : sProp 𝕄 :=
  iprop(insAt m d fullShare ∗ ((hLoc d ↦{fullShare} gH) ∗ (sLoc d ↦{fullShare} gS)))

theorem leaves2 {ℓ : Loc nD τ sig} (f : Buf (Elt F) ℓ) :
    (ℓ ↦{fullShare} f : sProp 𝕄) = bigSep Finset.univ fun c : Fin 2 => bigSep Finset.univ fun i : Fin 16 => (ℓ ↦{leaf 4 (leaf 1 fullShare c) i} f : sProp 𝕄) :=
  (pointsTo_leaves Finset.univ f 1 fullShare).trans (bigSep_congr fun c _ => pointsTo_leaves Finset.univ f 4 (leaf 1 fullShare c))

theorem ins_split (d : Dev nD) :
    insAt m d fullShare = bigSep Finset.univ fun c : Fin 2 => bigSep Finset.univ fun i : Fin 16 => insAt m d (leaf 4 (leaf 1 fullShare c) i) := by
  unfold insAt
  simp only [bigSep_sep']
  rw [leaves2 (m ((SparseCore.T d).loc main_arg0)), leaves2 (m ((SparseCore.T d).loc main_arg1)), leaves2 (m ((SparseCore.T d).loc main_arg2)), leaves2 (m ((SparseCore.T d).loc main_arg3)), leaves2 (m ((SparseCore.T d).loc main_arg4)), leaves2 (m ((SparseCore.T d).loc main_arg5)), leaves2 (m ((SparseCore.T d).loc main_arg6)), leaves2 (m ((SparseCore.T d).loc main_arg7)), leaves2 (m ((SparseCore.T d).loc main_arg8))]

/-! ## The rows split among the tasks -/

theorem rset_disjoint (n : ℕ) (s t : ℕ) (h : s ≠ t) : Disjoint (rset n s) (rset n t) :=
  Finset.disjoint_left.mpr fun x hx hy => h ((Finset.mem_filter.mp hx).2.symm.trans (Finset.mem_filter.mp hy).2)

/-- The rows of core `c`. -/
def cset (n : ℕ) (c : Fin 2) : Finset (⟨2, ![40, n]⟩ : Shape).Idx := (Finset.univ : Finset (Fin 16)).biUnion fun i => rset n (2 * i.val + c.val)

theorem cset_disjoint (n : ℕ) (c e : Fin 2) (h : c ≠ e) : Disjoint (cset n c) (cset n e) := by
  refine (Finset.disjoint_biUnion_left _ _ _).mpr fun i _ => (Finset.disjoint_biUnion_right _ _ _).mpr fun j _ => rset_disjoint n _ _ ?_
  have := c.isLt; have := e.isLt; have : c.val ≠ e.val := fun he => h (Fin.ext he)
  omega

theorem cset_cover (n : ℕ) : (Finset.univ : Finset (Fin 2)).biUnion (cset n) = Finset.univ := by
  refine Finset.eq_univ_of_forall fun x => Finset.mem_biUnion.mpr ⟨⟨(x 0).val % 2, Nat.mod_lt _ (by decide)⟩, Finset.mem_univ _,
    Finset.mem_biUnion.mpr ⟨⟨(x 0).val % 32 / 2, by omega⟩, Finset.mem_univ _, Finset.mem_filter.mpr ⟨Finset.mem_univ _, ?_⟩⟩⟩
  show (x 0).val % 32 = 2 * ((x 0).val % 32 / 2) + (x 0).val % 2
  omega

theorem task_ne (c : Fin 2) (i j : Fin 16) (h : i ≠ j) : 2 * i.val + c.val ≠ 2 * j.val + c.val := by
  have : i.val ≠ j.val := fun he => h (Fin.ext he)
  omega

theorem rows_H (d : Dev nD) (f : Buf (Elt F) (hLoc d)) :
    (hLoc d ↦{fullShare} f : sProp 𝕄) = bigSep Finset.univ fun c : Fin 2 => bigSep Finset.univ fun i : Fin 16 => (hLoc d ↦[rset 6144 (2 * i.val + c.val)]{fullShare} f : sProp 𝕄) := by
  have e : ∀ c : Fin 2, (hLoc d ↦[cset 6144 c]{fullShare} f : sProp 𝕄) = bigSep Finset.univ fun i : Fin 16 => (hLoc d ↦[rset 6144 (2 * i.val + c.val)]{fullShare} f : sProp 𝕄) :=
    fun c => pointsTo_biUnion Finset.univ (ℓ := hLoc d) (fun i : Fin 16 => rset 6144 (2 * i.val + c.val)) fun i _ j _ h => rset_disjoint 6144 _ _ (task_ne c i j h)
  have e0 : (hLoc d ↦[(Finset.univ : Finset (Fin 2)).biUnion (cset 6144)]{fullShare} f : sProp 𝕄) = bigSep Finset.univ fun c : Fin 2 => (hLoc d ↦[cset 6144 c]{fullShare} f : sProp 𝕄) :=
    pointsTo_biUnion Finset.univ (ℓ := hLoc d) (cset 6144) fun c _ e _ h => cset_disjoint 6144 c e h
  rw [cset_cover] at e0
  exact e0.trans (bigSep_congr fun c _ => e c)

theorem rows_S (d : Dev nD) (f : Buf (Elt F) (sLoc d)) :
    (sLoc d ↦{fullShare} f : sProp 𝕄) = bigSep Finset.univ fun c : Fin 2 => bigSep Finset.univ fun i : Fin 16 => (sLoc d ↦[rset 24 (2 * i.val + c.val)]{fullShare} f : sProp 𝕄) := by
  have e : ∀ c : Fin 2, (sLoc d ↦[cset 24 c]{fullShare} f : sProp 𝕄) = bigSep Finset.univ fun i : Fin 16 => (sLoc d ↦[rset 24 (2 * i.val + c.val)]{fullShare} f : sProp 𝕄) :=
    fun c => pointsTo_biUnion Finset.univ (ℓ := sLoc d) (fun i : Fin 16 => rset 24 (2 * i.val + c.val)) fun i _ j _ h => rset_disjoint 24 _ _ (task_ne c i j h)
  have e0 : (sLoc d ↦[(Finset.univ : Finset (Fin 2)).biUnion (cset 24)]{fullShare} f : sProp 𝕄) = bigSep Finset.univ fun c : Fin 2 => (sLoc d ↦[cset 24 c]{fullShare} f : sProp 𝕄) :=
    pointsTo_biUnion Finset.univ (ℓ := sLoc d) (cset 24) fun c _ e _ h => cset_disjoint 24 c e h
  rw [cset_cover] at e0
  exact e0.trans (bigSep_congr fun c _ => e c)

theorem all_split (d : Dev nD) (gH : Buf (Elt F) (hLoc d)) (gS : Buf (Elt F) (sLoc d)) :
    allAt m d gH gS = bigSep Finset.univ fun c : Fin 2 => bigSep Finset.univ fun i : Fin 16 => part m d gH gS c i := by
  unfold allAt part outAt
  simp only [bigSep_sep']
  rw [ins_split, rows_H, rows_S]

/-! ## The handshakes' payloads -/

variable [FloatOps F]

/-- The history values of a memory. -/
def hOut (d : Dev nD) : Buf (Elt F) (hLoc d) :=
  histF (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg6)) (m ((SparseCore.T d).loc main_arg7)) (m ((SparseCore.T d).loc main_arg8))
/-- The slots of a memory. -/
def sOut (d : Dev nD) : Buf (Elt F) (sLoc d) :=
  slotF (m ((SparseCore.T d).loc main_arg0)) (m ((SparseCore.T d).loc main_arg1)) (m ((SparseCore.T d).loc main_arg2)) (m ((SparseCore.T d).loc main_arg3)) (m ((SparseCore.T d).loc main_arg5)) (m ((SparseCore.T d).loc main_arg6)) (m ((SparseCore.T d).loc main_arg7)) (m ((SparseCore.T d).loc main_arg8))

/-- Every task is dealt its part and brings it back with its rows of the results written. -/
def P : (K (F := F)).Pay (nD := nD) (Val := Elt F) (Name := ℕ) (U := UU) where
  st := fun q d c => match q with | 0 => bigSep Finset.univ fun i : Fin 16 => part m d (m (hLoc d)) (m (sLoc d)) c i
  dn := fun q d c => match q with | 0 => bigSep Finset.univ fun i : Fin 16 => part m d (hOut m d) (sOut m d) c i
  go := fun q d c i => match q with | 0 => part m d (m (hLoc d)) (m (sLoc d)) c i
  td := fun q d c i => match q with | 0 => part m d (hOut m d) (sOut m d) c i
  x := fun _ _ => iprop(emp)

instance part_storable (d : Dev nD) (gH : Buf (Elt F) (hLoc d)) (gS : Buf (Elt F) (sLoc d)) (c : Fin 2) (i : Fin 16) :
    BI.Storable (upEmb : UEmb _ 𝕄) (part m d gH gS c i) := by
  unfold part insAt outAt
  infer_instance

instance P_storable : (P (F := F) m).IsStorable where
  st q d c := match q with
    | 0 => (inferInstance : BI.Storable (upEmb : UEmb _ 𝕄) (bigSep Finset.univ fun i : Fin 16 => part m d (m (hLoc d)) (m (sLoc d)) c i))
  dn q d c := match q with
    | 0 => (inferInstance : BI.Storable (upEmb : UEmb _ 𝕄) (bigSep Finset.univ fun i : Fin 16 => part m d (hOut m d) (sOut m d) c i))
  go q d c i := match q with
    | 0 => part_storable m d (m (hLoc d)) (m (sLoc d)) c i
  td q d c i := match q with
    | 0 => part_storable m d (hOut m d) (sOut m d) c i

theorem vecSplit : (K (F := F)).VecSplit' (P m) 0 := by
  intro d c
  show (bigSep Finset.univ fun i : Fin 16 => part m d (m (hLoc d)) (m (sLoc d)) c i) ⊢ |={Set.univ}=> iprop(
      (bigSep Finset.univ fun i : Fin 16 => part m d (m (hLoc d)) (m (sLoc d)) c i)
      ∗ ((bigSep Finset.univ fun i : Fin 16 => part m d (hOut m d) (sOut m d) c i)
          -∗ (bigSep Finset.univ fun i : Fin 16 => part m d (hOut m d) (sOut m d) c i)))
  iintro H; imodintro
  isplitl [H]; · iexact H
  iintro H; iexact H

/-! ## The obligation of a task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_history_readback (coordsV c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16) ⟨⟩ c s := rfl

variable (hids : ∀ (d : Dev nD) (b : Fin 40), IdsOK (matOf (m ((SparseCore.T d).loc main_arg1)) b))

include hids in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (leaf 4 (leaf 1 fullShare c) i) (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (hids d) (m (hLoc d)) (m (sLoc d)) O W hO

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

omit [FloatOps F] in
theorem unscopedBufs_eq (d : Dev nD) :
    (unscopedBufs d (fun b => m ((d.tc : Thread nD τ).loc b)) : sProp 𝕄) = allAt m d (m (hLoc d)) (m (sLoc d)) := by
  unfold unscopedBufs allAt insAt
  rw [show (Finset.univ.filter fun b : Ref sig .tc => ¬ b.isScoped) = {main_arg0, main_arg1, main_arg2, main_arg3, main_arg4, main_arg5, main_arg6, main_arg7, main_arg8, main_v0_0, main_v0_1} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  simp only [sep_assoc_eq]

theorem st0_eq (d : Dev nD) :
    (bigSep Finset.univ fun c : Fin ((K (F := F)).nCore 0) => (P m).st 0 d c) = allAt m d (m (hLoc d)) (m (sLoc d)) :=
  (all_split m d _ _).symm
theorem dn0_eq (d : Dev nD) :
    (bigSep Finset.univ fun c : Fin ((K (F := F)).nCore 0) => (P m).dn 0 d c) = allAt m d (hOut m d) (sOut m d) :=
  (all_split m d _ _).symm

/-- What the program leaves: the inputs as they were, the two results written. -/
abbrev FIN (d : Dev nD) : sProp 𝕄 := allAt m d (hOut m d) (sOut m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = _ from unscopedBufs_eq m d]
  simp only [main, wp_bind, wp_pure]
  iintro ⟨#Hctx, Hst, ⟨Hb, Hall, Hts, -⟩, -⟩
  iapply ((K (F := F)).wp_run (D (F := F)) 𝒱 (EH := EH) (P := P m) κ d 0) $$ [Hst Hall Hb Hts]
  isplitr; · iexact Hctx
  isplitl [Hst]; · iexact Hst
  isplitl [Hall]
  · rw [st0_eq]; iexact Hall
  iintro ⟨Hst, Hdn⟩
  ihave Hdn' := (Entails.of_eq (dn0_eq m d)) $$ Hdn
  imodintro
  isplitl [Hst]; · iexact Hst
  isplitr [Hb Hts]
  · iexact Hdn'
  isplitl [Hb] <;> iassumption

/-- The inputs and the two results of a final state. -/
def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1) ∧ s'.mem.mem ((SparseCore.T d).loc main_arg2) = m ((SparseCore.T d).loc main_arg2) ∧ s'.mem.mem ((SparseCore.T d).loc main_arg3) = m ((SparseCore.T d).loc main_arg3) ∧ s'.mem.mem ((SparseCore.T d).loc main_arg4) = m ((SparseCore.T d).loc main_arg4) ∧ s'.mem.mem ((SparseCore.T d).loc main_arg5) = m ((SparseCore.T d).loc main_arg5) ∧ s'.mem.mem ((SparseCore.T d).loc main_arg6) = m ((SparseCore.T d).loc main_arg6) ∧ s'.mem.mem ((SparseCore.T d).loc main_arg7) = m ((SparseCore.T d).loc main_arg7) ∧ s'.mem.mem ((SparseCore.T d).loc main_arg8) = m ((SparseCore.T d).loc main_arg8))
    ∧ s'.mem.mem (hLoc d) = hOut m d ∧ s'.mem.mem (sLoc d) = sOut m d

theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN allAt insAt
  iintro ⟨⟨⟨HA0, HA1, HA2, HA3, HA4, HA5, HA6, HA7, HA8⟩, HH, HS⟩, HSI⟩
  ihave H := (agree s' ((SparseCore.T d).loc main_arg0) (m ((SparseCore.T d).loc main_arg0))) $$ [HSI HA0]
  · isplitl [HSI] <;> iassumption
  icases H with ⟨%h0, HSI⟩
  ihave H := (agree s' ((SparseCore.T d).loc main_arg1) (m ((SparseCore.T d).loc main_arg1))) $$ [HSI HA1]
  · isplitl [HSI] <;> iassumption
  icases H with ⟨%h1, HSI⟩
  ihave H := (agree s' ((SparseCore.T d).loc main_arg2) (m ((SparseCore.T d).loc main_arg2))) $$ [HSI HA2]
  · isplitl [HSI] <;> iassumption
  icases H with ⟨%h2, HSI⟩
  ihave H := (agree s' ((SparseCore.T d).loc main_arg3) (m ((SparseCore.T d).loc main_arg3))) $$ [HSI HA3]
  · isplitl [HSI] <;> iassumption
  icases H with ⟨%h3, HSI⟩
  ihave H := (agree s' ((SparseCore.T d).loc main_arg4) (m ((SparseCore.T d).loc main_arg4))) $$ [HSI HA4]
  · isplitl [HSI] <;> iassumption
  icases H with ⟨%h4, HSI⟩
  ihave H := (agree s' ((SparseCore.T d).loc main_arg5) (m ((SparseCore.T d).loc main_arg5))) $$ [HSI HA5]
  · isplitl [HSI] <;> iassumption
  icases H with ⟨%h5, HSI⟩
  ihave H := (agree s' ((SparseCore.T d).loc main_arg6) (m ((SparseCore.T d).loc main_arg6))) $$ [HSI HA6]
  · isplitl [HSI] <;> iassumption
  icases H with ⟨%h6, HSI⟩
  ihave H := (agree s' ((SparseCore.T d).loc main_arg7) (m ((SparseCore.T d).loc main_arg7))) $$ [HSI HA7]
  · isplitl [HSI] <;> iassumption
  icases H with ⟨%h7, HSI⟩
  ihave H := (agree s' ((SparseCore.T d).loc main_arg8) (m ((SparseCore.T d).loc main_arg8))) $$ [HSI HA8]
  · isplitl [HSI] <;> iassumption
  icases H with ⟨%h8, HSI⟩
  ihave H := (agree s' (hLoc d) (hOut m d)) $$ [HSI HH]
  · isplitl [HSI] <;> iassumption
  icases H with ⟨%hH, HSI⟩
  ihave H := (agree s' (sLoc d) (sOut m d)) $$ [HSI HS]
  · isplitl [HSI] <;> iassumption
  icases H with ⟨%hS, HSI⟩
  ipureintro
  exact ⟨⟨h0, h1, h2, h3, h4, h5, h6, h7, h8⟩, hH, hS⟩

/-! ## The program's run -/

/-- What a run ends with: inputs kept, both results written, every semaphore zero. -/
def QC : PUnit × MemSt nD τ sig (Elt F) → Prop := fun r =>
  (∀ d : Dev nD, (r.2.mem ((SparseCore.T d).loc main_arg0) = m ((SparseCore.T d).loc main_arg0) ∧ r.2.mem ((SparseCore.T d).loc main_arg1) = m ((SparseCore.T d).loc main_arg1) ∧ r.2.mem ((SparseCore.T d).loc main_arg2) = m ((SparseCore.T d).loc main_arg2) ∧ r.2.mem ((SparseCore.T d).loc main_arg3) = m ((SparseCore.T d).loc main_arg3) ∧ r.2.mem ((SparseCore.T d).loc main_arg4) = m ((SparseCore.T d).loc main_arg4) ∧ r.2.mem ((SparseCore.T d).loc main_arg5) = m ((SparseCore.T d).loc main_arg5) ∧ r.2.mem ((SparseCore.T d).loc main_arg6) = m ((SparseCore.T d).loc main_arg6) ∧ r.2.mem ((SparseCore.T d).loc main_arg7) = m ((SparseCore.T d).loc main_arg7) ∧ r.2.mem ((SparseCore.T d).loc main_arg8) = m ((SparseCore.T d).loc main_arg8))
    ∧ r.2.mem (hLoc d) = hOut m d ∧ r.2.mem (sLoc d) = sOut m d) ∧ r.2.sem = fun _ => 0

include hids in
theorem run_main [∀ e, Nonempty (Elt F e)] : θ_run (Cert.Readback.defs (F := F)) (Cert.Readback.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hids facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Readback.Hand
-- ==== Proof.ReadbackIdeal.Cell.lean ====
module

public import proofs.«01_k».proof.Defs
public import Idealize.ShloMosaic.Lib.ValueIdx
public import Idealize.ShloMosaic.Lib.ValueLayout
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.ReadbackIdeal
public import proofs.«01_k».proof.Proof.Gen.ReadbackIdeal.Skeleton

@[expose] public section

noncomputable section

namespace Cert.ReadbackIdeal.Hand

open Cert.ReadbackIdeal Cert.ReadbackIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev cV (L : grid0.Coords) : Fin τ.nSC := (L 0).castLE hcore0
abbrev jV (L : grid0.Coords) : Fin τ.nSub := (L 1).castLE hsub0

variable [FloatOps F]

/-! ## The penalised value of one place -/

/-- The penalised logits of a vector of places, zero at and after the `n`-th: `l` the gathered logits, `c` the counts,
    `b` the biases, `rp`, `fp`, `pp` the repetition, frequency and presence penalties, `pos` the places' numbers. -/
def cellVec {s : Shape} (n pos : IVec s 32) (l : FVec F s .f32) (c : IVec s 32) (b rp fp pp : FVec F s .f32) : FVec F s .f32 :=
  select (cmpi .slt pos n)
    (subf (subf
      (select (cmpi .sgt c (broadcast s 0#32))
        (select (cmpf .ogt (addf l b) (broadcast s (Scalar.ofBits .f32 0x00000000#32))) (divf (addf l b) rp) (mulf (addf l b) rp))
        (addf l b))
      (mulf fp (sitofp .f32 c)))
      (select (cmpi .sgt c (broadcast s 0#32)) pp (broadcast s (Scalar.ofBits .f32 0x00000000#32))))
    (broadcast s (Scalar.ofBits .f32 0x00000000#32))

/-- The same at one place. -/
def cell1 (n pos : BitVec 32) (l : F .f32) (c : BitVec 32) (b rp fp pp : F .f32) : F .f32 :=
  cellVec (s := S16) (fun _ => n) (fun _ => pos) (fun _ => l) (fun _ => c) (fun _ => b) (fun _ => rp) (fun _ => fp) (fun _ => pp)
    (fun | 0 => (⟨0, by decide⟩ : Fin 16))

theorem cellVec_apply {s : Shape} (n pos : IVec s 32) (l : FVec F s .f32) (c : IVec s 32) (b rp fp pp : FVec F s .f32) (x : s.Idx) :
    cellVec n pos l c b rp fp pp x = cell1 (n x) (pos x) (l x) (c x) (b x) (rp x) (fp x) (pp x) := rfl

/-! ## Reading the scratch arrays -/

abbrev at1 {n : ℕ} (i : ℕ) (h : i < n) : (⟨1, ![n]⟩ : Shape).Idx := fun | 0 => ⟨i, h⟩
abbrev at2 {n k : ℕ} (i j : ℕ) (hi : i < n) (hj : j < k) : (⟨2, ![n, k]⟩ : Shape).Idx := fun | 0 => ⟨i, hi⟩ | 1 => ⟨j, hj⟩

/-- The logit that a token id names. -/
def logitAt (fl : Vec F S32000 .f32) (w : BitVec 32) : F .f32 := fl (at1 (w.toNat % 32000) (Nat.mod_lt _ (by decide)))

omit [FloatOps F] in
theorem loadIdx_logit (fl : Vec F S32000 .f32) (v : IVec S16 32) (h : ∀ a x, ((![v] : Fin 1 → IVec S16 32) a x).toNat < S32000.size a) (x : S16.Idx) :
    loadIdx fl (![v] : Fin S32000.rank → IVec S16 32) h x = logitAt fl (v x) := by
  unfold loadIdx idxAt logitAt
  congr 1
  funext a
  match a with
  | 0 =>
    apply Fin.ext
    show (v x).toNat = (v x).toNat % 32000
    exact (Nat.mod_eq_of_lt (h 0 x)).symm

/-- Row `p`, column `q` of a block: the penalised value of that place of the block, from the row's contents. -/
def cellAt (fl : Vec F S32000 .f32) (fi fc : Vec F S56x128 .i32) (fb : Vec F S56x128 .f32) (n : BitVec 32) (rp fp pp : F .f32)
    (pos : BitVec 32) (y : S56x128.Idx) : F .f32 :=
  cell1 n pos (logitAt fl (fi y)) (fc y) (fb y) rp fp pp

omit [FloatOps F] in
/-- A load of sixteen lanes at row `p`, from column `q`, recast as a vector, reads the block at that row. -/
theorem cast16 {e : EltTy} (f : Vec F S56x128 e) {o : Fin 2 → ℕ} (inb : ∀ a, o a + S1x16.size a ≤ S56x128.size a)
    (p q : ℕ) (ho : o = ![p, q]) (hp : p < 56) (hq : q + 16 ≤ 128) (x : S16.Idx) :
    shapeCast S16 (fun z => f ((Rect.unit (s := S56x128) o S1x16.size inb).emb z)) shapeCasts_S1x16_S16 x
      = f (at2 p (q + (x 0).val) hp (lt_of_lt_of_le (Nat.add_lt_add_left (x 0).isLt q) hq)) := by
  subst ho
  have hx : x = ValueIdx.ix1 (x 0) := funext fun a => match a with | 0 => rfl
  rw [hx]
  refine (ValueIdx.shapeCast_1a_a_apply (a := 16) _ _ (x 0)).trans ?_
  congr 1
  funext a
  match a with
  | 0 => rfl
  | 1 => apply Fin.ext; show q + 1 * (x 0).val = q + (x 0).val; omega

/-- Place `j` of a row: its penalised value, from the row's contents. -/
def histAt (fl : Vec F S32000 .f32) (fi fc : Vec F S56x128 .i32) (fb : Vec F S56x128 .f32) (n : BitVec 32) (rp fp pp : F .f32) (j : S6144.Idx) : F .f32 :=
  cellAt fl fi fc fb n rp fp pp (BitVec.ofNat 32 (j 0).val)
    (at2 ((j 0).val / 128) ((j 0).val % 128) (by have h : (j 0).val < 6144 := (j 0).isLt; omega) (Nat.mod_lt _ (by decide)))

/-- Slot `j` of a row: its penalised value, from the row's contents. -/
def slotAt (fl : Vec F S32000 .f32) (fi fc : Vec F S56x128 .i32) (fb : Vec F S56x128 .f32) (n : BitVec 32) (rp fp pp : F .f32) (j : S32.Idx) : F .f32 :=
  cellAt fl fi fc fb n rp fp pp (BitVec.ofNat 32 (j 0).val)
    (at2 48 (j 0).val (by decide) (lt_trans (j 0).isLt (by decide)))

omit [FloatOps F] in
theorem read_whole5 (fl : Vec F S32000 .f32) :
    View.read (Elt F) ((Memref.whole cc0_scratch5 : Memref sig .scVector .vmem S32000 .f32).access (Rect.whole S32000)) fl = fl := by
  funext y
  show fl ((Rect.whole S32000).emb y) = fl y
  congr 1
  funext a
  apply Fin.ext
  show 0 + 1 * (y a).val = (y a).val
  omega

/-- Sixteen lanes computed from the loads at row `p`, column `q` are the penalised values of those places. -/
theorem lanes (fl : Vec F S32000 .f32) (fi fc : Vec F S56x128 .i32) (fb : Vec F S56x128 .f32) (n : BitVec 32) (rp fp pp : F .f32)
    (v0 : IVec S16 32) (h0 : ∀ x, v0 x = BitVec.ofNat 32 (x 0).val)
    (v43 : IVec S16 32) (hn : ∀ x, v43 x = n) (v37 v39 v41 : FVec F S16 .f32) (hr : ∀ x, v37 x = rp) (hf : ∀ x, v39 x = fp) (hp : ∀ x, v41 x = pp)
    (p q : ℕ) (hp' : p < 56) (hq : q + 16 ≤ 128) (pos : ℕ) (w : BitVec 32) (hw : w = BitVec.ofNat 32 pos)
    {o o' o'' : Fin 2 → ℕ} (ho : o = ![p, q]) (ho' : o' = ![p, q]) (ho'' : o'' = ![p, q])
    (inb : ∀ a, o a + S1x16.size a ≤ S56x128.size a) (inb' : ∀ a, o' a + S1x16.size a ≤ S56x128.size a) (inb'' : ∀ a, o'' a + S1x16.size a ≤ S56x128.size a)
    (h : ∀ a x, ((![(shapeCast S16 (View.readAt (Elt F) (Memref.whole cc0_scratch6 : Memref sig .scVector .vmem S56x128 .i32).view (Rect.unit (s := S56x128) o' S1x16.size inb').toLoadRect fi) shapeCasts_S1x16_S16 : IVec S16 32)] : Fin 1 → IVec S16 32) a x).toNat < S32000.size a)
    (P : FVec F S16 .f32)
    (hP : P = cellVec v43 (addi (broadcast S16 w) v0)
      (loadIdx (View.read (Elt F) ((Memref.whole cc0_scratch5 : Memref sig .scVector .vmem S32000 .f32).access (Rect.whole S32000)) fl) (s := S32000)
        (![(shapeCast S16 (View.readAt (Elt F) (Memref.whole cc0_scratch6 : Memref sig .scVector .vmem S56x128 .i32).view (Rect.unit (s := S56x128) o' S1x16.size inb').toLoadRect fi) shapeCasts_S1x16_S16 : IVec S16 32)] : Fin 1 → IVec S16 32) h)
      (shapeCast S16 (View.readAt (Elt F) (Memref.whole cc0_scratch7 : Memref sig .scVector .vmem S56x128 .i32).view (Rect.unit (s := S56x128) o S1x16.size inb).toLoadRect fc) shapeCasts_S1x16_S16 : IVec S16 32)
      (shapeCast S16 (View.readAt (Elt F) (Memref.whole cc0_scratch8 : Memref sig .scVector .vmem S56x128 .f32).view (Rect.unit (s := S56x128) o'' S1x16.size inb'').toLoadRect fb) shapeCasts_S1x16_S16 : FVec F S16 .f32)
      v37 v39 v41) (x : S16.Idx) :
    P x = cellAt fl fi fc fb n rp fp pp (BitVec.ofNat 32 (pos + (x 0).val))
      (at2 p (q + (x 0).val) hp' (lt_of_lt_of_le (Nat.add_lt_add_left (x 0).isLt q) hq)) := by
  subst hP
  rw [cellVec_apply, hn, hr, hf, hp, loadIdx_logit, read_whole5]
  have e1 := cast16 fi inb' p q ho' hp' hq x
  have e2 := cast16 fc inb p q ho hp' hq x
  have e3 := cast16 fb inb'' p q ho'' hp' hq x
  have ew : addi (broadcast S16 w) v0 x = BitVec.ofNat 32 (pos + (x 0).val) := by
    show w + v0 x = _
    rw [hw, h0, BitVec.ofNat_add]
  unfold cellAt
  rw [ew]
  have key : ∀ (W : BitVec 32) (l l' c c' : BitVec 32) (b b' : F .f32), l = l' → c = c' → b = b' →
      cell1 n W (logitAt fl l) c b rp fp pp = cell1 n W (logitAt fl l') c' b' rp fp pp := by
    rintro W l _ c _ b _ rfl rfl rfl; rfl
  exact key _ _ _ _ _ _ _ e1 e2 e3

end Cert.ReadbackIdeal.Hand
-- ==== Proof.ReadbackIdeal.Trip.lean ====
module

public import proofs.«01_k».proof.Defs
public import proofs.«01_k».proof.Proof.ReadbackIdeal.Cell
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.ReadbackIdeal
public import proofs.«01_k».proof.Proof.Gen.ReadbackIdeal.Skeleton

@[expose] public section

noncomputable section

namespace Cert.ReadbackIdeal.Hand

open Cert.ReadbackIdeal Cert.ReadbackIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UU : Type := UH × Counters
local notation "𝕄" => MT nD τ sig (HIx 1) (Elt F) ℕ UU ℕ
abbrev 𝒱₀ : Variants := Variants.none
variable [FloatOps F]

/-- One trip of the block loop, over the program's arrays. -/
abbrev trip (L : grid0.Coords) (v0 : IVec S16 32) (k : Fin (k0_t1_loop L).trips) (v35 : BitVec 32) (v37 v39 v41 : Vec F S16 .f32) (v43 : Vec F S16 .i32) :=
  k0_t2_body L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 v0 k v35 v37 v39 v41 v43

theorem posW : ∀ (t : Fin k0_t2_loop.trips) (c : Fin 8),
    Scalar.addi (Scalar.muli (Scalar.addi 0#32 (Scalar.muli (Scf.iv 0#32 1#32 t) 1#32)) 128#32) (BitVec.ofNat 32 (16 * c.val))
      = BitVec.ofNat 32 (128 * t.val + 16 * c.val) := by decide +kernel
theorem trips2 : k0_t2_loop.trips = 48 := by decide +kernel

/-- The sixteen ids that a load at rows below 49 takes name logits. -/
def IdsOK (fi : Vec F S56x128 .i32) : Prop :=
  ∀ y : S56x128.Idx, (y 0).val < 48 ∨ ((y 0).val = 48 ∧ (y 1).val < 32) → (fi y).toNat < 32000

omit [FloatOps F] in
theorem ids_lt (fi : Vec F S56x128 .i32) (hi : IdsOK fi) {o : Fin 2 → ℕ} (inb : ∀ a, o a + S1x16.size a ≤ S56x128.size a)
    (p q : ℕ) (ho : o = ![p, q]) (hp : p < 56) (hq : q + 16 ≤ 128) (hpq : p < 48 ∨ (p = 48 ∧ q + 16 ≤ 32)) :
    ∀ (a : Fin 1) (x : S16.Idx), ((![(shapeCast S16 (View.readAt (Elt F) (Memref.whole cc0_scratch6 : Memref sig .scVector .vmem S56x128 .i32).view
      (Rect.unit (s := S56x128) o S1x16.size inb).toLoadRect fi) shapeCasts_S1x16_S16 : IVec S16 32)] : Fin 1 → IVec S16 32) a x).toNat < S32000.size a := by
  intro a x
  match a with
  | 0 =>
    have e := cast16 fi inb p q ho hp hq x
    refine lt_of_eq_of_lt (congrArg BitVec.toNat e) (hi _ ?_)
    rcases hpq with h | ⟨h, h'⟩
    · exact .inl h
    · refine .inr ⟨h, ?_⟩
      have : (x 0).val < 16 := (x 0).isLt
      show q + (x 0).val < 32
      omega

omit [FloatOps F] in
/-- Eight pieces of sixteen places fill a block of 128. -/
theorem block8 (fo G : Vec F S6144 .f32) (t : ℕ) (ht : t < 48) (hfo : ∀ j : S6144.Idx, (j 0).val < 128 * t → fo j = G j)
    {o7 : Fin 1 → ℕ} {i7 : ∀ a, o7 a + S16.size a ≤ S6144.size a} {P7 : Vec F S16 .f32}
    (h7 : ∀ x, P7 x = G ((Rect.unit (s := S6144) o7 S16.size i7).emb x)) (e7 : o7 = ![128 * t + 112])
    {o6 : Fin 1 → ℕ} {i6 : ∀ a, o6 a + S16.size a ≤ S6144.size a} {P6 : Vec F S16 .f32}
    (h6 : ∀ x, P6 x = G ((Rect.unit (s := S6144) o6 S16.size i6).emb x)) (e6 : o6 = ![128 * t + 96])
    {o5 : Fin 1 → ℕ} {i5 : ∀ a, o5 a + S16.size a ≤ S6144.size a} {P5 : Vec F S16 .f32}
    (h5 : ∀ x, P5 x = G ((Rect.unit (s := S6144) o5 S16.size i5).emb x)) (e5 : o5 = ![128 * t + 80])
    {o4 : Fin 1 → ℕ} {i4 : ∀ a, o4 a + S16.size a ≤ S6144.size a} {P4 : Vec F S16 .f32}
    (h4 : ∀ x, P4 x = G ((Rect.unit (s := S6144) o4 S16.size i4).emb x)) (e4 : o4 = ![128 * t + 64])
    {o3 : Fin 1 → ℕ} {i3 : ∀ a, o3 a + S16.size a ≤ S6144.size a} {P3 : Vec F S16 .f32}
    (h3 : ∀ x, P3 x = G ((Rect.unit (s := S6144) o3 S16.size i3).emb x)) (e3 : o3 = ![128 * t + 48])
    {o2 : Fin 1 → ℕ} {i2 : ∀ a, o2 a + S16.size a ≤ S6144.size a} {P2 : Vec F S16 .f32}
    (h2 : ∀ x, P2 x = G ((Rect.unit (s := S6144) o2 S16.size i2).emb x)) (e2 : o2 = ![128 * t + 32])
    {o1 : Fin 1 → ℕ} {i1 : ∀ a, o1 a + S16.size a ≤ S6144.size a} {P1 : Vec F S16 .f32}
    (h1 : ∀ x, P1 x = G ((Rect.unit (s := S6144) o1 S16.size i1).emb x)) (e1 : o1 = ![128 * t + 16])
    {o0 : Fin 1 → ℕ} {i0 : ∀ a, o0 a + S16.size a ≤ S6144.size a} {P0 : Vec F S16 .f32}
    (h0 : ∀ x, P0 x = G ((Rect.unit (s := S6144) o0 S16.size i0).emb x)) (e0 : o0 = ![128 * t])
    (j : S6144.Idx) (hj : (j 0).val < 128 * (t + 1)) :
    (Memref.whole cc0_scratch9 : Memref sig .scVector .vmem S6144 .f32).view.writes (Elt F) fo
      [⟨Rect.unit (s := S6144) o7 S16.size i7, P7⟩,
       ⟨Rect.unit (s := S6144) o6 S16.size i6, P6⟩,
       ⟨Rect.unit (s := S6144) o5 S16.size i5, P5⟩,
       ⟨Rect.unit (s := S6144) o4 S16.size i4, P4⟩,
       ⟨Rect.unit (s := S6144) o3 S16.size i3, P3⟩,
       ⟨Rect.unit (s := S6144) o2 S16.size i2, P2⟩,
       ⟨Rect.unit (s := S6144) o1 S16.size i1, P1⟩,
       ⟨Rect.unit (s := S6144) o0 S16.size i0, P0⟩] j = G j := by
  subst e7 e6 e5 e4 e3 e2 e1 e0
  have one : ∀ (q : ℕ) (inb : ∀ a, (![q] : Fin 1 → ℕ) a + S16.size a ≤ S6144.size a), j ∈ (Rect.unit (s := S6144) ![q] S16.size inb).set ↔ q ≤ (j 0).val ∧ (j 0).val < q + 16 := by
    intro q inb
    rw [Rect.mem_set_unit]
    exact ⟨fun h => h 0, fun h a => by match a with | 0 => exact h⟩
  have hr : ∀ f : Vec F S6144 .f32, View.read (Elt F) (Memref.whole cc0_scratch9 : Memref sig .scVector .vmem S6144 .f32).view f = f := fun f => rfl
  refine (congrFun (hr _).symm j).trans ?_
  by_cases h : (j 0).val < 128 * t
  · rw [View.read_writes_apply_of_forall_not_mem, hr, hfo j h]
    simp only [List.forall_mem_cons, one, List.not_mem_nil, false_imp_iff, implies_true, and_true]
    omega
  · refine View.read_writes_apply_of_pieces (v := (Memref.whole cc0_scratch9 : Memref sig .scVector .vmem S6144 .f32).view) (f := fo) (G := G) _ ?_ j ?_
    · simp only [List.forall_mem_cons, List.not_mem_nil, false_imp_iff, implies_true, and_true]
      exact ⟨h7, h6, h5, h4, h3, h2, h1, h0⟩
    · by_contra hc
      simp only [not_exists, not_and, List.forall_mem_cons, one, List.not_mem_nil, false_imp_iff, implies_true, and_true] at hc
      omega

/-- The sixteen lanes of group `c` of block `t` are those places of the row's value. -/
theorem lanes_hist (fl : Vec F S32000 .f32) (fi fc : Vec F S56x128 .i32) (fb : Vec F S56x128 .f32) (n : BitVec 32) (rp fp pp : F .f32)
    (v0 : IVec S16 32) (h0 : ∀ x, v0 x = BitVec.ofNat 32 (x 0).val)
    (v43 : IVec S16 32) (hn : ∀ x, v43 x = n) (v37 v39 v41 : FVec F S16 .f32) (hr : ∀ x, v37 x = rp) (hf : ∀ x, v39 x = fp) (hp : ∀ x, v41 x = pp)
    (t : Fin k0_t2_loop.trips) (c : Fin 8) {oo : Fin 1 → ℕ} (hoo : oo = ![128 * t.val + 16 * c.val]) (inbo : ∀ a, oo a + S16.size a ≤ S6144.size a)
    {o o' o'' : Fin 2 → ℕ} (ho : o = ![t.val, 16 * c.val]) (ho' : o' = ![t.val, 16 * c.val]) (ho'' : o'' = ![t.val, 16 * c.val])
    (inb : ∀ a, o a + S1x16.size a ≤ S56x128.size a) (inb' : ∀ a, o' a + S1x16.size a ≤ S56x128.size a) (inb'' : ∀ a, o'' a + S1x16.size a ≤ S56x128.size a)
    (h : ∀ a x, ((![(shapeCast S16 (View.readAt (Elt F) (Memref.whole cc0_scratch6 : Memref sig .scVector .vmem S56x128 .i32).view (Rect.unit (s := S56x128) o' S1x16.size inb').toLoadRect fi) shapeCasts_S1x16_S16 : IVec S16 32)] : Fin 1 → IVec S16 32) a x).toNat < S32000.size a)
    (P : FVec F S16 .f32)
    (hP : P = cellVec v43 (addi (broadcast S16 (Scalar.addi (Scalar.muli (Scalar.addi 0#32 (Scalar.muli (Scf.iv 0#32 1#32 t) 1#32)) 128#32) (BitVec.ofNat 32 (16 * c.val)))) v0)
      (loadIdx (View.read (Elt F) ((Memref.whole cc0_scratch5 : Memref sig .scVector .vmem S32000 .f32).access (Rect.whole S32000)) fl) (s := S32000)
        (![(shapeCast S16 (View.readAt (Elt F) (Memref.whole cc0_scratch6 : Memref sig .scVector .vmem S56x128 .i32).view (Rect.unit (s := S56x128) o' S1x16.size inb').toLoadRect fi) shapeCasts_S1x16_S16 : IVec S16 32)] : Fin 1 → IVec S16 32) h)
      (shapeCast S16 (View.readAt (Elt F) (Memref.whole cc0_scratch7 : Memref sig .scVector .vmem S56x128 .i32).view (Rect.unit (s := S56x128) o S1x16.size inb).toLoadRect fc) shapeCasts_S1x16_S16 : IVec S16 32)
      (shapeCast S16 (View.readAt (Elt F) (Memref.whole cc0_scratch8 : Memref sig .scVector .vmem S56x128 .f32).view (Rect.unit (s := S56x128) o'' S1x16.size inb'').toLoadRect fb) shapeCasts_S1x16_S16 : FVec F S16 .f32)
      v37 v39 v41) :
    ∀ x, P x = histAt fl fi fc fb n rp fp pp ((Rect.unit (s := S6144) oo S16.size inbo).emb x) := by
  intro x
  have ht : t.val < 48 := lt_of_lt_of_eq t.isLt trips2
  have hc := c.isLt
  have hx : (x 0).val < 16 := (x 0).isLt
  rw [lanes fl fi fc fb n rp fp pp v0 h0 v43 hn v37 v39 v41 hr hf hp t.val (16 * c.val) (by omega) (by omega) (128 * t.val + 16 * c.val) _ (posW t c)
    ho ho' ho'' inb inb' inb'' h P hP x]
  have e : (((Rect.unit (s := S6144) oo S16.size inbo).emb x) 0).val = 128 * t.val + 16 * c.val + (x 0).val := by
    subst hoo; rw [Rect.emb_apply]; show _ + 1 * (x 0).val = _; rw [Nat.one_mul]; rfl
  unfold histAt
  have key : ∀ (j j' a a' b b' : ℕ) (h1 h2 h3 h4), j = j' → a = a' → b = b' →
      cellAt fl fi fc fb n rp fp pp (BitVec.ofNat 32 j) (at2 a b h1 h2) = cellAt fl fi fc fb n rp fp pp (BitVec.ofNat 32 j') (at2 a' b' h3 h4) := by
    rintro j _ a _ b _ _ _ _ _ rfl rfl rfl; rfl
  exact key _ _ _ _ _ _ _ _ _ _ e.symm (by rw [e]; omega) (by rw [e]; omega)

variable (d : Dev nD) (L : grid0.Coords)

/-- Before trip `p` of the block loop the first `p` blocks of the row are written; the row's inputs are in place. -/
def inv2 (fl : Vec F S32000 .f32) (fi fc : Vec F S56x128 .i32) (fb : Vec F S56x128 .f32) (n : BitVec 32) (rp fp pp : F .f32) (p : ℕ) (_ : PUnit) : sProp 𝕄 :=
  iprop(((Memref.whole cc0_scratch5).view.loc (V d (cV L) (jV L)) ↦{fullShare} fl) ∗ ((Memref.whole cc0_scratch6).view.loc (V d (cV L) (jV L)) ↦{fullShare} fi) ∗ ((Memref.whole cc0_scratch7).view.loc (V d (cV L) (jV L)) ↦{fullShare} fc) ∗ ((Memref.whole cc0_scratch8).view.loc (V d (cV L) (jV L)) ↦{fullShare} fb) ∗ ∃ fo, ⌜∀ j : S6144.Idx, (j 0).val < 128 * p → fo j = histAt fl fi fc fb n rp fp pp j⌝ ∗ ((Memref.whole cc0_scratch9).view.loc (V d (cV L) (jV L)) ↦{fullShare} fo))

/-- A trip of the block loop writes block `t` of the row, and leaves what was there before it. -/
theorem trip_spec (v0 : IVec S16 32) (k : Fin (k0_t1_loop L).trips) (v35 : BitVec 32) (v37 v39 v41 : Vec F S16 .f32) (v43 : Vec F S16 .i32)
    (t : Fin k0_t2_loop.trips) (n : BitVec 32) (rp fp pp : F .f32)
    (h0 : ∀ x, v0 x = BitVec.ofNat 32 (x 0).val) (hn : ∀ x, v43 x = n) (hr : ∀ x, v37 x = rp) (hf : ∀ x, v39 x = fp) (hp : ∀ x, v41 x = pp)
    (fl : Vec F S32000 .f32) (fi fc : Vec F S56x128 .i32) (fb : Vec F S56x128 .f32) (hids : IdsOK fi) :
    inv2 d L fl fi fc fb n rp fp pp t.val ()
    ⊢ (wp frame (wpE (defs₀ (F := F)) 𝒱₀ (V d (cV L) (jV L)) none) Set.univ (trip L v0 k v35 v37 v39 v41 v43 t ())
      fun _ => inv2 d L fl fi fc fb n rp fp pp (t.val + 1) () : sProp 𝕄) := by
  unfold inv2
  iintro ⟨Hl, Hi, Hc, Hb, ⟨%fo, %hfo, Ho⟩⟩
  have ht : t.val < 48 := lt_of_lt_of_eq t.isLt trips2
  unfold trip k0_t2_body
  iterate 8 (
    sl_exec (disch := exact ids_lt fi hids _ t.val _ (by first | exact k0_off3_eq t | exact k0_off6_eq t | exact k0_off9_eq t | exact k0_off12_eq t | exact k0_off15_eq t | exact k0_off18_eq t | exact k0_off21_eq t | exact k0_off24_eq t) (by omega) (by decide) (.inl ht))
    iapply (SparseCore.wp_vectorLoadIdx 𝒱₀ (V d (cV L) (jV L)) none Set.univ (base := (Memref.whole cc0_scratch5 : Memref sig .scVector .vmem S32000 .f32)) (S := Finset.univ) (q := fullShare) (Finset.subset_univ _)) $$ Hl
    iintro Hl)
  sl_exec
  sl_step
  isplitl [Hl]; · iexact Hl
  isplitl [Hi]; · iexact Hi
  isplitl [Hc]; · iexact Hc
  isplitl [Hb]; · iexact Hb
  iexists _
  isplitr
  swap
  · iexact Ho
  ipureintro
  intro j hj
  exact block8 fo (histAt fl fi fc fb n rp fp pp) t.val (by omega) hfo
    (lanes_hist fl fi fc fb n rp fp pp v0 h0 v43 hn v37 v39 v41 hr hf hp t 7 (k0_off26_eq t) (k0_off26_inb t) (k0_off24_eq t) (k0_off24_eq t) (k0_off25_eq t) _ _ _ _ _ rfl) (k0_off26_eq t)
    (lanes_hist fl fi fc fb n rp fp pp v0 h0 v43 hn v37 v39 v41 hr hf hp t 6 (k0_off23_eq t) (k0_off23_inb t) (k0_off21_eq t) (k0_off21_eq t) (k0_off22_eq t) _ _ _ _ _ rfl) (k0_off23_eq t)
    (lanes_hist fl fi fc fb n rp fp pp v0 h0 v43 hn v37 v39 v41 hr hf hp t 5 (k0_off20_eq t) (k0_off20_inb t) (k0_off18_eq t) (k0_off18_eq t) (k0_off19_eq t) _ _ _ _ _ rfl) (k0_off20_eq t)
    (lanes_hist fl fi fc fb n rp fp pp v0 h0 v43 hn v37 v39 v41 hr hf hp t 4 (k0_off17_eq t) (k0_off17_inb t) (k0_off15_eq t) (k0_off15_eq t) (k0_off16_eq t) _ _ _ _ _ rfl) (k0_off17_eq t)
    (lanes_hist fl fi fc fb n rp fp pp v0 h0 v43 hn v37 v39 v41 hr hf hp t 3 (k0_off14_eq t) (k0_off14_inb t) (k0_off12_eq t) (k0_off12_eq t) (k0_off13_eq t) _ _ _ _ _ rfl) (k0_off14_eq t)
    (lanes_hist fl fi fc fb n rp fp pp v0 h0 v43 hn v37 v39 v41 hr hf hp t 2 (k0_off11_eq t) (k0_off11_inb t) (k0_off9_eq t) (k0_off9_eq t) (k0_off10_eq t) _ _ _ _ _ rfl) (k0_off11_eq t)
    (lanes_hist fl fi fc fb n rp fp pp v0 h0 v43 hn v37 v39 v41 hr hf hp t 1 (k0_off8_eq t) (k0_off8_inb t) (k0_off6_eq t) (k0_off6_eq t) (k0_off7_eq t) _ _ _ _ _ rfl) (k0_off8_eq t)
    (lanes_hist fl fi fc fb n rp fp pp v0 h0 v43 hn v37 v39 v41 hr hf hp t 0 (k0_off5_eq t) (k0_off5_inb t) (k0_off3_eq t) (k0_off3_eq t) (k0_off4_eq t) _ _ _ _ _ rfl) (k0_off5_eq t)
    j hj

end Cert.ReadbackIdeal.Hand
-- ==== Proof.ReadbackIdeal.Fetch.lean ====
module

public import proofs.«01_k».proof.Defs
public import proofs.«01_k».proof.Proof.ReadbackIdeal.Cell
public import Idealize.ShloMosaic.Lib.ValueIdx
public import Idealize.ShloMosaic.Lib.ValueLayout
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.ReadbackIdeal
public import proofs.«01_k».proof.Proof.Gen.ReadbackIdeal.Skeleton

@[expose] public section

noncomputable section

namespace Cert.ReadbackIdeal.Hand

open Cert.ReadbackIdeal Cert.ReadbackIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

abbrev at3 {n k l : ℕ} (i j m : ℕ) (hi : i < n) (hj : j < k) (hm : m < l) : (⟨3, ![n, k, l]⟩ : Shape).Idx := fun | 0 => ⟨i, hi⟩ | 1 => ⟨j, hj⟩ | 2 => ⟨m, hm⟩

/-- Row `b` of a matrix, and matrix `b` of a stack. -/
def rowOf {α : Type} {n m : ℕ} (A : (⟨2, ![n, m]⟩ : Shape).Idx → α) (b : Fin n) : (⟨1, ![m]⟩ : Shape).Idx → α := fun y => A (at2 b.val (y 0).val b.isLt (y 0).isLt)
def matOf {α : Type} {n k l : ℕ} (A : (⟨3, ![n, k, l]⟩ : Shape).Idx → α) (b : Fin n) : (⟨2, ![k, l]⟩ : Shape).Idx → α := fun y => A (at3 b.val (y 0).val (y 1).val b.isLt (y 0).isLt (y 1).isLt)

omit [FloatOps F] in
theorem castRow {α : Type} {n m : ℕ} (A : (⟨2, ![n, m]⟩ : Shape).Idx → α) {o : Fin 2 → ℕ} (inb : ∀ a, o a + (![1, m] : Fin 2 → ℕ) a ≤ (![n, m] : Fin 2 → ℕ) a)
    (b : Fin n) (ho : o = ![b.val, 0]) (hc : (⟨2, ![1, m]⟩ : Shape).ShapeCasts ⟨1, ![m]⟩) :
    shapeCast ⟨1, ![m]⟩ (fun z => A ((Rect.unit (s := ⟨2, ![n, m]⟩) o ![1, m] inb).emb z)) hc = rowOf A b := by
  funext x
  subst ho
  have hx : x = ValueIdx.ix1 (x 0) := funext fun a => match a with | 0 => rfl
  refine (congrArg _ hx).trans ((ValueIdx.shapeCast_1a_a_apply (a := m) _ _ (x 0)).trans ?_)
  unfold rowOf
  congr 1
  funext a
  match a with
  | 0 => apply Fin.ext; rw [Rect.emb_apply]; show b.val + 1 * 0 = b.val; omega
  | 1 => apply Fin.ext; rw [Rect.emb_apply]; show 0 + 1 * (x 0).val = (x 0).val; omega

omit [FloatOps F] in
theorem castMat {α : Type} {n k l : ℕ} (A : (⟨3, ![n, k, l]⟩ : Shape).Idx → α) {o : Fin 3 → ℕ} (inb : ∀ a, o a + (![1, k, l] : Fin 3 → ℕ) a ≤ (![n, k, l] : Fin 3 → ℕ) a)
    (b : Fin n) (ho : o = ![b.val, 0, 0]) (hc : (⟨3, ![1, k, l]⟩ : Shape).ShapeCasts ⟨2, ![k, l]⟩) :
    shapeCast ⟨2, ![k, l]⟩ (fun z => A ((Rect.unit (s := ⟨3, ![n, k, l]⟩) o ![1, k, l] inb).emb z)) hc = matOf A b := by
  funext x
  subst ho
  have hx : x = ValueIdx.ix2 (x 0) (x 1) := funext fun a => match a with | 0 => rfl | 1 => rfl
  refine (congrArg _ hx).trans ((ValueIdx.shapeCast_1ab_ab_apply (a := k) (b := l) _ _ (x 0) (x 1)).trans ?_)
  unfold matOf
  congr 1
  funext a
  match a with
  | 0 => apply Fin.ext; rw [Rect.emb_apply]; show b.val + 1 * 0 = b.val; omega
  | 1 => apply Fin.ext; rw [Rect.emb_apply]; show 0 + 1 * (x 0).val = (x 0).val; omega
  | 2 => apply Fin.ext; rw [Rect.emb_apply]; show 0 + 1 * (x 1).val = (x 1).val; omega

/-! ## The row of a trip -/

/-- The first row of a task, as the program computes it; and the row of trip `k`. -/
abbrev v2E (L : grid0.Coords) : BitVec 32 := Scalar.addi (Scalar.muli (BitVec.ofNat 32 (L 1).val) 2#32) (BitVec.ofNat 32 (L 0).val)
abbrev bW (L : grid0.Coords) (k : Fin (k0_t1_loop L).trips) : BitVec 32 :=
  Scalar.addi (v2E L) (Scalar.muli (Scalar.addi 0#32 (Scalar.muli (Scf.iv 0#32 1#32 k) 1#32)) 32#32)
abbrev bN (L : grid0.Coords) (k : Fin (k0_t1_loop L).trips) : ℕ := 2 * (L 1).val + (L 0).val + 32 * k.val
theorem bW_eq : ∀ (L : grid0.Coords) (k : Fin (k0_t1_loop L).trips), bW L k = BitVec.ofNat 32 (bN L k) ∧ bN L k < 40 := by decide +kernel
def bF (L : grid0.Coords) (k : Fin (k0_t1_loop L).trips) : Fin 40 := ⟨bN L k, (bW_eq L k).2⟩
theorem bW_toNat (L : grid0.Coords) (k : Fin (k0_t1_loop L).trips) : (bW L k).toNat = (bF L k).val := by
  obtain ⟨e, h⟩ := bW_eq L k
  rw [e, BitVec.toNat_ofNat, Nat.mod_eq_of_lt (by omega)]; rfl
theorem bW_lt (L : grid0.Coords) (k : Fin (k0_t1_loop L).trips) : (bW L k).toNat < 40 := by
  rw [bW_toNat]; exact (bF L k).isLt
theorem chk40 (w : BitVec 32) (h : w.toNat < 40) : ∀ (a : Fin 1) (x : S16.Idx), ((![broadcast S16 w] : Fin 1 → IVec S16 32) a x).toNat < S40.size a := by
  intro a x
  match a with
  | 0 => exact h

omit [FloatOps F] in
/-- A gather at one index sixteen times reads that entry sixteen times. -/
theorem loadIdx40 {e : EltTy} (B : Vec F S40 e) (w : BitVec 32) (b : Fin 40) (hw : w.toNat = b.val)
    (h : ∀ a x, ((![broadcast S16 w] : Fin S40.rank → IVec S16 32) a x).toNat < S40.size a) (x : S16.Idx) :
    loadIdx B (![broadcast S16 w] : Fin S40.rank → IVec S16 32) h x = B (at1 b.val b.isLt) := by
  unfold loadIdx idxAt
  congr 1
  funext a
  match a with
  | 0 => exact Fin.ext hw

/-! ## What the copies in leave -/

abbrev hRow (L : grid0.Coords) (k : Fin (k0_t1_loop L).trips) : Memref sig .scVector .hbm S6144 .f32 :=
  ((Memref.whole main_v0_0_scv : Memref sig .scVector .hbm S40x6144 .f32).slice (Rect.unit (s := S40x6144) (k0_off27 L k) S1x6144.size (k0_off27_inb L k)) (fun _ => rfl)).squeeze S6144 squeezes_S1x6144_S6144
abbrev sRow (L : grid0.Coords) (k : Fin (k0_t1_loop L).trips) : Memref sig .scVector .hbm S24 .f32 :=
  ((Memref.whole main_v0_1_scv : Memref sig .scVector .hbm S40x24 .f32).slice (Rect.unit (s := S40x24) (k0_off28 L k) S1x24.size (k0_off28_inb L k)) (fun _ => rfl)).squeeze S24 squeezes_S1x24_S24
abbrev lRow (L : grid0.Coords) (k : Fin (k0_t1_loop L).trips) : Memref sig .scVector .hbm S32000 .f32 :=
  ((Memref.whole main_arg0_scv : Memref sig .scVector .hbm S40x32000 .f32).slice (Rect.unit (s := S40x32000) (k0_off1 L k) S1x32000.size (k0_off1_inb L k)) (fun _ => rfl)).squeeze S32000 squeezes_S1x32000_S32000
abbrev iRow (L : grid0.Coords) (k : Fin (k0_t1_loop L).trips) : Memref sig .scVector .hbm S56x128 .i32 :=
  ((Memref.whole main_arg1_scv : Memref sig .scVector .hbm S40x56x128 .i32).slice (Rect.unit (s := S40x56x128) (k0_off2 L k) S1x56x128.size (k0_off2_inb L k)) (fun _ => rfl)).squeeze S56x128 squeezes_S1x56x128_S56x128
abbrev cRow (L : grid0.Coords) (k : Fin (k0_t1_loop L).trips) : Memref sig .scVector .hbm S56x128 .i32 :=
  ((Memref.whole main_arg2_scv : Memref sig .scVector .hbm S40x56x128 .i32).slice (Rect.unit (s := S40x56x128) (k0_off2 L k) S1x56x128.size (k0_off2_inb L k)) (fun _ => rfl)).squeeze S56x128 squeezes_S1x56x128_S56x128
abbrev pRow (L : grid0.Coords) (k : Fin (k0_t1_loop L).trips) : Memref sig .scVector .hbm S56x128 .f32 :=
  ((Memref.whole main_arg3_scv : Memref sig .scVector .hbm S40x56x128 .f32).slice (Rect.unit (s := S40x56x128) (k0_off2 L k) S1x56x128.size (k0_off2_inb L k)) (fun _ => rfl)).squeeze S56x128 squeezes_S1x56x128_S56x128

variable (L : grid0.Coords) (k : Fin (k0_t1_loop L).trips)

omit [FloatOps F] in
theorem fetch5 (A : Vec F S40x32000 .f32) (f : Vec F S32000 .f32) :
    View.write (Elt F) (Memref.whole cc0_scratch5 : Memref sig .scVector .vmem S32000 .f32).view f ((lRow L k).view.read (Elt F) A) Finset.univ = rowOf A (bF L k) :=
  (View.write_whole_univ _ _ _).trans (castRow A (k0_off1_inb L k) (bF L k) (k0_off1_eq L k) (by decide))
omit [FloatOps F] in
theorem fetch6 (A : Vec F S40x56x128 .i32) (f : Vec F S56x128 .i32) :
    View.write (Elt F) (Memref.whole cc0_scratch6 : Memref sig .scVector .vmem S56x128 .i32).view f ((iRow L k).view.read (Elt F) A) Finset.univ = matOf A (bF L k) :=
  (View.write_whole_univ _ _ _).trans (castMat A (k0_off2_inb L k) (bF L k) (k0_off2_eq L k) (by decide))
omit [FloatOps F] in
theorem fetch7 (A : Vec F S40x56x128 .i32) (f : Vec F S56x128 .i32) :
    View.write (Elt F) (Memref.whole cc0_scratch7 : Memref sig .scVector .vmem S56x128 .i32).view f ((cRow L k).view.read (Elt F) A) Finset.univ = matOf A (bF L k) :=
  (View.write_whole_univ _ _ _).trans (castMat A (k0_off2_inb L k) (bF L k) (k0_off2_eq L k) (by decide))
omit [FloatOps F] in
theorem fetch8 (A : Vec F S40x56x128 .f32) (f : Vec F S56x128 .f32) :
    View.write (Elt F) (Memref.whole cc0_scratch8 : Memref sig .scVector .vmem S56x128 .f32).view f ((pRow L k).view.read (Elt F) A) Finset.univ = matOf A (bF L k) :=
  (View.write_whole_univ _ _ _).trans (castMat A (k0_off2_inb L k) (bF L k) (k0_off2_eq L k) (by decide))

theorem hRow_emb (y : S6144.Idx) : (hRow L k).view.emb y = (at2 (bF L k).val (y 0).val (bF L k).isLt (y 0).isLt : S40x6144.Idx) :=
  congrFun (castRow (fun z : S40x6144.Idx => z) (k0_off27_inb L k) (bF L k) (k0_off27_eq L k) (by decide)) y
theorem hRow_mem (x : S40x6144.Idx) : x ∈ (hRow L k).view.set ↔ (x 0).val = (bF L k).val := by
  constructor
  · intro h
    obtain ⟨y, -, hy⟩ := Finset.mem_map.mp h
    rw [hRow_emb] at hy
    rw [← hy]
  · intro h
    refine Finset.mem_map.mpr ⟨at1 (x 1).val (x 1).isLt, Finset.mem_univ _, ?_⟩
    rw [hRow_emb]
    funext a
    match a with
    | 0 => exact Fin.ext h.symm
    | 1 => rfl

theorem sRow_emb (y : S24.Idx) : (sRow L k).view.emb y = (at2 (bF L k).val (y 0).val (bF L k).isLt (y 0).isLt : S40x24.Idx) :=
  congrFun (castRow (fun z : S40x24.Idx => z) (k0_off28_inb L k) (bF L k) (k0_off28_eq L k) (by decide)) y
theorem sRow_mem (x : S40x24.Idx) : x ∈ (sRow L k).view.set ↔ (x 0).val = (bF L k).val := by
  constructor
  · intro h
    obtain ⟨y, -, hy⟩ := Finset.mem_map.mp h
    rw [sRow_emb] at hy
    rw [← hy]
  · intro h
    refine Finset.mem_map.mpr ⟨at1 (x 1).val (x 1).isLt, Finset.mem_univ _, ?_⟩
    rw [sRow_emb]
    funext a
    match a with
    | 0 => exact Fin.ext h.symm
    | 1 => rfl

/-! ## What the call leaves in its results -/

/-- The number of a row's slots that are filled: the block length, 24 at most. -/
def slotN (w : BitVec 32) : BitVec 32 := minsi (s := S16) (fun _ => w) (broadcast S16 24#32) (fun | 0 => (⟨0, by decide⟩ : Fin 16))

/-- The read-back history: place `(b, j)` from row `b` of every array. -/
def histF (A0 : Vec F S40x32000 .f32) (A1 A2 : Vec F S40x56x128 .i32) (A3 : Vec F S40x56x128 .f32) (B0 : Vec F S40 .i32) (B2 B3 B4 : Vec F S40 .f32) : Vec F S40x6144 .f32 :=
  fun x => histAt (rowOf A0 (x 0)) (matOf A1 (x 0)) (matOf A2 (x 0)) (matOf A3 (x 0)) (B0 (at1 (x 0).val (x 0).isLt)) (B2 (at1 (x 0).val (x 0).isLt))
    (B3 (at1 (x 0).val (x 0).isLt)) (B4 (at1 (x 0).val (x 0).isLt)) (at1 (x 1).val (x 1).isLt)

/-- The read-back slots. -/
def slotF (A0 : Vec F S40x32000 .f32) (A1 A2 : Vec F S40x56x128 .i32) (A3 : Vec F S40x56x128 .f32) (B1 : Vec F S40 .i32) (B2 B3 B4 : Vec F S40 .f32) : Vec F S40x24 .f32 :=
  fun x => slotAt (rowOf A0 (x 0)) (matOf A1 (x 0)) (matOf A2 (x 0)) (matOf A3 (x 0)) (slotN (B1 (at1 (x 0).val (x 0).isLt))) (B2 (at1 (x 0).val (x 0).isLt))
    (B3 (at1 (x 0).val (x 0).isLt)) (B4 (at1 (x 0).val (x 0).isLt)) (at1 (x 1).val (lt_trans (x 1).isLt (by decide)))

/-- Two stores of sixteen lanes, the upper and the lower, read through the first 24 of the 32 slots. -/
theorem slots_read (f10 : Vec F S32 .f32) (G : Vec F S32 .f32) (P0 P1 : Vec F S16 .f32)
    (h0 : ∀ x, P0 x = G (at1 (x 0).val (lt_trans (x 0).isLt (by decide))))
    (h1 : ∀ x, P1 x = G (at1 (16 + (x 0).val) (Nat.add_lt_add_left (x 0).isLt 16))) (y : S24.Idx) :
    ((Memref.whole cc0_scratch10 : Memref sig .scVector .vmem S32 .f32).slice (Rect.unit (s := S32) ![0] S24.size inb_S32_S24_0) (fun _ => rfl)).view.read (Elt F)
      ((Memref.whole cc0_scratch10 : Memref sig .scVector .vmem S32 .f32).view.writes (Elt F) f10
        [⟨Rect.unit (s := S32) ![16] S16.size inb_S32_S16_16, P1⟩, ⟨Rect.unit (s := S32) ![0] S16.size inb_S32_S16_0, P0⟩]) y
      = G (at1 (y 0).val (lt_trans (y 0).isLt (by decide))) := by
  have hy : (y 0).val < 24 := (y 0).isLt
  have e : (Rect.unit (s := S32) ![0] S24.size inb_S32_S24_0).emb y = at1 (y 0).val (lt_trans (y 0).isLt (by decide)) := by
    funext a
    match a with
    | 0 => apply Fin.ext; rw [Rect.emb_apply]; show 0 + 1 * (y 0).val = (y 0).val; omega
  have one : ∀ (q : ℕ) (inb : ∀ a, (![q] : Fin 1 → ℕ) a + S16.size a ≤ S32.size a) (j : S32.Idx), j ∈ (Rect.unit (s := S32) ![q] S16.size inb).set ↔ q ≤ (j 0).val ∧ (j 0).val < q + 16 := by
    intro q inb j
    rw [Rect.mem_set_unit]
    exact ⟨fun h => h 0, fun h a => by match a with | 0 => exact h⟩
  rw [← e]
  refine View.read_writes_apply_of_pieces (v := (Memref.whole cc0_scratch10 : Memref sig .scVector .vmem S32 .f32).view) (f := f10) (G := G) _ ?_ _ ?_
  · simp only [List.forall_mem_cons, List.not_mem_nil, false_imp_iff, implies_true, and_true]
    refine ⟨fun x => (h1 x).trans (congrArg G ?_), fun x => (h0 x).trans (congrArg G ?_)⟩
    · funext a
      match a with
      | 0 => apply Fin.ext; rw [Rect.emb_apply]; show 16 + (x 0).val = 16 + 1 * (x 0).val; omega
    · funext a
      match a with
      | 0 => apply Fin.ext; rw [Rect.emb_apply]; show (x 0).val = 0 + 1 * (x 0).val; omega
  · by_contra hc
    simp only [not_exists, not_and, List.forall_mem_cons, one, List.not_mem_nil, false_imp_iff, implies_true, and_true] at hc
    rw [e] at hc
    change (16 ≤ (y 0).val → ¬ (y 0).val < 16 + 16) ∧ (0 ≤ (y 0).val → ¬ (y 0).val < 0 + 16) at hc
    omega

end Cert.ReadbackIdeal.Hand
-- ==== Proof.ReadbackIdeal.Row.lean ====
module

public import proofs.«01_k».proof.Defs
public import proofs.«01_k».proof.Proof.ReadbackIdeal.Trip
public import proofs.«01_k».proof.Proof.ReadbackIdeal.Fetch
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.ReadbackIdeal
public import proofs.«01_k».proof.Proof.Gen.ReadbackIdeal.Skeleton

@[expose] public section

noncomputable section

namespace Cert.ReadbackIdeal.Hand

open Cert.ReadbackIdeal Cert.ReadbackIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F]

/-- One trip of the row loop, over the program's arrays. -/
abbrev rowTrip (L : grid0.Coords) (v0 : IVec S16 32) (v2 : BitVec 32) :=
  k0_t1_body (F := F) L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 v0 v2 1#32 0#32 0#32

theorem conv {ℓ : Loc nD τ sig} {f g : Buf (Elt F) ℓ} {q : PosShare TreeShare} (h : f = g) :
    (ℓ ↦{q} f : sProp 𝕄) ⊢ ℓ ↦{q} g := by
  subst h; iintro H; iexact H

omit [FloatOps F] in
/-- The same of a gather from a whole buffer. -/
theorem loadWhole40 {e : EltTy} (f B : Vec F S40 e) (hf : f = B) (w : BitVec 32) (b : Fin 40) (hw : w.toNat = b.val)
    (h : ∀ a x, ((![broadcast S16 w] : Fin S40.rank → IVec S16 32) a x).toNat < S40.size a) (x : S16.Idx) :
    loadIdx f (![broadcast S16 w] : Fin S40.rank → IVec S16 32) h x = B (at1 b.val b.isLt) := by
  subst hf; exact loadIdx40 f w b hw h x

omit [FloatOps F] in
/-- What one write of a whole view leaves in the view's elements. -/
theorem writes_on {κ : Kind} {sp : Space} {s : Shape} {e : EltTy} (v : View sig κ sp s e) (f g : v.ty.Contents (Elt F)) (P : s.Idx → Elt F e)
    (h : ∀ y, P y = v.read (Elt F) g y) (z : v.ty.Idx) (hz : z ∈ v.set) : v.writes (Elt F) f [⟨Rect.whole s, P⟩] z = g z := by
  obtain ⟨y, -, rfl⟩ := Finset.mem_map.mp hz
  have e := (congrFun (View.read_writes_whole v f P) y).trans (h y)
  exact cast_inj _ |>.mp e

omit [FloatOps F] in
theorem read_hRow (L : grid0.Coords) (k : Fin (k0_t1_loop L).trips) (g : Vec F S40x6144 .f32) (y : S6144.Idx) :
    (hRow L k).view.read (Elt F) g y = g (at2 (bF L k).val (y 0).val (bF L k).isLt (y 0).isLt : S40x6144.Idx) :=
  congrArg g (hRow_emb L k y)
omit [FloatOps F] in
theorem read_sRow (L : grid0.Coords) (k : Fin (k0_t1_loop L).trips) (g : Vec F S40x24 .f32) (y : S24.Idx) :
    (sRow L k).view.read (Elt F) g y = g (at2 (bF L k).val (y 0).val (bF L k).isLt (y 0).isLt : S40x24.Idx) :=
  congrArg g (sRow_emb L k y)

theorem at1_eta {n : ℕ} (y : (⟨1, ![n]⟩ : Shape).Idx) : at1 (y 0).val (y 0).isLt = y := by
  funext a
  match a with
  | 0 => rfl

theorem slot_of (fl : Vec F S32000 .f32) (fi fc : Vec F S56x128 .i32) (fb : Vec F S56x128 .f32) (n : BitVec 32) (rp fp pp : F .f32)
    (j m : ℕ) (hj : j < 32) (e : m = j) (hm : m < 128) :
    cellAt fl fi fc fb n rp fp pp (BitVec.ofNat 32 m) (at2 48 m (by decide) hm) = slotAt fl fi fc fb n rp fp pp (at1 j hj) := by
  subst e; rfl

variable (d : Dev nD) (L : grid0.Coords)

/-- What a task holds throughout the row loop: a share of the four arrays it fetches from, its copies of the five small ones,
    its scratch buffers at some contents, its idle semaphores. -/
def rowSt (q : PosShare TreeShare) (A0 : Vec F S40x32000 .f32) (A1 A2 : Vec F S40x56x128 .i32) (A3 : Vec F S40x56x128 .f32)
    (B0 B1 : Vec F S40 .i32) (B2 B3 B4 : Vec F S40 .f32) (O : CellTallies nD τ sig (HIx 1)) (W : Waits sig (HIx 1)) : sProp 𝕄 :=
  iprop(Transfers.MayWaits (V d (cV L) (jV L)) (none : HIx 1) O
      ∗ ((Memref.whole main_arg0_scv).view.loc (V d (cV L) (jV L)) ↦{q} A0)
      ∗ ((Memref.whole main_arg1_scv).view.loc (V d (cV L) (jV L)) ↦{q} A1)
      ∗ ((Memref.whole main_arg2_scv).view.loc (V d (cV L) (jV L)) ↦{q} A2)
      ∗ ((Memref.whole main_arg3_scv).view.loc (V d (cV L) (jV L)) ↦{q} A3)
      ∗ ((Memref.whole cc0_scratch0).view.loc (V d (cV L) (jV L)) ↦{fullShare} B0)
      ∗ ((Memref.whole cc0_scratch1).view.loc (V d (cV L) (jV L)) ↦{fullShare} B1)
      ∗ ((Memref.whole cc0_scratch2).view.loc (V d (cV L) (jV L)) ↦{fullShare} B2)
      ∗ ((Memref.whole cc0_scratch3).view.loc (V d (cV L) (jV L)) ↦{fullShare} B3)
      ∗ ((Memref.whole cc0_scratch4).view.loc (V d (cV L) (jV L)) ↦{fullShare} B4)
      ∗ (∃ f : Vec F S32000 .f32, ((Memref.whole cc0_scratch5).view.loc (V d (cV L) (jV L)) ↦{fullShare} f))
      ∗ (∃ f : Vec F S56x128 .i32, ((Memref.whole cc0_scratch6).view.loc (V d (cV L) (jV L)) ↦{fullShare} f))
      ∗ (∃ f : Vec F S56x128 .i32, ((Memref.whole cc0_scratch7).view.loc (V d (cV L) (jV L)) ↦{fullShare} f))
      ∗ (∃ f : Vec F S56x128 .f32, ((Memref.whole cc0_scratch8).view.loc (V d (cV L) (jV L)) ↦{fullShare} f))
      ∗ (∃ f : Vec F S6144 .f32, ((Memref.whole cc0_scratch9).view.loc (V d (cV L) (jV L)) ↦{fullShare} f))
      ∗ (∃ f : Vec F S32 .f32, ((Memref.whole cc0_scratch10).view.loc (V d (cV L) (jV L)) ↦{fullShare} f))
      ∗ semVal ((V d (cV L) (jV L)), SemLoc.dma cc0_scoped5.sem) 0
      ∗ semVal ((V d (cV L) (jV L)), SemLoc.dma cc0_scoped6.sem) 0
      ∗ semVal ((V d (cV L) (jV L)), SemLoc.dma cc0_scoped7.sem) 0
      ∗ semVal ((V d (cV L) (jV L)), SemLoc.dma cc0_scoped8.sem) 0
      ∗ semVal ((V d (cV L) (jV L)), SemLoc.dma cc0_scoped9.sem) 0
      ∗ semVal ((V d (cV L) (jV L)), SemLoc.dma cc0_scoped10.sem) 0
      ∗ (∃ W', ⌜∀ p ∈ W', p ∈ W ∨ p.2 = none⌝ ∗ owes (V d (cV L) (jV L)) O W'))

theorem row_spec (v0 : IVec S16 32) (k : Fin (k0_t1_loop L).trips) (q : PosShare TreeShare)
    (h0 : ∀ x, v0 x = BitVec.ofNat 32 (x 0).val)
    (A0 : Vec F S40x32000 .f32) (A1 A2 : Vec F S40x56x128 .i32) (A3 : Vec F S40x56x128 .f32)
    (B0 B1 : Vec F S40 .i32) (B2 B3 B4 : Vec F S40 .f32) (hids : ∀ b : Fin 40, IdsOK (matOf A1 b))
    (gH : Vec F S40x6144 .f32) (gS : Vec F S40x24 .f32) (O : CellTallies nD τ sig (HIx 1)) (W : Waits sig (HIx 1)) :
    iprop(rowSt d L q A0 A1 A2 A3 B0 B1 B2 B3 B4 O W
      ∗ ((hRow L k).view.loc (V d (cV L) (jV L)) ↦[(hRow L k).view.set]{fullShare} gH) ∗ ((sRow L k).view.loc (V d (cV L) (jV L)) ↦[(sRow L k).view.set]{fullShare} gS))
    ⊢ (wp frame (wpE (defs₀ (F := F)) 𝒱₀ (V d (cV L) (jV L)) none) Set.univ (rowTrip L v0 (v2E L) k ())
      fun _ => iprop(rowSt d L q A0 A1 A2 A3 B0 B1 B2 B3 B4 O W
      ∗ ((hRow L k).view.loc (V d (cV L) (jV L)) ↦[(hRow L k).view.set]{fullShare} histF A0 A1 A2 A3 B0 B2 B3 B4) ∗ ((sRow L k).view.loc (V d (cV L) (jV L)) ↦[(sRow L k).view.set]{fullShare} slotF A0 A1 A2 A3 B1 B2 B3 B4)) : sProp 𝕄) := by
  unfold rowSt
  iintro ⟨⟨#Hmw, HA0, HA1, HA2, HA3, HB0, HB1, HB2, HB3, HB4, ⟨%f5, HF5⟩, ⟨%f6, HF6⟩, ⟨%f7, HF7⟩, ⟨%f8, HF8⟩, ⟨%f9, HF9⟩, ⟨%f10, HF10⟩, Hs5, Hs6, Hs7, Hs8, Hs9, Hs10, ⟨%W', %hW', HO⟩⟩, HH, HS⟩
  unfold rowTrip k0_t1_body
  have hb := bW_toNat L k
  sl_exec (disch := first | exact View.amount_pos _ _ (show 0 < S32000.numel by decide) | exact View.amount_pos _ _ (show 0 < S56x128.numel by decide) | exact chk40 _ (bW_lt L k))
  iapply (SparseCore.wp_vectorLoadIdx 𝒱₀ (V d (cV L) (jV L)) none Set.univ (base := (Memref.whole cc0_scratch2 : Memref sig .scVector .vmem S40 .f32)) (S := Finset.univ) (q := fullShare) (Finset.subset_univ _)) $$ HB2
  iintro HB2
  sl_exec (disch := exact chk40 _ (bW_lt L k))
  iapply (SparseCore.wp_vectorLoadIdx 𝒱₀ (V d (cV L) (jV L)) none Set.univ (base := (Memref.whole cc0_scratch3 : Memref sig .scVector .vmem S40 .f32)) (S := Finset.univ) (q := fullShare) (Finset.subset_univ _)) $$ HB3
  iintro HB3
  sl_exec (disch := exact chk40 _ (bW_lt L k))
  iapply (SparseCore.wp_vectorLoadIdx 𝒱₀ (V d (cV L) (jV L)) none Set.univ (base := (Memref.whole cc0_scratch4 : Memref sig .scVector .vmem S40 .f32)) (S := Finset.univ) (q := fullShare) (Finset.subset_univ _)) $$ HB4
  iintro HB4
  sl_exec (disch := exact chk40 _ (bW_lt L k))
  iapply (SparseCore.wp_vectorLoadIdx 𝒱₀ (V d (cV L) (jV L)) none Set.univ (base := (Memref.whole cc0_scratch0 : Memref sig .scVector .vmem S40 .i32)) (S := Finset.univ) (q := fullShare) (Finset.subset_univ _)) $$ HB0
  iintro HB0
  sl_exec (disch := exact chk40 _ (bW_lt L k))
  ihave HF5 := (conv (fetch5 L k A0 f5)) $$ HF5
  ihave HF6 := (conv (fetch6 L k A1 f6)) $$ HF6
  ihave HF7 := (conv (fetch7 L k A2 f7)) $$ HF7
  ihave HF8 := (conv (fetch8 L k A3 f8)) $$ HF8
  sl_for (inv2 d L (rowOf A0 (bF L k)) (matOf A1 (bF L k)) (matOf A2 (bF L k)) (matOf A3 (bF L k)) (B0 (at1 (bF L k).val (bF L k).isLt)) (B2 (at1 (bF L k).val (bF L k).isLt)) (B3 (at1 (bF L k).val (bF L k).isLt)) (B4 (at1 (bF L k).val (bF L k).isLt))) $$ [HF5 HF6 HF7 HF8 HF9]
  case region =>
    intro t _
    exact trip_spec d L v0 k _ _ _ _ _ t _ _ _ _ h0 (fun x => loadWhole40 _ B0 (Memref.read_access_whole _ _ _) _ (bF L k) hb _ x) (fun x => loadWhole40 _ B2 (Memref.read_access_whole _ _ _) _ (bF L k) hb _ x) (fun x => loadWhole40 _ B3 (Memref.read_access_whole _ _ _) _ (bF L k) hb _ x) (fun x => loadWhole40 _ B4 (Memref.read_access_whole _ _ _) _ (bF L k) hb _ x) _ _ _ _ (hids _)
  · unfold inv2
    isplitl [HF5]; · iexact HF5
    isplitl [HF6]; · iexact HF6
    isplitl [HF7]; · iexact HF7
    isplitl [HF8]; · iexact HF8
    iexists f9
    isplitr
    · ipureintro; intro j hj; exact absurd hj (by omega)
    · iexact HF9
  iintro %_ HI
  unfold inv2
  icases HI with ⟨HF5, HF6, HF7, HF8, ⟨%fo, %hfo, HF9⟩⟩
  sl_exec (disch := exact chk40 _ (bW_lt L k))
  iapply (SparseCore.wp_vectorLoadIdx 𝒱₀ (V d (cV L) (jV L)) none Set.univ (base := (Memref.whole cc0_scratch1 : Memref sig .scVector .vmem S40 .i32)) (S := Finset.univ) (q := fullShare) (Finset.subset_univ _)) $$ HB1
  iintro HB1
  sl_exec (disch := exact ids_lt (matOf A1 (bF L k)) (hids _) _ 48 0 rfl (by decide) (by decide) (.inr ⟨rfl, by decide⟩))
  iapply (SparseCore.wp_vectorLoadIdx 𝒱₀ (V d (cV L) (jV L)) none Set.univ (base := (Memref.whole cc0_scratch5 : Memref sig .scVector .vmem S32000 .f32)) (S := Finset.univ) (q := fullShare) (Finset.subset_univ _)) $$ HF5
  iintro HF5
  sl_exec (disch := exact ids_lt (matOf A1 (bF L k)) (hids _) _ 48 16 rfl (by decide) (by decide) (.inr ⟨rfl, by decide⟩))
  iapply (SparseCore.wp_vectorLoadIdx 𝒱₀ (V d (cV L) (jV L)) none Set.univ (base := (Memref.whole cc0_scratch5 : Memref sig .scVector .vmem S32000 .f32)) (S := Finset.univ) (q := fullShare) (Finset.subset_univ _)) $$ HF5
  iintro HF5
  sl_exec (disch := first | exact View.amount_pos _ _ (show 0 < S6144.numel by decide) | exact View.amount_pos _ _ (show 0 < S24.numel by decide))
  sl_step
  isplitr [HH HS]
  swap
  · isplitl [HH]
    · iapply (show ((hRow L k).view.loc (V d (cV L) (jV L)) ↦[(hRow L k).view.set]{fullShare} (hRow L k).view.writes (Elt F) gH [⟨Rect.whole S6144, row_spec.sl.dma3 d L fo⟩] : sProp 𝕄) ⊢ _ from
        Entails.of_eq (pointsTo_congr (g := histF A0 A1 A2 A3 B0 B2 B3 B4) (fun z hz => writes_on (hRow L k).view gH _ _ (fun y => ?_) z hz))) $$ HH
      rw [read_hRow]
      refine (hfo y ?_).trans (congrArg (histAt _ _ _ _ _ _ _ _) (at1_eta y).symm)
      exact lt_of_lt_of_eq (y 0).isLt (congrArg (128 * ·) trips2).symm
    · iapply (show ((sRow L k).view.loc (V d (cV L) (jV L)) ↦[(sRow L k).view.set]{fullShare} (sRow L k).view.writes (Elt F) gS [⟨Rect.whole S24, row_spec.sl.dma3_1 d L v0 k A0 A1 A2 A3 B1 B2 B3 B4 hids f10⟩] : sProp 𝕄) ⊢ _ from
        Entails.of_eq (pointsTo_congr (g := slotF A0 A1 A2 A3 B1 B2 B3 B4) (fun z hz => writes_on (sRow L k).view gS _ _ (fun y => ?_) z hz))) $$ HS
      rw [read_sRow]
      have hn : ∀ x, minsi (loadIdx (View.read (Elt F) ((Memref.whole cc0_scratch1 : Memref sig .scVector .vmem S40 .i32).access (Rect.whole S40)) B1) (![broadcast S16 (bW L k)] : Fin S40.rank → IVec S16 32) (chk40 _ (bW_lt L k))) (broadcast S16 24#32) x = slotN (B1 (at1 (bF L k).val (bF L k).isLt)) := fun x =>
        congrArg slotN (loadWhole40 _ B1 (Memref.read_access_whole _ _ _) _ (bF L k) hb _ x)
      exact slots_read f10 (slotAt (rowOf A0 (bF L k)) (matOf A1 (bF L k)) (matOf A2 (bF L k)) (matOf A3 (bF L k)) (slotN (B1 (at1 (bF L k).val (bF L k).isLt))) (B2 (at1 (bF L k).val (bF L k).isLt)) (B3 (at1 (bF L k).val (bF L k).isLt)) (B4 (at1 (bF L k).val (bF L k).isLt))) _ _
        (fun x => (lanes (rowOf A0 (bF L k)) (matOf A1 (bF L k)) (matOf A2 (bF L k)) (matOf A3 (bF L k)) (slotN (B1 (at1 (bF L k).val (bF L k).isLt))) (B2 (at1 (bF L k).val (bF L k).isLt)) (B3 (at1 (bF L k).val (bF L k).isLt)) (B4 (at1 (bF L k).val (bF L k).isLt))
          v0 h0 _ hn _ _ _ (fun x => loadWhole40 _ B2 (Memref.read_access_whole _ _ _) _ (bF L k) hb (chk40 _ (bW_lt L k)) x) (fun x => loadWhole40 _ B3 (Memref.read_access_whole _ _ _) _ (bF L k) hb (chk40 _ (bW_lt L k)) x) (fun x => loadWhole40 _ B4 (Memref.read_access_whole _ _ _) _ (bF L k) hb (chk40 _ (bW_lt L k)) x)
          48 0 (by decide) (by decide) 0 0#32 rfl rfl rfl rfl _ _ _ _ _ rfl x).trans (slot_of _ _ _ _ _ _ _ _ (x 0).val _ _ (Nat.zero_add _) _)) (fun x => (lanes (rowOf A0 (bF L k)) (matOf A1 (bF L k)) (matOf A2 (bF L k)) (matOf A3 (bF L k)) (slotN (B1 (at1 (bF L k).val (bF L k).isLt))) (B2 (at1 (bF L k).val (bF L k).isLt)) (B3 (at1 (bF L k).val (bF L k).isLt)) (B4 (at1 (bF L k).val (bF L k).isLt))
          v0 h0 _ hn _ _ _ (fun x => loadWhole40 _ B2 (Memref.read_access_whole _ _ _) _ (bF L k) hb (chk40 _ (bW_lt L k)) x) (fun x => loadWhole40 _ B3 (Memref.read_access_whole _ _ _) _ (bF L k) hb (chk40 _ (bW_lt L k)) x) (fun x => loadWhole40 _ B4 (Memref.read_access_whole _ _ _) _ (bF L k) hb (chk40 _ (bW_lt L k)) x)
          48 16 (by decide) (by decide) 16 16#32 rfl rfl rfl rfl _ _ _ _ _ rfl x).trans (slot_of _ _ _ _ _ _ _ _ (16 + (x 0).val) _ _ rfl _)) y
  isplitl []; · iexact Hmw
  isplitl [HA0]; · iexact HA0
  isplitl [HA1]; · iexact HA1
  isplitl [HA2]; · iexact HA2
  isplitl [HA3]; · iexact HA3
  isplitl [HB0]; · iexact HB0
  isplitl [HB1]; · iexact HB1
  isplitl [HB2]; · iexact HB2
  isplitl [HB3]; · iexact HB3
  isplitl [HB4]; · iexact HB4
  isplitl [HF5]; · iexists _; iexact HF5
  isplitl [HF6]; · iexists _; iexact HF6
  isplitl [HF7]; · iexists _; iexact HF7
  isplitl [HF8]; · iexists _; iexact HF8
  isplitl [HF9]; · iexists _; iexact HF9
  isplitl [HF10]; · iexists _; iexact HF10
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  iexists _
  isplitr
  swap
  · iexact HO
  ipureintro
  intro p hp
  simp only [Finset.mem_insert] at hp
  rcases hp with rfl | rfl | rfl | rfl | rfl | rfl | hp
  all_goals first | exact .inr rfl | exact hW' p hp

end Cert.ReadbackIdeal.Hand
-- ==== Proof.ReadbackIdeal.Rows.lean ====
module

public import proofs.«01_k».proof.Defs
public import proofs.«01_k».proof.Proof.ReadbackIdeal.Row
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.ReadbackIdeal
public import proofs.«01_k».proof.Proof.Gen.ReadbackIdeal.Skeleton

@[expose] public section

noncomputable section

namespace Cert.ReadbackIdeal.Hand

open Cert.ReadbackIdeal Cert.ReadbackIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F]

/-! ## The rows of a task -/

/-- A task's number: its rows are those whose number is this modulo 32. -/
abbrev tN (L : grid0.Coords) : ℕ := 2 * (L 1).val + (L 0).val

def rset (n t : ℕ) : Finset (⟨2, ![40, n]⟩ : Shape).Idx := Finset.univ.filter fun x => (x 0).val % 32 = t

/-- The rows before trip `p` at their new contents, the others at their old ones. -/
def mix {n : ℕ} {α : Type} (p : ℕ) (new old : (⟨2, ![40, n]⟩ : Shape).Idx → α) : (⟨2, ![40, n]⟩ : Shape).Idx → α :=
  fun x => if (x 0).val / 32 < p then new x else old x

theorem mix_zero {n : ℕ} {α : Type} (new old : (⟨2, ![40, n]⟩ : Shape).Idx → α) : mix 0 new old = old := by
  funext x; exact if_neg (Nat.not_lt_zero _)

theorem trips_rows : ∀ (L : grid0.Coords) (b : Fin 40), b.val % 32 = tN L → b.val / 32 < (k0_t1_loop L).trips := by decide +kernel

theorem mix_last {n : ℕ} {α : Type} (L : grid0.Coords) (new old : (⟨2, ![40, n]⟩ : Shape).Idx → α) (x : (⟨2, ![40, n]⟩ : Shape).Idx) (hx : x ∈ rset n (tN L)) :
    mix (k0_t1_loop L).trips new old x = new x :=
  if_pos (trips_rows L (x 0) (Finset.mem_filter.mp hx).2)

theorem tN_lt (L : grid0.Coords) : tN L < 32 := by
  have h0 : (L 0).val < 2 := (L 0).isLt
  have h1 : (L 1).val < 16 := (L 1).isLt
  show 2 * (L 1).val + (L 0).val < 32
  omega

theorem mix_row {n : ℕ} {α : Type} (L : grid0.Coords) (k : Fin (k0_t1_loop L).trips) (new old : (⟨2, ![40, n]⟩ : Shape).Idx → α) (x : (⟨2, ![40, n]⟩ : Shape).Idx)
    (hx : (x 0).val = (bF L k).val) : new x = mix (k.val + 1) new old x := by
  have h := tN_lt L
  refine (if_pos ?_).symm
  rw [hx]
  show (tN L + 32 * k.val) / 32 < k.val + 1
  omega

theorem mix_other {n : ℕ} {α : Type} (L : grid0.Coords) (k : Fin (k0_t1_loop L).trips) (new old : (⟨2, ![40, n]⟩ : Shape).Idx → α) (x : (⟨2, ![40, n]⟩ : Shape).Idx)
    (hr : x ∈ rset n (tN L)) (hx : ¬ (x 0).val = (bF L k).val) : mix k.val new old x = mix (k.val + 1) new old x := by
  have h := tN_lt L
  have hm : (x 0).val % 32 = tN L := (Finset.mem_filter.mp hr).2
  have hx' : ¬ (x 0).val = tN L + 32 * k.val := hx
  have e : ((x 0).val / 32 < k.val) ↔ ((x 0).val / 32 < k.val + 1) := by omega
  unfold mix
  simp only [e]

theorem row_sub {n : ℕ} (L : grid0.Coords) (k : Fin (k0_t1_loop L).trips) (x : (⟨2, ![40, n]⟩ : Shape).Idx) (hx : (x 0).val = (bF L k).val) : x ∈ rset n (tN L) := by
  have h := tN_lt L
  refine Finset.mem_filter.mpr ⟨Finset.mem_univ _, ?_⟩
  rw [hx]
  show (tN L + 32 * k.val) % 32 = tN L
  omega

variable (d : Dev nD) (L : grid0.Coords)

omit [FloatOps F] in
theorem subH (k : Fin (k0_t1_loop L).trips) : ((hRow L k).view.set : Finset S40x6144.Idx) ⊆ rset 6144 (tN L) := fun x hx => row_sub L k x ((hRow_mem L k x).mp hx)

/-- A trip's row is taken out of a task's rows, -/
theorem splitH (k : Fin (k0_t1_loop L).trips) (f : Vec F S40x6144 .f32) :
    ((Memref.whole main_v0_0_scv : Memref sig .scVector .hbm S40x6144 .f32).view.loc (V d (cV L) (jV L)) ↦[rset 6144 (tN L)]{fullShare} f : sProp 𝕄)
      ⊢ iprop(((hRow L k).view.loc (V d (cV L) (jV L)) ↦[(hRow L k).view.set]{fullShare} f) ∗ ((Memref.whole main_v0_0_scv : Memref sig .scVector .hbm S40x6144 .f32).view.loc (V d (cV L) (jV L)) ↦[rset 6144 (tN L) \ (hRow L k).view.set]{fullShare} f)) := by
  have e : ((Memref.whole main_v0_0_scv : Memref sig .scVector .hbm S40x6144 .f32).view.loc (V d (cV L) (jV L)) ↦[rset 6144 (tN L)]{fullShare} f : sProp 𝕄) = ((Memref.whole main_v0_0_scv : Memref sig .scVector .hbm S40x6144 .f32).view.loc (V d (cV L) (jV L)) ↦[(hRow L k).view.set ∪ (rset 6144 (tN L) \ (hRow L k).view.set)]{fullShare} f) := by
    rw [Finset.union_sdiff_of_subset (subH L k)]
  rw [e]
  exact (pointsTo_union Finset.disjoint_sdiff).1

/-- and put back. -/
theorem joinH (k : Fin (k0_t1_loop L).trips) (new old : Vec F S40x6144 .f32) :
    iprop(((hRow L k).view.loc (V d (cV L) (jV L)) ↦[(hRow L k).view.set]{fullShare} new) ∗ ((Memref.whole main_v0_0_scv : Memref sig .scVector .hbm S40x6144 .f32).view.loc (V d (cV L) (jV L)) ↦[rset 6144 (tN L) \ (hRow L k).view.set]{fullShare} mix k.val new old))
      ⊢ ((Memref.whole main_v0_0_scv : Memref sig .scVector .hbm S40x6144 .f32).view.loc (V d (cV L) (jV L)) ↦[rset 6144 (tN L)]{fullShare} mix (k.val + 1) new old : sProp 𝕄) := by
  have e : ((Memref.whole main_v0_0_scv : Memref sig .scVector .hbm S40x6144 .f32).view.loc (V d (cV L) (jV L)) ↦[rset 6144 (tN L)]{fullShare} mix (k.val + 1) new old : sProp 𝕄) = ((Memref.whole main_v0_0_scv : Memref sig .scVector .hbm S40x6144 .f32).view.loc (V d (cV L) (jV L)) ↦[(hRow L k).view.set ∪ (rset 6144 (tN L) \ (hRow L k).view.set)]{fullShare} mix (k.val + 1) new old) := by
    rw [Finset.union_sdiff_of_subset (subH L k)]
  rw [e]
  have h1 : ((Memref.whole main_v0_0_scv : Memref sig .scVector .hbm S40x6144 .f32).view.loc (V d (cV L) (jV L)) ↦[(hRow L k).view.set]{fullShare} new : sProp 𝕄) = ((Memref.whole main_v0_0_scv : Memref sig .scVector .hbm S40x6144 .f32).view.loc (V d (cV L) (jV L)) ↦[(hRow L k).view.set]{fullShare} mix (k.val + 1) new old) :=
    pointsTo_congr fun x hx => mix_row L k new old x ((hRow_mem L k x).mp hx)
  have h2 : ((Memref.whole main_v0_0_scv : Memref sig .scVector .hbm S40x6144 .f32).view.loc (V d (cV L) (jV L)) ↦[rset 6144 (tN L) \ (hRow L k).view.set]{fullShare} mix k.val new old : sProp 𝕄) = ((Memref.whole main_v0_0_scv : Memref sig .scVector .hbm S40x6144 .f32).view.loc (V d (cV L) (jV L)) ↦[rset 6144 (tN L) \ (hRow L k).view.set]{fullShare} mix (k.val + 1) new old) :=
    pointsTo_congr fun x hx => mix_other L k new old x (Finset.mem_sdiff.mp hx).1 fun h => (Finset.mem_sdiff.mp hx).2 ((hRow_mem L k x).mpr h)
  iintro ⟨H1, H2⟩
  ihave H1 := (Entails.of_eq h1) $$ H1
  ihave H2 := (Entails.of_eq h2) $$ H2
  iapply (pointsTo_union Finset.disjoint_sdiff).2
  isplitl [H1]; · iexact H1
  iexact H2

omit [FloatOps F] in
theorem subS (k : Fin (k0_t1_loop L).trips) : ((sRow L k).view.set : Finset S40x24.Idx) ⊆ rset 24 (tN L) := fun x hx => row_sub L k x ((sRow_mem L k x).mp hx)

/-- A trip's row is taken out of a task's rows, -/
theorem splitS (k : Fin (k0_t1_loop L).trips) (f : Vec F S40x24 .f32) :
    ((Memref.whole main_v0_1_scv : Memref sig .scVector .hbm S40x24 .f32).view.loc (V d (cV L) (jV L)) ↦[rset 24 (tN L)]{fullShare} f : sProp 𝕄)
      ⊢ iprop(((sRow L k).view.loc (V d (cV L) (jV L)) ↦[(sRow L k).view.set]{fullShare} f) ∗ ((Memref.whole main_v0_1_scv : Memref sig .scVector .hbm S40x24 .f32).view.loc (V d (cV L) (jV L)) ↦[rset 24 (tN L) \ (sRow L k).view.set]{fullShare} f)) := by
  have e : ((Memref.whole main_v0_1_scv : Memref sig .scVector .hbm S40x24 .f32).view.loc (V d (cV L) (jV L)) ↦[rset 24 (tN L)]{fullShare} f : sProp 𝕄) = ((Memref.whole main_v0_1_scv : Memref sig .scVector .hbm S40x24 .f32).view.loc (V d (cV L) (jV L)) ↦[(sRow L k).view.set ∪ (rset 24 (tN L) \ (sRow L k).view.set)]{fullShare} f) := by
    rw [Finset.union_sdiff_of_subset (subS L k)]
  rw [e]
  exact (pointsTo_union Finset.disjoint_sdiff).1

/-- and put back. -/
theorem joinS (k : Fin (k0_t1_loop L).trips) (new old : Vec F S40x24 .f32) :
    iprop(((sRow L k).view.loc (V d (cV L) (jV L)) ↦[(sRow L k).view.set]{fullShare} new) ∗ ((Memref.whole main_v0_1_scv : Memref sig .scVector .hbm S40x24 .f32).view.loc (V d (cV L) (jV L)) ↦[rset 24 (tN L) \ (sRow L k).view.set]{fullShare} mix k.val new old))
      ⊢ ((Memref.whole main_v0_1_scv : Memref sig .scVector .hbm S40x24 .f32).view.loc (V d (cV L) (jV L)) ↦[rset 24 (tN L)]{fullShare} mix (k.val + 1) new old : sProp 𝕄) := by
  have e : ((Memref.whole main_v0_1_scv : Memref sig .scVector .hbm S40x24 .f32).view.loc (V d (cV L) (jV L)) ↦[rset 24 (tN L)]{fullShare} mix (k.val + 1) new old : sProp 𝕄) = ((Memref.whole main_v0_1_scv : Memref sig .scVector .hbm S40x24 .f32).view.loc (V d (cV L) (jV L)) ↦[(sRow L k).view.set ∪ (rset 24 (tN L) \ (sRow L k).view.set)]{fullShare} mix (k.val + 1) new old) := by
    rw [Finset.union_sdiff_of_subset (subS L k)]
  rw [e]
  have h1 : ((Memref.whole main_v0_1_scv : Memref sig .scVector .hbm S40x24 .f32).view.loc (V d (cV L) (jV L)) ↦[(sRow L k).view.set]{fullShare} new : sProp 𝕄) = ((Memref.whole main_v0_1_scv : Memref sig .scVector .hbm S40x24 .f32).view.loc (V d (cV L) (jV L)) ↦[(sRow L k).view.set]{fullShare} mix (k.val + 1) new old) :=
    pointsTo_congr fun x hx => mix_row L k new old x ((sRow_mem L k x).mp hx)
  have h2 : ((Memref.whole main_v0_1_scv : Memref sig .scVector .hbm S40x24 .f32).view.loc (V d (cV L) (jV L)) ↦[rset 24 (tN L) \ (sRow L k).view.set]{fullShare} mix k.val new old : sProp 𝕄) = ((Memref.whole main_v0_1_scv : Memref sig .scVector .hbm S40x24 .f32).view.loc (V d (cV L) (jV L)) ↦[rset 24 (tN L) \ (sRow L k).view.set]{fullShare} mix (k.val + 1) new old) :=
    pointsTo_congr fun x hx => mix_other L k new old x (Finset.mem_sdiff.mp hx).1 fun h => (Finset.mem_sdiff.mp hx).2 ((sRow_mem L k x).mpr h)
  iintro ⟨H1, H2⟩
  ihave H1 := (Entails.of_eq h1) $$ H1
  ihave H2 := (Entails.of_eq h2) $$ H2
  iapply (pointsTo_union Finset.disjoint_sdiff).2
  isplitl [H1]; · iexact H1
  iexact H2

/-! ## The row loop -/

def invR (q : PosShare TreeShare) (A0 : Vec F S40x32000 .f32) (A1 A2 : Vec F S40x56x128 .i32) (A3 : Vec F S40x56x128 .f32) (A4 A5 : Vec F S40 .i32) (A6 A7 A8 : Vec F S40 .f32) (gH : Vec F S40x6144 .f32) (gS : Vec F S40x24 .f32)
    (O : CellTallies nD τ sig (HIx 1)) (W : Waits sig (HIx 1)) (p : ℕ) (_ : PUnit) : sProp 𝕄 :=
  iprop(rowSt d L q A0 A1 A2 A3 A4 A5 A6 A7 A8 O W
    ∗ ((Memref.whole main_v0_0_scv : Memref sig .scVector .hbm S40x6144 .f32).view.loc (V d (cV L) (jV L)) ↦[rset 6144 (tN L)]{fullShare} mix p (histF A0 A1 A2 A3 A4 A6 A7 A8) gH)
    ∗ ((Memref.whole main_v0_1_scv : Memref sig .scVector .hbm S40x24 .f32).view.loc (V d (cV L) (jV L)) ↦[rset 24 (tN L)]{fullShare} mix p (slotF A0 A1 A2 A3 A5 A6 A7 A8) gS))

theorem rowLoop_trip (v0 : IVec S16 32) (k : Fin (k0_t1_loop L).trips) (q : PosShare TreeShare)
    (h0 : ∀ x, v0 x = BitVec.ofNat 32 (x 0).val) (A0 : Vec F S40x32000 .f32) (A1 A2 : Vec F S40x56x128 .i32) (A3 : Vec F S40x56x128 .f32) (A4 A5 : Vec F S40 .i32) (A6 A7 A8 : Vec F S40 .f32) (hids : ∀ b : Fin 40, IdsOK (matOf A1 b)) (gH : Vec F S40x6144 .f32) (gS : Vec F S40x24 .f32)
    (O : CellTallies nD τ sig (HIx 1)) (W : Waits sig (HIx 1)) :
    invR d L q A0 A1 A2 A3 A4 A5 A6 A7 A8 gH gS O W k.val ()
    ⊢ (wp frame (wpE (defs₀ (F := F)) 𝒱₀ (V d (cV L) (jV L)) none) Set.univ (rowTrip L v0 (v2E L) k ())
      fun _ => invR d L q A0 A1 A2 A3 A4 A5 A6 A7 A8 gH gS O W (k.val + 1) () : sProp 𝕄) := by
  have pre : invR d L q A0 A1 A2 A3 A4 A5 A6 A7 A8 gH gS O W k.val () ⊢
      (iprop((((Memref.whole main_v0_0_scv : Memref sig .scVector .hbm S40x6144 .f32).view.loc (V d (cV L) (jV L)) ↦[rset 6144 (tN L) \ (hRow L k).view.set]{fullShare} mix k.val (histF A0 A1 A2 A3 A4 A6 A7 A8) gH)
          ∗ ((Memref.whole main_v0_1_scv : Memref sig .scVector .hbm S40x24 .f32).view.loc (V d (cV L) (jV L)) ↦[rset 24 (tN L) \ (sRow L k).view.set]{fullShare} mix k.val (slotF A0 A1 A2 A3 A5 A6 A7 A8) gS))
        ∗ (rowSt d L q A0 A1 A2 A3 A4 A5 A6 A7 A8 O W
          ∗ ((hRow L k).view.loc (V d (cV L) (jV L)) ↦[(hRow L k).view.set]{fullShare} mix k.val (histF A0 A1 A2 A3 A4 A6 A7 A8) gH)
          ∗ ((sRow L k).view.loc (V d (cV L) (jV L)) ↦[(sRow L k).view.set]{fullShare} mix k.val (slotF A0 A1 A2 A3 A5 A6 A7 A8) gS))) : sProp 𝕄) := by
    unfold invR
    iintro ⟨Hst, HH, HS⟩
    ihave HH := (splitH d L k _) $$ HH
    icases HH with ⟨HH, HH'⟩
    ihave HS := (splitS d L k _) $$ HS
    icases HS with ⟨HS, HS'⟩
    isplitl [HH' HS']
    · isplitl [HH']; · iexact HH'
      iexact HS'
    isplitl [Hst]; · iexact Hst
    isplitl [HH]; · iexact HH
    iexact HS
  refine pre.trans ((sep_mono_r (row_spec d L v0 k q h0 A0 A1 A2 A3 A4 A5 A6 A7 A8 hids _ _ O W)).trans ((wp_frame_l frame _ _).trans (wp_mono frame _ _ fun _ => ?_)))
  unfold invR
  iintro ⟨⟨HH', HS'⟩, ⟨Hst, HH, HS⟩⟩
  isplitl [Hst]; · iexact Hst
  isplitl [HH HH']
  · iapply (joinH d L k (histF A0 A1 A2 A3 A4 A6 A7 A8) gH)
    isplitl [HH]; · iexact HH
    iexact HH'
  · iapply (joinS d L k (slotF A0 A1 A2 A3 A5 A6 A7 A8) gS)
    isplitl [HS]; · iexact HS
    iexact HS'

end Cert.ReadbackIdeal.Hand
-- ==== Proof.ReadbackIdeal.Body.lean ====
module

public import proofs.«01_k».proof.Defs
public import proofs.«01_k».proof.Proof.ReadbackIdeal.Rows
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.ReadbackIdeal
public import proofs.«01_k».proof.Proof.Gen.ReadbackIdeal.Skeleton

@[expose] public section

noncomputable section

namespace Cert.ReadbackIdeal.Hand

open Cert.ReadbackIdeal Cert.ReadbackIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]
variable (d : Dev nD) (L : grid0.Coords)

/-! ## A task's own cells and buffers -/

omit [FloatOps F] in
/-- A separating conjunction over a set, the image of another taken out of it. -/
theorem take_image {I J : Type} [DecidableEq I] [DecidableEq J] {s : Finset I} {t : Finset J} {f : J → I} (inj : Set.InjOn f t)
    (sub : ∀ j ∈ t, f j ∈ s) {Φ : I → sProp 𝕄} :
    bigSep s Φ = iprop(bigSep t (fun j => Φ (f j)) ∗ bigSep (s \ t.image f) Φ) := by
  rw [SparseCore.bigSep_sdiff_split' (t := t.image f) fun x mem => by obtain ⟨j, among, rfl⟩ := Finset.mem_image.mp mem; exact sub j among,
    bigSep_image_of_injOn inj]

/-- The DMA cells of the copies that run. -/
abbrev cells : Finset (SemLoc sig) := {.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem}
omit [FloatOps F] in
theorem ownSems0_V :
    (ownSems0 (V d (cV L) (jV L)) : sProp 𝕄)
      = iprop((semVal ((V d (cV L) (jV L)), SemLoc.dma cc0_scoped0.sem) 0 ∗ semVal ((V d (cV L) (jV L)), SemLoc.dma cc0_scoped1.sem) 0 ∗ semVal ((V d (cV L) (jV L)), SemLoc.dma cc0_scoped2.sem) 0 ∗ semVal ((V d (cV L) (jV L)), SemLoc.dma cc0_scoped3.sem) 0 ∗ semVal ((V d (cV L) (jV L)), SemLoc.dma cc0_scoped4.sem) 0 ∗ semVal ((V d (cV L) (jV L)), SemLoc.dma cc0_scoped5.sem) 0 ∗ semVal ((V d (cV L) (jV L)), SemLoc.dma cc0_scoped6.sem) 0 ∗ semVal ((V d (cV L) (jV L)), SemLoc.dma cc0_scoped7.sem) 0 ∗ semVal ((V d (cV L) (jV L)), SemLoc.dma cc0_scoped8.sem) 0 ∗ semVal ((V d (cV L) (jV L)), SemLoc.dma cc0_scoped9.sem) 0 ∗ semVal ((V d (cV L) (jV L)), SemLoc.dma cc0_scoped10.sem) 0)
          ∗ bigSep (ownCells (V d (cV L) (jV L)) \ cells.image fun s => ((V d (cV L) (jV L), s) : GSem nD τ sig)) fun g => semVal g 0) := by
  unfold SparseCore.Cfg.ownSems0
  rw [take_image (t := cells) (f := fun s => ((V d (cV L) (jV L), s) : GSem nD τ sig)) (fun a _ b _ e => congrArg Prod.snd e)
    (fun j hj => mem_ownCells.mpr ⟨rfl, (show ∀ j ∈ cells, (j : SemLoc sig).isScoped .scVector = true by decide) j hj⟩)]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

abbrev refs : Finset (Ref sig .scVector) := {cc0_scratch0, cc0_scratch1, cc0_scratch2, cc0_scratch3, cc0_scratch4, cc0_scratch5, cc0_scratch6, cc0_scratch7, cc0_scratch8, cc0_scratch9, cc0_scratch10}
omit [FloatOps F] in
theorem ownBufs_V :
    (ownBufs (V d (cV L) (jV L)) : sProp 𝕄)
      = iprop(((∃ f, (Memref.whole cc0_scratch0).view.loc (V d (cV L) (jV L)) ↦{fullShare} f) ∗ (∃ f, (Memref.whole cc0_scratch1).view.loc (V d (cV L) (jV L)) ↦{fullShare} f) ∗ (∃ f, (Memref.whole cc0_scratch2).view.loc (V d (cV L) (jV L)) ↦{fullShare} f) ∗ (∃ f, (Memref.whole cc0_scratch3).view.loc (V d (cV L) (jV L)) ↦{fullShare} f) ∗ (∃ f, (Memref.whole cc0_scratch4).view.loc (V d (cV L) (jV L)) ↦{fullShare} f) ∗ (∃ f, (Memref.whole cc0_scratch5).view.loc (V d (cV L) (jV L)) ↦{fullShare} f) ∗ (∃ f, (Memref.whole cc0_scratch6).view.loc (V d (cV L) (jV L)) ↦{fullShare} f) ∗ (∃ f, (Memref.whole cc0_scratch7).view.loc (V d (cV L) (jV L)) ↦{fullShare} f) ∗ (∃ f, (Memref.whole cc0_scratch8).view.loc (V d (cV L) (jV L)) ↦{fullShare} f) ∗ (∃ f, (Memref.whole cc0_scratch9).view.loc (V d (cV L) (jV L)) ↦{fullShare} f) ∗ (∃ f, (Memref.whole cc0_scratch10).view.loc (V d (cV L) (jV L)) ↦{fullShare} f))
          ∗ bigSep (ownRefs (τ := τ) (.scVector (cV L) (jV L)) \ refs.image (Proc.scVector (cV L) (jV L)).devRef) fun b => iprop(∃ f, ((d, b) : Loc nD τ sig) ↦{fullShare} f)) := by
  unfold SparseCore.Cfg.ownBufs
  rw [take_image (s := ownRefs (τ := τ) (.scVector (cV L) (jV L))) (t := refs) (f := (Proc.scVector (cV L) (jV L)).devRef) (fun a _ b _ e => Proc.devRef_injective _ e)
    (fun j hj => SparseCore.Cfg.mem_ownRefs_of_owner (p := Proc.scVector (cV L) (jV L)) (by
      simp only [Finset.mem_insert, Finset.mem_singleton] at hj
      rcases hj with rfl | rfl | rfl | rfl | rfl | rfl | rfl | rfl | rfl | rfl | rfl <;> rfl))]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The task -/

theorem iota16 (x : S16.Idx) : iota .scVector S16 32 [0] iota_S16_d0_w32_scVector x = BitVec.ofNat 32 (x 0).val := by
  show BitVec.ofNat 32 (0 * 16 + (x 0).val) = _
  rw [Nat.zero_mul, Nat.zero_add]

/-- After the last trip the rows of this instance hold the new counts. -/
theorem lastH (new old : Vec F S40x6144 .f32) :
    ((Memref.whole main_v0_0_scv : Memref sig .scVector .hbm S40x6144 .f32).view.loc (V d (cV L) (jV L)) ↦[rset 6144 (tN L)]{fullShare} mix (k0_t1_loop L).trips new old : sProp 𝕄) = ((Memref.whole main_v0_0_scv : Memref sig .scVector .hbm S40x6144 .f32).view.loc (V d (cV L) (jV L)) ↦[rset 6144 (tN L)]{fullShare} new) :=
  pointsTo_congr fun x hx => mix_last L new old x hx

/-- After the last trip the rows of this instance hold the new slots. -/
theorem lastS (new old : Vec F S40x24 .f32) :
    ((Memref.whole main_v0_1_scv : Memref sig .scVector .hbm S40x24 .f32).view.loc (V d (cV L) (jV L)) ↦[rset 24 (tN L)]{fullShare} mix (k0_t1_loop L).trips new old : sProp 𝕄) = ((Memref.whole main_v0_1_scv : Memref sig .scVector .hbm S40x24 .f32).view.loc (V d (cV L) (jV L)) ↦[rset 24 (tN L)]{fullShare} new) :=
  pointsTo_congr fun x hx => mix_last L new old x hx

set_option maxHeartbeats 1600000 in
theorem tile_body (hF : (K (F := F)).Facts) (q : PosShare TreeShare) (A0 : Vec F S40x32000 .f32) (A1 A2 : Vec F S40x56x128 .i32) (A3 : Vec F S40x56x128 .f32) (A4 A5 : Vec F S40 .i32) (A6 A7 A8 : Vec F S40 .f32) (hids : ∀ b : Fin 40, IdsOK (matOf A1 b)) (gH : Vec F S40x6144 .f32) (gS : Vec F S40x24 .f32)
    (O : CellTallies nD τ sig (HIx 1)) (W : Waits sig (HIx 1)) (hO : ∀ g, O g none = 0) :
    (iprop(levAts (K (F := F)).L (K (F := F)).lev ∗ emp
        ∗ ((((Memref.whole main_arg0_scv).view.loc (V d (cV L) (jV L)) ↦{q} A0) ∗ ((Memref.whole main_arg1_scv).view.loc (V d (cV L) (jV L)) ↦{q} A1) ∗ ((Memref.whole main_arg2_scv).view.loc (V d (cV L) (jV L)) ↦{q} A2) ∗ ((Memref.whole main_arg3_scv).view.loc (V d (cV L) (jV L)) ↦{q} A3) ∗ ((Memref.whole main_arg4_scv).view.loc (V d (cV L) (jV L)) ↦{q} A4) ∗ ((Memref.whole main_arg5_scv).view.loc (V d (cV L) (jV L)) ↦{q} A5) ∗ ((Memref.whole main_arg6_scv).view.loc (V d (cV L) (jV L)) ↦{q} A6) ∗ ((Memref.whole main_arg7_scv).view.loc (V d (cV L) (jV L)) ↦{q} A7) ∗ ((Memref.whole main_arg8_scv).view.loc (V d (cV L) (jV L)) ↦{q} A8)) ∗ ((Memref.whole main_v0_0_scv : Memref sig .scVector .hbm S40x6144 .f32).view.loc (V d (cV L) (jV L)) ↦[rset 6144 (tN L)]{fullShare} gH) ∗ ((Memref.whole main_v0_1_scv : Memref sig .scVector .hbm S40x24 .f32).view.loc (V d (cV L) (jV L)) ↦[rset 24 (tN L)]{fullShare} gS))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_history_readback L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(((((Memref.whole main_arg0_scv).view.loc (V d (cV L) (jV L)) ↦{q} A0) ∗ ((Memref.whole main_arg1_scv).view.loc (V d (cV L) (jV L)) ↦{q} A1) ∗ ((Memref.whole main_arg2_scv).view.loc (V d (cV L) (jV L)) ↦{q} A2) ∗ ((Memref.whole main_arg3_scv).view.loc (V d (cV L) (jV L)) ↦{q} A3) ∗ ((Memref.whole main_arg4_scv).view.loc (V d (cV L) (jV L)) ↦{q} A4) ∗ ((Memref.whole main_arg5_scv).view.loc (V d (cV L) (jV L)) ↦{q} A5) ∗ ((Memref.whole main_arg6_scv).view.loc (V d (cV L) (jV L)) ↦{q} A6) ∗ ((Memref.whole main_arg7_scv).view.loc (V d (cV L) (jV L)) ↦{q} A7) ∗ ((Memref.whole main_arg8_scv).view.loc (V d (cV L) (jV L)) ↦{q} A8)) ∗ ((Memref.whole main_v0_0_scv : Memref sig .scVector .hbm S40x6144 .f32).view.loc (V d (cV L) (jV L)) ↦[rset 6144 (tN L)]{fullShare} (histF A0 A1 A2 A3 A4 A6 A7 A8)) ∗ ((Memref.whole main_v0_1_scv : Memref sig .scVector .hbm S40x24 .f32).view.loc (V d (cV L) (jV L)) ↦[rset 24 (tN L)]{fullShare} (slotF A0 A1 A2 A3 A5 A6 A7 A8)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨⟨HA0, HA1, HA2, HA3, HA4, HA5, HA6, HA7, HA8⟩, HH, HS⟩, ⟨⟨⟨%f0, HF0⟩, ⟨%f1, HF1⟩, ⟨%f2, HF2⟩, ⟨%f3, HF3⟩, ⟨%f4, HF4⟩, ⟨%f5, HF5⟩, ⟨%f6, HF6⟩, ⟨%f7, HF7⟩, ⟨%f8, HF8⟩, ⟨%f9, HF9⟩, ⟨%f10, HF10⟩⟩, Hbufs⟩, ⟨⟨Hs0, Hs1, Hs2, Hs3, Hs4, Hs5, Hs6, Hs7, Hs8, Hs9, Hs10⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_unfold [cc0_history_readback]
  sl_exec (disch := exact View.amount_pos _ _ (show 0 < S40.numel by decide))
  ihave HF0 := (conv (View.write_whole_univ (Val := Elt F) cc0_scratch0 f0 A4)) $$ HF0
  ihave HF1 := (conv (View.write_whole_univ (Val := Elt F) cc0_scratch1 f1 A5)) $$ HF1
  ihave HF2 := (conv (View.write_whole_univ (Val := Elt F) cc0_scratch2 f2 A6)) $$ HF2
  ihave HF3 := (conv (View.write_whole_univ (Val := Elt F) cc0_scratch3 f3 A7)) $$ HF3
  ihave HF4 := (conv (View.write_whole_univ (Val := Elt F) cc0_scratch4 f4 A8)) $$ HF4
  sl_for (invR d L q A0 A1 A2 A3 A4 A5 A6 A7 A8 gH gS O W) $$ [HA0 HA1 HA2 HA3 HF0 HF1 HF2 HF3 HF4 HF5 HF6 HF7 HF8 HF9 HF10 HH HS Hs5 Hs6 Hs7 Hs8 Hs9 Hs10 HO]
  case region =>
    intro k _
    exact rowLoop_trip d L _ k q (fun x => iota16 x) A0 A1 A2 A3 A4 A5 A6 A7 A8 hids gH gS O W
  · unfold invR rowSt
    rw [mix_zero, mix_zero]
    isplitr [HH HS]
    swap
    · isplitl [HH]; · iexact HH
      iexact HS
    isplitl []; · iexact Hmw
    isplitl [HA0]; · iexact HA0
    isplitl [HA1]; · iexact HA1
    isplitl [HA2]; · iexact HA2
    isplitl [HA3]; · iexact HA3
    isplitl [HF0]; · iexact HF0
    isplitl [HF1]; · iexact HF1
    isplitl [HF2]; · iexact HF2
    isplitl [HF3]; · iexact HF3
    isplitl [HF4]; · iexact HF4
    isplitl [HF5]; · iexists _; iexact HF5
    isplitl [HF6]; · iexists _; iexact HF6
    isplitl [HF7]; · iexists _; iexact HF7
    isplitl [HF8]; · iexists _; iexact HF8
    isplitl [HF9]; · iexists _; iexact HF9
    isplitl [HF10]; · iexists _; iexact HF10
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexists _
    isplitr
    swap
    · iexact HO
    ipureintro
    intro p hp
    simp only [Finset.mem_insert] at hp
    rcases hp with rfl | rfl | rfl | rfl | rfl | hp
    all_goals first | exact .inr rfl | exact .inl hp
  iintro %_ HI
  unfold invR rowSt
  icases HI with ⟨⟨-, HA0, HA1, HA2, HA3, HF0, HF1, HF2, HF3, HF4, ⟨%g5, HF5⟩, ⟨%g6, HF6⟩, ⟨%g7, HF7⟩, ⟨%g8, HF8⟩, ⟨%g9, HF9⟩, ⟨%g10, HF10⟩, Hs5, Hs6, Hs7, Hs8, Hs9, Hs10, ⟨%W', %hW', HO⟩⟩, HH, HS⟩
  sl_for (fun _ _ => (iprop(emp) : sProp 𝕄)) $$ []
  case region =>
    intro k _
    exact absurd k.isLt (Nat.not_lt.2 (le_trans (k0_t3_abs L).2.1 (Nat.zero_le _)))
  · iempintro
  iintro %_ -
  sl_step
  isplitl [HA0 HA1 HA2 HA3 HA4 HA5 HA6 HA7 HA8 HH HS]
  · isplitl [HA0 HA1 HA2 HA3 HA4 HA5 HA6 HA7 HA8]
    · isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      isplitl [HA7]; · iexact HA7
      iexact HA8
    isplitl [HH]
    · iapply (Entails.of_eq (lastH d L _ _)) $$ HH
    · iapply (Entails.of_eq (lastS d L _ _)) $$ HS
  isplitl [HF0 HF1 HF2 HF3 HF4 HF5 HF6 HF7 HF8 HF9 HF10 Hbufs]
  · isplitr [Hbufs]
    swap
    · iexact Hbufs
    isplitl [HF0]; · iexists _; iexact HF0
    isplitl [HF1]; · iexists _; iexact HF1
    isplitl [HF2]; · iexists _; iexact HF2
    isplitl [HF3]; · iexists _; iexact HF3
    isplitl [HF4]; · iexists _; iexact HF4
    isplitl [HF5]; · iexists _; iexact HF5
    isplitl [HF6]; · iexists _; iexact HF6
    isplitl [HF7]; · iexists _; iexact HF7
    isplitl [HF8]; · iexists _; iexact HF8
    isplitl [HF9]; · iexists _; iexact HF9
    iexists _; iexact HF10
  isplitl [Hs0 Hs1 Hs2 Hs3 Hs4 Hs5 Hs6 Hs7 Hs8 Hs9 Hs10 Hsems]
  · isplitr [Hsems]
    swap
    · iexact Hsems
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hs10
  iexists _; isplitr
  swap; · iexact HO
  ipureintro; intro p _
  rcases p.2 with _ | q
  · exact .inr (.inl rfl)
  · exact .inr (.inr (congrArg some (Subsingleton.elim q 0)))

end Cert.ReadbackIdeal.Hand
-- ==== Proof.ReadbackIdeal.Launch.lean ====
module

public import proofs.«01_k».proof.Defs
public import proofs.«01_k».proof.Proof.ReadbackIdeal.Body
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Gen.ReadbackIdeal
public import proofs.«01_k».proof.Proof.Gen.ReadbackIdeal.Skeleton

@[expose] public section

noncomputable section

namespace Cert.ReadbackIdeal.Hand

open Cert.ReadbackIdeal Cert.ReadbackIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ShareLeaves (leaf pointsTo_leaves)

variable (m : (ℓ : Loc nD τ sig) → Buf (Elt F) ℓ) (ρ : Dev nD → PrngReg)

/-- Where the handshakes' rounds live. -/
abbrev EH : Emb UH (MT nD τ sig (HIx 1) (Elt F) ℕ UU ℕ) := embL

theorem sep_assoc_eq (P Q R : sProp 𝕄) : iprop((P ∗ Q) ∗ R) = iprop(P ∗ (Q ∗ R)) := BI.Entails.antisymm sep_assoc sep_assoc'

/-! ## What one task holds -/

/-- The nine inputs at a share. -/
def insAt (d : Dev nD) (q : PosShare TreeShare) : sProp 𝕄 :=
  iprop(((SparseCore.T d).loc main_arg0 ↦{q} m ((SparseCore.T d).loc main_arg0)) ∗ ((SparseCore.T d).loc main_arg1 ↦{q} m ((SparseCore.T d).loc main_arg1)) ∗ ((SparseCore.T d).loc main_arg2 ↦{q} m ((SparseCore.T d).loc main_arg2)) ∗ ((SparseCore.T d).loc main_arg3 ↦{q} m ((SparseCore.T d).loc main_arg3)) ∗ ((SparseCore.T d).loc main_arg4 ↦{q} m ((SparseCore.T d).loc main_arg4)) ∗ ((SparseCore.T d).loc main_arg5 ↦{q} m ((SparseCore.T d).loc main_arg5)) ∗ ((SparseCore.T d).loc main_arg6 ↦{q} m ((SparseCore.T d).loc main_arg6)) ∗ ((SparseCore.T d).loc main_arg7 ↦{q} m ((SparseCore.T d).loc main_arg7)) ∗ ((SparseCore.T d).loc main_arg8 ↦{q} m ((SparseCore.T d).loc main_arg8)))

/-- The place of the history values. -/
abbrev hLoc (d : Dev nD) : Loc nD τ sig := (SparseCore.T d).loc main_v0_0
/-- The place of the slots. -/
abbrev sLoc (d : Dev nD) : Loc nD τ sig := (SparseCore.T d).loc main_v0_1

/-- The rows of the two results that task `(c, i)` writes, at given contents. -/
def outAt (d : Dev nD) (c : Fin 2) (i : Fin 16) (gH : Buf (Elt F) (hLoc d)) (gS : Buf (Elt F) (sLoc d)) : sProp 𝕄 :=
  iprop((hLoc d ↦[rset 6144 (2 * i.val + c.val)]{fullShare} gH) ∗ (sLoc d ↦[rset 24 (2 * i.val + c.val)]{fullShare} gS))

/-- What task `(c, i)` holds: every input at a share of its own, and its rows of the two results. -/
def part (d : Dev nD) (gH : Buf (Elt F) (hLoc d)) (gS : Buf (Elt F) (sLoc d)) (c : Fin 2) (i : Fin 16) : sProp 𝕄 :=
  iprop(insAt m d (leaf 4 (leaf 1 fullShare c) i) ∗ outAt d c i gH gS)

/-- All the arrays, whole. -/
def allAt (d : Dev nD) (gH : Buf (Elt F) (hLoc d)) (gS : Buf (Elt F) (sLoc d)) : sProp 𝕄 :=
  iprop(insAt m d fullShare ∗ ((hLoc d ↦{fullShare} gH) ∗ (sLoc d ↦{fullShare} gS)))

theorem leaves2 {ℓ : Loc nD τ sig} (f : Buf (Elt F) ℓ) :
    (ℓ ↦{fullShare} f : sProp 𝕄) = bigSep Finset.univ fun c : Fin 2 => bigSep Finset.univ fun i : Fin 16 => (ℓ ↦{leaf 4 (leaf 1 fullShare c) i} f : sProp 𝕄) :=
  (pointsTo_leaves Finset.univ f 1 fullShare).trans (bigSep_congr fun c _ => pointsTo_leaves Finset.univ f 4 (leaf 1 fullShare c))

theorem ins_split (d : Dev nD) :
    insAt m d fullShare = bigSep Finset.univ fun c : Fin 2 => bigSep Finset.univ fun i : Fin 16 => insAt m d (leaf 4 (leaf 1 fullShare c) i) := by
  unfold insAt
  simp only [bigSep_sep']
  rw [leaves2 (m ((SparseCore.T d).loc main_arg0)), leaves2 (m ((SparseCore.T d).loc main_arg1)), leaves2 (m ((SparseCore.T d).loc main_arg2)), leaves2 (m ((SparseCore.T d).loc main_arg3)), leaves2 (m ((SparseCore.T d).loc main_arg4)), leaves2 (m ((SparseCore.T d).loc main_arg5)), leaves2 (m ((SparseCore.T d).loc main_arg6)), leaves2 (m ((SparseCore.T d).loc main_arg7)), leaves2 (m ((SparseCore.T d).loc main_arg8))]

/-! ## The rows split among the tasks -/

theorem rset_disjoint (n : ℕ) (s t : ℕ) (h : s ≠ t) : Disjoint (rset n s) (rset n t) :=
  Finset.disjoint_left.mpr fun x hx hy => h ((Finset.mem_filter.mp hx).2.symm.trans (Finset.mem_filter.mp hy).2)

/-- The rows of core `c`. -/
def cset (n : ℕ) (c : Fin 2) : Finset (⟨2, ![40, n]⟩ : Shape).Idx := (Finset.univ : Finset (Fin 16)).biUnion fun i => rset n (2 * i.val + c.val)

theorem cset_disjoint (n : ℕ) (c e : Fin 2) (h : c ≠ e) : Disjoint (cset n c) (cset n e) := by
  refine (Finset.disjoint_biUnion_left _ _ _).mpr fun i _ => (Finset.disjoint_biUnion_right _ _ _).mpr fun j _ => rset_disjoint n _ _ ?_
  have := c.isLt; have := e.isLt; have : c.val ≠ e.val := fun he => h (Fin.ext he)
  omega

theorem cset_cover (n : ℕ) : (Finset.univ : Finset (Fin 2)).biUnion (cset n) = Finset.univ := by
  refine Finset.eq_univ_of_forall fun x => Finset.mem_biUnion.mpr ⟨⟨(x 0).val % 2, Nat.mod_lt _ (by decide)⟩, Finset.mem_univ _,
    Finset.mem_biUnion.mpr ⟨⟨(x 0).val % 32 / 2, by omega⟩, Finset.mem_univ _, Finset.mem_filter.mpr ⟨Finset.mem_univ _, ?_⟩⟩⟩
  show (x 0).val % 32 = 2 * ((x 0).val % 32 / 2) + (x 0).val % 2
  omega

theorem task_ne (c : Fin 2) (i j : Fin 16) (h : i ≠ j) : 2 * i.val + c.val ≠ 2 * j.val + c.val := by
  have : i.val ≠ j.val := fun he => h (Fin.ext he)
  omega

theorem rows_H (d : Dev nD) (f : Buf (Elt F) (hLoc d)) :
    (hLoc d ↦{fullShare} f : sProp 𝕄) = bigSep Finset.univ fun c : Fin 2 => bigSep Finset.univ fun i : Fin 16 => (hLoc d ↦[rset 6144 (2 * i.val + c.val)]{fullShare} f : sProp 𝕄) := by
  have e : ∀ c : Fin 2, (hLoc d ↦[cset 6144 c]{fullShare} f : sProp 𝕄) = bigSep Finset.univ fun i : Fin 16 => (hLoc d ↦[rset 6144 (2 * i.val + c.val)]{fullShare} f : sProp 𝕄) :=
    fun c => pointsTo_biUnion Finset.univ (ℓ := hLoc d) (fun i : Fin 16 => rset 6144 (2 * i.val + c.val)) fun i _ j _ h => rset_disjoint 6144 _ _ (task_ne c i j h)
  have e0 : (hLoc d ↦[(Finset.univ : Finset (Fin 2)).biUnion (cset 6144)]{fullShare} f : sProp 𝕄) = bigSep Finset.univ fun c : Fin 2 => (hLoc d ↦[cset 6144 c]{fullShare} f : sProp 𝕄) :=
    pointsTo_biUnion Finset.univ (ℓ := hLoc d) (cset 6144) fun c _ e _ h => cset_disjoint 6144 c e h
  rw [cset_cover] at e0
  exact e0.trans (bigSep_congr fun c _ => e c)

theorem rows_S (d : Dev nD) (f : Buf (Elt F) (sLoc d)) :
    (sLoc d ↦{fullShare} f : sProp 𝕄) = bigSep Finset.univ fun c : Fin 2 => bigSep Finset.univ fun i : Fin 16 => (sLoc d ↦[rset 24 (2 * i.val + c.val)]{fullShare} f : sProp 𝕄) := by
  have e : ∀ c : Fin 2, (sLoc d ↦[cset 24 c]{fullShare} f : sProp 𝕄) = bigSep Finset.univ fun i : Fin 16 => (sLoc d ↦[rset 24 (2 * i.val + c.val)]{fullShare} f : sProp 𝕄) :=
    fun c => pointsTo_biUnion Finset.univ (ℓ := sLoc d) (fun i : Fin 16 => rset 24 (2 * i.val + c.val)) fun i _ j _ h => rset_disjoint 24 _ _ (task_ne c i j h)
  have e0 : (sLoc d ↦[(Finset.univ : Finset (Fin 2)).biUnion (cset 24)]{fullShare} f : sProp 𝕄) = bigSep Finset.univ fun c : Fin 2 => (sLoc d ↦[cset 24 c]{fullShare} f : sProp 𝕄) :=
    pointsTo_biUnion Finset.univ (ℓ := sLoc d) (cset 24) fun c _ e _ h => cset_disjoint 24 c e h
  rw [cset_cover] at e0
  exact e0.trans (bigSep_congr fun c _ => e c)

theorem all_split (d : Dev nD) (gH : Buf (Elt F) (hLoc d)) (gS : Buf (Elt F) (sLoc d)) :
    allAt m d gH gS = bigSep Finset.univ fun c : Fin 2 => bigSep Finset.univ fun i : Fin 16 => part m d gH gS c i := by
  unfold allAt part outAt
  simp only [bigSep_sep']
  rw [ins_split, rows_H, rows_S]

/-! ## The handshakes' payloads -/

variable [FloatOps F]

/-- The history values of a memory. -/
def hOut (d : Dev nD) : Buf (Elt F) (hLoc d) :=
  histF (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg6)) (m ((SparseCore.T d).loc main_arg7)) (m ((SparseCore.T d).loc main_arg8))
/-- The slots of a memory. -/
def sOut (d : Dev nD) : Buf (Elt F) (sLoc d) :=
  slotF (m ((SparseCore.T d).loc main_arg0)) (m ((SparseCore.T d).loc main_arg1)) (m ((SparseCore.T d).loc main_arg2)) (m ((SparseCore.T d).loc main_arg3)) (m ((SparseCore.T d).loc main_arg5)) (m ((SparseCore.T d).loc main_arg6)) (m ((SparseCore.T d).loc main_arg7)) (m ((SparseCore.T d).loc main_arg8))

/-- Every task is dealt its part and brings it back with its rows of the results written. -/
def P : (K (F := F)).Pay (nD := nD) (Val := Elt F) (Name := ℕ) (U := UU) where
  st := fun q d c => match q with | 0 => bigSep Finset.univ fun i : Fin 16 => part m d (m (hLoc d)) (m (sLoc d)) c i
  dn := fun q d c => match q with | 0 => bigSep Finset.univ fun i : Fin 16 => part m d (hOut m d) (sOut m d) c i
  go := fun q d c i => match q with | 0 => part m d (m (hLoc d)) (m (sLoc d)) c i
  td := fun q d c i => match q with | 0 => part m d (hOut m d) (sOut m d) c i
  x := fun _ _ => iprop(emp)

instance part_storable (d : Dev nD) (gH : Buf (Elt F) (hLoc d)) (gS : Buf (Elt F) (sLoc d)) (c : Fin 2) (i : Fin 16) :
    BI.Storable (upEmb : UEmb _ 𝕄) (part m d gH gS c i) := by
  unfold part insAt outAt
  infer_instance

instance P_storable : (P (F := F) m).IsStorable where
  st q d c := match q with
    | 0 => (inferInstance : BI.Storable (upEmb : UEmb _ 𝕄) (bigSep Finset.univ fun i : Fin 16 => part m d (m (hLoc d)) (m (sLoc d)) c i))
  dn q d c := match q with
    | 0 => (inferInstance : BI.Storable (upEmb : UEmb _ 𝕄) (bigSep Finset.univ fun i : Fin 16 => part m d (hOut m d) (sOut m d) c i))
  go q d c i := match q with
    | 0 => part_storable m d (m (hLoc d)) (m (sLoc d)) c i
  td q d c i := match q with
    | 0 => part_storable m d (hOut m d) (sOut m d) c i

theorem vecSplit : (K (F := F)).VecSplit' (P m) 0 := by
  intro d c
  show (bigSep Finset.univ fun i : Fin 16 => part m d (m (hLoc d)) (m (sLoc d)) c i) ⊢ |={Set.univ}=> iprop(
      (bigSep Finset.univ fun i : Fin 16 => part m d (m (hLoc d)) (m (sLoc d)) c i)
      ∗ ((bigSep Finset.univ fun i : Fin 16 => part m d (hOut m d) (sOut m d) c i)
          -∗ (bigSep Finset.univ fun i : Fin 16 => part m d (hOut m d) (sOut m d) c i)))
  iintro H; imodintro
  isplitl [H]; · iexact H
  iintro H; iexact H

/-! ## The obligation of a task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_history_readback (coordsV c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_0_scv) (Memref.isWhole_whole _) (Memref.whole main_v0_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16) ⟨⟩ c s := rfl

variable (hids : ∀ (d : Dev nD) (b : Fin 40), IdsOK (matOf (m ((SparseCore.T d).loc main_arg1)) b))

include hids in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (leaf 4 (leaf 1 fullShare c) i) (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (hids d) (m (hLoc d)) (m (sLoc d)) O W hO

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

omit [FloatOps F] in
theorem unscopedBufs_eq (d : Dev nD) :
    (unscopedBufs d (fun b => m ((d.tc : Thread nD τ).loc b)) : sProp 𝕄) = allAt m d (m (hLoc d)) (m (sLoc d)) := by
  unfold unscopedBufs allAt insAt
  rw [show (Finset.univ.filter fun b : Ref sig .tc => ¬ b.isScoped) = {main_arg0, main_arg1, main_arg2, main_arg3, main_arg4, main_arg5, main_arg6, main_arg7, main_arg8, main_v0_0, main_v0_1} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  simp only [sep_assoc_eq]

theorem st0_eq (d : Dev nD) :
    (bigSep Finset.univ fun c : Fin ((K (F := F)).nCore 0) => (P m).st 0 d c) = allAt m d (m (hLoc d)) (m (sLoc d)) :=
  (all_split m d _ _).symm
theorem dn0_eq (d : Dev nD) :
    (bigSep Finset.univ fun c : Fin ((K (F := F)).nCore 0) => (P m).dn 0 d c) = allAt m d (hOut m d) (sOut m d) :=
  (all_split m d _ _).symm

/-- What the program leaves: the inputs as they were, the two results written. -/
abbrev FIN (d : Dev nD) : sProp 𝕄 := allAt m d (hOut m d) (sOut m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = _ from unscopedBufs_eq m d]
  simp only [main, wp_bind, wp_pure]
  iintro ⟨#Hctx, Hst, ⟨Hb, Hall, Hts, -⟩, -⟩
  iapply ((K (F := F)).wp_run (D (F := F)) 𝒱 (EH := EH) (P := P m) κ d 0) $$ [Hst Hall Hb Hts]
  isplitr; · iexact Hctx
  isplitl [Hst]; · iexact Hst
  isplitl [Hall]
  · rw [st0_eq]; iexact Hall
  iintro ⟨Hst, Hdn⟩
  ihave Hdn' := (Entails.of_eq (dn0_eq m d)) $$ Hdn
  imodintro
  isplitl [Hst]; · iexact Hst
  isplitr [Hb Hts]
  · iexact Hdn'
  isplitl [Hb] <;> iassumption

/-- The inputs and the two results of a final state. -/
def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1) ∧ s'.mem.mem ((SparseCore.T d).loc main_arg2) = m ((SparseCore.T d).loc main_arg2) ∧ s'.mem.mem ((SparseCore.T d).loc main_arg3) = m ((SparseCore.T d).loc main_arg3) ∧ s'.mem.mem ((SparseCore.T d).loc main_arg4) = m ((SparseCore.T d).loc main_arg4) ∧ s'.mem.mem ((SparseCore.T d).loc main_arg5) = m ((SparseCore.T d).loc main_arg5) ∧ s'.mem.mem ((SparseCore.T d).loc main_arg6) = m ((SparseCore.T d).loc main_arg6) ∧ s'.mem.mem ((SparseCore.T d).loc main_arg7) = m ((SparseCore.T d).loc main_arg7) ∧ s'.mem.mem ((SparseCore.T d).loc main_arg8) = m ((SparseCore.T d).loc main_arg8))
    ∧ s'.mem.mem (hLoc d) = hOut m d ∧ s'.mem.mem (sLoc d) = sOut m d

theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN allAt insAt
  iintro ⟨⟨⟨HA0, HA1, HA2, HA3, HA4, HA5, HA6, HA7, HA8⟩, HH, HS⟩, HSI⟩
  ihave H := (agree s' ((SparseCore.T d).loc main_arg0) (m ((SparseCore.T d).loc main_arg0))) $$ [HSI HA0]
  · isplitl [HSI] <;> iassumption
  icases H with ⟨%h0, HSI⟩
  ihave H := (agree s' ((SparseCore.T d).loc main_arg1) (m ((SparseCore.T d).loc main_arg1))) $$ [HSI HA1]
  · isplitl [HSI] <;> iassumption
  icases H with ⟨%h1, HSI⟩
  ihave H := (agree s' ((SparseCore.T d).loc main_arg2) (m ((SparseCore.T d).loc main_arg2))) $$ [HSI HA2]
  · isplitl [HSI] <;> iassumption
  icases H with ⟨%h2, HSI⟩
  ihave H := (agree s' ((SparseCore.T d).loc main_arg3) (m ((SparseCore.T d).loc main_arg3))) $$ [HSI HA3]
  · isplitl [HSI] <;> iassumption
  icases H with ⟨%h3, HSI⟩
  ihave H := (agree s' ((SparseCore.T d).loc main_arg4) (m ((SparseCore.T d).loc main_arg4))) $$ [HSI HA4]
  · isplitl [HSI] <;> iassumption
  icases H with ⟨%h4, HSI⟩
  ihave H := (agree s' ((SparseCore.T d).loc main_arg5) (m ((SparseCore.T d).loc main_arg5))) $$ [HSI HA5]
  · isplitl [HSI] <;> iassumption
  icases H with ⟨%h5, HSI⟩
  ihave H := (agree s' ((SparseCore.T d).loc main_arg6) (m ((SparseCore.T d).loc main_arg6))) $$ [HSI HA6]
  · isplitl [HSI] <;> iassumption
  icases H with ⟨%h6, HSI⟩
  ihave H := (agree s' ((SparseCore.T d).loc main_arg7) (m ((SparseCore.T d).loc main_arg7))) $$ [HSI HA7]
  · isplitl [HSI] <;> iassumption
  icases H with ⟨%h7, HSI⟩
  ihave H := (agree s' ((SparseCore.T d).loc main_arg8) (m ((SparseCore.T d).loc main_arg8))) $$ [HSI HA8]
  · isplitl [HSI] <;> iassumption
  icases H with ⟨%h8, HSI⟩
  ihave H := (agree s' (hLoc d) (hOut m d)) $$ [HSI HH]
  · isplitl [HSI] <;> iassumption
  icases H with ⟨%hH, HSI⟩
  ihave H := (agree s' (sLoc d) (sOut m d)) $$ [HSI HS]
  · isplitl [HSI] <;> iassumption
  icases H with ⟨%hS, HSI⟩
  ipureintro
  exact ⟨⟨h0, h1, h2, h3, h4, h5, h6, h7, h8⟩, hH, hS⟩

/-! ## The program's run -/

/-- What a run ends with: inputs kept, both results written, every semaphore zero. -/
def QC : PUnit × MemSt nD τ sig (Elt F) → Prop := fun r =>
  (∀ d : Dev nD, (r.2.mem ((SparseCore.T d).loc main_arg0) = m ((SparseCore.T d).loc main_arg0) ∧ r.2.mem ((SparseCore.T d).loc main_arg1) = m ((SparseCore.T d).loc main_arg1) ∧ r.2.mem ((SparseCore.T d).loc main_arg2) = m ((SparseCore.T d).loc main_arg2) ∧ r.2.mem ((SparseCore.T d).loc main_arg3) = m ((SparseCore.T d).loc main_arg3) ∧ r.2.mem ((SparseCore.T d).loc main_arg4) = m ((SparseCore.T d).loc main_arg4) ∧ r.2.mem ((SparseCore.T d).loc main_arg5) = m ((SparseCore.T d).loc main_arg5) ∧ r.2.mem ((SparseCore.T d).loc main_arg6) = m ((SparseCore.T d).loc main_arg6) ∧ r.2.mem ((SparseCore.T d).loc main_arg7) = m ((SparseCore.T d).loc main_arg7) ∧ r.2.mem ((SparseCore.T d).loc main_arg8) = m ((SparseCore.T d).loc main_arg8))
    ∧ r.2.mem (hLoc d) = hOut m d ∧ r.2.mem (sLoc d) = sOut m d) ∧ r.2.sem = fun _ => 0

include hids in
theorem run_main [∀ e, Nonempty (Elt F e)] : θ_run (Cert.ReadbackIdeal.defs (F := F)) (Cert.ReadbackIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hids facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.ReadbackIdeal.Hand
-- ==== Proof.ReadbackValue.Pre.lean ====
module

public import proofs.«01_k».proof.Defs
public import proofs.«01_k».proof.Proof.Gen.Pre_ids_in_vocab
public import Idealize.ShloMosaic.Lib.ReduceAll
public import Idealize.ShloMosaic.Lib.ValueIdx
public import Idealize.ShloMosaic.Lib.Pipeline.Value
public import Idealize.ShloMosaic.Lib.ValueLayout

/-! The precondition of the read-back: every token id that is read lies in the vocabulary. -/

@[expose] public section

noncomputable section

namespace Cert.Proof.ReadbackPre

open Idealize.ShloMosaic Idealize.ShloMosaic.ValueIdx
open Cert.Pre_ids_in_vocab

/-- A word that compares at least zero and below the vocabulary's size. -/
theorem in_vocab (w : BitVec 32) (h : andi (s := S40x32) (cmpi .sge (fun _ => w) (fun _ => 0#32)) (cmpi .slt (fun _ => w) (fun _ => 32000#32)) (ix2 0 0) = 1#1) :
    w.toNat < 32000 := by
  have h' : (BitVec.ofBool ((0#32).sle w)) &&& (BitVec.ofBool (w.slt 32000#32)) = 1#1 := h
  have h0 : (0#32).sle w = true := by
    cases e : (0#32).sle w
    · rw [e] at h'; exact absurd h' (by cases w.slt 32000#32 <;> decide)
    · rfl
  have h1 : w.slt 32000#32 = true := by
    cases e : w.slt 32000#32
    · rw [e] at h'; exact absurd h' (by cases (0#32).sle w <;> decide)
    · rfl
  have a0 : (0#32).toInt ≤ w.toInt := by simpa [BitVec.sle] using h0
  have a1 : w.toInt < (32000#32).toInt := by simpa [BitVec.slt] using h1
  have e0 : (0#32).toInt = 0 := by decide
  have e1 : (32000#32).toInt = 32000 := by decide
  rw [e0] at a0; rw [e1] at a1
  have hw := w.isLt
  rw [BitVec.toInt_eq_toNat_cond] at a0 a1
  split at a0 <;> omega

theorem and_one (x y : BitVec 1) (h : x &&& y = 1#1) : x = 1#1 ∧ y = 1#1 := by
  rcases BitVec.eq_zero_or_eq_one x with rfl | rfl
  · rw [BitVec.zero_and] at h; exact absurd h (by decide)
  · rcases BitVec.eq_zero_or_eq_one y with rfl | rfl
    · rw [BitVec.and_zero] at h; exact absurd h (by decide)
    · exact ⟨rfl, rfl⟩

instance : Subsingleton S_.Idx := ⟨fun a b => funext fun i => i.elim0⟩

/-- Under the precondition every id of a history place, and of the first 32 places after them, is below the vocabulary's size. -/
theorem ids_small [Facts] {F : FTy → Type} [FloatOps F] (A0 : FVec F S40x32000 .f32) (A1 A2 : IVec S40x56x128 32) (A3 : FVec F S40x56x128 .f32)
    (A4 A5 : IVec S40 32) (A6 A7 A8 : FVec F S40 .f32) (h : fn A0 A1 A2 A3 A4 A5 A6 A7 A8 = fun _ => 1#1)
    (b : Fin 40) (p : Fin 56) (q : Fin 128) (hp : p.val < 48 ∨ (p.val = 48 ∧ q.val < 32)) : (A1 (ix3 b p q)).toNat < 32000 := by
  have e := congrFun h (fun a => a.elim0)
  unfold fn at e
  obtain ⟨e8, e14⟩ := and_one _ _ e
  rcases hp with hp | ⟨hp, hq⟩
  · have e7 := Host.reduce_andi_all _ _ _ _ _ e8 (ix3 b ⟨p.val, hp⟩ q)
    have ex : extractStridedSlice S40x48x128 ![0, 0, 0] A1 Facts.slices_S40x56x128_S40x48x128_0_0_0 (ix3 b ⟨p.val, hp⟩ q) = A1 (ix3 b p q) := by
      refine congrArg A1 (funext fun a => Fin.ext ?_)
      match a with
      | ⟨0, _⟩ => exact Nat.zero_add _
      | ⟨1, _⟩ => exact Nat.zero_add _
      | ⟨2, _⟩ => exact Nat.zero_add _
    refine in_vocab _ ?_
    rw [← ex]
    exact e7
  · have e13 := Host.reduce_andi_all _ _ _ _ _ e14 (ix2 b ⟨q.val, hq⟩)
    have ex : shapeCast S40x32 (extractStridedSlice S40x1x32 ![0, 48, 0] A1 Facts.slices_S40x56x128_S40x1x32_0_48_0) Facts.shapeCasts_S40x1x32_S40x32 (ix2 b ⟨q.val, hq⟩) = A1 (ix3 b p q) := by
      refine (shapeCast_apply _ _ _ (ix3 b (0 : Fin 1) ⟨q.val, hq⟩) ?_).trans ?_
      · rw [Shape.rowMajor_val_two, Shape.rowMajor_val_three]
        show (b.val * 1 + 0) * 32 + q.val = b.val * 32 + q.val
        rw [Nat.mul_one, Nat.add_zero]
      refine congrArg A1 (funext fun a => Fin.ext ?_)
      match a with
      | ⟨0, _⟩ => exact Nat.zero_add _
      | ⟨1, _⟩ => exact hp.symm
      | ⟨2, _⟩ => exact Nat.zero_add _
    refine in_vocab _ ?_
    rw [← ex]
    exact e13

/-- The same at an index of the ids. -/
theorem ids_small_at [Facts] {F : FTy → Type} [FloatOps F] (A0 : FVec F S40x32000 .f32) (A1 A2 : IVec S40x56x128 32) (A3 : FVec F S40x56x128 .f32)
    (A4 A5 : IVec S40 32) (A6 A7 A8 : FVec F S40 .f32) (h : fn A0 A1 A2 A3 A4 A5 A6 A7 A8 = fun _ => 1#1)
    (y : S40x56x128.Idx) (hy : (y 1).val < 48 ∨ ((y 1).val = 48 ∧ (y 2).val < 32)) : (A1 y).toNat < 32000 := by
  have hs := ids_small A0 A1 A2 A3 A4 A5 A6 A7 A8 h (y 0) (y 1) (y 2) hy
  have e : ix3 (y 0) (y 1) (y 2) = y := funext fun a => match a with | ⟨0, _⟩ => rfl | ⟨1, _⟩ => rfl | ⟨2, _⟩ => rfl
  exact (congrArg (fun i => (A1 i).toNat < 32000) e).mp hs

end Cert.Proof.ReadbackPre

end
-- ==== Proof.ReadbackValue.Ref.lean ====
/-
  Hand-written, untrusted. The read-back's reference, read at one element.
-/
module

public import proofs.«01_k».proof.Proof.ReadbackIdeal.Fetch
public import proofs.«01_k».proof.Proof.Gen.ReadbackReferenceIdeal.Run
public import Idealize.ShloMosaic.Lib.Pipeline.Value
public import Idealize.ShloMosaic.Lib.ValueIdx
public import Idealize.ShloMosaic.Lib.ValueLayout
public import Idealize.ShloMosaic.PureOps.Ideal.Laws

@[expose] public section

noncomputable section

namespace Cert.Proof.ReadbackRef

open Idealize.ShloMosaic Idealize.ShloMosaic.ValueIdx
open Cert.ReadbackIdeal.Hand

/-- The reference's penalised values, as vectors of one shape: `n` valid places, the place's number `pos`, logit,
    count, bias and the row's three penalties; `z` and `zf` are the zeros it compares with. -/
def refVec {s : Shape} (n pos : IVec s 32) (l : FVec Ideal s .f32) (c : IVec s 32) (b rp fp pp : FVec Ideal s .f32) (z : IVec s 32)
    (zf zo : FVec Ideal s .f32) : FVec Ideal s .f32 :=
  select (cmpi .slt pos n)
    (subf (subf
      (select (cmpi .sgt c z) (select (cmpf .ogt (addf l b) zf) (Host.divf (addf l b) rp) (mulf (addf l b) rp)) (addf l b))
      (mulf fp (sitofp .f32 c)))
      (mulf pp (uitofp .f32 (cmpi .sgt c z))))
    zo

/-- Multiplying the penalty by whether the token was seen is choosing between the penalty and zero. -/
theorem presence (s : BitVec 1) (p : EReal) :
    p * FloatOps.uitofp (F := Ideal) .f32 s = Scalar.select s p (0 : EReal) := by
  rcases BitVec.eq_zero_or_eq_one s with rfl | rfl
  · refine Eq.trans (congrArg (p * ·) (?_ : _ = (0 : EReal))) ?_
    · show (((0#1).toNat : ℝ) : EReal) = 0
      norm_num
    · rw [mul_zero]; rfl
  · refine Eq.trans (congrArg (p * ·) (?_ : _ = (1 : EReal))) ?_
    · show (((1#1).toNat : ℝ) : EReal) = 1
      norm_num
    · rw [mul_one]; rfl

/-- At one place the reference's value is the kernel's. -/
theorem refVec_apply {s : Shape} (n pos : IVec s 32) (l : FVec Ideal s .f32) (c : IVec s 32) (b rp fp pp : FVec Ideal s .f32) (z : IVec s 32)
    (zf zo : FVec Ideal s .f32) (x : s.Idx) (hz : z x = 0#32) (hzf : zf x = Scalar.ofBits (F := Ideal) .f32 0x00000000#32)
    (hzo : zo x = Scalar.ofBits (F := Ideal) .f32 0x00000000#32) :
    refVec n pos l c b rp fp pp z zf zo x = cell1 (F := Ideal) (n x) (pos x) (l x) (c x) (b x) (rp x) (fp x) (pp x) := by
  have hp := presence (IntOp.cmpi .sgt (c x) (z x)) (pp x)
  have h0 : (Scalar.ofBits (F := Ideal) .f32 0x00000000#32 : EReal) = 0 := Ideal.ofBits_zero_f32
  rw [← h0] at hp
  show Scalar.select (IntOp.cmpi .slt (pos x) (n x))
    (((Scalar.select (IntOp.cmpi .sgt (c x) (z x))
      (Scalar.select (FloatOps.cmpf (F := Ideal) .ogt (l x + b x : EReal) (zf x)) (Ideal.div (l x + b x : EReal) (rp x)) ((l x + b x : EReal) * rp x : EReal)) (l x + b x : EReal)
      - (fp x * FloatOps.sitofp (F := Ideal) .f32 (c x) : EReal)) - ((pp x : EReal) * FloatOps.uitofp (F := Ideal) .f32 (IntOp.cmpi .sgt (c x) (z x))) : EReal)) (zo x) = _
  rw [hp, hz, hzf, hzo]
  rfl

/-! ## Reading the arguments' rearrangements -/

section Reads
variable {α : Type}

/-- One value for each row, spread over the row. -/
theorem row_apply {C : ℕ} (A : (⟨1, ![40]⟩ : Shape).Idx → α) (h1 : (⟨1, ![40]⟩ : Shape).BroadcastsInDim ⟨2, ![40, 1]⟩ ![0])
    (h2 : (⟨2, ![40, 1]⟩ : Shape).BroadcastsInDim ⟨2, ![40, C]⟩ ![0, 1]) (b : Fin 40) (j : Fin C) :
    broadcastInDim ⟨2, ![40, C]⟩ ![0, 1] h2 (broadcastInDim ⟨2, ![40, 1]⟩ ![0] h1 A) (ix2 b j) = A (at1 b.val b.isLt) := by
  refine (broadcastInDim_apply _ _ _ _ (ix2 b (0 : Fin 1)) ?_).trans (broadcastInDim_apply _ _ _ _ (at1 b.val b.isLt) ?_)
  · intro a
    match a with
    | ⟨0, _⟩ => rfl
    | ⟨1, _⟩ => rfl
  · intro a
    match a with
    | ⟨0, _⟩ => rfl

/-- The place's number. -/
theorem pos_apply {C : ℕ} (hC : C ≠ 1) (h1 : (⟨1, ![C]⟩ : Shape).BroadcastsInDim ⟨2, ![1, C]⟩ ![1])
    (h2 : (⟨2, ![1, C]⟩ : Shape).BroadcastsInDim ⟨2, ![40, C]⟩ ![0, 1]) (b : Fin 40) (j : Fin C) :
    broadcastInDim ⟨2, ![40, C]⟩ ![0, 1] h2 (broadcastInDim ⟨2, ![1, C]⟩ ![1] h1 (iotaInDim ⟨1, ![C]⟩ 32 0)) (ix2 b j) = BitVec.ofNat 32 j.val := by
  refine (broadcastInDim_apply _ _ _ _ (ix2 (0 : Fin 1) j) ?_).trans (broadcastInDim_apply _ _ _ _ (at1 j.val j.isLt) ?_)
  · intro a
    match a with
    | ⟨0, _⟩ => rfl
    | ⟨1, _⟩ => exact (if_neg hC).symm
  · intro a
    match a with
    | ⟨0, _⟩ => exact (if_neg hC).symm

/-- The history's places: the first 48 rows of 128, laid out in one row. -/
theorem hist_apply (A : (⟨3, ![40, 56, 128]⟩ : Shape).Idx → α) (h1 : (⟨3, ![40, 56, 128]⟩ : Shape).Slices ![0, 0, 0] ⟨3, ![40, 48, 128]⟩)
    (h2 : (⟨3, ![40, 48, 128]⟩ : Shape).ShapeCasts ⟨2, ![40, 6144]⟩) (b : Fin 40) (j : Fin 6144) :
    shapeCast ⟨2, ![40, 6144]⟩ (extractStridedSlice ⟨3, ![40, 48, 128]⟩ ![0, 0, 0] A h1) h2 (ix2 b j)
      = A (at3 b.val (j.val / 128) (j.val % 128) b.isLt (by have := j.isLt; omega) (Nat.mod_lt _ (by decide))) := by
  refine (shapeCast_apply _ _ _ (ix3 b (⟨j.val / 128, by have := j.isLt; omega⟩ : Fin 48) (⟨j.val % 128, Nat.mod_lt _ (by decide)⟩ : Fin 128)) ?_).trans ?_
  · rw [Shape.rowMajor_val_two, Shape.rowMajor_val_three]
    show (b.val * 48 + j.val / 128) * 128 + j.val % 128 = b.val * 6144 + j.val
    omega
  refine congrArg A (funext fun a => Fin.ext ?_)
  match a with
  | ⟨0, _⟩ => exact Nat.zero_add _
  | ⟨1, _⟩ => exact Nat.zero_add _
  | ⟨2, _⟩ => exact Nat.zero_add _

/-- The slots: the first 24 places of row 48. -/
theorem slot_apply (A : (⟨3, ![40, 56, 128]⟩ : Shape).Idx → α) (h1 : (⟨3, ![40, 56, 128]⟩ : Shape).Slices ![0, 48, 0] ⟨3, ![40, 1, 24]⟩)
    (h2 : (⟨3, ![40, 1, 24]⟩ : Shape).ShapeCasts ⟨2, ![40, 24]⟩) (b : Fin 40) (j : Fin 24) :
    shapeCast ⟨2, ![40, 24]⟩ (extractStridedSlice ⟨3, ![40, 1, 24]⟩ ![0, 48, 0] A h1) h2 (ix2 b j)
      = A (at3 b.val 48 j.val b.isLt (by decide) (lt_trans j.isLt (by decide))) := by
  refine (shapeCast_apply _ _ _ (ix3 b (0 : Fin 1) j) ?_).trans ?_
  · rw [Shape.rowMajor_val_two, Shape.rowMajor_val_three]
    show (b.val * 1 + 0) * 24 + j.val = b.val * 24 + j.val
    omega
  refine congrArg A (funext fun a => Fin.ext ?_)
  match a with
  | ⟨0, _⟩ => exact Nat.zero_add _
  | ⟨1, _⟩ => rfl
  | ⟨2, _⟩ => exact Nat.zero_add _

/-- The gather along a row: `[40, N]` read at the ids `[40, C, 1]`, row by row. -/
abbrev rowDims (N C : ℕ)
    (wf : GatherDims.WF ⟨2, ![40, N]⟩ ⟨3, ![40, C, 1]⟩ ⟨2, ![40, C]⟩ [] [1] [0] [1] [0] 2 ![1, 1]) :
    GatherDims ⟨2, ![40, N]⟩ ⟨3, ![40, C, 1]⟩ ⟨2, ![40, C]⟩ where
  offsetDims := []
  collapsedSliceDims := [1]
  operandBatchingDims := [0]
  startIndicesBatchingDims := [0]
  startIndexMap := [1]
  indexVectorDim := 2
  sliceSizes := ![1, 1]
  wf := wf

/-- The gather read at `(b, j)`: row `b` at the id there, read signed and clamped into the row. -/
theorem gather_row_apply {N C w : ℕ} (hN : 0 < N)
    (wf : GatherDims.WF ⟨2, ![40, N]⟩ ⟨3, ![40, C, 1]⟩ ⟨2, ![40, C]⟩ [] [1] [0] [1] [0] 2 ![1, 1])
    (x : (⟨2, ![40, N]⟩ : Shape).Idx → α) (idx : IVec ⟨3, ![40, C, 1]⟩ w) (b : Fin 40) (j : Fin C) :
    Host.gather (rowDims N C wf) x idx (ix2 b j)
      = x (ix2 b ⟨min (idx (ix3 b j (0 : Fin 1))).toInt.toNat (N - 1), by omega⟩) := by
  unfold Host.gather
  refine congrArg x (funext fun a => Fin.ext ?_)
  show (rowDims N C wf).start (ix2 b j) idx a + (rowDims N C wf).batchCoord (ix2 b j) a + (rowDims N C wf).offCoord (ix2 b j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims N C wf).startIndexMap from List.mem_singleton.mpr rfl)]
    have hsi : (rowDims N C wf).siIdx (ix2 b j) ⟨List.idxOf (1 : Fin 2) (rowDims N C wf).startIndexMap,
        List.idxOf_lt_length_iff.2 (List.mem_singleton.mpr rfl)⟩ = ix3 b j (0 : Fin 1) := by
      funext a; refine Fin.ext ?_
      match a with
      | ⟨0, _⟩ => rfl
      | ⟨1, _⟩ => rfl
      | ⟨2, _⟩ => rfl
    rw [hsi]
    rfl

end Reads

/-- A word below the vocabulary's size, read signed and clamped, is itself. -/
theorem clamp_word (w : BitVec 32) (h : w.toNat < 32000) : min w.toInt.toNat (32000 - 1) = w.toNat % 32000 := by
  have hi : w.toInt = (w.toNat : ℤ) := by
    rw [BitVec.toInt_eq_toNat_cond, if_pos (by omega)]
  rw [hi, Int.toNat_natCast, Nat.mod_eq_of_lt h]
  omega

theorem not_neg (w : BitVec 32) (h : w.toNat < 32000) : IntOp.cmpi .slt w 0#32 = 0#1 := by
  have h1 : w.slt 0#32 = false := by
    have hi : w.toInt = (w.toNat : ℤ) := by
      rw [BitVec.toInt_eq_toNat_cond, if_pos (by omega)]
    have h0 : (0#32).toInt = 0 := by decide
    unfold BitVec.slt
    rw [hi, h0]
    exact decide_eq_false (by omega)
  show BitVec.ofBool (w.slt 0#32) = 0#1
  rw [h1]; rfl

/-- The logit of an id inside the vocabulary, wrapped where negative, gathered from its row. -/
theorem logit_apply {C : ℕ} (wf : GatherDims.WF ⟨2, ![40, 32000]⟩ ⟨3, ![40, C, 1]⟩ ⟨2, ![40, C]⟩ [] [1] [0] [1] [0] 2 ![1, 1])
    (A0 : (⟨2, ![40, 32000]⟩ : Shape).Idx → Ideal .f32) (I Z K : IVec ⟨2, ![40, C]⟩ 32) (h2 : (⟨2, ![40, C]⟩ : Shape).ShapeCasts ⟨3, ![40, C, 1]⟩)
    (b : Fin 40) (j : Fin C) (hz : Z (ix2 b j) = 0#32) (hi : (I (ix2 b j)).toNat < 32000) :
    Host.gather (rowDims 32000 C wf) A0 (shapeCast ⟨3, ![40, C, 1]⟩ (select (cmpi .slt I Z) (addi I K) I) h2) (ix2 b j)
      = logitAt (F := Ideal) (rowOf A0 b) (I (ix2 b j)) := by
  have hw : shapeCast ⟨3, ![40, C, 1]⟩ (select (cmpi .slt I Z) (addi I K) I) h2 (ix3 b j (0 : Fin 1)) = I (ix2 b j) := by
    refine (shapeCast_apply _ _ _ (ix2 b j) ?_).trans ?_
    · rw [Shape.rowMajor_val_two, Shape.rowMajor_val_three]
      show b.val * C + j.val = (b.val * C + j.val) * 1 + 0
      omega
    · show Scalar.select (IntOp.cmpi .slt (I (ix2 b j)) (Z (ix2 b j))) _ (I (ix2 b j)) = _
      rw [hz, not_neg _ hi]
      rfl
  refine (gather_row_apply (by decide) wf A0 _ b j).trans ?_
  unfold logitAt rowOf
  refine congrArg A0 (funext fun a => Fin.ext ?_)
  match a with
  | ⟨0, _⟩ => rfl
  | ⟨1, _⟩ =>
    show min (shapeCast ⟨3, ![40, C, 1]⟩ (select (cmpi .slt I Z) (addi I K) I) h2 (ix3 b j (0 : Fin 1))).toInt.toNat (32000 - 1) = _
    rw [hw]
    exact clamp_word _ hi

/-- Below 24, bounding a count by 24 does not change which slots it makes valid. -/
theorem slotN_valid (w : BitVec 32) (j : Fin 24) :
    IntOp.cmpi .slt (BitVec.ofNat 32 j.val) (slotN w) = IntOp.cmpi .slt (BitVec.ofNat 32 j.val) w := by
  have hn : slotN w = IntOp.minsi w 24#32 := rfl
  rw [hn]
  show BitVec.ofBool ((BitVec.ofNat 32 j.val).slt (IntOp.minsi w 24#32)) = BitVec.ofBool ((BitVec.ofNat 32 j.val).slt w)
  congr 1
  unfold IntOp.minsi
  have hj := j.isLt
  have e1 : (BitVec.ofNat 32 j.val).toInt = (j.val : ℤ) := by
    rw [BitVec.toInt_eq_toNat_cond, BitVec.toNat_ofNat, Nat.mod_eq_of_lt (by omega), if_pos (by omega)]
  have e2 : (24#32).toInt = 24 := by decide
  split
  · rfl
  · rename_i h
    simp only [BitVec.slt, BitVec.sle, e1, e2, decide_eq_true_eq, decide_eq_decide] at h ⊢
    omega

theorem cell1_valid (n n' pos : BitVec 32) (l : Ideal .f32) (c : BitVec 32) (b rp fp pp : Ideal .f32)
    (h : IntOp.cmpi .slt pos n = IntOp.cmpi .slt pos n') : cell1 (F := Ideal) n pos l c b rp fp pp = cell1 (F := Ideal) n' pos l c b rp fp pp :=
  congrArg (fun s => Scalar.select s (_ : Ideal .f32) (_ : Ideal .f32)) h

end Cert.Proof.ReadbackRef

end
-- ==== Proof.ReadbackValue.Eq.lean ====
/-
  Hand-written, untrusted. The read-back kernel and its reference leave the same two arrays.
-/
module

public import proofs.«01_k».proof.Proof.ReadbackValue.Ref

@[expose] public section

noncomputable section

namespace Cert.Proof.ReadbackEq

open Idealize.ShloMosaic Idealize.ShloMosaic.ValueIdx
open Cert.ReadbackIdeal.Hand Cert.Proof.ReadbackRef
open Cert.ReadbackReferenceIdeal Cert.ReadbackReferenceIdeal.Gen

section
variable (A0 : Vec Ideal S40x32000 .f32) (A1 A2 : Vec Ideal S40x56x128 .i32) (A3 : Vec Ideal S40x56x128 .f32)
  (N : Vec Ideal S40 .i32) (A6 A7 A8 : Vec Ideal S40 .f32)

/-- The reference's history, of the arguments. -/
def histR : Vec Ideal S40x6144 .f32 :=
  refVec (s := S40x6144) (broadcastInDim S40x6144 ![0, 1] bcast_S40x1_S40x6144_0_1 (broadcastInDim S40x1 ![0] bcast_S40_S40x1_0 N))
    (broadcastInDim S40x6144 ![0, 1] bcast_S1x6144_S40x6144_0_1 (broadcastInDim S1x6144 ![1] bcast_S6144_S1x6144_1 (iotaInDim S6144 32 0)))
    (Host.gather gather_S40x32000_S40x6144x1_S40x6144_n_1_0_0_1_2_11 A0 (shapeCast S40x6144x1 (select (cmpi .slt (shapeCast S40x6144 (extractStridedSlice S40x48x128 ![0, 0, 0] A1 slices_S40x56x128_S40x48x128_0_0_0) shapeCasts_S40x48x128_S40x6144) (broadcastInDim S40x6144 ![] bcast_S_S40x6144 (constantI S_ 32 0#32))) (addi (shapeCast S40x6144 (extractStridedSlice S40x48x128 ![0, 0, 0] A1 slices_S40x56x128_S40x48x128_0_0_0) shapeCasts_S40x48x128_S40x6144) (broadcastInDim S40x6144 ![] bcast_S_S40x6144 (constantI S_ 32 32000#32))) (shapeCast S40x6144 (extractStridedSlice S40x48x128 ![0, 0, 0] A1 slices_S40x56x128_S40x48x128_0_0_0) shapeCasts_S40x48x128_S40x6144)) shapeCasts_S40x6144_S40x6144x1))
    (shapeCast S40x6144 (extractStridedSlice S40x48x128 ![0, 0, 0] A2 slices_S40x56x128_S40x48x128_0_0_0) shapeCasts_S40x48x128_S40x6144) (shapeCast S40x6144 (extractStridedSlice S40x48x128 ![0, 0, 0] A3 slices_S40x56x128_S40x48x128_0_0_0) shapeCasts_S40x48x128_S40x6144)
    (broadcastInDim S40x6144 ![0, 1] bcast_S40x1_S40x6144_0_1 (broadcastInDim S40x1 ![0] bcast_S40_S40x1_0 A6)) (broadcastInDim S40x6144 ![0, 1] bcast_S40x1_S40x6144_0_1 (broadcastInDim S40x1 ![0] bcast_S40_S40x1_0 A7)) (broadcastInDim S40x6144 ![0, 1] bcast_S40x1_S40x6144_0_1 (broadcastInDim S40x1 ![0] bcast_S40_S40x1_0 A8))
    (broadcastInDim S40x6144 ![] bcast_S_S40x6144 (constantI S_ 32 0#32))
    (broadcastInDim S40x6144 ![] bcast_S_S40x6144 (constant S_ .f32 0x00000000#32))
    (broadcastInDim S40x6144 ![] bcast_S_S40x6144 (id (constant S_ .f32 0x00000000#32)))

/-- The reference's slots, of the arguments. -/
def slotR : Vec Ideal S40x24 .f32 :=
  refVec (s := S40x24) (broadcastInDim S40x24 ![0, 1] bcast_S40x1_S40x24_0_1 (broadcastInDim S40x1 ![0] bcast_S40_S40x1_0 N))
    (broadcastInDim S40x24 ![0, 1] bcast_S1x24_S40x24_0_1 (broadcastInDim S1x24 ![1] bcast_S24_S1x24_1 (iotaInDim S24 32 0)))
    (Host.gather gather_S40x32000_S40x24x1_S40x24_n_1_0_0_1_2_11 A0 (shapeCast S40x24x1 (select (cmpi .slt (shapeCast S40x24 (extractStridedSlice S40x1x24 ![0, 48, 0] A1 slices_S40x56x128_S40x1x24_0_48_0) shapeCasts_S40x1x24_S40x24) (broadcastInDim S40x24 ![] bcast_S_S40x24 (constantI S_ 32 0#32))) (addi (shapeCast S40x24 (extractStridedSlice S40x1x24 ![0, 48, 0] A1 slices_S40x56x128_S40x1x24_0_48_0) shapeCasts_S40x1x24_S40x24) (broadcastInDim S40x24 ![] bcast_S_S40x24 (constantI S_ 32 32000#32))) (shapeCast S40x24 (extractStridedSlice S40x1x24 ![0, 48, 0] A1 slices_S40x56x128_S40x1x24_0_48_0) shapeCasts_S40x1x24_S40x24)) shapeCasts_S40x24_S40x24x1))
    (shapeCast S40x24 (extractStridedSlice S40x1x24 ![0, 48, 0] A2 slices_S40x56x128_S40x1x24_0_48_0) shapeCasts_S40x1x24_S40x24) (shapeCast S40x24 (extractStridedSlice S40x1x24 ![0, 48, 0] A3 slices_S40x56x128_S40x1x24_0_48_0) shapeCasts_S40x1x24_S40x24)
    (broadcastInDim S40x24 ![0, 1] bcast_S40x1_S40x24_0_1 (broadcastInDim S40x1 ![0] bcast_S40_S40x1_0 A6)) (broadcastInDim S40x24 ![0, 1] bcast_S40x1_S40x24_0_1 (broadcastInDim S40x1 ![0] bcast_S40_S40x1_0 A7)) (broadcastInDim S40x24 ![0, 1] bcast_S40x1_S40x24_0_1 (broadcastInDim S40x1 ![0] bcast_S40_S40x1_0 A8))
    (broadcastInDim S40x24 ![] bcast_S_S40x24 (constantI S_ 32 0#32))
    (broadcastInDim S40x24 ![] bcast_S_S40x24 (constant S_ .f32 0x00000000#32))
    (broadcastInDim S40x24 ![] bcast_S_S40x24 (id (constant S_ .f32 0x00000000#32)))

end

variable (A0 : Vec Ideal S40x32000 .f32) (A1 A2 : Vec Ideal S40x56x128 .i32) (A3 : Vec Ideal S40x56x128 .f32)
  (N : Vec Ideal S40 .i32) (A6 A7 A8 : Vec Ideal S40 .f32)

theorem cell1_congr {n n' pos pos' : BitVec 32} {l l' : Ideal .f32} {c c' : BitVec 32} {b b' rp rp' fp fp' pp pp' : Ideal .f32}
    (h1 : n = n') (h2 : pos = pos') (h3 : l = l') (h4 : c = c') (h5 : b = b') (h6 : rp = rp') (h7 : fp = fp') (h8 : pp = pp') :
    cell1 (F := Ideal) n pos l c b rp fp pp = cell1 (F := Ideal) n' pos' l' c' b' rp' fp' pp' := by
  subst h1 h2 h3 h4 h5 h6 h7 h8; rfl

/-- Under the precondition the reference's history and the kernel's are one array. -/
theorem hist_eq (hids : ∀ (b : Fin 40) (j : Fin 6144), (A1 (at3 b.val (j.val / 128) (j.val % 128) b.isLt (by have := j.isLt; omega) (Nat.mod_lt _ (by decide)))).toNat < 32000) :
    histR A0 A1 A2 A3 N A6 A7 A8 = histF A0 A1 A2 A3 N A6 A7 A8 := by
  funext x
  obtain ⟨b, j, rfl⟩ : ∃ (b : Fin 40) (j : Fin 6144), x = ix2 b j := ⟨x 0, x 1, funext fun a => match a with | ⟨0, _⟩ => rfl | ⟨1, _⟩ => rfl⟩
  have hi := hids b j
  unfold histR histF histAt cellAt
  refine (refVec_apply _ _ _ _ _ _ _ _ _ _ _ (ix2 b j) rfl rfl rfl).trans ?_
  refine cell1_congr (row_apply _ _ _ b j) (pos_apply (by decide) _ _ b j) ?_ (hist_apply _ _ _ b j) (hist_apply _ _ _ b j) (row_apply _ _ _ b j)
    (row_apply _ _ _ b j) (row_apply _ _ _ b j)
  refine (logit_apply _ A0 _ _ _ _ b j rfl (by rw [hist_apply]; exact hi)).trans ?_
  exact congrArg (logitAt (F := Ideal) (rowOf A0 b)) (hist_apply A1 _ _ b j)

/-- Under the precondition the reference's slots and the kernel's are one array. -/
theorem slot_eq (hids : ∀ (b : Fin 40) (j : Fin 24), (A1 (at3 b.val 48 j.val b.isLt (by decide) (lt_trans j.isLt (by decide)))).toNat < 32000) :
    slotR A0 A1 A2 A3 N A6 A7 A8 = slotF A0 A1 A2 A3 N A6 A7 A8 := by
  funext x
  obtain ⟨b, j, rfl⟩ : ∃ (b : Fin 40) (j : Fin 24), x = ix2 b j := ⟨x 0, x 1, funext fun a => match a with | ⟨0, _⟩ => rfl | ⟨1, _⟩ => rfl⟩
  have hi := hids b j
  unfold slotR slotF slotAt cellAt
  refine (refVec_apply _ _ _ _ _ _ _ _ _ _ _ (ix2 b j) rfl rfl rfl).trans ?_
  refine Eq.trans ?_ (cell1_valid _ _ _ _ _ _ _ _ _ (slotN_valid _ j).symm)
  refine cell1_congr (row_apply _ _ _ b j) (pos_apply (by decide) _ _ b j) ?_ (slot_apply _ _ _ b j) (slot_apply _ _ _ b j) (row_apply _ _ _ b j)
    (row_apply _ _ _ b j) (row_apply _ _ _ b j)
  refine (logit_apply _ A0 _ _ _ _ b j rfl (by rw [slot_apply]; exact hi)).trans ?_
  exact congrArg (logitAt (F := Ideal) (rowOf A0 b)) (slot_apply A1 _ _ b j)

/-- What the generated run says of the reference's results. -/
theorem out0_eq (m : (ℓ : Loc nD τ sig) → Buf (Elt Ideal) ℓ) (c : Dev nD) :
    Value.res_main_v47 m c = histR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg6))
      (m ((c.tc : Thread nD τ).loc main_arg7)) (m ((c.tc : Thread nD τ).loc main_arg8)) := by
  unfold Value.res_main_v47 histR refVec
  rfl

theorem out1_eq (m : (ℓ : Loc nD τ sig) → Buf (Elt Ideal) ℓ) (c : Dev nD) :
    Value.res_main_v71 m c = slotR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5)) (m ((c.tc : Thread nD τ).loc main_arg6))
      (m ((c.tc : Thread nD τ).loc main_arg7)) (m ((c.tc : Thread nD τ).loc main_arg8)) := by
  unfold Value.res_main_v71 slotR refVec
  rfl

end Cert.Proof.ReadbackEq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Readback
public import proofs.«01_k».proof.Proof.Gen.Readback.Skeleton
public import proofs.«01_k».proof.Proof.Gen.ReadbackIdeal
public import proofs.«01_k».proof.Proof.Gen.ReadbackIdeal.Skeleton
public import proofs.«01_k».proof.Proof.Gen.ReadbackReferenceIdeal
public import proofs.«01_k».proof.Proof.Gen.ReadbackReferenceIdeal.Run
public import proofs.«01_k».proof.Proof.Gen.Pre_ids_in_vocab
public import proofs.«01_k».proof.Proof.Bits.Run
public import proofs.«01_k».proof.Proof.Ideal.Run
public import proofs.«01_k».proof.Proof.Values
public import proofs.«01_k».proof.Proof.Readback.Launch
public import proofs.«01_k».proof.Proof.ReadbackIdeal.Launch
public import proofs.«01_k».proof.Proof.ReadbackValue.Pre
public import proofs.«01_k».proof.Proof.ReadbackValue.Eq
public import Idealize.ShloMosaic.Adequacy
public import Idealize.ShloMosaic.Init

@[expose] public section

noncomputable section

namespace Cert.Proof

open Idealize.ShloMosaic Idealize.SL.Sem Cert.Kernel

/-- The kernel's penalised logits, as a function of its nine arguments. -/
abbrev pens (m : (ℓ : Loc KernelIdeal.nD KernelIdeal.τ KernelIdeal.sig) → Buf (Elt Ideal) ℓ) (c : Dev KernelIdeal.nD) : Fin 40 → Fin 32000 → EReal :=
  Values.pensOf (m ((c.tc : Thread KernelIdeal.nD KernelIdeal.τ).loc KernelIdeal.main_arg0))
        (m ((c.tc : Thread KernelIdeal.nD KernelIdeal.τ).loc KernelIdeal.main_arg1))
        (m ((c.tc : Thread KernelIdeal.nD KernelIdeal.τ).loc KernelIdeal.main_arg2))
        (m ((c.tc : Thread KernelIdeal.nD KernelIdeal.τ).loc KernelIdeal.main_arg3))
        (m ((c.tc : Thread KernelIdeal.nD KernelIdeal.τ).loc KernelIdeal.main_arg4))
        (m ((c.tc : Thread KernelIdeal.nD KernelIdeal.τ).loc KernelIdeal.main_arg5))
        (m ((c.tc : Thread KernelIdeal.nD KernelIdeal.τ).loc KernelIdeal.main_arg6))
        (m ((c.tc : Thread KernelIdeal.nD KernelIdeal.τ).loc KernelIdeal.main_arg7))
        (m ((c.tc : Thread KernelIdeal.nD KernelIdeal.τ).loc KernelIdeal.main_arg8))

/-- Kernel and reference leave the same two arrays: the log probabilities and the log-sum-exps. -/
theorem algebraic : Cert.algebraic_KernelIdeal_ReferenceIdeal := by
  intro m g m' g' _ hm
  refine ⟨fun c => EpiValue.logprobs (pens m c), fun c => EpiValue.lses (pens m c), ?_, ?_⟩
  · refine (θ_run KernelIdeal.defs _ _).mono (fun r h c => ?_) (KernelIdeal.Hand.run (F := Ideal) m g)
    obtain ⟨a0, a1, a2, a3, a4, a5, a6, a7, a8, o0, o1⟩ := h.1 c
    exact ⟨o0.trans ((EpiValue.final6 _ c).trans (congrArg EpiValue.logprobs (Values.pens_eq m g c))),
      o1.trans ((EpiValue.final7 _ c).trans (congrArg EpiValue.lses (Values.pens_eq m g c))),
      a0, a1, a2, a3, a4, a5, a6, a7, a8⟩
  · refine (θ_run ReferenceIdeal.defs _ _).mono (fun r h c => ?_) (ReferenceIdeal.Value.run (F := Ideal) m' g')
    obtain ⟨e0, e1, e2, e3, e4, e5, e6, e7, e8⟩ := hm c
    obtain ⟨o0, o1, hargs⟩ := h c
    refine ⟨o0.trans ?_, o1.trans ?_, hargs⟩
    · erw [e0, e1, e2, e3, e4, e5, e6, e7, e8]
      exact Values.ref_logprobs _ _ _ _ _ _ _ _ _
    · erw [e0, e1, e2, e3, e4, e5, e6, e7, e8]
      exact Values.ref_lses _ _ _ _ _ _ _ _ _

/-- Under the precondition every id that the read-back loads names a logit. -/
theorem ids_ok (m : (ℓ : Loc Readback.nD Readback.τ Readback.sig) → Buf (Elt Bits) ℓ) (h : Cert.Pre_Readback m) (d : Dev Readback.nD) (b : Fin 40) :
    Readback.Hand.IdsOK (F := Bits) (Readback.Hand.matOf (m ((SparseCore.T d).loc Readback.main_arg1)) b) :=
  fun y hy => ReadbackPre.ids_small_at _ _ _ _ _ _ _ _ _ (h d) (Readback.Hand.at3 b.val (y 0).val (y 1).val b.isLt (y 0).isLt (y 1).isLt) hy

/-- The same of the ideal program. -/
theorem ids_ok_ideal (m : (ℓ : Loc ReadbackIdeal.nD ReadbackIdeal.τ ReadbackIdeal.sig) → Buf (Elt Ideal) ℓ) (h : Cert.Pre_ReadbackIdeal m)
    (d : Dev ReadbackIdeal.nD) (b : Fin 40) :
    ReadbackIdeal.Hand.IdsOK (F := Ideal) (ReadbackIdeal.Hand.matOf (m ((SparseCore.T d).loc ReadbackIdeal.main_arg1)) b) :=
  fun y hy => ReadbackPre.ids_small_at _ _ _ _ _ _ _ _ _ (h d) (ReadbackIdeal.Hand.at3 b.val (y 0).val (y 1).val b.isLt (y 0).isLt (y 1).isLt) hy

theorem frame_readback : Cert.quiescent_Readback := fun m ρ h =>
  (θ_run Readback.defs _ _).mono (fun _ h => ⟨fun c => (h.1 c).1, h.2⟩) (Readback.Hand.run_main (F := Bits) m ρ (ids_ok m h))

theorem frame_readback_ideal : Cert.quiescent_ReadbackIdeal := fun m ρ h =>
  (θ_run ReadbackIdeal.defs _ _).mono (fun _ h => ⟨fun c => (h.1 c).1, h.2⟩) (ReadbackIdeal.Hand.run_main (F := Ideal) m ρ (ids_ok_ideal m h))

theorem frame_readback_reference : Cert.quiescent_ReadbackReferenceIdeal := fun m ρ _ =>
  (θ_run ReadbackReferenceIdeal.defs _ _).mono (fun r h => ⟨fun c => (h c).2.2, Idealize.ShloMosaic.sem_eq_zero_of_no_sems (by decide) r.2⟩)
    (ReadbackReferenceIdeal.Value.run (F := Ideal) m ρ)

/-- Under the precondition the read-back and its reference leave the same two arrays: the history's and the slots' penalised values. -/
theorem algebraic_readback : Cert.algebraic_ReadbackIdeal_ReadbackReferenceIdeal := by
  intro m g m' g' hpre hm
  have hids := ids_ok_ideal m hpre
  refine ⟨fun c => ReadbackIdeal.Hand.hOut m c, fun c => ReadbackIdeal.Hand.sOut m c, ?_, ?_⟩
  · exact (θ_run ReadbackIdeal.defs _ _).mono (fun r h c => ⟨(h.1 c).2.1, (h.1 c).2.2, (h.1 c).1⟩)
      (ReadbackIdeal.Hand.run_main (F := Ideal) m g hids)
  · refine (θ_run ReadbackReferenceIdeal.defs _ _).mono (fun r h c => ?_) (ReadbackReferenceIdeal.Value.run (F := Ideal) m' g')
    obtain ⟨e0, e1, e2, e3, e4, e5, e6, e7, e8⟩ := hm c
    obtain ⟨o0, o1, hargs⟩ := h c
    refine ⟨o0.trans ((ReadbackEq.out0_eq m' c).trans ?_), o1.trans ((ReadbackEq.out1_eq m' c).trans ?_), hargs⟩
    · erw [e0, e1, e2, e3, e4, e6, e7, e8]
      exact ReadbackEq.hist_eq _ _ _ _ _ _ _ _ (fun b j => hids c b (ReadbackIdeal.Hand.at2 (j.val / 128) (j.val % 128)
        (by have := j.isLt; omega) (Nat.mod_lt _ (by decide))) (.inl (by have := j.isLt; show j.val / 128 < 48; omega)))
    · erw [e0, e1, e2, e3, e5, e6, e7, e8]
      exact ReadbackEq.slot_eq _ _ _ _ _ _ _ _ (fun b j => hids c b (ReadbackIdeal.Hand.at2 48 j.val (by decide) (lt_trans j.isLt (by decide)))
        (.inr ⟨rfl, lt_trans j.isLt (by decide)⟩))

theorem claim : Cert.Claim := ⟨Cert.Kernel.Gen.facts, Cert.KernelIdeal.Gen.facts, Cert.ReferenceIdeal.Gen.facts,
  Cert.Readback.Gen.facts, Cert.ReadbackIdeal.Gen.facts, Cert.ReadbackReferenceIdeal.Gen.facts, Cert.Pre_ids_in_vocab.Gen.facts,
  fun m ρ _ => Cert.Kernel.Hand.frame m ρ, fun m ρ _ => Cert.KernelIdeal.Hand.frame m ρ, fun m ρ _ => Cert.ReferenceIdeal.Gen.frame m ρ,
  frame_readback, frame_readback_ideal, frame_readback_reference, trivial, algebraic, trivial, algebraic_readback⟩

end Cert.Proof

end
